-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v95_2)) (v1 : (c : Dev Cert.Kernel2Ideal.nD) → Buf (Elt Ideal) ((c.tc : Thread Cert.Kernel2Ideal.nD Cert.Kernel2Ideal.τ).loc Cert.Kernel2Ideal.main_v95_4)) (v2 : (c : Dev Cert.Kernel2Ideal.nD) → Buf (Elt Ideal) ((c.tc : Thread Cert.Kernel2Ideal.nD Cert.Kernel2Ideal.τ).loc Cert.Kernel2Ideal.main_v95_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v95_2) = v0 c
          ∧ r.2.mem ((c.tc : Thread Cert.Kernel2Ideal.nD Cert.Kernel2Ideal.τ).loc Cert.Kernel2Ideal.main_v95_4) = v1 c
          ∧ r.2.mem ((c.tc : Thread Cert.Kernel2Ideal.nD Cert.Kernel2Ideal.τ).loc Cert.Kernel2Ideal.main_v95_5) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v278) = v0 c
          ∧ r.2.mem ((c.tc : Thread Cert.Reference2Ideal.nD Cert.Reference2Ideal.τ).loc Cert.Reference2Ideal.main_v279) = v1 c
          ∧ r.2.mem ((c.tc : Thread Cert.Reference2Ideal.nD Cert.Reference2Ideal.τ).loc Cert.Reference2Ideal.main_v280) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v201_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v201_4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v134) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v59_0)) (v1 : (c : Dev Cert.Kernel4Ideal.nD) → Buf (Elt Ideal) ((c.tc : Thread Cert.Kernel4Ideal.nD Cert.Kernel4Ideal.τ).loc Cert.Kernel4Ideal.main_v59_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v59_0) = v0 c
          ∧ r.2.mem ((c.tc : Thread Cert.Kernel4Ideal.nD Cert.Kernel4Ideal.τ).loc Cert.Kernel4Ideal.main_v59_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S1x16384x8x64 : Shape := ⟨4, ![1, 16384, 8, 64]⟩
abbrev S1x16384x2x64 : Shape := ⟨4, ![1, 16384, 2, 64]⟩
abbrev S1x16384x512 : Shape := ⟨3, ![1, 16384, 512]⟩
abbrev S_ : Shape := ⟨0, ![]⟩

class Facts : Prop where
  bcast_S_S1x16384x8x64 : S_.BroadcastsInDim S1x16384x8x64 (![] : Fin 0 → Fin S1x16384x8x64.rank)
  bcast_S_S1x16384x2x64 : S_.BroadcastsInDim S1x16384x2x64 (![] : Fin 0 → Fin S1x16384x2x64.rank)
  bcast_S_S1x16384x512 : S_.BroadcastsInDim S1x16384x512 (![] : Fin 0 → Fin S1x16384x512.rank)

variable [Facts]

def fn {F : FTy → Type} [FloatOps F] (main_arg0 : FVec F S1x16384x8x64 .f32) (main_arg1 : FVec F S1x16384x2x64 .f32) (main_arg2 : FVec F S1x16384x2x64 .f32) (main_arg3 : FVec F S1x16384x512 .f32) : IVec S1x16384x8x64 1 × IVec S1x16384x2x64 1 × IVec S1x16384x2x64 1 × IVec S1x16384x512 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_v3 : FVec F S1x16384x2x64 .f32 := Host.absf main_arg1
  let main_cst_0 : FVec F S_ .f32 := constant S_ .f32 0x7F800000#32
  let main_v4 : FVec F S1x16384x2x64 .f32 := broadcastInDim S1x16384x2x64 ![] bcast_S_S1x16384x2x64 main_cst_0
  let main_v5 : IVec S1x16384x2x64 1 := cmpf .olt main_v3 main_v4
  let main_v6 : FVec F S1x16384x2x64 .f32 := Host.absf main_arg2
  let main_cst_1 : FVec F S_ .f32 := constant S_ .f32 0x7F800000#32
  let main_v7 : FVec F S1x16384x2x64 .f32 := broadcastInDim S1x16384x2x64 ![] bcast_S_S1x16384x2x64 main_cst_1
  let main_v8 : IVec S1x16384x2x64 1 := cmpf .olt main_v6 main_v7
  let main_v9 : FVec F S1x16384x512 .f32 := Host.absf main_arg3
  let main_cst_2 : FVec F S_ .f32 := constant S_ .f32 0x7F800000#32
  let main_v10 : FVec F S1x16384x512 .f32 := broadcastInDim S1x16384x512 ![] bcast_S_S1x16384x512 main_cst_2
  let main_v11 : IVec S1x16384x512 1 := cmpf .olt main_v9 main_v10
  (main_v2, main_v5, main_v8, main_v11)
-- ==== Pre_finite2.lean ====
abbrev S1x16384x1024 : Shape := ⟨3, ![1, 16384, 1024]⟩
abbrev S1024 : Shape := ⟨1, ![1024]⟩
abbrev S1024x2816 : Shape := ⟨2, ![1024, 2816]⟩
abbrev S64 : Shape := ⟨1, ![64]⟩
abbrev S31x256 : Shape := ⟨2, ![31, 256]⟩
abbrev S1x16384x8x64 : Shape := ⟨4, ![1, 16384, 8, 64]⟩
abbrev S1x16384x2x64 : Shape := ⟨4, ![1, 16384, 2, 64]⟩
abbrev S1x16384x512 : Shape := ⟨3, ![1, 16384, 512]⟩
abbrev S1x16384x256 : Shape := ⟨3, ![1, 16384, 256]⟩
abbrev S_ : Shape := ⟨0, ![]⟩

class Facts : Prop where
  bcast_S_S1x16384x1024 : S_.BroadcastsInDim S1x16384x1024 (![] : Fin 0 → Fin S1x16384x1024.rank)
  bcast_S_S1024 : S_.BroadcastsInDim S1024 (![] : Fin 0 → Fin S1024.rank)
  bcast_S_S1024x2816 : S_.BroadcastsInDim S1024x2816 (![] : Fin 0 → Fin S1024x2816.rank)

variable [Facts]

def fn {F : FTy → Type} [FloatOps F] (main_arg0 : FVec F S1x16384x1024 .f32) (main_arg1 : FVec F S1024 .f32) (main_arg2 : FVec F S1024x2816 .f32) (main_arg3 : FVec F S64 .f32) (main_arg4 : FVec F S64 .f32) (main_arg5 : FVec F S31x256 .f32) (main_arg6 : FVec F S1x16384x1024 .f32) (main_arg7 : FVec F S1x16384x8x64 .f32) (main_arg8 : FVec F S1x16384x2x64 .f32) (main_arg9 : FVec F S1x16384x2x64 .f32) (main_arg10 : FVec F S1x16384x512 .f32) (main_arg11 : FVec F S1x16384x256 .f32) (main_arg12 : FVec F S1x16384x256 .f32) (main_arg13 : FVec F S1x16384x256 .f32) (main_arg14 : FVec F S1x16384x256 .f32) (main_arg15 : FVec F S1x16384x256 .f32) : IVec S1x16384x1024 1 × IVec S1024 1 × IVec S1024x2816 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  (main_v2, main_v5, main_v8)
-- ==== Kernel.lean ====
abbrev S1x16384x8x64 : Shape := ⟨4, ![1, 16384, 8, 64]⟩
abbrev S1x16384x2x64 : Shape := ⟨4, ![1, 16384, 2, 64]⟩
abbrev S1x16384x512 : Shape := ⟨3, ![1, 16384, 512]⟩
abbrev S16384x8x64 : Shape := ⟨3, ![16384, 8, 64]⟩
abbrev S8x16384x64 : Shape := ⟨3, ![8, 16384, 64]⟩
abbrev S_ : Shape := ⟨0, ![]⟩
abbrev S16384x2x64 : Shape := ⟨3, ![16384, 2, 64]⟩
abbrev S2x16384x64 : Shape := ⟨3, ![2, 16384, 64]⟩
abbrev S2x4x16384x64 : Shape := ⟨4, ![2, 4, 16384, 64]⟩
abbrev S2x4x16384x16384 : Shape := ⟨4, ![2, 4, 16384, 16384]⟩
abbrev S2x4x16384 : Shape := ⟨3, ![2, 4, 16384]⟩
abbrev S2x4x16384x1 : Shape := ⟨4, ![2, 4, 16384, 1]⟩
abbrev S8x16384x1 : Shape := ⟨3, ![8, 16384, 1]⟩
abbrev S8x16384 : Shape := ⟨2, ![8, 16384]⟩
abbrev S2x16384x3 : Shape := ⟨3, ![2, 16384, 3]⟩
abbrev S8x16384x61 : Shape := ⟨3, ![8, 16384, 61]⟩
abbrev S8x16384x128 : Shape := ⟨3, ![8, 16384, 128]⟩
abbrev S2x16384x61 : Shape := ⟨3, ![2, 16384, 61]⟩
abbrev S2x16384x128 : Shape := ⟨3, ![2, 16384, 128]⟩
abbrev S2x32x128x512 : Shape := ⟨4, ![2, 32, 128, 512]⟩
abbrev S4x512x128 : Shape := ⟨3, ![4, 512, 128]⟩
abbrev S1x16384x128 : Shape := ⟨3, ![1, 16384, 128]⟩
abbrev S2048x128 : Shape := ⟨2, ![2048, 128]⟩
abbrev S32x128x512 : Shape := ⟨3, ![32, 128, 512]⟩
abbrev S2048x512 : Shape := ⟨2, ![2048, 512]⟩
abbrev S2 : Shape := ⟨1, ![2]⟩
abbrev S128x2048 : Shape := ⟨2, ![128, 2048]⟩
abbrev S1x512x128 : Shape := ⟨3, ![1, 512, 128]⟩
abbrev S512x128 : Shape := ⟨2, ![512, 128]⟩
abbrev S512x512 : Shape := ⟨2, ![512, 512]⟩
abbrev S1x128x512 : Shape := ⟨3, ![1, 128, 512]⟩
abbrev S128x512 : Shape := ⟨2, ![128, 512]⟩
abbrev S1 : Shape := ⟨1, ![1]⟩
abbrev S1x32x128x512 : Shape := ⟨4, ![1, 32, 128, 512]⟩
abbrev S2x32x64x512 : Shape := ⟨4, ![2, 32, 64, 512]⟩
abbrev S32x512x2x64 : Shape := ⟨4, ![32, 512, 2, 64]⟩

abbrev nBuf : Space → Nat
  | .hbm => 89
  | .vmem => 19
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x2x64, .f32⟩
  | .hbm, ⟨2, _⟩ => ⟨S1x16384x2x64, .f32⟩
  | .hbm, ⟨3, _⟩ => ⟨S1x16384x512, .f32⟩
  | .hbm, ⟨4, _⟩ => ⟨S16384x8x64, .f32⟩
  | .hbm, ⟨5, _⟩ => ⟨S8x16384x64, .f32⟩
  | .hbm, ⟨6, _⟩ => ⟨S_, .f32⟩
  | .hbm, ⟨7, _⟩ => ⟨S8x16384x64, .f32⟩
  | .hbm, ⟨8, _⟩ => ⟨S8x16384x64, .f32⟩
  | .hbm, ⟨9, _⟩ => ⟨S16384x2x64, .f32⟩
  | .hbm, ⟨10, _⟩ => ⟨S2x16384x64, .f32⟩
  | .hbm, ⟨11, _⟩ => ⟨S16384x2x64, .f32⟩
  | .hbm, ⟨12, _⟩ => ⟨S2x16384x64, .f32⟩
  | .hbm, ⟨13, _⟩ => ⟨S1x16384x8x64, .f32⟩
  | .hbm, ⟨14, _⟩ => ⟨S16384x8x64, .f32⟩
  | .hbm, ⟨15, _⟩ => ⟨S8x16384x64, .f32⟩
  | .hbm, ⟨16, _⟩ => ⟨S2x4x16384x64, .f32⟩
  | .hbm, ⟨17, _⟩ => ⟨S2x4x16384x16384, .f32⟩
  | .hbm, ⟨18, _⟩ => ⟨S_, .f32⟩
  | .hbm, ⟨19, _⟩ => ⟨S2x4x16384, .f32⟩
  | .hbm, ⟨20, _⟩ => ⟨S2x4x16384x1, .f32⟩
  | .hbm, ⟨21, _⟩ => ⟨S2x4x16384x16384, .f32⟩
  | .hbm, ⟨22, _⟩ => ⟨S2x4x16384x16384, .f32⟩
  | .hbm, ⟨23, _⟩ => ⟨S2x4x16384x16384, .f32⟩
  | .hbm, ⟨24, _⟩ => ⟨S_, .f32⟩
  | .hbm, ⟨25, _⟩ => ⟨S2x4x16384, .f32⟩
  | .hbm, ⟨26, _⟩ => ⟨S2x4x16384x1, .f32⟩
  | .hbm, ⟨27, _⟩ => ⟨S2x4x16384x1, .f32⟩
  | .hbm, ⟨28, _⟩ => ⟨S2x4x16384x1, .f32⟩
  | .hbm, ⟨29, _⟩ => ⟨S8x16384x1, .f32⟩
  | .hbm, ⟨30, _⟩ => ⟨S2x4x16384x16384, .f32⟩
  | .hbm, ⟨31, _⟩ => ⟨S2x4x16384x16384, .f32⟩
  | .hbm, ⟨32, _⟩ => ⟨S2x4x16384x64, .f32⟩
  | .hbm, ⟨33, _⟩ => ⟨S8x16384x64, .f32⟩
  | .hbm, ⟨34, _⟩ => ⟨S8x16384x64, .f32⟩
  | .hbm, ⟨35, _⟩ => ⟨S_, .f32⟩
  | .hbm, ⟨36, _⟩ => ⟨S8x16384, .f32⟩
  | .hbm, ⟨37, _⟩ => ⟨S8x16384x1, .f32⟩
  | .hbm, ⟨38, _⟩ => ⟨S_, .f32⟩
  | .hbm, ⟨39, _⟩ => ⟨S2x16384x3, .f32⟩
  | .hbm, ⟨40, _⟩ => ⟨S8x16384x1, .f32⟩
  | .hbm, ⟨41, _⟩ => ⟨S8x16384x1, .bf16⟩
  | .hbm, ⟨42, _⟩ => ⟨S8x16384x1, .f32⟩
  | .hbm, ⟨43, _⟩ => ⟨S8x16384x1, .f32⟩
  | .hbm, ⟨44, _⟩ => ⟨S8x16384x1, .bf16⟩
  | .hbm, ⟨45, _⟩ => ⟨S8x16384x1, .f32⟩
  | .hbm, ⟨46, _⟩ => ⟨S8x16384x1, .f32⟩
  | .hbm, ⟨47, _⟩ => ⟨S8x16384x1, .bf16⟩
  | .hbm, ⟨48, _⟩ => ⟨S8x16384x1, .f32⟩
  | .hbm, ⟨49, _⟩ => ⟨S_, .f32⟩
  | .hbm, ⟨50, _⟩ => ⟨S8x16384x61, .f32⟩
  | .hbm, ⟨51, _⟩ => ⟨S8x16384x128, .f32⟩
  | .hbm, ⟨52, _⟩ => ⟨S8x16384x128, .bf16⟩
  | .hbm, ⟨53, _⟩ => ⟨S8x16384x1, .f32⟩
  | .hbm, ⟨54, _⟩ => ⟨S8x16384x1, .bf16⟩
  | .hbm, ⟨55, _⟩ => ⟨S8x16384x1, .f32⟩
  | .hbm, ⟨56, _⟩ => ⟨S8x16384x1, .f32⟩
  | .hbm, ⟨57, _⟩ => ⟨S8x16384x1, .bf16⟩
  | .hbm, ⟨58, _⟩ => ⟨S8x16384x1, .f32⟩
  | .hbm, ⟨59, _⟩ => ⟨S8x16384x1, .f32⟩
  | .hbm, ⟨60, _⟩ => ⟨S8x16384x1, .bf16⟩
  | .hbm, ⟨61, _⟩ => ⟨S8x16384x1, .f32⟩
  | .hbm, ⟨62, _⟩ => ⟨S_, .f32⟩
  | .hbm, ⟨63, _⟩ => ⟨S8x16384x61, .f32⟩
  | .hbm, ⟨64, _⟩ => ⟨S8x16384x128, .f32⟩
  | .hbm, ⟨65, _⟩ => ⟨S8x16384x128, .bf16⟩
  | .hbm, ⟨66, _⟩ => ⟨S_, .f32⟩
  | .hbm, ⟨67, _⟩ => ⟨S2x16384x61, .f32⟩
  | .hbm, ⟨68, _⟩ => ⟨S2x16384x128, .f32⟩
  | .hbm, ⟨69, _⟩ => ⟨S2x16384x128, .bf16⟩
  | .hbm, ⟨70, _⟩ => ⟨S_, .f32⟩
  | .hbm, ⟨71, _⟩ => ⟨S2x16384x61, .f32⟩
  | .hbm, ⟨72, _⟩ => ⟨S2x16384x128, .f32⟩
  | .hbm, ⟨73, _⟩ => ⟨S2x16384x128, .bf16⟩
  | .hbm, ⟨74, _⟩ => ⟨S8x16384x128, .f32⟩
  | .hbm, ⟨75, _⟩ => ⟨S2x32x128x512, .f32⟩
  | .hbm, ⟨76, _⟩ => ⟨S2x32x128x512, .f32⟩
  | .hbm, ⟨77, _⟩ => ⟨S8x16384x64, .f32⟩
  | .hbm, ⟨78, _⟩ => ⟨S_, .f32⟩
  | .hbm, ⟨79, _⟩ => ⟨S8x16384x64, .f32⟩
  | .hbm, ⟨80, _⟩ => ⟨S8x16384x64, .f32⟩
  | .hbm, ⟨81, _⟩ => ⟨S16384x8x64, .f32⟩
  | .hbm, ⟨82, _⟩ => ⟨S1x16384x8x64, .f32⟩
  | .hbm, ⟨83, _⟩ => ⟨S2x32x64x512, .f32⟩
  | .hbm, ⟨84, _⟩ => ⟨S32x512x2x64, .f32⟩
  | .hbm, ⟨85, _⟩ => ⟨S1x16384x2x64, .f32⟩
  | .hbm, ⟨86, _⟩ => ⟨S2x32x64x512, .f32⟩
  | .hbm, ⟨87, _⟩ => ⟨S32x512x2x64, .f32⟩
  | .hbm, ⟨88, _⟩ => ⟨S1x16384x2x64, .f32⟩
  | .local _ .vmem, ⟨0, _⟩ => ⟨S4x512x128, .bf16⟩
  | .local _ .vmem, ⟨1, _⟩ => ⟨S4x512x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S4x512x128, .bf16⟩
  | .local _ .vmem, ⟨5, _⟩ => ⟨S4x512x128, .bf16⟩
  | .local _ .vmem, ⟨6, _⟩ => ⟨S4x512x128, .f32⟩
  | .local _ .vmem, ⟨7, _⟩ => ⟨S4x512x128, .f32⟩
  | .local _ .vmem, ⟨8, _⟩ => ⟨S2048x128, .f32⟩
  | .local _ .vmem, ⟨9, _⟩ => ⟨S32x128x512, .f32⟩
  | .local _ .vmem, ⟨10, _⟩ => ⟨S32x128x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_5 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61_0 : Ref sig .tc := ⟨.hbm, 74, rfl⟩
abbrev main_v61_1 : Ref sig .tc := ⟨.hbm, 75, rfl⟩
abbrev main_v61_2 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_26 : BitVec 32 := 0#32
  let c8_i32 : BitVec 32 := 8#32
  let v39 : BitVec 32 := Scalar.addi c0_i32_26 c8_i32
  let c1_i32 : BitVec 32 := 1#32
  ⟨c0_i32_26, v39, c1_i32⟩
def k0_mult1 (k0_t1 : Fin k0_t1_loop.trips) : BitVec 32 :=
  let c4_i32 : BitVec 32 := 4#32
  let c0_i32_26 : BitVec 32 := 0#32
  let c1_i32 : BitVec 32 := 1#32
  let arg21 : BitVec 32 := Scf.iv c0_i32_26 c1_i32 k0_t1
  let v70 : BitVec 32 := Scalar.muli c4_i32 arg21
  let c0_i32_58 : BitVec 32 := 0#32
  let v71 : BitVec 32 := Scalar.addi v70 c0_i32_58
  let c1_i32_59 : BitVec 32 := 1#32
  let v72 : BitVec 32 := Scalar.addi v71 c1_i32_59
  let c31_i32_60 : BitVec 32 := 31#32
  let v73 : BitVec 32 := Scalar.minsi v72 c31_i32_60
  let c512_i32 : BitVec 32 := 512#32
  let v74 : BitVec 32 := Scalar.muli v73 c512_i32
  v74
def k0_off1 (k0_t1 : Fin k0_t1_loop.trips) (c0_i32_58 : BitVec 32) : Fin 3 → Nat :=
  let c0_61 : Index := 0#32
  let c4_i32 : BitVec 32 := 4#32
  let c0_i32_26 : BitVec 32 := 0#32
  let c1_i32 : BitVec 32 := 1#32
  let arg21 : BitVec 32 := Scf.iv c0_i32_26 c1_i32 k0_t1
  let v70 : BitVec 32 := Scalar.muli c4_i32 arg21
  let v71 : BitVec 32 := Scalar.addi v70 c0_i32_58
  let c1_i32_59 : BitVec 32 := 1#32
  let v72 : BitVec 32 := Scalar.addi v71 c1_i32_59
  let c31_i32_60 : BitVec 32 := 31#32
  let v73 : BitVec 32 := Scalar.minsi v72 c31_i32_60
  let c512_i32 : BitVec 32 := 512#32
  let v74 : BitVec 32 := Scalar.muli v73 c512_i32
  let v75 : BitVec 32 := v74
  let v76 : Index := Scalar.indexCast v75
  let c0_62 : Index := 0#32
  ![0, v76.toNat, 0]
def k0_mult2 (k0_t1 : Fin k0_t1_loop.trips) : BitVec 32 :=
  let c4_i32 : BitVec 32 := 4#32
  let c0_i32_26 : BitVec 32 := 0#32
  let c1_i32 : BitVec 32 := 1#32
  let arg21 : BitVec 32 := Scf.iv c0_i32_26 c1_i32 k0_t1
  let v70 : BitVec 32 := Scalar.muli c4_i32 arg21
  let c0_i32_58 : BitVec 32 := 0#32
  let v71 : BitVec 32 := Scalar.addi v70 c0_i32_58
  let c1_i32_59 : BitVec 32 := 1#32
  let v72 : BitVec 32 := Scalar.addi v71 c1_i32_59
  let c31_i32_60 : BitVec 32 := 31#32
  let v73 : BitVec 32 := Scalar.minsi v72 c31_i32_60
  let c512_i32_66 : BitVec 32 := 512#32
  let v83 : BitVec 32 := Scalar.muli v73 c512_i32_66
  v83
def k0_mult3 (k0_t1 : Fin k0_t1_loop.trips) : BitVec 32 :=
  let c4_i32 : BitVec 32 := 4#32
  let c0_i32_26 : BitVec 32 := 0#32
  let c1_i32 : BitVec 32 := 1#32
  let arg21 : BitVec 32 := Scf.iv c0_i32_26 c1_i32 k0_t1
  let v70 : BitVec 32 := Scalar.muli c4_i32 arg21
  let c0_i32_58 : BitVec 32 := 0#32
  let v71 : BitVec 32 := Scalar.addi v70 c0_i32_58
  let c1_i32_101 : BitVec 32 := 1#32
  let v144 : BitVec 32 := Scalar.subi v71 c1_i32_101
  let c0_i32_102 : BitVec 32 := 0#32
  let v145 : BitVec 32 := Scalar.maxsi v144 c0_i32_102
  let c512_i32_107 : BitVec 32 := 512#32
  let v148 : BitVec 32 := Scalar.muli v145 c512_i32_107
  v148
def k0_off2 (k0_t1 : Fin k0_t1_loop.trips) (c0_i32_58 : BitVec 32) : Fin 3 → Nat :=
  let c0_108 : Index := 0#32
  let c4_i32 : BitVec 32 := 4#32
  let c0_i32_26 : BitVec 32 := 0#32
  let c1_i32 : BitVec 32 := 1#32
  let arg21 : BitVec 32 := Scf.iv c0_i32_26 c1_i32 k0_t1
  let v70 : BitVec 32 := Scalar.muli c4_i32 arg21
  let v71 : BitVec 32 := Scalar.addi v70 c0_i32_58
  let c1_i32_101 : BitVec 32 := 1#32
  let v144 : BitVec 32 := Scalar.subi v71 c1_i32_101
  let c0_i32_102 : BitVec 32 := 0#32
  let v145 : BitVec 32 := Scalar.maxsi v144 c0_i32_102
  let c512_i32_107 : BitVec 32 := 512#32
  let v148 : BitVec 32 := Scalar.muli v145 c512_i32_107
  let v149 : BitVec 32 := v148
  let v150 : Index := Scalar.indexCast v149
  let c0_109 : Index := 0#32
  ![0, v150.toNat, 0]
def k0_off3 (k0_t1 : Fin k0_t1_loop.trips) (c0_i32_58 : BitVec 32) : Fin 3 → Nat :=
  let c4_i32 : BitVec 32 := 4#32
  let c0_i32_26 : BitVec 32 := 0#32
  let c1_i32 : BitVec 32 := 1#32
  let arg21 : BitVec 32 := Scf.iv c0_i32_26 c1_i32 k0_t1
  let v70 : BitVec 32 := Scalar.muli c4_i32 arg21
  let v71 : BitVec 32 := Scalar.addi v70 c0_i32_58
  let c1_i32_101 : BitVec 32 := 1#32
  let v144 : BitVec 32 := Scalar.subi v71 c1_i32_101
  let c0_i32_102 : BitVec 32 := 0#32
  let v145 : BitVec 32 := Scalar.maxsi v144 c0_i32_102
  let v158 : Index := Scalar.indexCast v145
  let c0_113 : Index := 0#32
  let c0_114 : Index := 0#32
  ![v158.toNat, 0, 0]
def k0_mult4 (k0_t1 : Fin k0_t1_loop.trips) : BitVec 32 :=
  let c4_i32_125 : BitVec 32 := 4#32
  let c0_i32_26 : BitVec 32 := 0#32
  let c1_i32 : BitVec 32 := 1#32
  let arg21 : BitVec 32 := Scf.iv c0_i32_26 c1_i32 k0_t1
  let v177 : BitVec 32 := Scalar.muli c4_i32_125 arg21
  let c1_i32_126 : BitVec 32 := 1#32
  let v178 : BitVec 32 := Scalar.addi v177 c1_i32_126
  let c1_i32_127 : BitVec 32 := 1#32
  let v179 : BitVec 32 := Scalar.addi v178 c1_i32_127
  let c31_i32_128 : BitVec 32 := 31#32
  let v180 : BitVec 32 := Scalar.minsi v179 c31_i32_128
  let c512_i32_129 : BitVec 32 := 512#32
  let v181 : BitVec 32 := Scalar.muli v180 c512_i32_129
  v181
def k0_mult5 (k0_t1 : Fin k0_t1_loop.trips) : BitVec 32 :=
  let c4_i32_125 : BitVec 32 := 4#32
  let c0_i32_26 : BitVec 32 := 0#32
  let c1_i32 : BitVec 32 := 1#32
  let arg21 : BitVec 32 := Scf.iv c0_i32_26 c1_i32 k0_t1
  let v177 : BitVec 32 := Scalar.muli c4_i32_125 arg21
  let c1_i32_126 : BitVec 32 := 1#32
  let v178 : BitVec 32 := Scalar.addi v177 c1_i32_126
  let c1_i32_127 : BitVec 32 := 1#32
  let v179 : BitVec 32 := Scalar.addi v178 c1_i32_127
  let c31_i32_128 : BitVec 32 := 31#32
  let v180 : BitVec 32 := Scalar.minsi v179 c31_i32_128
  let c512_i32_135 : BitVec 32 := 512#32
  let v190 : BitVec 32 := Scalar.muli v180 c512_i32_135
  v190
def k0_mult6 (k0_t1 : Fin k0_t1_loop.trips) : BitVec 32 :=
  let c4_i32_125 : BitVec 32 := 4#32
  let c0_i32_26 : BitVec 32 := 0#32
  let c1_i32 : BitVec 32 := 1#32
  let arg21 : BitVec 32 := Scf.iv c0_i32_26 c1_i32 k0_t1
  let v177 : BitVec 32 := Scalar.muli c4_i32_125 arg21
  let c1_i32_126 : BitVec 32 := 1#32
  let v178 : BitVec 32 := Scalar.addi v177 c1_i32_126
  let c1_i32_173 : BitVec 32 := 1#32
  let v251 : BitVec 32 := Scalar.subi v178 c1_i32_173
  let c0_i32_174 : BitVec 32 := 0#32
  let v252 : BitVec 32 := Scalar.maxsi v251 c0_i32_174
  let c512_i32_179 : BitVec 32 := 512#32
  let v255 : BitVec 32 := Scalar.muli v252 c512_i32_179
  v255
def k0_mult7 (k0_t1 : Fin k0_t1_loop.trips) : BitVec 32 :=
  let c4_i32_197 : BitVec 32 := 4#32
  let c0_i32_26 : BitVec 32 := 0#32
  let c1_i32 : BitVec 32 := 1#32
  let arg21 : BitVec 32 := Scf.iv c0_i32_26 c1_i32 k0_t1
  let v284 : BitVec 32 := Scalar.muli c4_i32_197 arg21
  let c2_i32 : BitVec 32 := 2#32
  let v285 : BitVec 32 := Scalar.addi v284 c2_i32
  let c1_i32_198 : BitVec 32 := 1#32
  let v286 : BitVec 32 := Scalar.addi v285 c1_i32_198
  let c31_i32_199 : BitVec 32 := 31#32
  let v287 : BitVec 32 := Scalar.minsi v286 c31_i32_199
  let c512_i32_200 : BitVec 32 := 512#32
  let v288 : BitVec 32 := Scalar.muli v287 c512_i32_200
  v288
def k0_mult8 (k0_t1 : Fin k0_t1_loop.trips) : BitVec 32 :=
  let c4_i32_197 : BitVec 32 := 4#32
  let c0_i32_26 : BitVec 32 := 0#32
  let c1_i32 : BitVec 32 := 1#32
  let arg21 : BitVec 32 := Scf.iv c0_i32_26 c1_i32 k0_t1
  let v284 : BitVec 32 := Scalar.muli c4_i32_197 arg21
  let c2_i32 : BitVec 32 := 2#32
  let v285 : BitVec 32 := Scalar.addi v284 c2_i32
  let c1_i32_198 : BitVec 32 := 1#32
  let v286 : BitVec 32 := Scalar.addi v285 c1_i32_198
  let c31_i32_199 : BitVec 32 := 31#32
  let v287 : BitVec 32 := Scalar.minsi v286 c31_i32_199
  let c512_i32_206 : BitVec 32 := 512#32
  let v297 : BitVec 32 := Scalar.muli v287 c512_i32_206
  v297
def k0_mult9 (k0_t1 : Fin k0_t1_loop.trips) : BitVec 32 :=
  let c4_i32_197 : BitVec 32 := 4#32
  let c0_i32_26 : BitVec 32 := 0#32
  let c1_i32 : BitVec 32 := 1#32
  let arg21 : BitVec 32 := Scf.iv c0_i32_26 c1_i32 k0_t1
  let v284 : BitVec 32 := Scalar.muli c4_i32_197 arg21
  let c2_i32 : BitVec 32 := 2#32
  let v285 : BitVec 32 := Scalar.addi v284 c2_i32
  let c1_i32_244 : BitVec 32 := 1#32
  let v358 : BitVec 32 := Scalar.subi v285 c1_i32_244
  let c0_i32_245 : BitVec 32 := 0#32
  let v359 : BitVec 32 := Scalar.maxsi v358 c0_i32_245
  let c512_i32_250 : BitVec 32 := 512#32
  let v362 : BitVec 32 := Scalar.muli v359 c512_i32_250
  v362
def k0_mult10 (k0_t1 : Fin k0_t1_loop.trips) : BitVec 32 :=
  let c4_i32_268 : BitVec 32 := 4#32
  let c0_i32_26 : BitVec 32 := 0#32
  let c1_i32 : BitVec 32 := 1#32
  let arg21 : BitVec 32 := Scf.iv c0_i32_26 c1_i32 k0_t1
  let v391 : BitVec 32 := Scalar.muli c4_i32_268 arg21
  let c3_i32 : BitVec 32 := 3#32
  let v392 : BitVec 32 := Scalar.addi v391 c3_i32
  let c1_i32_269 : BitVec 32 := 1#32
  let v393 : BitVec 32 := Scalar.addi v392 c1_i32_269
  let c31_i32_270 : BitVec 32 := 31#32
  let v394 : BitVec 32 := Scalar.minsi v393 c31_i32_270
  let c512_i32_271 : BitVec 32 := 512#32
  let v395 : BitVec 32 := Scalar.muli v394 c512_i32_271
  v395
def k0_mult11 (k0_t1 : Fin k0_t1_loop.trips) : BitVec 32 :=
  let c4_i32_268 : BitVec 32 := 4#32
  let c0_i32_26 : BitVec 32 := 0#32
  let c1_i32 : BitVec 32 := 1#32
  let arg21 : BitVec 32 := Scf.iv c0_i32_26 c1_i32 k0_t1
  let v391 : BitVec 32 := Scalar.muli c4_i32_268 arg21
  let c3_i32 : BitVec 32 := 3#32
  let v392 : BitVec 32 := Scalar.addi v391 c3_i32
  let c1_i32_269 : BitVec 32 := 1#32
  let v393 : BitVec 32 := Scalar.addi v392 c1_i32_269
  let c31_i32_270 : BitVec 32 := 31#32
  let v394 : BitVec 32 := Scalar.minsi v393 c31_i32_270
  let c512_i32_277 : BitVec 32 := 512#32
  let v404 : BitVec 32 := Scalar.muli v394 c512_i32_277
  v404
def k0_mult12 (k0_t1 : Fin k0_t1_loop.trips) : BitVec 32 :=
  let c4_i32_268 : BitVec 32 := 4#32
  let c0_i32_26 : BitVec 32 := 0#32
  let c1_i32 : BitVec 32 := 1#32
  let arg21 : BitVec 32 := Scf.iv c0_i32_26 c1_i32 k0_t1
  let v391 : BitVec 32 := Scalar.muli c4_i32_268 arg21
  let c3_i32 : BitVec 32 := 3#32
  let v392 : BitVec 32 := Scalar.addi v391 c3_i32
  let c1_i32_315 : BitVec 32 := 1#32
  let v465 : BitVec 32 := Scalar.subi v392 c1_i32_315
  let c0_i32_316 : BitVec 32 := 0#32
  let v466 : BitVec 32 := Scalar.maxsi v465 c0_i32_316
  let c512_i32_321 : BitVec 32 := 512#32
  let v469 : BitVec 32 := Scalar.muli v466 c512_i32_321
  v469
def k0_cond2 (i : grid0.Coords) : BitVec 1 :=
  let arg1 : BitVec 32 := BitVec.ofNat 32 (i 1).val
  let c31_i32 : BitVec 32 := 31#32
  let v67 : BitVec 1 := Scalar.cmpi .eq arg1 c31_i32
  let v68 : BitVec 32 := Scalar.extui v67
  let c0_i32_57 : BitVec 32 := 0#32
  let v69 : BitVec 1 := Scalar.cmpi .ne v68 c0_i32_57
  v69

def k0_off4 (i : grid0.Coords) : Fin 4 → Nat :=
  let arg0 : BitVec 32 := BitVec.ofNat 32 (i 0).val
  let c0_i32_59 : BitVec 32 := 0#32
  let c0_i32_60 : BitVec 32 := 0#32
  let c0_i32_61 : BitVec 32 := 0#32
  ![arg0.toNat, 0, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1x16384x8x64 : Shape := ⟨4, ![1, 16384, 8, 64]⟩
abbrev S1x16384x2x64 : Shape := ⟨4, ![1, 16384, 2, 64]⟩
abbrev S1x16384x512 : Shape := ⟨3, ![1, 16384, 512]⟩
abbrev S1x16384x2x4x64 : Shape := ⟨5, ![1, 16384, 2, 4, 64]⟩
abbrev S1x2x4x16384x64 : Shape := ⟨5, ![1, 2, 4, 16384, 64]⟩
abbrev S1x2x16384x64 : Shape := ⟨4, ![1, 2, 16384, 64]⟩
abbrev S1x2x4x16384x16384 : Shape := ⟨5, ![1, 2, 4, 16384, 16384]⟩
abbrev S_ : Shape := ⟨0, ![]⟩
abbrev S1x2x4x16384 : Shape := ⟨4, ![1, 2, 4, 16384]⟩
abbrev S1x2x4x16384x1 : Shape := ⟨5, ![1, 2, 4, 16384, 1]⟩
abbrev S1x2x64x16384 : Shape := ⟨4, ![1, 2, 64, 16384]⟩
abbrev S2x4x16384 : Shape := ⟨3, ![2, 4, 16384]⟩

abbrev nBuf : Space → Nat
  | .hbm => 82
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x2x64, .f32⟩
  | .hbm, ⟨2, _⟩ => ⟨S1x16384x2x64, .f32⟩
  | .hbm, ⟨3, _⟩ => ⟨S1x16384x512, .f32⟩
  | .hbm, ⟨4, _⟩ => ⟨S1x16384x2x4x64, .f32⟩
  | .hbm, ⟨5, _⟩ => ⟨S1x2x4x16384x64, .f32⟩
  | .hbm, ⟨6, _⟩ => ⟨S1x2x16384x64, .f32⟩
  | .hbm, ⟨7, _⟩ => ⟨S1x2x16384x64, .f32⟩
  | .hbm, ⟨8, _⟩ => ⟨S1x2x4x16384x16384, .f32⟩
  | .hbm, ⟨9, _⟩ => ⟨S_, .f32⟩
  | .hbm, ⟨10, _⟩ => ⟨S1x2x4x16384x16384, .f32⟩
  | .hbm, ⟨11, _⟩ => ⟨S1x2x4x16384x16384, .f32⟩
  | .hbm, ⟨12, _⟩ => ⟨S_, .f32⟩
  | .hbm, ⟨13, _⟩ => ⟨S1x2x4x16384, .f32⟩
  | .hbm, ⟨14, _⟩ => ⟨S1x2x4x16384x1, .f32⟩
  | .hbm, ⟨15, _⟩ => ⟨S1x2x4x16384x16384, .f32⟩
  | .hbm, ⟨16, _⟩ => ⟨S1x2x4x16384x16384, .i1⟩
  | .hbm, ⟨17, _⟩ => ⟨S1x2x4x16384x16384, .f32⟩
  | .hbm, ⟨18, _⟩ => ⟨S_, .f32⟩
  | .hbm, ⟨19, _⟩ => ⟨S1x2x4x16384, .f32⟩
  | .hbm, ⟨20, _⟩ => ⟨S_, .f32⟩
  | .hbm, ⟨21, _⟩ => ⟨S1x2x4x16384, .f32⟩
  | .hbm, ⟨22, _⟩ => ⟨S1x2x4x16384, .f32⟩
  | .hbm, ⟨23, _⟩ => ⟨S_, .f32⟩
  | .hbm, ⟨24, _⟩ => ⟨S1x2x4x16384, .f32⟩
  | .hbm, ⟨25, _⟩ => ⟨S1x2x4x16384, .i1⟩
  | .hbm, ⟨26, _⟩ => ⟨S_, .f32⟩
  | .hbm, ⟨27, _⟩ => ⟨S1x2x4x16384, .f32⟩
  | .hbm, ⟨28, _⟩ => ⟨S1x2x4x16384, .i1⟩
  | .hbm, ⟨29, _⟩ => ⟨S_, .f32⟩
  | .hbm, ⟨30, _⟩ => ⟨S1x2x4x16384, .f32⟩
  | .hbm, ⟨31, _⟩ => ⟨S_, .f32⟩
  | .hbm, ⟨32, _⟩ => ⟨S1x2x4x16384, .f32⟩
  | .hbm, ⟨33, _⟩ => ⟨S_, .f32⟩
  | .hbm, ⟨34, _⟩ => ⟨S1x2x4x16384, .f32⟩
  | .hbm, ⟨35, _⟩ => ⟨S1x2x4x16384, .f32⟩
  | .hbm, ⟨36, _⟩ => ⟨S1x2x4x16384, .f32⟩
  | .hbm, ⟨37, _⟩ => ⟨S1x2x4x16384x1, .f32⟩
  | .hbm, ⟨38, _⟩ => ⟨S1x2x4x16384x16384, .f32⟩
  | .hbm, ⟨39, _⟩ => ⟨S1x2x4x16384x16384, .f32⟩
  | .hbm, ⟨40, _⟩ => ⟨S1x2x4x16384x16384, .f32⟩
  | .hbm, ⟨41, _⟩ => ⟨S_, .f32⟩
  | .hbm, ⟨42, _⟩ => ⟨S1x2x4x16384, .f32⟩
  | .hbm, ⟨43, _⟩ => ⟨S1x2x4x16384x1, .f32⟩
  | .hbm, ⟨44, _⟩ => ⟨S1x2x4x16384x16384, .f32⟩
  | .hbm, ⟨45, _⟩ => ⟨S1x2x4x16384x16384, .f32⟩
  | .hbm, ⟨46, _⟩ => ⟨S1x2x4x16384x1, .f32⟩
  | .hbm, ⟨47, _⟩ => ⟨S_, .f32⟩
  | .hbm, ⟨48, _⟩ => ⟨S1x2x4x16384x1, .f32⟩
  | .hbm, ⟨49, _⟩ => ⟨S1x2x4x16384x1, .f32⟩
  | .hbm, ⟨50, _⟩ => ⟨S1x2x4x16384x64, .f32⟩
  | .hbm, ⟨51, _⟩ => ⟨S1x16384x2x4x64, .f32⟩
  | .hbm, ⟨52, _⟩ => ⟨S1x16384x512, .f32⟩
  | .hbm, ⟨53, _⟩ => ⟨S1x16384x2x4x64, .f32⟩
  | .hbm, ⟨54, _⟩ => ⟨S1x2x4x16384x64, .f32⟩
  | .hbm, ⟨55, _⟩ => ⟨S1x2x64x16384, .f32⟩
  | .hbm, ⟨56, _⟩ => ⟨S1x2x16384x64, .f32⟩
  | .hbm, ⟨57, _⟩ => ⟨S1x2x4x16384x16384, .f32⟩
  | .hbm, ⟨58, _⟩ => ⟨S1x2x4x16384x16384, .f32⟩
  | .hbm, ⟨59, _⟩ => ⟨S1x2x4x16384x16384, .f32⟩
  | .hbm, ⟨60, _⟩ => ⟨S1x2x4x16384x16384, .f32⟩
  | .hbm, ⟨61, _⟩ => ⟨S_, .f32⟩
  | .hbm, ⟨62, _⟩ => ⟨S1x2x4x16384, .f32⟩
  | .hbm, ⟨63, _⟩ => ⟨S1x2x4x16384x1, .f32⟩
  | .hbm, ⟨64, _⟩ => ⟨S1x2x4x16384x1, .f32⟩
  | .hbm, ⟨65, _⟩ => ⟨S1x2x4x16384x16384, .f32⟩
  | .hbm, ⟨66, _⟩ => ⟨S1x2x4x16384x16384, .f32⟩
  | .hbm, ⟨67, _⟩ => ⟨S_, .f32⟩
  | .hbm, ⟨68, _⟩ => ⟨S2x4x16384, .f32⟩
  | .hbm, ⟨69, _⟩ => ⟨S1x2x4x16384, .f32⟩
  | .hbm, ⟨70, _⟩ => ⟨S1x2x4x16384x16384, .f32⟩
  | .hbm, ⟨71, _⟩ => ⟨S1x2x4x16384x16384, .f32⟩
  | .hbm, ⟨72, _⟩ => ⟨S1x2x4x16384x16384, .f32⟩
  | .hbm, ⟨73, _⟩ => ⟨S_, .f32⟩
  | .hbm, ⟨74, _⟩ => ⟨S1x2x4x16384x16384, .f32⟩
  | .hbm, ⟨75, _⟩ => ⟨S1x2x4x16384x16384, .f32⟩
  | .hbm, ⟨76, _⟩ => ⟨S1x2x16384x64, .f32⟩
  | .hbm, ⟨77, _⟩ => ⟨S1x2x4x16384x64, .f32⟩
  | .hbm, ⟨78, _⟩ => ⟨S1x16384x2x64, .f32⟩
  | .hbm, ⟨79, _⟩ => ⟨S1x16384x2x64, .f32⟩
  | .hbm, ⟨80, _⟩ => ⟨S1x16384x2x4x64, .f32⟩
  | .hbm, ⟨81, _⟩ => ⟨S1x16384x8x64, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel2.lean ====
abbrev S1x16384x1024 : Shape := ⟨3, ![1, 16384, 1024]⟩
abbrev S1024 : Shape := ⟨1, ![1024]⟩
abbrev S1024x2816 : Shape := ⟨2, ![1024, 2816]⟩
abbrev S64 : Shape := ⟨1, ![64]⟩
abbrev S31x256 : Shape := ⟨2, ![31, 256]⟩
abbrev S1x16384x8x64 : Shape := ⟨4, ![1, 16384, 8, 64]⟩
abbrev S1x16384x2x64 : Shape := ⟨4, ![1, 16384, 2, 64]⟩
abbrev S1x16384x512 : Shape := ⟨3, ![1, 16384, 512]⟩
abbrev S1x16384x256 : Shape := ⟨3, ![1, 16384, 256]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S1x16384x1x64 : Shape := ⟨4, ![1, 16384, 1, 64]⟩
abbrev S16384x128 : Shape := ⟨2, ![16384, 128]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S32x256 : Shape := ⟨2, ![32, 256]⟩
abbrev S16384x1024 : Shape := ⟨2, ![16384, 1024]⟩
abbrev S1x1024 : Shape := ⟨2, ![1, 1024]⟩
abbrev S16384x2816 : Shape := ⟨2, ![16384, 2816]⟩
abbrev S16384x8x64 : Shape := ⟨3, ![16384, 8, 64]⟩
abbrev S8x16384x64 : Shape := ⟨3, ![8, 16384, 64]⟩
abbrev S8x16384x128 : Shape := ⟨3, ![8, 16384, 128]⟩
abbrev S1x16384x1536 : Shape := ⟨3, ![1, 16384, 1536]⟩
abbrev S16384x1536 : Shape := ⟨2, ![16384, 1536]⟩
abbrev S16384x2x64 : Shape := ⟨3, ![16384, 2, 64]⟩
abbrev S32x512x2x64 : Shape := ⟨4, ![32, 512, 2, 64]⟩
abbrev S2x32x64x512 : Shape := ⟨4, ![2, 32, 64, 512]⟩
abbrev S2x32x128x512 : Shape := ⟨4, ![2, 32, 128, 512]⟩
abbrev S16384x256 : Shape := ⟨2, ![16384, 256]⟩
abbrev S2816x1024 : Shape := ⟨2, ![2816, 1024]⟩
abbrev S256x1024 : Shape := ⟨2, ![256, 1024]⟩
abbrev S256x2816 : Shape := ⟨2, ![256, 2816]⟩
abbrev S8x256x128 : Shape := ⟨3, ![8, 256, 128]⟩
abbrev S2x1x128x256 : Shape := ⟨4, ![2, 1, 128, 256]⟩
abbrev S256x1536 : Shape := ⟨2, ![256, 1536]⟩
abbrev S256x256 : Shape := ⟨2, ![256, 256]⟩
abbrev S16x256 : Shape := ⟨2, ![16, 256]⟩
abbrev S256x128 : Shape := ⟨2, ![256, 128]⟩
abbrev S8x288x256 : Shape := ⟨3, ![8, 288, 256]⟩
abbrev S256x512 : Shape := ⟨2, ![256, 512]⟩
abbrev S1x256x128 : Shape := ⟨3, ![1, 256, 128]⟩
abbrev S1x1x64x256 : Shape := ⟨4, ![1, 1, 64, 256]⟩
abbrev S64x256 : Shape := ⟨2, ![64, 256]⟩
abbrev S128x256 : Shape := ⟨2, ![128, 256]⟩
abbrev S128x128 : Shape := ⟨2, ![128, 128]⟩
abbrev S288x256 : Shape := ⟨2, ![288, 256]⟩
abbrev S1x288x256 : Shape := ⟨3, ![1, 288, 256]⟩
abbrev S1x256 : Shape := ⟨2, ![1, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 176
  | .vmem => 40
  | .smem => 0
  | _ => 0

abbrev hbmTy0_0 (i : Nat) : BufTy := match i % 128 with
  | 0 => ⟨S1x16384x1024, .f32⟩
  | 1 => ⟨S1024, .f32⟩
  | 2 => ⟨S1024x2816, .f32⟩
  | 3 => ⟨S64, .f32⟩
  | 4 => ⟨S64, .f32⟩
  | 5 => ⟨S31x256, .f32⟩
  | 6 => ⟨S1x16384x1024, .f32⟩
  | 7 => ⟨S1x16384x8x64, .f32⟩
  | 8 => ⟨S1x16384x2x64, .f32⟩
  | 9 => ⟨S1x16384x2x64, .f32⟩
  | 10 => ⟨S1x16384x512, .f32⟩
  | 11 => ⟨S1x16384x256, .f32⟩
  | 12 => ⟨S1x16384x256, .f32⟩
  | 13 => ⟨S1x16384x256, .f32⟩
  | 14 => ⟨S1x16384x256, .f32⟩
  | 15 => ⟨S1x16384x256, .f32⟩
  | 16 => ⟨S16384, .i32⟩
  | 17 => ⟨S_, .i32⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i1⟩
  | 25 => ⟨S16384, .i32⟩
  | 26 => ⟨S16384, .i32⟩
  | 27 => ⟨S_, .i32⟩
  | 28 => ⟨S16384, .i32⟩
  | 29 => ⟨S16384, .i1⟩
  | 30 => ⟨S16384, .i1⟩
  | 31 => ⟨S_, .i32⟩
  | 32 => ⟨S16384, .i32⟩
  | 33 => ⟨S16384, .i32⟩
  | 34 => ⟨S16384, .i32⟩
  | 35 => ⟨S16384, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S16384, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i1⟩
  | 50 => ⟨S_, .i32⟩
  | 51 => ⟨S_, .i1⟩
  | 52 => ⟨S16384, .i1⟩
  | 53 => ⟨S16384, .i1⟩
  | 54 => ⟨S16384, .i1⟩
  | 55 => ⟨S16384, .i32⟩
  | 56 => ⟨S16384, .i32⟩
  | 57 => ⟨S16384, .i32⟩
  | 58 => ⟨S16384, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S16384x1, .f32⟩
  | 68 => ⟨S1x16, .f32⟩
  | 69 => ⟨S16384x16, .f32⟩
  | 70 => ⟨S16384x16, .f32⟩
  | 71 => ⟨S16384x16, .f32⟩
  | 72 => ⟨S16384x1, .f32⟩
  | 73 => ⟨S1x16, .f32⟩
  | 74 => ⟨S16384x16, .f32⟩
  | 75 => ⟨S16384x16, .f32⟩
  | 76 => ⟨S16384x16, .f32⟩
  | 77 => ⟨S16384x16, .f32⟩
  | 78 => ⟨S16384x16, .f32⟩
  | 79 => ⟨S16384x16, .f32⟩
  | 80 => ⟨S16384x16, .f32⟩
  | 81 => ⟨S16384x64, .f32⟩
  | 82 => ⟨S16384x16, .f32⟩
  | 83 => ⟨S16384x16, .f32⟩
  | 84 => ⟨S16384x16, .f32⟩
  | 85 => ⟨S16384x16, .f32⟩
  | 86 => ⟨S16384x16, .f32⟩
  | 87 => ⟨S16384x16, .f32⟩
  | 88 => ⟨S16384x64, .f32⟩
  | 89 => ⟨S1x16384x1x64, .f32⟩
  | 90 => ⟨S1x16384x2x64, .f32⟩
  | 91 => ⟨S16384x128, .f32⟩
  | 92 => ⟨S1x16384x1x64, .f32⟩
  | 93 => ⟨S1x16384x2x64, .f32⟩
  | 94 => ⟨S16384x128, .f32⟩
  | 95 => ⟨S8x8, .i32⟩
  | 96 => ⟨S8x8, .i32⟩
  | 97 => ⟨S_, .i32⟩
  | 98 => ⟨S8x8, .i32⟩
  | 99 => ⟨S8x8, .i32⟩
  | 100 => ⟨S8x8, .i1⟩
  | 101 => ⟨S8x8, .f32⟩
  | 102 => ⟨S_, .f32⟩
  | 103 => ⟨S64x64, .f32⟩
  | 104 => ⟨S8x1x8x1, .f32⟩
  | 105 => ⟨S1x64x1x64, .f32⟩
  | 106 => ⟨S8x64x8x64, .f32⟩
  | 107 => ⟨S8x64x8x64, .f32⟩
  | 108 => ⟨S8x64x8x64, .f32⟩
  | 109 => ⟨S512x512, .f32⟩
  | 110 => ⟨S512x512, .bf16⟩
  | 111 => ⟨S1x64, .f32⟩
  | 112 => ⟨S8x64, .f32⟩
  | 113 => ⟨S512, .f32⟩
  | 114 => ⟨S1x512, .f32⟩
  | 115 => ⟨S1x64, .f32⟩
  | 116 => ⟨S2x64, .f32⟩
  | 117 => ⟨S128, .f32⟩
  | 118 => ⟨S1x128, .f32⟩
  | 119 => ⟨S_, .i32⟩
  | 120 => ⟨S_, .f32⟩
  | 121 => ⟨S32x256, .f32⟩
  | 122 => ⟨S16384x1024, .f32⟩
  | 123 => ⟨S16384x1024, .f32⟩
  | 124 => ⟨S16384x1024, .f32⟩
  | 125 => ⟨S16384x1024, .f32⟩
  | 126 => ⟨S_, .f32⟩
  | 127 => ⟨S16384, .f32⟩
  | _ => ⟨S1x16384x1024, .f32⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S_, .f32⟩
  | 5 => ⟨S16384x1, .f32⟩
  | 6 => ⟨S16384x1, .f32⟩
  | 7 => ⟨S16384x1, .f32⟩
  | 8 => ⟨S16384x1024, .f32⟩
  | 9 => ⟨S16384x1024, .f32⟩
  | 10 => ⟨S1x1024, .f32⟩
  | 11 => ⟨S16384x1024, .f32⟩
  | 12 => ⟨S16384x1024, .f32⟩
  | 13 => ⟨S16384x2816, .f32⟩
  | 14 => ⟨S16384x8x64, .f32⟩
  | 15 => ⟨S8x16384x64, .f32⟩
  | 16 => ⟨S_, .i32⟩
  | 17 => ⟨S_, .f32⟩
  | 18 => ⟨S8x16384x128, .f32⟩
  | 19 => ⟨S_, .f32⟩
  | 20 => ⟨S8x16384x128, .f32⟩
  | 21 => ⟨S8x16384x128, .f32⟩
  | 22 => ⟨S1x16384x1536, .f32⟩
  | 23 => ⟨S16384x1536, .f32⟩
  | 24 => ⟨S16384x1024, .f32⟩
  | 25 => ⟨S16384x1024, .f32⟩
  | 26 => ⟨S16384x2x64, .f32⟩
  | 27 => ⟨S32x512x2x64, .f32⟩
  | 28 => ⟨S2x32x64x512, .f32⟩
  | 29 => ⟨S_, .i32⟩
  | 30 => ⟨S_, .f32⟩
  | 31 => ⟨S2x32x128x512, .f32⟩
  | 32 => ⟨S16384x2x64, .f32⟩
  | 33 => ⟨S32x512x2x64, .f32⟩
  | 34 => ⟨S2x32x64x512, .f32⟩
  | 35 => ⟨S_, .i32⟩
  | 36 => ⟨S_, .f32⟩
  | 37 => ⟨S2x32x128x512, .f32⟩
  | 38 => ⟨S16384x256, .f32⟩
  | 39 => ⟨S1x1024, .f32⟩
  | 40 => ⟨S1024x2816, .bf16⟩
  | 41 => ⟨S2816x1024, .bf16⟩
  | 42 => ⟨S16384x1024, .f32⟩
  | 43 => ⟨S16384x2816, .bf16⟩
  | 44 => ⟨S16384x1024, .bf16⟩
  | 45 => ⟨S1x1024, .f32⟩
  | 46 => ⟨S1x512, .f32⟩
  | 47 => ⟨S1x128, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .f32⟩
  | .local _ .vmem, ⟨5, _⟩ => ⟨S256x2816, .f32⟩
  | .local _ .vmem, ⟨6, _⟩ => ⟨S8x256x128, .f32⟩
  | .local _ .vmem, ⟨7, _⟩ => ⟨S8x256x128, .f32⟩
  | .local _ .vmem, ⟨8, _⟩ => ⟨S2x1x128x256, .f32⟩
  | .local _ .vmem, ⟨9, _⟩ => ⟨S2x1x128x256, .f32⟩
  | .local _ .vmem, ⟨10, _⟩ => ⟨S2x1x128x256, .f32⟩
  | .local _ .vmem, ⟨11, _⟩ => ⟨S2x1x128x256, .f32⟩
  | .local _ .vmem, ⟨12, _⟩ => ⟨S256x1536, .f32⟩
  | .local _ .vmem, ⟨13, _⟩ => ⟨S256x1536, .f32⟩
  | .local _ .vmem, ⟨14, _⟩ => ⟨S256x256, .f32⟩
  | .local _ .vmem, ⟨15, _⟩ => ⟨S256x256, .f32⟩
  | .local _ .vmem, ⟨16, _⟩ => ⟨S16x256, .f32⟩
  | .local _ .vmem, ⟨17, _⟩ => ⟨S16x256, .f32⟩
  | .local _ .vmem, ⟨18, _⟩ => ⟨S16x256, .f32⟩
  | .local _ .vmem, ⟨19, _⟩ => ⟨S16x256, .f32⟩
  | .local _ .vmem, ⟨20, _⟩ => ⟨S32x256, .f32⟩
  | .local _ .vmem, ⟨21, _⟩ => ⟨S1x1024, .f32⟩
  | .local _ .vmem, ⟨22, _⟩ => ⟨S2816x1024, .bf16⟩
  | .local _ .vmem, ⟨23, _⟩ => ⟨S512x512, .bf16⟩
  | .local _ .vmem, ⟨24, _⟩ => ⟨S1x512, .f32⟩
  | .local _ .vmem, ⟨25, _⟩ => ⟨S1x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x1024, .f32⟩
  | .local _ .vmem, ⟨31, _⟩ => ⟨S256x1024, .f32⟩
  | .local _ .vmem, ⟨32, _⟩ => ⟨S256x2816, .bf16⟩
  | .local _ .vmem, ⟨33, _⟩ => ⟨S256x2816, .bf16⟩
  | .local _ .vmem, ⟨34, _⟩ => ⟨S256x1024, .bf16⟩
  | .local _ .vmem, ⟨35, _⟩ => ⟨S256x1024, .bf16⟩
  | .local _ .vmem, ⟨36, _⟩ => ⟨S1x1024, .f32⟩
  | .local _ .vmem, ⟨37, _⟩ => ⟨S1x512, .f32⟩
  | .local _ .vmem, ⟨38, _⟩ => ⟨S1x128, .f32⟩
  | .local _ .vmem, ⟨39, _⟩ => ⟨S8x288x256, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v1 : Ref sig .tc := ⟨.hbm, 34, rfl⟩
abbrev main_v2 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_cst : Ref sig .tc := ⟨.hbm, 61, rfl⟩
abbrev main_v7 : Ref sig .tc := ⟨.hbm, 62, rfl⟩
abbrev main_v8 : Ref sig .tc := ⟨.hbm, 63, rfl⟩
abbrev main_cst_1 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_c_2 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_3 : Ref sig .tc := ⟨.hbm, 102, rfl⟩
abbrev main_v45 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_c_4 : Ref sig .tc := ⟨.hbm, 119, rfl⟩
abbrev main_call3_v0 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_5 : Ref sig .tc := ⟨.hbm, 126, rfl⟩
abbrev main_v61 : Ref sig .tc := ⟨.hbm, 127, rfl⟩
abbrev main_v62 : Ref sig .tc := ⟨.hbm, 128, rfl⟩
abbrev main_cst_6 : Ref sig .tc := ⟨.hbm, 129, rfl⟩
abbrev main_v63 : Ref sig .tc := ⟨.hbm, 130, rfl⟩
abbrev main_v64 : Ref sig .tc := ⟨.hbm, 131, rfl⟩
abbrev main_cst_7 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_c_8 : Ref sig .tc := ⟨.hbm, 144, rfl⟩
abbrev main_call4_v0 : Ref sig .tc := ⟨.hbm, 145, rfl⟩
abbrev main_v76 : Ref sig .tc := ⟨.hbm, 146, rfl⟩
abbrev main_cst_9 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_c_10 : Ref sig .tc := ⟨.hbm, 157, rfl⟩
abbrev main_call5_v0 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_c_11 : Ref sig .tc := ⟨.hbm, 163, rfl⟩
abbrev main_call6_v0 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95_0 : Ref sig .tc := ⟨.hbm, 170, rfl⟩
abbrev main_v95_1 : Ref sig .tc := ⟨.hbm, 171, rfl⟩
abbrev main_v95_2 : Ref sig .tc := ⟨.hbm, 172, rfl⟩
abbrev main_v95_3 : Ref sig .tc := ⟨.hbm, 173, rfl⟩
abbrev main_v95_4 : Ref sig .tc := ⟨.hbm, 174, rfl⟩
abbrev main_v95_5 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37
abbrev cc0_sem23_0 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_5 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2816 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference2Ideal.lean ====
abbrev S1x16384x1024 : Shape := ⟨3, ![1, 16384, 1024]⟩
abbrev S1024 : Shape := ⟨1, ![1024]⟩
abbrev S1024x2816 : Shape := ⟨2, ![1024, 2816]⟩
abbrev S64 : Shape := ⟨1, ![64]⟩
abbrev S31x256 : Shape := ⟨2, ![31, 256]⟩
abbrev S1x16384x8x64 : Shape := ⟨4, ![1, 16384, 8, 64]⟩
abbrev S1x16384x2x64 : Shape := ⟨4, ![1, 16384, 2, 64]⟩
abbrev S1x16384x512 : Shape := ⟨3, ![1, 16384, 512]⟩
abbrev S1x16384x256 : Shape := ⟨3, ![1, 16384, 256]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x2816 : Shape := ⟨3, ![1, 16384, 2816]⟩
abbrev S1x64 : Shape := ⟨2, ![1, 64]⟩
abbrev S1x1x1x64 : Shape := ⟨4, ![1, 1, 1, 64]⟩
abbrev S8x1x1x64 : Shape := ⟨4, ![8, 1, 1, 64]⟩
abbrev S8x64 : Shape := ⟨2, ![8, 64]⟩
abbrev S2x1x1x64 : Shape := ⟨4, ![2, 1, 1, 64]⟩
abbrev S2x64 : Shape := ⟨2, ![2, 64]⟩
abbrev S256 : Shape := ⟨1, ![256]⟩
abbrev S256x64 : Shape := ⟨2, ![256, 64]⟩
abbrev S16384 : Shape := ⟨1, ![16384]⟩
abbrev S1x16384x128 : Shape := ⟨3, ![1, 16384, 128]⟩
abbrev S1x16384x8 : Shape := ⟨3, ![1, 16384, 8]⟩
abbrev S1x16384x8x1 : Shape := ⟨4, ![1, 16384, 8, 1]⟩
abbrev S1x1x8x64 : Shape := ⟨4, ![1, 1, 8, 64]⟩
abbrev S1x16384x8x32 : Shape := ⟨4, ![1, 16384, 8, 32]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S1x16384x8x16 : Shape := ⟨4, ![1, 16384, 8, 16]⟩
abbrev S1x16384x1x16 : Shape := ⟨4, ![1, 16384, 1, 16]⟩
abbrev S1x16384x2 : Shape := ⟨3, ![1, 16384, 2]⟩
abbrev S1x16384x2x1 : Shape := ⟨4, ![1, 16384, 2, 1]⟩
abbrev S1x1x2x64 : Shape := ⟨4, ![1, 1, 2, 64]⟩
abbrev S1x16384x2x32 : Shape := ⟨4, ![1, 16384, 2, 32]⟩
abbrev S1x16384x2x16 : Shape := ⟨4, ![1, 16384, 2, 16]⟩
abbrev S1x2x64 : Shape := ⟨3, ![1, 2, 64]⟩
abbrev S1x8x64 : Shape := ⟨3, ![1, 8, 64]⟩
abbrev S16384x1024 : Shape := ⟨2, ![16384, 1024]⟩
abbrev S1x512 : Shape := ⟨2, ![1, 512]⟩
abbrev S1x128 : Shape := ⟨2, ![1, 128]⟩

abbrev nBuf : Space → Nat
  | .hbm => 330
  | .vmem => 0
  | .smem => 0
  | _ => 0

abbrev hbmTy0_0 (i : Nat) : BufTy := match i % 128 with
  | 0 => ⟨S1x16384x1024, .f32⟩
  | 1 => ⟨S1024, .f32⟩
  | 2 => ⟨S1024x2816, .f32⟩
  | 3 => ⟨S64, .f32⟩
  | 4 => ⟨S64, .f32⟩
  | 5 => ⟨S31x256, .f32⟩
  | 6 => ⟨S1x16384x1024, .f32⟩
  | 7 => ⟨S1x16384x8x64, .f32⟩
  | 8 => ⟨S1x16384x2x64, .f32⟩
  | 9 => ⟨S1x16384x2x64, .f32⟩
  | 10 => ⟨S1x16384x512, .f32⟩
  | 11 => ⟨S1x16384x256, .f32⟩
  | 12 => ⟨S1x16384x256, .f32⟩
  | 13 => ⟨S1x16384x256, .f32⟩
  | 14 => ⟨S1x16384x256, .f32⟩
  | 15 => ⟨S1x16384x256, .f32⟩
  | 16 => ⟨S1x16384x1024, .f32⟩
  | 17 => ⟨S_, .f32⟩
  | 18 => ⟨S1x16384, .f32⟩
  | 19 => ⟨S1x16384x1, .f32⟩
  | 20 => ⟨S_, .f32⟩
  | 21 => ⟨S1x16384x1, .f32⟩
  | 22 => ⟨S1x16384x1, .f32⟩
  | 23 => ⟨S_, .f32⟩
  | 24 => ⟨S1x16384x1, .f32⟩
  | 25 => ⟨S1x16384x1, .f32⟩
  | 26 => ⟨S1x16384x1, .f32⟩
  | 27 => ⟨S1x16384x1024, .f32⟩
  | 28 => ⟨S1x16384x1024, .f32⟩
  | 29 => ⟨S1x1x1024, .f32⟩
  | 30 => ⟨S1x16384x1024, .f32⟩
  | 31 => ⟨S1x16384x1024, .f32⟩
  | 32 => ⟨S1x16384x2816, .f32⟩
  | 33 => ⟨S1x64, .f32⟩
  | 34 => ⟨S1x1x1x64, .f32⟩
  | 35 => ⟨S8x1x1x64, .f32⟩
  | 36 => ⟨S8x64, .f32⟩
  | 37 => ⟨S1x64, .f32⟩
  | 38 => ⟨S1x1x1x64, .f32⟩
  | 39 => ⟨S2x1x1x64, .f32⟩
  | 40 => ⟨S2x64, .f32⟩
  | 41 => ⟨S256, .i32⟩
  | 42 => ⟨S256x64, .i32⟩
  | 43 => ⟨S16384, .i32⟩
  | 44 => ⟨S16384, .f32⟩
  | 45 => ⟨S64, .i32⟩
  | 46 => ⟨S1x64, .i32⟩
  | 47 => ⟨S256x64, .i32⟩
  | 48 => ⟨S16384, .i32⟩
  | 49 => ⟨S16384, .f32⟩
  | 50 => ⟨S1x16384x512, .f32⟩
  | 51 => ⟨S1x16384x128, .f32⟩
  | 52 => ⟨S1x16384x8x64, .f32⟩
  | 53 => ⟨S1x16384x8x64, .f32⟩
  | 54 => ⟨S_, .f32⟩
  | 55 => ⟨S1x16384x8, .f32⟩
  | 56 => ⟨S1x16384x8x1, .f32⟩
  | 57 => ⟨S_, .f32⟩
  | 58 => ⟨S1x16384x8x1, .f32⟩
  | 59 => ⟨S1x16384x8x1, .f32⟩
  | 60 => ⟨S_, .f32⟩
  | 61 => ⟨S1x16384x8x1, .f32⟩
  | 62 => ⟨S1x16384x8x1, .f32⟩
  | 63 => ⟨S1x16384x8x1, .f32⟩
  | 64 => ⟨S1x16384x8x64, .f32⟩
  | 65 => ⟨S1x16384x8x64, .f32⟩
  | 66 => ⟨S1x1x8x64, .f32⟩
  | 67 => ⟨S1x16384x8x64, .f32⟩
  | 68 => ⟨S1x16384x8x64, .f32⟩
  | 69 => ⟨S1x16384x8x32, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S16384x1, .f32⟩
  | 79 => ⟨S1x16, .f32⟩
  | 80 => ⟨S16384x16, .f32⟩
  | 81 => ⟨S16384x16, .f32⟩
  | 82 => ⟨S16384x16, .f32⟩
  | 83 => ⟨S16384x16, .f32⟩
  | 84 => ⟨S16384x1x16, .f32⟩
  | 85 => ⟨S16384x16, .f32⟩
  | 86 => ⟨S16384x1x16, .f32⟩
  | 87 => ⟨S1x16384x8x16, .f32⟩
  | 88 => ⟨S1x16384x8x16, .f32⟩
  | 89 => ⟨S1x16384x1x16, .f32⟩
  | 90 => ⟨S1x16384x8x16, .f32⟩
  | 91 => ⟨S1x16384x8x16, .f32⟩
  | 92 => ⟨S1x16384x1x16, .f32⟩
  | 93 => ⟨S1x16384x8x16, .f32⟩
  | 94 => ⟨S1x16384x8x16, .f32⟩
  | 95 => ⟨S1x16384x8x16, .f32⟩
  | 96 => ⟨S1x16384x1x16, .f32⟩
  | 97 => ⟨S1x16384x8x16, .f32⟩
  | 98 => ⟨S1x16384x8x16, .f32⟩
  | 99 => ⟨S1x16384x1x16, .f32⟩
  | 100 => ⟨S1x16384x8x16, .f32⟩
  | 101 => ⟨S1x16384x8x16, .f32⟩
  | 102 => ⟨S1x16384x8x16, .f32⟩
  | 103 => ⟨S1x16384x8x32, .f32⟩
  | 104 => ⟨S1x16384x8x32, .f32⟩
  | 105 => ⟨S16, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S16384x1, .f32⟩
  | 114 => ⟨S1x16, .f32⟩
  | 115 => ⟨S16384x16, .f32⟩
  | 116 => ⟨S16384x16, .f32⟩
  | 117 => ⟨S16384x16, .f32⟩
  | 118 => ⟨S16384x16, .f32⟩
  | 119 => ⟨S16384x1x16, .f32⟩
  | 120 => ⟨S16384x16, .f32⟩
  | 121 => ⟨S16384x1x16, .f32⟩
  | 122 => ⟨S1x16384x8x16, .f32⟩
  | 123 => ⟨S1x16384x8x16, .f32⟩
  | 124 => ⟨S1x16384x1x16, .f32⟩
  | 125 => ⟨S1x16384x8x16, .f32⟩
  | 126 => ⟨S1x16384x8x16, .f32⟩
  | 127 => ⟨S1x16384x1x16, .f32⟩
  | _ => ⟨S1x16384x1024, .f32⟩

abbrev hbmTy0_1 (i : Nat) : BufTy := match i % 128 with
  | 0 => ⟨S1x16384x8x16, .f32⟩
  | 1 => ⟨S1x16384x8x16, .f32⟩
  | 2 => ⟨S1x16384x8x16, .f32⟩
  | 3 => ⟨S1x16384x1x16, .f32⟩
  | 4 => ⟨S1x16384x8x16, .f32⟩
  | 5 => ⟨S1x16384x8x16, .f32⟩
  | 6 => ⟨S1x16384x1x16, .f32⟩
  | 7 => ⟨S1x16384x8x16, .f32⟩
  | 8 => ⟨S1x16384x8x16, .f32⟩
  | 9 => ⟨S1x16384x8x16, .f32⟩
  | 10 => ⟨S1x16384x8x32, .f32⟩
  | 11 => ⟨S1x16384x8x64, .f32⟩
  | 12 => ⟨S1x16384x2x64, .f32⟩
  | 13 => ⟨S1x16384x2x64, .f32⟩
  | 14 => ⟨S_, .f32⟩
  | 15 => ⟨S1x16384x2, .f32⟩
  | 16 => ⟨S1x16384x2x1, .f32⟩
  | 17 => ⟨S_, .f32⟩
  | 18 => ⟨S1x16384x2x1, .f32⟩
  | 19 => ⟨S1x16384x2x1, .f32⟩
  | 20 => ⟨S_, .f32⟩
  | 21 => ⟨S1x16384x2x1, .f32⟩
  | 22 => ⟨S1x16384x2x1, .f32⟩
  | 23 => ⟨S1x16384x2x1, .f32⟩
  | 24 => ⟨S1x16384x2x64, .f32⟩
  | 25 => ⟨S1x16384x2x64, .f32⟩
  | 26 => ⟨S1x1x2x64, .f32⟩
  | 27 => ⟨S1x16384x2x64, .f32⟩
  | 28 => ⟨S1x16384x2x64, .f32⟩
  | 29 => ⟨S1x16384x2x32, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S16384x1, .f32⟩
  | 39 => ⟨S1x16, .f32⟩
  | 40 => ⟨S16384x16, .f32⟩
  | 41 => ⟨S16384x16, .f32⟩
  | 42 => ⟨S16384x16, .f32⟩
  | 43 => ⟨S16384x16, .f32⟩
  | 44 => ⟨S16384x1x16, .f32⟩
  | 45 => ⟨S16384x16, .f32⟩
  | 46 => ⟨S16384x1x16, .f32⟩
  | 47 => ⟨S1x16384x2x16, .f32⟩
  | 48 => ⟨S1x16384x2x16, .f32⟩
  | 49 => ⟨S1x16384x1x16, .f32⟩
  | 50 => ⟨S1x16384x2x16, .f32⟩
  | 51 => ⟨S1x16384x2x16, .f32⟩
  | 52 => ⟨S1x16384x1x16, .f32⟩
  | 53 => ⟨S1x16384x2x16, .f32⟩
  | 54 => ⟨S1x16384x2x16, .f32⟩
  | 55 => ⟨S1x16384x2x16, .f32⟩
  | 56 => ⟨S1x16384x1x16, .f32⟩
  | 57 => ⟨S1x16384x2x16, .f32⟩
  | 58 => ⟨S1x16384x2x16, .f32⟩
  | 59 => ⟨S1x16384x1x16, .f32⟩
  | 60 => ⟨S1x16384x2x16, .f32⟩
  | 61 => ⟨S1x16384x2x16, .f32⟩
  | 62 => ⟨S1x16384x2x16, .f32⟩
  | 63 => ⟨S1x16384x2x32, .f32⟩
  | 64 => ⟨S1x16384x2x32, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S16384x1, .f32⟩
  | 74 => ⟨S1x16, .f32⟩
  | 75 => ⟨S16384x16, .f32⟩
  | 76 => ⟨S16384x16, .f32⟩
  | 77 => ⟨S16384x16, .f32⟩
  | 78 => ⟨S16384x16, .f32⟩
  | 79 => ⟨S16384x1x16, .f32⟩
  | 80 => ⟨S16384x16, .f32⟩
  | 81 => ⟨S16384x1x16, .f32⟩
  | 82 => ⟨S1x16384x2x16, .f32⟩
  | 83 => ⟨S1x16384x2x16, .f32⟩
  | 84 => ⟨S1x16384x1x16, .f32⟩
  | 85 => ⟨S1x16384x2x16, .f32⟩
  | 86 => ⟨S1x16384x2x16, .f32⟩
  | 87 => ⟨S1x16384x1x16, .f32⟩
  | 88 => ⟨S1x16384x2x16, .f32⟩
  | 89 => ⟨S1x16384x2x16, .f32⟩
  | 90 => ⟨S1x16384x2x16, .f32⟩
  | 91 => ⟨S1x16384x1x16, .f32⟩
  | 92 => ⟨S1x16384x2x16, .f32⟩
  | 93 => ⟨S1x16384x2x16, .f32⟩
  | 94 => ⟨S1x16384x1x16, .f32⟩
  | 95 => ⟨S1x16384x2x16, .f32⟩
  | 96 => ⟨S1x16384x2x16, .f32⟩
  | 97 => ⟨S1x16384x2x16, .f32⟩
  | 98 => ⟨S1x16384x2x32, .f32⟩
  | 99 => ⟨S1x16384x2x64, .f32⟩
  | 100 => ⟨S1x16384x2x32, .f32⟩
  | 101 => ⟨S1x16384x2x32, .f32⟩
  | 102 => ⟨S1x16384x2x16, .f32⟩
  | 103 => ⟨S1x16384x2x16, .f32⟩
  | 104 => ⟨S1x16384x2x16, .f32⟩
  | 105 => ⟨S1x16384x2x16, .f32⟩
  | 106 => ⟨S1x16384x2x16, .f32⟩
  | 107 => ⟨S1x16384x2x16, .f32⟩
  | 108 => ⟨S1x16384x2x16, .f32⟩
  | 109 => ⟨S1x16384x2x16, .f32⟩
  | 110 => ⟨S1x16384x2x16, .f32⟩
  | 111 => ⟨S1x16384x2x16, .f32⟩
  | 112 => ⟨S1x16384x2x16, .f32⟩
  | 113 => ⟨S1x16384x2x16, .f32⟩
  | 114 => ⟨S1x16384x2x16, .f32⟩
  | 115 => ⟨S_, .f32⟩
  | 116 => ⟨S1x16384x2x32, .f32⟩
  | 117 => ⟨S_, .f32⟩
  | 118 => ⟨S1x16384x2x32, .f32⟩
  | 119 => ⟨S1x16384x2x32, .f32⟩
  | 120 => ⟨S_, .f32⟩
  | 121 => ⟨S1x16384x2x64, .f32⟩
  | 122 => ⟨S1x16384x2x16, .f32⟩
  | 123 => ⟨S1x16384x2x16, .f32⟩
  | 124 => ⟨S1x16384x2x16, .f32⟩
  | 125 => ⟨S1x16384x2x16, .f32⟩
  | 126 => ⟨S1x16384x2x16, .f32⟩
  | 127 => ⟨S1x16384x2x16, .f32⟩
  | _ => ⟨S1x16384x1024, .f32⟩

abbrev hbmTy0_2 (i : Nat) : BufTy := match i % 128 with
  | 0 => ⟨S1x16384x2x16, .f32⟩
  | 1 => ⟨S1x16384x2x16, .f32⟩
  | 2 => ⟨S1x16384x2x16, .f32⟩
  | 3 => ⟨S1x16384x2x16, .f32⟩
  | 4 => ⟨S1x16384x2x16, .f32⟩
  | 5 => ⟨S1x16384x2x16, .f32⟩
  | 6 => ⟨S1x16384x2x16, .f32⟩
  | 7 => ⟨S_, .f32⟩
  | 8 => ⟨S1x16384x2x32, .f32⟩
  | 9 => ⟨S_, .f32⟩
  | 10 => ⟨S1x16384x2x32, .f32⟩
  | 11 => ⟨S1x16384x2x32, .f32⟩
  | 12 => ⟨S_, .f32⟩
  | 13 => ⟨S1x16384x2x64, .f32⟩
  | 14 => ⟨S1x16384x2x64, .f32⟩
  | 15 => ⟨S1x16384x2x64, .f32⟩
  | 16 => ⟨S_, .f32⟩
  | 17 => ⟨S1x2x64, .f32⟩
  | 18 => ⟨S1x1x2x64, .f32⟩
  | 19 => ⟨S_, .f32⟩
  | 20 => ⟨S2x64, .f32⟩
  | 21 => ⟨S1x16384x8x32, .f32⟩
  | 22 => ⟨S1x16384x8x32, .f32⟩
  | 23 => ⟨S1x16384x8x16, .f32⟩
  | 24 => ⟨S1x16384x8x16, .f32⟩
  | 25 => ⟨S1x16384x8x16, .f32⟩
  | 26 => ⟨S1x16384x8x16, .f32⟩
  | 27 => ⟨S1x16384x8x16, .f32⟩
  | 28 => ⟨S1x16384x8x16, .f32⟩
  | 29 => ⟨S1x16384x8x16, .f32⟩
  | 30 => ⟨S1x16384x8x16, .f32⟩
  | 31 => ⟨S1x16384x8x16, .f32⟩
  | 32 => ⟨S1x16384x8x16, .f32⟩
  | 33 => ⟨S1x16384x8x16, .f32⟩
  | 34 => ⟨S1x16384x8x16, .f32⟩
  | 35 => ⟨S1x16384x8x16, .f32⟩
  | 36 => ⟨S_, .f32⟩
  | 37 => ⟨S1x16384x8x32, .f32⟩
  | 38 => ⟨S_, .f32⟩
  | 39 => ⟨S1x16384x8x32, .f32⟩
  | 40 => ⟨S1x16384x8x32, .f32⟩
  | 41 => ⟨S_, .f32⟩
  | 42 => ⟨S1x16384x8x64, .f32⟩
  | 43 => ⟨S1x16384x8x16, .f32⟩
  | 44 => ⟨S1x16384x8x16, .f32⟩
  | 45 => ⟨S1x16384x8x16, .f32⟩
  | 46 => ⟨S1x16384x8x16, .f32⟩
  | 47 => ⟨S1x16384x8x16, .f32⟩
  | 48 => ⟨S1x16384x8x16, .f32⟩
  | 49 => ⟨S1x16384x8x16, .f32⟩
  | 50 => ⟨S1x16384x8x16, .f32⟩
  | 51 => ⟨S1x16384x8x16, .f32⟩
  | 52 => ⟨S1x16384x8x16, .f32⟩
  | 53 => ⟨S1x16384x8x16, .f32⟩
  | 54 => ⟨S1x16384x8x16, .f32⟩
  | 55 => ⟨S1x16384x8x16, .f32⟩
  | 56 => ⟨S_, .f32⟩
  | 57 => ⟨S1x16384x8x32, .f32⟩
  | 58 => ⟨S_, .f32⟩
  | 59 => ⟨S1x16384x8x32, .f32⟩
  | 60 => ⟨S1x16384x8x32, .f32⟩
  | 61 => ⟨S_, .f32⟩
  | 62 => ⟨S1x16384x8x64, .f32⟩
  | 63 => ⟨S1x16384x8x64, .f32⟩
  | 64 => ⟨S1x16384x8x64, .f32⟩
  | 65 => ⟨S_, .f32⟩
  | 66 => ⟨S1x8x64, .f32⟩
  | 67 => ⟨S1x1x8x64, .f32⟩
  | 68 => ⟨S_, .f32⟩
  | 69 => ⟨S8x64, .f32⟩
  | 70 => ⟨S16384x1024, .f32⟩
  | 71 => ⟨S16384x1024, .bf16⟩
  | 72 => ⟨S1x512, .f32⟩
  | 73 => ⟨S1x128, .f32⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_7 : Ref sig .tc := ⟨.hbm, 107, rfl⟩
abbrev main_v83 : Ref sig .tc := ⟨.hbm, 108, rfl⟩
abbrev main_v84 : Ref sig .tc := ⟨.hbm, 109, rfl⟩
abbrev main_cst_8 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_9 : Ref sig .tc := ⟨.hbm, 142, rfl⟩
abbrev main_v116 : Ref sig .tc := ⟨.hbm, 143, rfl⟩
abbrev main_v117 : Ref sig .tc := ⟨.hbm, 144, rfl⟩
abbrev main_cst_10 : Ref sig .tc := ⟨.hbm, 145, rfl⟩
abbrev main_v118 : Ref sig .tc := ⟨.hbm, 146, rfl⟩
abbrev main_v119 : Ref sig .tc := ⟨.hbm, 147, rfl⟩
abbrev main_cst_11 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_12 : Ref sig .tc := ⟨.hbm, 160, rfl⟩
abbrev main_v131 : Ref sig .tc := ⟨.hbm, 161, rfl⟩
abbrev main_v132 : Ref sig .tc := ⟨.hbm, 162, rfl⟩
abbrev main_cst_13 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_cst_14 : Ref sig .tc := ⟨.hbm, 195, rfl⟩
abbrev main_v164 : Ref sig .tc := ⟨.hbm, 196, rfl⟩
abbrev main_v165 : Ref sig .tc := ⟨.hbm, 197, rfl⟩
abbrev main_cst_15 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_cst_16 : Ref sig .tc := ⟨.hbm, 243, rfl⟩
abbrev main_v210 : Ref sig .tc := ⟨.hbm, 244, rfl⟩
abbrev main_cst_17 : Ref sig .tc := ⟨.hbm, 245, rfl⟩
abbrev main_v211 : Ref sig .tc := ⟨.hbm, 246, rfl⟩
abbrev main_v212 : Ref sig .tc := ⟨.hbm, 247, rfl⟩
abbrev main_cst_18 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_cst_19 : Ref sig .tc := ⟨.hbm, 263, rfl⟩
abbrev main_v227 : Ref sig .tc := ⟨.hbm, 264, rfl⟩
abbrev main_cst_20 : Ref sig .tc := ⟨.hbm, 265, rfl⟩
abbrev main_v228 : Ref sig .tc := ⟨.hbm, 266, rfl⟩
abbrev main_v229 : Ref sig .tc := ⟨.hbm, 267, rfl⟩
abbrev main_cst_21 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_cst_22 : Ref sig .tc := ⟨.hbm, 272, rfl⟩
abbrev main_v233 : Ref sig .tc := ⟨.hbm, 273, rfl⟩
abbrev main_v234 : Ref sig .tc := ⟨.hbm, 274, rfl⟩
abbrev main_cst_23 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_cst_24 : Ref sig .tc := ⟨.hbm, 292, rfl⟩
abbrev main_v251 : Ref sig .tc := ⟨.hbm, 293, rfl⟩
abbrev main_cst_25 : Ref sig .tc := ⟨.hbm, 294, rfl⟩
abbrev main_v252 : Ref sig .tc := ⟨.hbm, 295, rfl⟩
abbrev main_v253 : Ref sig .tc := ⟨.hbm, 296, rfl⟩
abbrev main_cst_26 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_cst_27 : Ref sig .tc := ⟨.hbm, 312, rfl⟩
abbrev main_v268 : Ref sig .tc := ⟨.hbm, 313, rfl⟩
abbrev main_cst_28 : Ref sig .tc := ⟨.hbm, 314, rfl⟩
abbrev main_v269 : Ref sig .tc := ⟨.hbm, 315, rfl⟩
abbrev main_v270 : Ref sig .tc := ⟨.hbm, 316, rfl⟩
abbrev main_cst_29 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_cst_30 : Ref sig .tc := ⟨.hbm, 321, rfl⟩
abbrev main_v274 : Ref sig .tc := ⟨.hbm, 322, rfl⟩
abbrev main_v275 : Ref sig .tc := ⟨.hbm, 323, rfl⟩
abbrev main_cst_31 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩

abbrev nD : Nat := 1
abbrev τ : Topo := Topo.v7x

variable {F : FTy → Type} [FloatOps F]
-- ==== Kernel3.lean ====
abbrev S1x16384x512 : Shape := ⟨3, ![1, 16384, 512]⟩
abbrev S1x16384x2816 : Shape := ⟨3, ![1, 16384, 2816]⟩
abbrev S31x256 : Shape := ⟨2, ![31, 256]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S1x16384x1024 : Shape := ⟨3, ![1, 16384, 1024]⟩
abbrev S1x16384x2048 : Shape := ⟨3, ![1, 16384, 2048]⟩
abbrev S1x16384x256 : Shape := ⟨3, ![1, 16384, 256]⟩
abbrev S_ : Shape := ⟨0, ![]⟩
abbrev S15x256 : Shape := ⟨2, ![15, 256]⟩
abbrev S16384x256 : Shape := ⟨2, ![16384, 256]⟩
abbrev S16414x256 : Shape := ⟨2, ![16414, 256]⟩
abbrev S16384 : Shape := ⟨1, ![16384]⟩
abbrev S16384x1 : Shape := ⟨2, ![16384, 1]⟩
abbrev S31 : Shape := ⟨1, ![31]⟩
abbrev S1x31 : Shape := ⟨2, ![1, 31]⟩
abbrev S16384x31 : Shape := ⟨2, ![16384, 31]⟩
abbrev S16384x31x1 : Shape := ⟨3, ![16384, 31, 1]⟩
abbrev S16384x31x256 : Shape := ⟨3, ![16384, 31, 256]⟩
abbrev S1x31x256 : Shape := ⟨3, ![1, 31, 256]⟩
abbrev S1x1x256 : Shape := ⟨3, ![1, 1, 256]⟩
abbrev S1x16384 : Shape := ⟨2, ![1, 16384]⟩
abbrev S1x16384x1 : Shape := ⟨3, ![1, 16384, 1]⟩
abbrev S1x128x128x4x64 : Shape := ⟨5, ![1, 128, 128, 4, 64]⟩
abbrev S4x1x128x64x128 : Shape := ⟨5, ![4, 1, 128, 64, 128]⟩
abbrev S128x4 : Shape := ⟨2, ![128, 4]⟩
abbrev S1x1x128x4x1 : Shape := ⟨5, ![1, 1, 128, 4, 1]⟩
abbrev S1x16384x768 : Shape := ⟨3, ![1, 16384, 768]⟩
abbrev S16384x512 : Shape := ⟨2, ![16384, 512]⟩
abbrev S16384x8x64 : Shape := ⟨3, ![16384, 8, 64]⟩
abbrev S8x16384x64 : Shape := ⟨3, ![8, 16384, 64]⟩
abbrev S8x16384x128 : Shape := ⟨3, ![8, 16384, 128]⟩
abbrev S32x256 : Shape := ⟨2, ![32, 256]⟩
abbrev S1x256 : Shape := ⟨2, ![1, 256]⟩
abbrev S3x256 : Shape := ⟨2, ![3, 256]⟩
abbrev S8x256 : Shape := ⟨2, ![8, 256]⟩
abbrev S2x256 : Shape := ⟨2, ![2, 256]⟩
abbrev S128x4x64 : Shape := ⟨3, ![128, 4, 64]⟩
abbrev S128x256 : Shape := ⟨2, ![128, 256]⟩
abbrev S16384x1024 : Shape := ⟨2, ![16384, 1024]⟩
abbrev S16384x2816 : Shape := ⟨2, ![16384, 2816]⟩
abbrev S16384x768 : Shape := ⟨2, ![16384, 768]⟩
abbrev S1x1024 : Shape := ⟨2, ![1, 1024]⟩
abbrev S16384x1536 : Shape := ⟨2, ![16384, 1536]⟩
abbrev S256x1024 : Shape := ⟨2, ![256, 1024]⟩
abbrev S256x2816 : Shape := ⟨2, ![256, 2816]⟩
abbrev S8x256x128 : Shape := ⟨3, ![8, 256, 128]⟩
abbrev S256x256 : Shape := ⟨2, ![256, 256]⟩
abbrev S16x256 : Shape := ⟨2, ![16, 256]⟩
abbrev S256x768 : Shape := ⟨2, ![256, 768]⟩
abbrev S256x1536 : Shape := ⟨2, ![256, 1536]⟩
abbrev S8x288x256 : Shape := ⟨3, ![8, 288, 256]⟩
abbrev S288x256 : Shape := ⟨2, ![288, 256]⟩
abbrev S1x288x256 : Shape := ⟨3, ![1, 288, 256]⟩
abbrev S1x256x128 : Shape := ⟨3, ![1, 256, 128]⟩
abbrev S256x128 : Shape := ⟨2, ![256, 128]⟩
abbrev S256x512 : Shape := ⟨2, ![256, 512]⟩
abbrev S256x1 : Shape := ⟨2, ![256, 1]⟩
abbrev S128x128 : Shape := ⟨2, ![128, 128]⟩
abbrev S1x128x128 : Shape := ⟨3, ![1, 128, 128]⟩
abbrev S1x256x256 : Shape := ⟨3, ![1, 256, 256]⟩

abbrev nBuf : Space → Nat
  | .hbm => 295
  | .vmem => 37
  | .smem => 0
  | _ => 0

abbrev hbmTy0_0 (i : Nat) : BufTy := match i % 128 with
  | 0 => ⟨S1x16384x512, .f32⟩
  | 1 => ⟨S1x16384x2816, .f32⟩
  | 2 => ⟨S31x256, .f32⟩
  | 3 => ⟨S256, .f32⟩
  | 4 => ⟨S256, .f32⟩
  | 5 => ⟨S256, .f32⟩
  | 6 => ⟨S256, .f32⟩
  | 7 => ⟨S256, .f32⟩
  | 8 => ⟨S4x128x128, .f32⟩
  | 9 => ⟨S4x128, .f32⟩
  | 10 => ⟨S1024x1024, .f32⟩
  | 11 => ⟨S1024, .f32⟩
  | 12 => ⟨S1x16384x1024, .f32⟩
  | 13 => ⟨S1x16384x2048, .f32⟩
  | 14 => ⟨S1x16384x512, .f32⟩
  | 15 => ⟨S1x16384x512, .f32⟩
  | 16 => ⟨S1x16384x256, .f32⟩
  | 17 => ⟨S1x16384x256, .f32⟩
  | 18 => ⟨S1x16384x256, .f32⟩
  | 19 => ⟨S1x16384x256, .f32⟩
  | 20 => ⟨S1x16384x256, .f32⟩
  | 21 => ⟨S1x16384x256, .f32⟩
  | 22 => ⟨S1x16384x256, .f32⟩
  | 23 => ⟨S1x16384x256, .f32⟩
  | 24 => ⟨S_, .f32⟩
  | 25 => ⟨S1x16384x256, .f32⟩
  | 26 => ⟨S1x16384x256, .f32⟩
  | 27 => ⟨S_, .f32⟩
  | 28 => ⟨S1x16384x256, .f32⟩
  | 29 => ⟨S1x16384x256, .f32⟩
  | 30 => ⟨S1x16384x256, .f32⟩
  | 31 => ⟨S1x16384x512, .f32⟩
  | 32 => ⟨S1x16384x512, .f32⟩
  | 33 => ⟨S_, .f32⟩
  | 34 => ⟨S1x16384x512, .f32⟩
  | 35 => ⟨S1x16384x512, .f32⟩
  | 36 => ⟨S_, .f32⟩
  | 37 => ⟨S1x16384x512, .f32⟩
  | 38 => ⟨S1x16384x512, .f32⟩
  | 39 => ⟨S1x16384x512, .f32⟩
  | 40 => ⟨S1x16384x512, .f32⟩
  | 41 => ⟨S_, .f32⟩
  | 42 => ⟨S15x256, .f32⟩
  | 43 => ⟨S16384x256, .f32⟩
  | 44 => ⟨S16414x256, .f32⟩
  | 45 => ⟨S16384, .i32⟩
  | 46 => ⟨S16384x1, .i32⟩
  | 47 => ⟨S31, .i32⟩
  | 48 => ⟨S1x31, .i32⟩
  | 49 => ⟨S16384x31, .i32⟩
  | 50 => ⟨S16384x31, .i32⟩
  | 51 => ⟨S16384x31, .i32⟩
  | 52 => ⟨S_, .i32⟩
  | 53 => ⟨S16384x31, .i32⟩
  | 54 => ⟨S16384x31, .i1⟩
  | 55 => ⟨S_, .i32⟩
  | 56 => ⟨S16384x31, .i32⟩
  | 57 => ⟨S16384x31, .i32⟩
  | 58 => ⟨S16384x31, .i32⟩
  | 59 => ⟨S16384x31x1, .i32⟩
  | 60 => ⟨S16384x31x256, .f32⟩
  | 61 => ⟨S1x31x256, .f32⟩
  | 62 => ⟨S16384x31x256, .f32⟩
  | 63 => ⟨S16384x31x256, .f32⟩
  | 64 => ⟨S_, .f32⟩
  | 65 => ⟨S16384x256, .f32⟩
  | 66 => ⟨S1x16384x256, .f32⟩
  | 67 => ⟨S1x1x256, .f32⟩
  | 68 => ⟨S1x16384x256, .f32⟩
  | 69 => ⟨S1x16384x256, .f32⟩
  | 70 => ⟨S_, .f32⟩
  | 71 => ⟨S1x16384, .f32⟩
  | 72 => ⟨S1x16384x1, .f32⟩
  | 73 => ⟨S_, .f32⟩
  | 74 => ⟨S1x16384x1, .f32⟩
  | 75 => ⟨S1x16384x1, .f32⟩
  | 76 => ⟨S1x16384x256, .f32⟩
  | 77 => ⟨S1x16384x256, .f32⟩
  | 78 => ⟨S1x16384x256, .f32⟩
  | 79 => ⟨S_, .f32⟩
  | 80 => ⟨S1x16384, .f32⟩
  | 81 => ⟨S1x16384x1, .f32⟩
  | 82 => ⟨S_, .f32⟩
  | 83 => ⟨S1x16384x1, .f32⟩
  | 84 => ⟨S1x16384x1, .f32⟩
  | 85 => ⟨S_, .f32⟩
  | 86 => ⟨S1x16384x1, .f32⟩
  | 87 => ⟨S1x16384x1, .f32⟩
  | 88 => ⟨S1x16384x1, .f32⟩
  | 89 => ⟨S1x16384x256, .f32⟩
  | 90 => ⟨S1x16384x256, .f32⟩
  | 91 => ⟨S1x1x256, .f32⟩
  | 92 => ⟨S1x16384x256, .f32⟩
  | 93 => ⟨S1x16384x256, .f32⟩
  | 94 => ⟨S1x1x256, .f32⟩
  | 95 => ⟨S1x16384x256, .f32⟩
  | 96 => ⟨S1x16384x256, .f32⟩
  | 97 => ⟨S1x16384x256, .f32⟩
  | 98 => ⟨S1x16384x256, .f32⟩
  | 99 => ⟨S_, .f32⟩
  | 100 => ⟨S1x16384x256, .f32⟩
  | 101 => ⟨S1x16384x256, .f32⟩
  | 102 => ⟨S_, .f32⟩
  | 103 => ⟨S1x16384x256, .f32⟩
  | 104 => ⟨S1x16384x256, .f32⟩
  | 105 => ⟨S1x16384x256, .f32⟩
  | 106 => ⟨S1x16384x256, .f32⟩
  | 107 => ⟨S1x16384x256, .f32⟩
  | 108 => ⟨S_, .f32⟩
  | 109 => ⟨S1x16384x256, .f32⟩
  | 110 => ⟨S1x16384x256, .f32⟩
  | 111 => ⟨S_, .f32⟩
  | 112 => ⟨S1x16384x256, .f32⟩
  | 113 => ⟨S1x16384x256, .f32⟩
  | 114 => ⟨S1x16384x256, .f32⟩
  | 115 => ⟨S1x16384x256, .f32⟩
  | 116 => ⟨S_, .f32⟩
  | 117 => ⟨S1x16384x256, .f32⟩
  | 118 => ⟨S1x16384x256, .f32⟩
  | 119 => ⟨S1x16384x256, .f32⟩
  | 120 => ⟨S_, .f32⟩
  | 121 => ⟨S1x16384x256, .f32⟩
  | 122 => ⟨S1x16384x256, .f32⟩
  | 123 => ⟨S1x16384x256, .f32⟩
  | 124 => ⟨S1x16384x256, .f32⟩
  | 125 => ⟨S_, .f32⟩
  | 126 => ⟨S1x16384x256, .f32⟩
  | 127 => ⟨S1x16384x256, .f32⟩
  | _ => ⟨S1x16384x512, .f32⟩

abbrev hbmTy0_1 (i : Nat) : BufTy := match i % 128 with
  | 0 => ⟨S1x16384x256, .f32⟩
  | 1 => ⟨S_, .f32⟩
  | 2 => ⟨S1x16384x256, .f32⟩
  | 3 => ⟨S1x16384x256, .f32⟩
  | 4 => ⟨S1x16384x256, .f32⟩
  | 5 => ⟨S1x16384x256, .f32⟩
  | 6 => ⟨S_, .f32⟩
  | 7 => ⟨S1x16384, .f32⟩
  | 8 => ⟨S1x16384x1, .f32⟩
  | 9 => ⟨S_, .f32⟩
  | 10 => ⟨S1x16384x1, .f32⟩
  | 11 => ⟨S1x16384x1, .f32⟩
  | 12 => ⟨S1x16384x256, .f32⟩
  | 13 => ⟨S1x16384x256, .f32⟩
  | 14 => ⟨S1x16384x256, .f32⟩
  | 15 => ⟨S_, .f32⟩
  | 16 => ⟨S1x16384, .f32⟩
  | 17 => ⟨S1x16384x1, .f32⟩
  | 18 => ⟨S_, .f32⟩
  | 19 => ⟨S1x16384x1, .f32⟩
  | 20 => ⟨S1x16384x1, .f32⟩
  | 21 => ⟨S_, .f32⟩
  | 22 => ⟨S1x16384x1, .f32⟩
  | 23 => ⟨S1x16384x1, .f32⟩
  | 24 => ⟨S1x16384x1, .f32⟩
  | 25 => ⟨S1x16384x256, .f32⟩
  | 26 => ⟨S1x16384x256, .f32⟩
  | 27 => ⟨S1x1x256, .f32⟩
  | 28 => ⟨S1x16384x256, .f32⟩
  | 29 => ⟨S1x16384x256, .f32⟩
  | 30 => ⟨S1x1x256, .f32⟩
  | 31 => ⟨S1x16384x256, .f32⟩
  | 32 => ⟨S1x16384x256, .f32⟩
  | 33 => ⟨S1x128x128x4x64, .f32⟩
  | 34 => ⟨S4x1x128x64x128, .f32⟩
  | 35 => ⟨S1x128x128x4x64, .f32⟩
  | 36 => ⟨S128x4, .f32⟩
  | 37 => ⟨S1x1x128x4x1, .f32⟩
  | 38 => ⟨S1x128x128x4x64, .f32⟩
  | 39 => ⟨S1x128x128x4x64, .f32⟩
  | 40 => ⟨S1x16384x256, .f32⟩
  | 41 => ⟨S1x16384x256, .f32⟩
  | 42 => ⟨S1x16384x256, .f32⟩
  | 43 => ⟨S1x16384x256, .f32⟩
  | 44 => ⟨S_, .f32⟩
  | 45 => ⟨S1x16384x256, .f32⟩
  | 46 => ⟨S1x16384x256, .f32⟩
  | 47 => ⟨S_, .f32⟩
  | 48 => ⟨S1x16384x256, .f32⟩
  | 49 => ⟨S1x16384x256, .f32⟩
  | 50 => ⟨S1x16384x256, .f32⟩
  | 51 => ⟨S1x16384x256, .f32⟩
  | 52 => ⟨S1x16384x1024, .f32⟩
  | 53 => ⟨S1x16384x1024, .f32⟩
  | 54 => ⟨S1x16384x2048, .f32⟩
  | 55 => ⟨S1x16384x512, .f32⟩
  | 56 => ⟨S1x16384x512, .f32⟩
  | 57 => ⟨S1x16384x256, .f32⟩
  | 58 => ⟨S1x16384x256, .f32⟩
  | 59 => ⟨S1x16384x256, .f32⟩
  | 60 => ⟨S1x16384x256, .f32⟩
  | 61 => ⟨S1x16384x256, .f32⟩
  | 62 => ⟨S1x16384x256, .f32⟩
  | 63 => ⟨S1x16384x256, .f32⟩
  | 64 => ⟨S1x16384x256, .f32⟩
  | 65 => ⟨S_, .f32⟩
  | 66 => ⟨S1x16384x256, .f32⟩
  | 67 => ⟨S1x16384x256, .f32⟩
  | 68 => ⟨S_, .f32⟩
  | 69 => ⟨S1x16384x256, .f32⟩
  | 70 => ⟨S1x16384x256, .f32⟩
  | 71 => ⟨S1x16384x256, .f32⟩
  | 72 => ⟨S_, .f32⟩
  | 73 => ⟨S15x256, .f32⟩
  | 74 => ⟨S16384x256, .f32⟩
  | 75 => ⟨S16414x256, .f32⟩
  | 76 => ⟨S16384, .i32⟩
  | 77 => ⟨S16384x1, .i32⟩
  | 78 => ⟨S31, .i32⟩
  | 79 => ⟨S1x31, .i32⟩
  | 80 => ⟨S16384x31, .i32⟩
  | 81 => ⟨S16384x31, .i32⟩
  | 82 => ⟨S16384x31, .i32⟩
  | 83 => ⟨S_, .i32⟩
  | 84 => ⟨S16384x31, .i32⟩
  | 85 => ⟨S16384x31, .i1⟩
  | 86 => ⟨S_, .i32⟩
  | 87 => ⟨S16384x31, .i32⟩
  | 88 => ⟨S16384x31, .i32⟩
  | 89 => ⟨S16384x31, .i32⟩
  | 90 => ⟨S16384x31x1, .i32⟩
  | 91 => ⟨S16384x31x256, .f32⟩
  | 92 => ⟨S1x31x256, .f32⟩
  | 93 => ⟨S16384x31x256, .f32⟩
  | 94 => ⟨S16384x31x256, .f32⟩
  | 95 => ⟨S_, .f32⟩
  | 96 => ⟨S16384x256, .f32⟩
  | 97 => ⟨S1x16384x256, .f32⟩
  | 98 => ⟨S1x1x256, .f32⟩
  | 99 => ⟨S1x16384x256, .f32⟩
  | 100 => ⟨S1x16384x256, .f32⟩
  | 101 => ⟨S_, .f32⟩
  | 102 => ⟨S1x16384x256, .f32⟩
  | 103 => ⟨S1x16384x256, .f32⟩
  | 104 => ⟨S1x16384x256, .f32⟩
  | 105 => ⟨S_, .f32⟩
  | 106 => ⟨S1x16384x256, .f32⟩
  | 107 => ⟨S1x16384x256, .f32⟩
  | 108 => ⟨S_, .f32⟩
  | 109 => ⟨S1x16384x256, .f32⟩
  | 110 => ⟨S1x16384x256, .f32⟩
  | 111 => ⟨S_, .f32⟩
  | 112 => ⟨S1x16384x256, .f32⟩
  | 113 => ⟨S1x16384x256, .f32⟩
  | 114 => ⟨S1x16384x256, .f32⟩
  | 115 => ⟨S_, .f32⟩
  | 116 => ⟨S1x16384x256, .f32⟩
  | 117 => ⟨S1x16384x256, .f32⟩
  | 118 => ⟨S_, .f32⟩
  | 119 => ⟨S1x16384x256, .f32⟩
  | 120 => ⟨S1x16384x256, .f32⟩
  | 121 => ⟨S1x16384x768, .f32⟩
  | 122 => ⟨S16384x512, .f32⟩
  | 123 => ⟨S16384x8x64, .f32⟩
  | 124 => ⟨S8x16384x64, .f32⟩
  | 125 => ⟨S_, .i32⟩
  | 126 => ⟨S_, .f32⟩
  | 127 => ⟨S8x16384x128, .f32⟩
  | _ => ⟨S1x16384x512, .f32⟩

abbrev hbmTy0_2 (i : Nat) : BufTy := match i % 128 with
  | 0 => ⟨S_, .i32⟩
  | 1 => ⟨S_, .f32⟩
  | 2 => ⟨S32x256, .f32⟩
  | 3 => ⟨S1x256, .f32⟩
  | 4 => ⟨S1x256, .f32⟩
  | 5 => ⟨S1x256, .f32⟩
  | 6 => ⟨S3x256, .f32⟩
  | 7 => ⟨S_, .i32⟩
  | 8 => ⟨S_, .f32⟩
  | 9 => ⟨S8x256, .f32⟩
  | 10 => ⟨S1x256, .f32⟩
  | 11 => ⟨S1x256, .f32⟩
  | 12 => ⟨S2x256, .f32⟩
  | 13 => ⟨S_, .i32⟩
  | 14 => ⟨S_, .f32⟩
  | 15 => ⟨S8x256, .f32⟩
  | 16 => ⟨S128x4, .f32⟩
  | 17 => ⟨S128x4x64, .f32⟩
  | 18 => ⟨S128x256, .f32⟩
  | 19 => ⟨S16384x1024, .f32⟩
  | 20 => ⟨S16384x1024, .f32⟩
  | 21 => ⟨S16384x2816, .f32⟩
  | 22 => ⟨S16384x256, .f32⟩
  | 23 => ⟨S16384x768, .f32⟩
  | 24 => ⟨S4x128x128, .bf16⟩
  | 25 => ⟨S4x128x128, .f32⟩
  | 26 => ⟨S4x128x128, .bf16⟩
  | 27 => ⟨S1024x1024, .bf16⟩
  | 28 => ⟨S1024x1024, .bf16⟩
  | 29 => ⟨S1x1024, .f32⟩
  | 30 => ⟨S8x16384x128, .bf16⟩
  | 31 => ⟨S16384x1536, .f32⟩
  | 32 => ⟨S16384x256, .f32⟩
  | 33 => ⟨S1024x1024, .f32⟩
  | 34 => ⟨S1x1024, .f32⟩
  | 35 => ⟨S32x256, .f32⟩
  | 36 => ⟨S8x256, .f32⟩
  | 37 => ⟨S4x128x128, .f32⟩
  | 38 => ⟨S128x256, .f32⟩
  | _ => ⟨S1x16384x512, .f32⟩

abbrev hbmTy (i : Nat) : BufTy := match i / 128 with
  | 0 => hbmTy0_0 i
  | 1 => hbmTy0_1 i
  | 2 => hbmTy0_2 i
  | _ => ⟨S1x16384x512, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .f32⟩
  | .local _ .vmem, ⟨5, _⟩ => ⟨S256x2816, .f32⟩
  | .local _ .vmem, ⟨6, _⟩ => ⟨S8x256x128, .f32⟩
  | .local _ .vmem, ⟨7, _⟩ => ⟨S8x256x128, .f32⟩
  | .local _ .vmem, ⟨8, _⟩ => ⟨S256x256, .f32⟩
  | .local _ .vmem, ⟨9, _⟩ => ⟨S256x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S256x768, .f32⟩
  | .local _ .vmem, ⟨15, _⟩ => ⟨S256x768, .f32⟩
  | .local _ .vmem, ⟨16, _⟩ => ⟨S32x256, .f32⟩
  | .local _ .vmem, ⟨17, _⟩ => ⟨S8x256, .f32⟩
  | .local _ .vmem, ⟨18, _⟩ => ⟨S8x256, .f32⟩
  | .local _ .vmem, ⟨19, _⟩ => ⟨S4x128x128, .bf16⟩
  | .local _ .vmem, ⟨20, _⟩ => ⟨S4x128x128, .bf16⟩
  | .local _ .vmem, ⟨21, _⟩ => ⟨S128x256, .f32⟩
  | .local _ .vmem, ⟨22, _⟩ => ⟨S1024x1024, .bf16⟩
  | .local _ .vmem, ⟨23, _⟩ => ⟨S1x1024, .f32⟩
  | .local _ .vmem, ⟨24, _⟩ => ⟨S8x256x128, .bf16⟩
  | .local _ .vmem, ⟨25, _⟩ => ⟨S8x256x128, .bf16⟩
  | .local _ .vmem, ⟨26, _⟩ => ⟨S256x1536, .f32⟩
  | .local _ .vmem, ⟨27, _⟩ => ⟨S256x1536, .f32⟩
  | .local _ .vmem, ⟨28, _⟩ => ⟨S256x256, .f32⟩
  | .local _ .vmem, ⟨29, _⟩ => ⟨S256x256, .f32⟩
  | .local _ .vmem, ⟨30, _⟩ => ⟨S1024x1024, .f32⟩
  | .local _ .vmem, ⟨31, _⟩ => ⟨S1x1024, .f32⟩
  | .local _ .vmem, ⟨32, _⟩ => ⟨S32x256, .f32⟩
  | .local _ .vmem, ⟨33, _⟩ => ⟨S8x256, .f32⟩
  | .local _ .vmem, ⟨34, _⟩ => ⟨S4x128x128, .f32⟩
  | .local _ .vmem, ⟨35, _⟩ => ⟨S128x256, .f32⟩
  | .local _ .vmem, ⟨36, _⟩ => ⟨S8x288x256, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_v29 : Ref sig .tc := ⟨.hbm, 54, rfl⟩
abbrev main_c_2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v65 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_call2_v5 : Ref sig .tc := ⟨.hbm, 113, rfl⟩
abbrev main_v66 : Ref sig .tc := ⟨.hbm, 114, rfl⟩
abbrev main_v67 : Ref sig .tc := ⟨.hbm, 115, rfl⟩
abbrev main_cst_9 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_10 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_11 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_12 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_13 : Ref sig .tc := ⟨.hbm, 134, rfl⟩
abbrev main_v82 : Ref sig .tc := ⟨.hbm, 135, rfl⟩
abbrev main_v83 : Ref sig .tc := ⟨.hbm, 136, rfl⟩
abbrev main_cst_14 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_15 : Ref sig .tc := ⟨.hbm, 143, rfl⟩
abbrev main_v89 : Ref sig .tc := ⟨.hbm, 144, rfl⟩
abbrev main_v90 : Ref sig .tc := ⟨.hbm, 145, rfl⟩
abbrev main_cst_16 : Ref sig .tc := ⟨.hbm, 146, rfl⟩
abbrev main_v91 : Ref sig .tc := ⟨.hbm, 147, rfl⟩
abbrev main_v92 : Ref sig .tc := ⟨.hbm, 148, rfl⟩
abbrev main_cst_17 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_call3_v0 : Ref sig .tc := ⟨.hbm, 170, rfl⟩
abbrev main_call3_v1 : Ref sig .tc := ⟨.hbm, 171, rfl⟩
abbrev main_call3_cst : Ref sig .tc := ⟨.hbm, 172, rfl⟩
abbrev main_call3_v2 : Ref sig .tc := ⟨.hbm, 173, rfl⟩
abbrev main_call3_v3 : Ref sig .tc := ⟨.hbm, 174, rfl⟩
abbrev main_call3_cst_0 : Ref sig .tc := ⟨.hbm, 175, rfl⟩
abbrev main_call3_v4 : Ref sig .tc := ⟨.hbm, 176, rfl⟩
abbrev main_call3_v5 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_18 : Ref sig .tc := ⟨.hbm, 193, rfl⟩
abbrev main_v128 : Ref sig .tc := ⟨.hbm, 194, rfl⟩
abbrev main_v129 : Ref sig .tc := ⟨.hbm, 195, rfl⟩
abbrev main_cst_19 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_20 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_c_21 : Ref sig .tc := ⟨.hbm, 211, rfl⟩
abbrev main_v143 : Ref sig .tc := ⟨.hbm, 212, rfl⟩
abbrev main_v144 : Ref sig .tc := ⟨.hbm, 213, rfl⟩
abbrev main_c_22 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_cst_23 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_cst_24 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_cst_25 : Ref sig .tc := ⟨.hbm, 233, rfl⟩
abbrev main_v161 : Ref sig .tc := ⟨.hbm, 234, rfl⟩
abbrev main_v162 : Ref sig .tc := ⟨.hbm, 235, rfl⟩
abbrev main_cst_26 : Ref sig .tc := ⟨.hbm, 236, rfl⟩
abbrev main_v163 : Ref sig .tc := ⟨.hbm, 237, rfl⟩
abbrev main_v164 : Ref sig .tc := ⟨.hbm, 238, rfl⟩
abbrev main_cst_27 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_cst_28 : Ref sig .tc := ⟨.hbm, 243, rfl⟩
abbrev main_v168 : Ref sig .tc := ⟨.hbm, 244, rfl⟩
abbrev main_v169 : Ref sig .tc := ⟨.hbm, 245, rfl⟩
abbrev main_cst_29 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_c_30 : Ref sig .tc := ⟨.hbm, 253, rfl⟩
abbrev main_call4_v0 : Ref sig .tc := ⟨.hbm, 254, rfl⟩
abbrev main_v176 : Ref sig .tc := ⟨.hbm, 255, rfl⟩
abbrev main_c_31 : Ref sig .tc := ⟨.hbm, 256, rfl⟩
abbrev main_call5_v0 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_c_32 : Ref sig .tc := ⟨.hbm, 263, rfl⟩
abbrev main_call6_v0 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_c_33 : Ref sig .tc := ⟨.hbm, 269, rfl⟩
abbrev main_call7_v0 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201_0 : Ref sig .tc := ⟨.hbm, 286, rfl⟩
abbrev main_v201_1 : Ref sig .tc := ⟨.hbm, 287, rfl⟩
abbrev main_v201_2 : Ref sig .tc := ⟨.hbm, 288, rfl⟩
abbrev main_v201_3 : Ref sig .tc := ⟨.hbm, 289, rfl⟩
abbrev main_v201_4 : Ref sig .tc := ⟨.hbm, 290, rfl⟩
abbrev main_v201_5 : Ref sig .tc := ⟨.hbm, 291, rfl⟩
abbrev main_v201_6 : Ref sig .tc := ⟨.hbm, 292, rfl⟩
abbrev main_v201_7 : Ref sig .tc := ⟨.hbm, 293, rfl⟩
abbrev main_v201_8 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem24_0 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference3Ideal.lean ====
abbrev S1x16384x512 : Shape := ⟨3, ![1, 16384, 512]⟩
abbrev S1x16384x2816 : Shape := ⟨3, ![1, 16384, 2816]⟩
abbrev S31x256 : Shape := ⟨2, ![31, 256]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S1x16384x1024 : Shape := ⟨3, ![1, 16384, 1024]⟩
abbrev S1x16384x2048 : Shape := ⟨3, ![1, 16384, 2048]⟩
abbrev S1x16384x256 : Shape := ⟨3, ![1, 16384, 256]⟩
abbrev S_ : Shape := ⟨0, ![]⟩
abbrev S15x256 : Shape := ⟨2, ![15, 256]⟩
abbrev S16384x256 : Shape := ⟨2, ![16384, 256]⟩
abbrev S16414x256 : Shape := ⟨2, ![16414, 256]⟩
abbrev S16384 : Shape := ⟨1, ![16384]⟩
abbrev S16384x1 : Shape := ⟨2, ![16384, 1]⟩
abbrev S31 : Shape := ⟨1, ![31]⟩
abbrev S1x31 : Shape := ⟨2, ![1, 31]⟩
abbrev S16384x31 : Shape := ⟨2, ![16384, 31]⟩
abbrev S16384x31x1 : Shape := ⟨3, ![16384, 31, 1]⟩
abbrev S16384x31x256 : Shape := ⟨3, ![16384, 31, 256]⟩
abbrev S1x31x256 : Shape := ⟨3, ![1, 31, 256]⟩
abbrev S1x1x256 : Shape := ⟨3, ![1, 1, 256]⟩
abbrev S1x16384 : Shape := ⟨2, ![1, 16384]⟩
abbrev S1x16384x1 : Shape := ⟨3, ![1, 16384, 1]⟩
abbrev S1x128x128x4x64 : Shape := ⟨5, ![1, 128, 128, 4, 64]⟩
abbrev S4x1x128x64x128 : Shape := ⟨5, ![4, 1, 128, 64, 128]⟩
abbrev S128x4 : Shape := ⟨2, ![128, 4]⟩
abbrev S1x1x128x4x1 : Shape := ⟨5, ![1, 1, 128, 4, 1]⟩
abbrev S1x1x1024 : Shape := ⟨3, ![1, 1, 1024]⟩
abbrev S1x1024 : Shape := ⟨2, ![1, 1024]⟩

abbrev nBuf : Space → Nat
  | .hbm => 205
  | .vmem => 0
  | .smem => 0
  | _ => 0

abbrev hbmTy0_0 (i : Nat) : BufTy := match i % 128 with
  | 0 => ⟨S1x16384x512, .f32⟩
  | 1 => ⟨S1x16384x2816, .f32⟩
  | 2 => ⟨S31x256, .f32⟩
  | 3 => ⟨S256, .f32⟩
  | 4 => ⟨S256, .f32⟩
  | 5 => ⟨S256, .f32⟩
  | 6 => ⟨S256, .f32⟩
  | 7 => ⟨S256, .f32⟩
  | 8 => ⟨S4x128x128, .f32⟩
  | 9 => ⟨S4x128, .f32⟩
  | 10 => ⟨S1024x1024, .f32⟩
  | 11 => ⟨S1024, .f32⟩
  | 12 => ⟨S1x16384x1024, .f32⟩
  | 13 => ⟨S1x16384x2048, .f32⟩
  | 14 => ⟨S1x16384x512, .f32⟩
  | 15 => ⟨S1x16384x512, .f32⟩
  | 16 => ⟨S1x16384x256, .f32⟩
  | 17 => ⟨S1x16384x256, .f32⟩
  | 18 => ⟨S1x16384x256, .f32⟩
  | 19 => ⟨S1x16384x256, .f32⟩
  | 20 => ⟨S1x16384x256, .f32⟩
  | 21 => ⟨S1x16384x256, .f32⟩
  | 22 => ⟨S1x16384x256, .f32⟩
  | 23 => ⟨S1x16384x256, .f32⟩
  | 24 => ⟨S_, .f32⟩
  | 25 => ⟨S1x16384x256, .f32⟩
  | 26 => ⟨S1x16384x256, .f32⟩
  | 27 => ⟨S_, .f32⟩
  | 28 => ⟨S1x16384x256, .f32⟩
  | 29 => ⟨S1x16384x256, .f32⟩
  | 30 => ⟨S1x16384x256, .f32⟩
  | 31 => ⟨S1x16384x512, .f32⟩
  | 32 => ⟨S1x16384x512, .f32⟩
  | 33 => ⟨S_, .f32⟩
  | 34 => ⟨S1x16384x512, .f32⟩
  | 35 => ⟨S1x16384x512, .f32⟩
  | 36 => ⟨S_, .f32⟩
  | 37 => ⟨S1x16384x512, .f32⟩
  | 38 => ⟨S1x16384x512, .f32⟩
  | 39 => ⟨S1x16384x512, .f32⟩
  | 40 => ⟨S1x16384x512, .f32⟩
  | 41 => ⟨S_, .f32⟩
  | 42 => ⟨S15x256, .f32⟩
  | 43 => ⟨S16384x256, .f32⟩
  | 44 => ⟨S16414x256, .f32⟩
  | 45 => ⟨S16384, .i32⟩
  | 46 => ⟨S16384x1, .i32⟩
  | 47 => ⟨S31, .i32⟩
  | 48 => ⟨S1x31, .i32⟩
  | 49 => ⟨S16384x31, .i32⟩
  | 50 => ⟨S16384x31, .i32⟩
  | 51 => ⟨S16384x31, .i32⟩
  | 52 => ⟨S_, .i32⟩
  | 53 => ⟨S16384x31, .i32⟩
  | 54 => ⟨S16384x31, .i1⟩
  | 55 => ⟨S_, .i32⟩
  | 56 => ⟨S16384x31, .i32⟩
  | 57 => ⟨S16384x31, .i32⟩
  | 58 => ⟨S16384x31, .i32⟩
  | 59 => ⟨S16384x31x1, .i32⟩
  | 60 => ⟨S16384x31x256, .f32⟩
  | 61 => ⟨S1x31x256, .f32⟩
  | 62 => ⟨S16384x31x256, .f32⟩
  | 63 => ⟨S16384x31x256, .f32⟩
  | 64 => ⟨S_, .f32⟩
  | 65 => ⟨S16384x256, .f32⟩
  | 66 => ⟨S1x16384x256, .f32⟩
  | 67 => ⟨S1x1x256, .f32⟩
  | 68 => ⟨S1x16384x256, .f32⟩
  | 69 => ⟨S1x16384x256, .f32⟩
  | 70 => ⟨S_, .f32⟩
  | 71 => ⟨S1x16384, .f32⟩
  | 72 => ⟨S1x16384x1, .f32⟩
  | 73 => ⟨S_, .f32⟩
  | 74 => ⟨S1x16384x1, .f32⟩
  | 75 => ⟨S1x16384x1, .f32⟩
  | 76 => ⟨S1x16384x256, .f32⟩
  | 77 => ⟨S1x16384x256, .f32⟩
  | 78 => ⟨S1x16384x256, .f32⟩
  | 79 => ⟨S_, .f32⟩
  | 80 => ⟨S1x16384, .f32⟩
  | 81 => ⟨S1x16384x1, .f32⟩
  | 82 => ⟨S_, .f32⟩
  | 83 => ⟨S1x16384x1, .f32⟩
  | 84 => ⟨S1x16384x1, .f32⟩
  | 85 => ⟨S_, .f32⟩
  | 86 => ⟨S1x16384x1, .f32⟩
  | 87 => ⟨S1x16384x1, .f32⟩
  | 88 => ⟨S1x16384x1, .f32⟩
  | 89 => ⟨S1x16384x256, .f32⟩
  | 90 => ⟨S1x16384x256, .f32⟩
  | 91 => ⟨S1x1x256, .f32⟩
  | 92 => ⟨S1x16384x256, .f32⟩
  | 93 => ⟨S1x16384x256, .f32⟩
  | 94 => ⟨S1x1x256, .f32⟩
  | 95 => ⟨S1x16384x256, .f32⟩
  | 96 => ⟨S1x16384x256, .f32⟩
  | 97 => ⟨S1x16384x256, .f32⟩
  | 98 => ⟨S1x16384x256, .f32⟩
  | 99 => ⟨S_, .f32⟩
  | 100 => ⟨S1x16384x256, .f32⟩
  | 101 => ⟨S1x16384x256, .f32⟩
  | 102 => ⟨S_, .f32⟩
  | 103 => ⟨S1x16384x256, .f32⟩
  | 104 => ⟨S1x16384x256, .f32⟩
  | 105 => ⟨S1x16384x256, .f32⟩
  | 106 => ⟨S1x16384x256, .f32⟩
  | 107 => ⟨S1x16384x256, .f32⟩
  | 108 => ⟨S_, .f32⟩
  | 109 => ⟨S1x16384x256, .f32⟩
  | 110 => ⟨S1x16384x256, .f32⟩
  | 111 => ⟨S_, .f32⟩
  | 112 => ⟨S1x16384x256, .f32⟩
  | 113 => ⟨S1x16384x256, .f32⟩
  | 114 => ⟨S1x16384x256, .f32⟩
  | 115 => ⟨S1x16384x256, .f32⟩
  | 116 => ⟨S_, .f32⟩
  | 117 => ⟨S1x16384x256, .f32⟩
  | 118 => ⟨S1x16384x256, .f32⟩
  | 119 => ⟨S1x16384x256, .f32⟩
  | 120 => ⟨S_, .f32⟩
  | 121 => ⟨S1x16384x256, .f32⟩
  | 122 => ⟨S1x16384x256, .f32⟩
  | 123 => ⟨S1x16384x256, .f32⟩
  | 124 => ⟨S1x16384x256, .f32⟩
  | 125 => ⟨S_, .f32⟩
  | 126 => ⟨S1x16384x256, .f32⟩
  | 127 => ⟨S1x16384x256, .f32⟩
  | _ => ⟨S1x16384x512, .f32⟩

abbrev hbmTy0_1 (i : Nat) : BufTy := match i % 128 with
  | 0 => ⟨S1x16384x256, .f32⟩
  | 1 => ⟨S_, .f32⟩
  | 2 => ⟨S1x16384x256, .f32⟩
  | 3 => ⟨S1x16384x256, .f32⟩
  | 4 => ⟨S1x16384x256, .f32⟩
  | 5 => ⟨S1x16384x256, .f32⟩
  | 6 => ⟨S_, .f32⟩
  | 7 => ⟨S1x16384, .f32⟩
  | 8 => ⟨S1x16384x1, .f32⟩
  | 9 => ⟨S_, .f32⟩
  | 10 => ⟨S1x16384x1, .f32⟩
  | 11 => ⟨S1x16384x1, .f32⟩
  | 12 => ⟨S1x16384x256, .f32⟩
  | 13 => ⟨S1x16384x256, .f32⟩
  | 14 => ⟨S1x16384x256, .f32⟩
  | 15 => ⟨S_, .f32⟩
  | 16 => ⟨S1x16384, .f32⟩
  | 17 => ⟨S1x16384x1, .f32⟩
  | 18 => ⟨S_, .f32⟩
  | 19 => ⟨S1x16384x1, .f32⟩
  | 20 => ⟨S1x16384x1, .f32⟩
  | 21 => ⟨S_, .f32⟩
  | 22 => ⟨S1x16384x1, .f32⟩
  | 23 => ⟨S1x16384x1, .f32⟩
  | 24 => ⟨S1x16384x1, .f32⟩
  | 25 => ⟨S1x16384x256, .f32⟩
  | 26 => ⟨S1x16384x256, .f32⟩
  | 27 => ⟨S1x1x256, .f32⟩
  | 28 => ⟨S1x16384x256, .f32⟩
  | 29 => ⟨S1x16384x256, .f32⟩
  | 30 => ⟨S1x1x256, .f32⟩
  | 31 => ⟨S1x16384x256, .f32⟩
  | 32 => ⟨S1x16384x256, .f32⟩
  | 33 => ⟨S1x128x128x4x64, .f32⟩
  | 34 => ⟨S4x1x128x64x128, .f32⟩
  | 35 => ⟨S1x128x128x4x64, .f32⟩
  | 36 => ⟨S128x4, .f32⟩
  | 37 => ⟨S1x1x128x4x1, .f32⟩
  | 38 => ⟨S1x128x128x4x64, .f32⟩
  | 39 => ⟨S1x128x128x4x64, .f32⟩
  | 40 => ⟨S1x16384x256, .f32⟩
  | 41 => ⟨S1x16384x256, .f32⟩
  | 42 => ⟨S1x16384x256, .f32⟩
  | 43 => ⟨S1x16384x256, .f32⟩
  | 44 => ⟨S_, .f32⟩
  | 45 => ⟨S1x16384x256, .f32⟩
  | 46 => ⟨S1x16384x256, .f32⟩
  | 47 => ⟨S_, .f32⟩
  | 48 => ⟨S1x16384x256, .f32⟩
  | 49 => ⟨S1x16384x256, .f32⟩
  | 50 => ⟨S1x16384x256, .f32⟩
  | 51 => ⟨S1x16384x256, .f32⟩
  | 52 => ⟨S1x16384x1024, .f32⟩
  | 53 => ⟨S1x16384x1024, .f32⟩
  | 54 => ⟨S1x16384x1024, .f32⟩
  | 55 => ⟨S_, .f32⟩
  | 56 => ⟨S1x16384, .f32⟩
  | 57 => ⟨S1x16384x1, .f32⟩
  | 58 => ⟨S_, .f32⟩
  | 59 => ⟨S1x16384x1, .f32⟩
  | 60 => ⟨S1x16384x1, .f32⟩
  | 61 => ⟨S_, .f32⟩
  | 62 => ⟨S1x16384x1, .f32⟩
  | 63 => ⟨S1x16384x1, .f32⟩
  | 64 => ⟨S1x16384x1, .f32⟩
  | 65 => ⟨S1x16384x1024, .f32⟩
  | 66 => ⟨S1x16384x1024, .f32⟩
  | 67 => ⟨S1x1x1024, .f32⟩
  | 68 => ⟨S1x16384x1024, .f32⟩
  | 69 => ⟨S1x16384x1024, .f32⟩
  | 70 => ⟨S1x16384x1024, .f32⟩
  | 71 => ⟨S_, .f32⟩
  | 72 => ⟨S1x1024, .f32⟩
  | 73 => ⟨S1x1x1024, .f32⟩
  | 74 => ⟨S_, .f32⟩
  | 75 => ⟨S1024, .f32⟩
  | 76 => ⟨S1x1024, .f32⟩
  | _ => ⟨S1x16384x512, .f32⟩

abbrev hbmTy (i : Nat) : BufTy := match i / 128 with
  | 0 => hbmTy0_0 i
  | 1 => hbmTy0_1 i
  | _ => ⟨S1x16384x512, .f32⟩

abbrev bufTy : (tb : Table) → Fin (tcTables nBuf tb) → BufTy
  | .hbm, ⟨i, _⟩ => hbmTy i
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_v29 : Ref sig .tc := ⟨.hbm, 54, rfl⟩
abbrev main_c_2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v65 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_call2_v5 : Ref sig .tc := ⟨.hbm, 113, rfl⟩
abbrev main_v66 : Ref sig .tc := ⟨.hbm, 114, rfl⟩
abbrev main_v67 : Ref sig .tc := ⟨.hbm, 115, rfl⟩
abbrev main_cst_9 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_10 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_11 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_12 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_13 : Ref sig .tc := ⟨.hbm, 134, rfl⟩
abbrev main_v82 : Ref sig .tc := ⟨.hbm, 135, rfl⟩
abbrev main_v83 : Ref sig .tc := ⟨.hbm, 136, rfl⟩
abbrev main_cst_14 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_15 : Ref sig .tc := ⟨.hbm, 143, rfl⟩
abbrev main_v89 : Ref sig .tc := ⟨.hbm, 144, rfl⟩
abbrev main_v90 : Ref sig .tc := ⟨.hbm, 145, rfl⟩
abbrev main_cst_16 : Ref sig .tc := ⟨.hbm, 146, rfl⟩
abbrev main_v91 : Ref sig .tc := ⟨.hbm, 147, rfl⟩
abbrev main_v92 : Ref sig .tc := ⟨.hbm, 148, rfl⟩
abbrev main_cst_17 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_call3_v0 : Ref sig .tc := ⟨.hbm, 170, rfl⟩
abbrev main_call3_v1 : Ref sig .tc := ⟨.hbm, 171, rfl⟩
abbrev main_call3_cst : Ref sig .tc := ⟨.hbm, 172, rfl⟩
abbrev main_call3_v2 : Ref sig .tc := ⟨.hbm, 173, rfl⟩
abbrev main_call3_v3 : Ref sig .tc := ⟨.hbm, 174, rfl⟩
abbrev main_call3_cst_0 : Ref sig .tc := ⟨.hbm, 175, rfl⟩
abbrev main_call3_v4 : Ref sig .tc := ⟨.hbm, 176, rfl⟩
abbrev main_call3_v5 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_18 : Ref sig .tc := ⟨.hbm, 183, rfl⟩
abbrev main_v118 : Ref sig .tc := ⟨.hbm, 184, rfl⟩
abbrev main_v119 : Ref sig .tc := ⟨.hbm, 185, rfl⟩
abbrev main_cst_19 : Ref sig .tc := ⟨.hbm, 186, rfl⟩
abbrev main_v120 : Ref sig .tc := ⟨.hbm, 187, rfl⟩
abbrev main_v121 : Ref sig .tc := ⟨.hbm, 188, rfl⟩
abbrev main_cst_20 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_cst_21 : Ref sig .tc := ⟨.hbm, 199, rfl⟩
abbrev main_v131 : Ref sig .tc := ⟨.hbm, 200, rfl⟩
abbrev main_v132 : Ref sig .tc := ⟨.hbm, 201, rfl⟩
abbrev main_cst_22 : Ref sig .tc := ⟨.hbm, 202, rfl⟩
abbrev main_v133 : Ref sig .tc := ⟨.hbm, 203, rfl⟩
abbrev main_v134 : Ref sig .tc := ⟨.hbm, 204, rfl⟩

abbrev nD : Nat := 1
abbrev τ : Topo := Topo.v7x

variable {F : FTy → Type} [FloatOps F]
-- ==== Kernel4.lean ====
abbrev S1x16384x1024 : Shape := ⟨3, ![1, 16384, 1024]⟩
abbrev S1024 : Shape := ⟨1, ![1024]⟩
abbrev S1024x2816 : Shape := ⟨2, ![1024, 2816]⟩
abbrev S64 : Shape := ⟨1, ![64]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S16384x1024 : Shape := ⟨2, ![16384, 1024]⟩
abbrev S1x1024 : Shape := ⟨2, ![1, 1024]⟩
abbrev S16384x2816 : Shape := ⟨2, ![16384, 2816]⟩
abbrev S16384x256 : Shape := ⟨2, ![16384, 256]⟩
abbrev S8x16384x128 : Shape := ⟨3, ![8, 16384, 128]⟩
abbrev S2x16384x128 : Shape := ⟨3, ![2, 16384, 128]⟩
abbrev S256x1024 : Shape := ⟨2, ![256, 1024]⟩
abbrev S256x128 : Shape := ⟨2, ![256, 128]⟩
abbrev S256x2816 : Shape := ⟨2, ![256, 2816]⟩
abbrev S256x256 : Shape := ⟨2, ![256, 256]⟩
abbrev S8x256x128 : Shape := ⟨3, ![8, 256, 128]⟩
abbrev S2x256x128 : Shape := ⟨3, ![2, 256, 128]⟩
abbrev S256 : Shape := ⟨1, ![256]⟩
abbrev S256x1 : Shape := ⟨2, ![256, 1]⟩
abbrev S256x512 : Shape := ⟨2, ![256, 512]⟩
abbrev S1x256x128 : Shape := ⟨3, ![1, 256, 128]⟩
abbrev S128x128 : Shape := ⟨2, ![128, 128]⟩

abbrev nBuf : Space → Nat
  | .hbm => 116
  | .vmem => 21
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x2816, .f32⟩
  | .hbm, ⟨3, _⟩ => ⟨S64, .f32⟩
  | .hbm, ⟨4, _⟩ => ⟨S64, .f32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S_, .i1⟩
  | .hbm, ⟨41, _⟩ => ⟨S16384, .i1⟩
  | .hbm, ⟨42, _⟩ => ⟨S16384, .i1⟩
  | .hbm, ⟨43, _⟩ => ⟨S16384, .i1⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S16384x1, .f32⟩
  | .hbm, ⟨57, _⟩ => ⟨S1x16, .f32⟩
  | .hbm, ⟨58, _⟩ => ⟨S16384x16, .f32⟩
  | .hbm, ⟨59, _⟩ => ⟨S16384x16, .f32⟩
  | .hbm, ⟨60, _⟩ => ⟨S16384x16, .f32⟩
  | .hbm, ⟨61, _⟩ => ⟨S16384x1, .f32⟩
  | .hbm, ⟨62, _⟩ => ⟨S1x16, .f32⟩
  | .hbm, ⟨63, _⟩ => ⟨S16384x16, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S16384x16, .f32⟩
  | .hbm, ⟨69, _⟩ => ⟨S16384x16, .f32⟩
  | .hbm, ⟨70, _⟩ => ⟨S16384x64, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S16384x16, .f32⟩
  | .hbm, ⟨75, _⟩ => ⟨S16384x16, .f32⟩
  | .hbm, ⟨76, _⟩ => ⟨S16384x16, .f32⟩
  | .hbm, ⟨77, _⟩ => ⟨S16384x64, .f32⟩
  | .hbm, ⟨78, _⟩ => ⟨S1x16384x1x64, .f32⟩
  | .hbm, ⟨79, _⟩ => ⟨S1x16384x2x64, .f32⟩
  | .hbm, ⟨80, _⟩ => ⟨S16384x128, .f32⟩
  | .hbm, ⟨81, _⟩ => ⟨S1x16384x1x64, .f32⟩
  | .hbm, ⟨82, _⟩ => ⟨S1x16384x2x64, .f32⟩
  | .hbm, ⟨83, _⟩ => ⟨S16384x128, .f32⟩
  | .hbm, ⟨84, _⟩ => ⟨S8x8, .i32⟩
  | .hbm, ⟨85, _⟩ => ⟨S8x8, .i32⟩
  | .hbm, ⟨86, _⟩ => ⟨S_, .i32⟩
  | .hbm, ⟨87, _⟩ => ⟨S8x8, .i32⟩
  | .hbm, ⟨88, _⟩ => ⟨S8x8, .i32⟩
  | .hbm, ⟨89, _⟩ => ⟨S8x8, .i1⟩
  | .hbm, ⟨90, _⟩ => ⟨S8x8, .f32⟩
  | .hbm, ⟨91, _⟩ => ⟨S_, .f32⟩
  | .hbm, ⟨92, _⟩ => ⟨S64x64, .f32⟩
  | .hbm, ⟨93, _⟩ => ⟨S8x1x8x1, .f32⟩
  | .hbm, ⟨94, _⟩ => ⟨S1x64x1x64, .f32⟩
  | .hbm, ⟨95, _⟩ => ⟨S8x64x8x64, .f32⟩
  | .hbm, ⟨96, _⟩ => ⟨S8x64x8x64, .f32⟩
  | .hbm, ⟨97, _⟩ => ⟨S8x64x8x64, .f32⟩
  | .hbm, ⟨98, _⟩ => ⟨S512x512, .f32⟩
  | .hbm, ⟨99, _⟩ => ⟨S512x512, .bf16⟩
  | .hbm, ⟨100, _⟩ => ⟨S1x64, .f32⟩
  | .hbm, ⟨101, _⟩ => ⟨S8x64, .f32⟩
  | .hbm, ⟨102, _⟩ => ⟨S512, .f32⟩
  | .hbm, ⟨103, _⟩ => ⟨S1x512, .f32⟩
  | .hbm, ⟨104, _⟩ => ⟨S1x64, .f32⟩
  | .hbm, ⟨105, _⟩ => ⟨S2x64, .f32⟩
  | .hbm, ⟨106, _⟩ => ⟨S128, .f32⟩
  | .hbm, ⟨107, _⟩ => ⟨S1x128, .f32⟩
  | .hbm, ⟨108, _⟩ => ⟨S16384x1024, .f32⟩
  | .hbm, ⟨109, _⟩ => ⟨S1x1024, .f32⟩
  | .hbm, ⟨110, _⟩ => ⟨S1024x2816, .bf16⟩
  | .hbm, ⟨111, _⟩ => ⟨S16384x2816, .f32⟩
  | .hbm, ⟨112, _⟩ => ⟨S16384x256, .f32⟩
  | .hbm, ⟨113, _⟩ => ⟨S8x16384x128, .bf16⟩
  | .hbm, ⟨114, _⟩ => ⟨S2x16384x128, .bf16⟩
  | .hbm, ⟨115, _⟩ => ⟨S2x16384x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S512x512, .bf16⟩
  | .local _ .vmem, ⟨5, _⟩ => ⟨S1x512, .f32⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x2816, .f32⟩
  | .local _ .vmem, ⟨12, _⟩ => ⟨S256x2816, .f32⟩
  | .local _ .vmem, ⟨13, _⟩ => ⟨S256x256, .f32⟩
  | .local _ .vmem, ⟨14, _⟩ => ⟨S256x256, .f32⟩
  | .local _ .vmem, ⟨15, _⟩ => ⟨S8x256x128, .bf16⟩
  | .local _ .vmem, ⟨16, _⟩ => ⟨S8x256x128, .bf16⟩
  | .local _ .vmem, ⟨17, _⟩ => ⟨S2x256x128, .bf16⟩
  | .local _ .vmem, ⟨18, _⟩ => ⟨S2x256x128, .bf16⟩
  | .local _ .vmem, ⟨19, _⟩ => ⟨S2x256x128, .bf16⟩
  | .local _ .vmem, ⟨20, _⟩ => ⟨S2x256x128, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_cst_1 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_c_2 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_3 : Ref sig .tc := ⟨.hbm, 91, rfl⟩
abbrev main_v45 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59_0 : Ref sig .tc := ⟨.hbm, 111, rfl⟩
abbrev main_v59_1 : Ref sig .tc := ⟨.hbm, 112, rfl⟩
abbrev main_v59_2 : Ref sig .tc := ⟨.hbm, 113, rfl⟩
abbrev main_v59_3 : Ref sig .tc := ⟨.hbm, 114, rfl⟩
abbrev main_v59_4 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S1x16384x1024 : Shape := ⟨3, ![1, 16384, 1024]⟩
abbrev S1024 : Shape := ⟨1, ![1024]⟩
abbrev S1024x2816 : Shape := ⟨2, ![1024, 2816]⟩
abbrev S64 : Shape := ⟨1, ![64]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x2816 : Shape := ⟨3, ![1, 16384, 2816]⟩
abbrev S1x16384x512 : Shape := ⟨3, ![1, 16384, 512]⟩
abbrev S16384x2816 : Shape := ⟨2, ![16384, 2816]⟩
abbrev S1x16384x256 : Shape := ⟨3, ![1, 16384, 256]⟩
abbrev S16384x256 : Shape := ⟨2, ![16384, 256]⟩

abbrev nBuf : Space → Nat
  | .hbm => 36
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x2816, .f32⟩
  | .hbm, ⟨3, _⟩ => ⟨S64, .f32⟩
  | .hbm, ⟨4, _⟩ => ⟨S64, .f32⟩
  | .hbm, ⟨5, _⟩ => ⟨S1x16384x1024, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x1024, .f32⟩
  | .hbm, ⟨17, _⟩ => ⟨S1x16384x1024, .f32⟩
  | .hbm, ⟨18, _⟩ => ⟨S1x1x1024, .f32⟩
  | .hbm, ⟨19, _⟩ => ⟨S1x16384x1024, .f32⟩
  | .hbm, ⟨20, _⟩ => ⟨S1x16384x1024, .f32⟩
  | .hbm, ⟨21, _⟩ => ⟨S1x16384x2816, .f32⟩
  | .hbm, ⟨22, _⟩ => ⟨S1x16384x512, .f32⟩
  | .hbm, ⟨23, _⟩ => ⟨S16384x2816, .f32⟩
  | .hbm, ⟨24, _⟩ => ⟨S1x16384x256, .f32⟩
  | .hbm, ⟨25, _⟩ => ⟨S1x16384x256, .f32⟩
  | .hbm, ⟨26, _⟩ => ⟨S1x16384x256, .f32⟩
  | .hbm, ⟨27, _⟩ => ⟨S1x16384x256, .f32⟩
  | .hbm, ⟨28, _⟩ => ⟨S_, .f32⟩
  | .hbm, ⟨29, _⟩ => ⟨S1x16384x256, .f32⟩
  | .hbm, ⟨30, _⟩ => ⟨S1x16384x256, .f32⟩
  | .hbm, ⟨31, _⟩ => ⟨S_, .f32⟩
  | .hbm, ⟨32, _⟩ => ⟨S1x16384x256, .f32⟩
  | .hbm, ⟨33, _⟩ => ⟨S1x16384x256, .f32⟩
  | .hbm, ⟨34, _⟩ => ⟨S1x16384x256, .f32⟩
  | .hbm, ⟨35, _⟩ => ⟨S16384x256, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Base.lean ====
/-
  The kernel's operands by name, the closed forms of its row offsets, and what its buffers are held as.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameSuffixV
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop makes eight trips. -/
theorem trips_eq : k0_t1_loop.trips = 8 := by decide

/-- The rows of `k` and `v` that step `r` of trip `k` finishes: those of chunk `4 k + r - 1`, and of chunk 0 at the very start. -/
theorem off2_eq : ∀ k : Fin k0_t1_loop.trips, ∀ r : Fin 4,
    k0_off2 k (BitVec.ofNat 32 r.val) = ![0, 512 * (4 * k.val + r.val - 1), 0] := by decide +kernel
instance off2_0 (k : Fin k0_t1_loop.trips) : ClosedOff (k0_off2 k (BitVec.ofNat 32 0)) := ⟨![0, 512 * (4 * k.val + 0 - 1), 0], off2_eq k 0⟩
instance off2_1 (k : Fin k0_t1_loop.trips) : ClosedOff (k0_off2 k (BitVec.ofNat 32 1)) := ⟨![0, 512 * (4 * k.val + 1 - 1), 0], off2_eq k 1⟩
instance off2_2 (k : Fin k0_t1_loop.trips) : ClosedOff (k0_off2 k (BitVec.ofNat 32 2)) := ⟨![0, 512 * (4 * k.val + 2 - 1), 0], off2_eq k 2⟩
instance off2_3 (k : Fin k0_t1_loop.trips) : ClosedOff (k0_off2 k (BitVec.ofNat 32 3)) := ⟨![0, 512 * (4 * k.val + 3 - 1), 0], off2_eq k 3⟩

/-- The slab of the two accumulators that step `r` of trip `k` adds to. -/
theorem off3_eq : ∀ k : Fin k0_t1_loop.trips, ∀ r : Fin 4,
    k0_off3 k (BitVec.ofNat 32 r.val) = ![4 * k.val + r.val - 1, 0, 0] := by decide +kernel
instance off3_0 (k : Fin k0_t1_loop.trips) : ClosedOff (k0_off3 k (BitVec.ofNat 32 0)) := ⟨![4 * k.val + 0 - 1, 0, 0], off3_eq k 0⟩
instance off3_1 (k : Fin k0_t1_loop.trips) : ClosedOff (k0_off3 k (BitVec.ofNat 32 1)) := ⟨![4 * k.val + 1 - 1, 0, 0], off3_eq k 1⟩
instance off3_2 (k : Fin k0_t1_loop.trips) : ClosedOff (k0_off3 k (BitVec.ofNat 32 2)) := ⟨![4 * k.val + 2 - 1, 0, 0], off3_eq k 2⟩
instance off3_3 (k : Fin k0_t1_loop.trips) : ClosedOff (k0_off3 k (BitVec.ofNat 32 3)) := ⟨![4 * k.val + 3 - 1, 0, 0], off3_eq k 3⟩

/-- The two scratch accumulators of `dk` and `dv`, the one of `dq`, and the staging buffers of the three stages. -/
abbrev dqM : Memref sig .tc .vmem S2048x128 .f32 := Memref.whole cc0_scratch0
abbrev dkM : Memref sig .tc .vmem S32x128x512 .f32 := Memref.whole cc0_scratch1
abbrev dvM : Memref sig .tc .vmem S32x128x512 .f32 := Memref.whole cc0_scratch2
abbrev s0M : Memref sig .tc .vmem S2048x512 .f32 := Memref.whole cc0_scratch3
abbrev s1M : Memref sig .tc .vmem S2048x512 .f32 := Memref.whole cc0_scratch4
abbrev d0M : Memref sig .tc .vmem S2048x512 .f32 := Memref.whole cc0_scratch5
abbrev d1M : Memref sig .tc .vmem S2048x512 .f32 := Memref.whole cc0_scratch6
abbrev p0M : Memref sig .tc .vmem S2048x512 .bf16 := Memref.whole cc0_scratch7
abbrev p1M : Memref sig .tc .vmem S2048x512 .bf16 := Memref.whole cc0_scratch8
abbrev e0M : Memref sig .tc .vmem S2048x512 .bf16 := Memref.whole cc0_scratch9
abbrev e1M : Memref sig .tc .vmem S2048x512 .bf16 := Memref.whole cc0_scratch10
/-- The two results that the kernel copies out itself. -/
abbrev dkH : Memref sig .tc .hbm S2x32x128x512 .f32 := Memref.whole main_v61_1
abbrev dvH : Memref sig .tc .hbm S2x32x128x512 .f32 := Memref.whole main_v61_2

local notation "𝕄" => MT nD τ sig Unit (Elt F) ℕ (Pipeline.UD sig nD τ) ℕ

/-- What a memref's buffer may hold. -/
abbrev BufOf (c : Dev nD) {sp : Space} {S : Shape} {e : EltTy} (M : Memref sig .tc sp S e) : Type := Buf (Elt F) (M.view.loc (c : Thread nD τ))
/-- The whole of a memref's buffer, held at contents `f`. -/
abbrev pt (c : Dev nD) {sp : Space} {S : Shape} {e : EltTy} (M : Memref sig .tc sp S e) (f : BufOf (F := F) c M) : sProp 𝕄 :=
  M.view.loc (c : Thread nD τ) ↦[M.view.set]{fullShare} f

end Cert.KernelIdeal.Hand

end
-- ==== Proof.Trip.lean ====
/-
  One trip of the loop.
-/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg2 : Memref sig .tc .vmem S4x512x128 .bf16) (harg2 : arg2.IsWhole)
  (arg3 : Memref sig .tc .vmem S1x16384x128 .bf16) (harg3 : arg3.IsWhole)
  (arg4 : Memref sig .tc .vmem S1x16384x128 .bf16) (harg4 : arg4.IsWhole)
  (arg5 : Memref sig .tc .vmem S4x512x128 .bf16) (harg5 : arg5.IsWhole)
  (arg6 : Memref sig .tc .vmem S4x512x128 .f32) (harg6 : arg6.IsWhole)
  (v2 v5 : FVec F S2048x128 .bf16) (v8 v11 : FVec F S128x2048 .bf16)
  (v29 : FVec F S2048x512 .f32) (v30 : Vec F S2048x512 .f32)

/-- The loop's region, on the kernel's own scratch. -/
abbrev loopBody : Fin k0_t1_loop.trips → Unit → Prog (TpuEff nD τ sig (Elt F) Λ₀ .tc) Unit :=
  k0_t1_body (F := F) i arg2 harg2 arg3 harg3 arg4 harg4 arg5 harg5 arg6 harg6 dkH (Memref.isWhole_whole _) dvH (Memref.isWhole_whole _)
    dqM (Memref.isWhole_whole _) dkM (Memref.isWhole_whole _) dvM (Memref.isWhole_whole _)
    s0M (Memref.isWhole_whole _) s1M (Memref.isWhole_whole _) d0M (Memref.isWhole_whole _) d1M (Memref.isWhole_whole _)
    p0M (Memref.isWhole_whole _) p1M (Memref.isWhole_whole _) e0M (Memref.isWhole_whole _) e1M (Memref.isWhole_whole _)
    cc0_scratch11 v2 v5 v8 v11 v29 v30

/-- What the loop's region reads and writes. -/
abbrev Res (f3 : BufOf (F := F) c arg3) (f4 : BufOf (F := F) c arg4) (fq : BufOf (F := F) c dqM) (fk : BufOf (F := F) c dkM)
    (fv : BufOf (F := F) c dvM) (a0 : BufOf (F := F) c s0M) (a1 : BufOf (F := F) c s1M) (b0 : BufOf (F := F) c d0M) (b1 : BufOf (F := F) c d1M)
    (g0 : BufOf (F := F) c p0M) (g1 : BufOf (F := F) c p1M) (h0 : BufOf (F := F) c e0M) (h1 : BufOf (F := F) c e1M) : sProp 𝕄 :=
  iprop(pt c arg3 f3 ∗ pt c arg4 f4 ∗ pt c dqM fq ∗ pt c dkM fk ∗ pt c dvM fv ∗ pt c s0M a0 ∗ pt c s1M a1 ∗ pt c d0M b0 ∗ pt c d1M b1
    ∗ pt c p0M g0 ∗ pt c p1M g1 ∗ pt c e0M h0 ∗ pt c e1M h1)

set_option maxHeartbeats 2000000 in
def tripRun (k : Fin k0_t1_loop.trips) (f3 : BufOf (F := F) c arg3) (f4 : BufOf (F := F) c arg4) (fq : BufOf (F := F) c dqM)
    (fk : BufOf (F := F) c dkM) (fv : BufOf (F := F) c dvM) (a0 : BufOf (F := F) c s0M) (a1 : BufOf (F := F) c s1M) (b0 : BufOf (F := F) c d0M)
    (b1 : BufOf (F := F) c d1M) (g0 : BufOf (F := F) c p0M) (g1 : BufOf (F := F) c p1M) (h0 : BufOf (F := F) c e0M) (h1 : BufOf (F := F) c e1M) :
    Σ' (Lq : List (View.Piece (Elt F) S2048x128 .f32)) (Lk Lv : List (View.Piece (Elt F) S32x128x512 .f32))
      (L0 L1 M0 M1 : List (View.Piece (Elt F) S2048x512 .f32)) (P0 P1 E0 : List (View.Piece (Elt F) S2048x512 .bf16)),
    { E1 : List (View.Piece (Elt F) S2048x512 .bf16) //
      Res c arg3 arg4 f3 f4 fq fk fv a0 a1 b0 b1 g0 g1 h0 h1
        ⊢ wp frame (wpE (defs₀ (F := F)) Variants.none c none) Set.univ
            (loopBody i arg2 harg2 arg3 harg3 arg4 harg4 arg5 harg5 arg6 harg6 v2 v5 v8 v11 v29 v30 k ())
            (fun _ => Res c arg3 arg4 f3 f4 (dqM.view.writes (Elt F) fq Lq) (dkM.view.writes (Elt F) fk Lk) (dvM.view.writes (Elt F) fv Lv)
              (s0M.view.writes (Elt F) a0 L0) (s1M.view.writes (Elt F) a1 L1) (d0M.view.writes (Elt F) b0 M0) (d1M.view.writes (Elt F) b1 M1)
              (p0M.view.writes (Elt F) g0 P0) (p1M.view.writes (Elt F) g1 P1) (e0M.view.writes (Elt F) h0 E0) (e1M.view.writes (Elt F) h1 E1)) } := by
  refine ⟨?_, ?_, ?_, ?_, ?_, ?_, ?_, ?_, ?_, ?_, ?_, ?run⟩
  case run =>
    unfold loopBody k0_t1_body
    iintro ⟨H3, H4, Hq, Hk, Hv, Ha0, Ha1, Hb0, Hb1, Hg0, Hg1, Hh0, Hh1⟩
    sl_exec
    sl_step

    sl_close

end Cert.KernelIdeal.Hand

end
-- ==== Proof.Loop.lean ====
/-
  The loop as an iteration of what one trip does to the scratch buffers, and the run of it.
-/
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the scratch buffers hold: the three accumulators and the staging buffers of the three stages. -/
structure St (c : Dev nD) where
  dq : BufOf (F := F) c dqM
  dk : BufOf (F := F) c dkM
  dv : BufOf (F := F) c dvM
  s0 : BufOf (F := F) c s0M
  s1 : BufOf (F := F) c s1M
  d0 : BufOf (F := F) c d0M
  d1 : BufOf (F := F) c d1M
  p0 : BufOf (F := F) c p0M
  p1 : BufOf (F := F) c p1M
  e0 : BufOf (F := F) c e0M
  e1 : BufOf (F := F) c e1M

variable (c : Dev nD) (i : grid0.Coords)
  (arg2 : Memref sig .tc .vmem S4x512x128 .bf16) (harg2 : arg2.IsWhole)
  (arg3 : Memref sig .tc .vmem S1x16384x128 .bf16) (harg3 : arg3.IsWhole)
  (arg4 : Memref sig .tc .vmem S1x16384x128 .bf16) (harg4 : arg4.IsWhole)
  (arg5 : Memref sig .tc .vmem S4x512x128 .bf16) (harg5 : arg5.IsWhole)
  (arg6 : Memref sig .tc .vmem S4x512x128 .f32) (harg6 : arg6.IsWhole)
  (v2 v5 : FVec F S2048x128 .bf16) (v8 v11 : FVec F S128x2048 .bf16)
  (v29 : FVec F S2048x512 .f32) (v30 : Vec F S2048x512 .f32)

/-- The resources of the loop's region, the scratch at `st`. -/
abbrev ResSt (f3 : BufOf (F := F) c arg3) (f4 : BufOf (F := F) c arg4) (st : St (F := F) c) : sProp 𝕄 :=
  Res c arg3 arg4 f3 f4 st.dq st.dk st.dv st.s0 st.s1 st.d0 st.d1 st.p0 st.p1 st.e0 st.e1

/-- What trip `k` finds, on scratch at `st`. -/
abbrev tripOf (f3 : BufOf (F := F) c arg3) (f4 : BufOf (F := F) c arg4) (k : Fin k0_t1_loop.trips) (st : St (F := F) c) :=
  tripRun c i arg2 harg2 arg3 harg3 arg4 harg4 arg5 harg5 arg6 harg6 v2 v5 v8 v11 v29 v30 k f3 f4
    st.dq st.dk st.dv st.s0 st.s1 st.d0 st.d1 st.p0 st.p1 st.e0 st.e1

/-- The scratch after trip `k`. -/
def stepSt (f3 : BufOf (F := F) c arg3) (f4 : BufOf (F := F) c arg4) (k : Fin k0_t1_loop.trips) (st : St (F := F) c) : St (F := F) c :=
  { dq := dqM.view.writes (Elt F) st.dq (tripOf c i arg2 harg2 arg3 harg3 arg4 harg4 arg5 harg5 arg6 harg6 v2 v5 v8 v11 v29 v30 f3 f4 k st).1
    dk := dkM.view.writes (Elt F) st.dk (tripOf c i arg2 harg2 arg3 harg3 arg4 harg4 arg5 harg5 arg6 harg6 v2 v5 v8 v11 v29 v30 f3 f4 k st).2.1
    dv := dvM.view.writes (Elt F) st.dv (tripOf c i arg2 harg2 arg3 harg3 arg4 harg4 arg5 harg5 arg6 harg6 v2 v5 v8 v11 v29 v30 f3 f4 k st).2.2.1
    s0 := s0M.view.writes (Elt F) st.s0 (tripOf c i arg2 harg2 arg3 harg3 arg4 harg4 arg5 harg5 arg6 harg6 v2 v5 v8 v11 v29 v30 f3 f4 k st).2.2.2.1
    s1 := s1M.view.writes (Elt F) st.s1 (tripOf c i arg2 harg2 arg3 harg3 arg4 harg4 arg5 harg5 arg6 harg6 v2 v5 v8 v11 v29 v30 f3 f4 k st).2.2.2.2.1
    d0 := d0M.view.writes (Elt F) st.d0 (tripOf c i arg2 harg2 arg3 harg3 arg4 harg4 arg5 harg5 arg6 harg6 v2 v5 v8 v11 v29 v30 f3 f4 k st).2.2.2.2.2.1
    d1 := d1M.view.writes (Elt F) st.d1 (tripOf c i arg2 harg2 arg3 harg3 arg4 harg4 arg5 harg5 arg6 harg6 v2 v5 v8 v11 v29 v30 f3 f4 k st).2.2.2.2.2.2.1
    p0 := p0M.view.writes (Elt F) st.p0 (tripOf c i arg2 harg2 arg3 harg3 arg4 harg4 arg5 harg5 arg6 harg6 v2 v5 v8 v11 v29 v30 f3 f4 k st).2.2.2.2.2.2.2.1
    p1 := p1M.view.writes (Elt F) st.p1 (tripOf c i arg2 harg2 arg3 harg3 arg4 harg4 arg5 harg5 arg6 harg6 v2 v5 v8 v11 v29 v30 f3 f4 k st).2.2.2.2.2.2.2.2.1
    e0 := e0M.view.writes (Elt F) st.e0 (tripOf c i arg2 harg2 arg3 harg3 arg4 harg4 arg5 harg5 arg6 harg6 v2 v5 v8 v11 v29 v30 f3 f4 k st).2.2.2.2.2.2.2.2.2.1
    e1 := e1M.view.writes (Elt F) st.e1 (tripOf c i arg2 harg2 arg3 harg3 arg4 harg4 arg5 harg5 arg6 harg6 v2 v5 v8 v11 v29 v30 f3 f4 k st).2.2.2.2.2.2.2.2.2.2.1 }

attribute [local irreducible] tripRun in
/-- One trip takes the scratch from `st` to `stepSt k st`. -/
theorem trip_wp (f3 : BufOf (F := F) c arg3) (f4 : BufOf (F := F) c arg4) (k : Fin k0_t1_loop.trips) (st : St (F := F) c) :
    ResSt c arg3 arg4 f3 f4 st
      ⊢ wp frame (wpE (defs₀ (F := F)) Variants.none c none) Set.univ
          (loopBody i arg2 harg2 arg3 harg3 arg4 harg4 arg5 harg5 arg6 harg6 v2 v5 v8 v11 v29 v30 k ())
          (fun _ => ResSt c arg3 arg4 f3 f4 (stepSt c i arg2 harg2 arg3 harg3 arg4 harg4 arg5 harg5 arg6 harg6 v2 v5 v8 v11 v29 v30 f3 f4 k st)) := by
  unfold stepSt
  dsimp only []
  exact (tripOf c i arg2 harg2 arg3 harg3 arg4 harg4 arg5 harg5 arg6 harg6 v2 v5 v8 v11 v29 v30 f3 f4 k st).2.2.2.2.2.2.2.2.2.2.2

/-- The scratch before trip `k`, from `st` before the loop. -/
def stAt (f3 : BufOf (F := F) c arg3) (f4 : BufOf (F := F) c arg4) (st : St (F := F) c) : ℕ → St (F := F) c
  | 0 => st
  | k + 1 =>
    if h : k < k0_t1_loop.trips then
      stepSt c i arg2 harg2 arg3 harg3 arg4 harg4 arg5 harg5 arg6 harg6 v2 v5 v8 v11 v29 v30 f3 f4 ⟨k, h⟩ (stAt f3 f4 st k)
    else stAt f3 f4 st k

theorem stAt_succ (f3 : BufOf (F := F) c arg3) (f4 : BufOf (F := F) c arg4) (st : St (F := F) c) (k : Fin k0_t1_loop.trips) :
    stAt c i arg2 harg2 arg3 harg3 arg4 harg4 arg5 harg5 arg6 harg6 v2 v5 v8 v11 v29 v30 f3 f4 st (k.val + 1)
      = stepSt c i arg2 harg2 arg3 harg3 arg4 harg4 arg5 harg5 arg6 harg6 v2 v5 v8 v11 v29 v30 f3 f4 k
          (stAt c i arg2 harg2 arg3 harg3 arg4 harg4 arg5 harg5 arg6 harg6 v2 v5 v8 v11 v29 v30 f3 f4 st k.val) := by
  rw [stAt, dif_pos k.isLt]

/-- The resources before trip `k`, from the contents before the loop. -/
def invSt (f3 : BufOf (F := F) c arg3) (f4 : BufOf (F := F) c arg4) (fq : BufOf (F := F) c dqM)
    (fk : BufOf (F := F) c dkM) (fv : BufOf (F := F) c dvM) (a0 : BufOf (F := F) c s0M) (a1 : BufOf (F := F) c s1M) (b0 : BufOf (F := F) c d0M)
    (b1 : BufOf (F := F) c d1M) (g0 : BufOf (F := F) c p0M) (g1 : BufOf (F := F) c p1M) (h0 : BufOf (F := F) c e0M) (h1 : BufOf (F := F) c e1M) : ℕ → sProp 𝕄
  | 0 => Res c arg3 arg4 f3 f4 fq fk fv a0 a1 b0 b1 g0 g1 h0 h1
  | k + 1 => ResSt c arg3 arg4 f3 f4 (stAt c i arg2 harg2 arg3 harg3 arg4 harg4 arg5 harg5 arg6 harg6 v2 v5 v8 v11 v29 v30 f3 f4 ⟨fq, fk, fv, a0, a1, b0, b1, g0, g1, h0, h1⟩ (k + 1))

theorem invSt_eq (f3 : BufOf (F := F) c arg3) (f4 : BufOf (F := F) c arg4) (fq : BufOf (F := F) c dqM)
    (fk : BufOf (F := F) c dkM) (fv : BufOf (F := F) c dvM) (a0 : BufOf (F := F) c s0M) (a1 : BufOf (F := F) c s1M) (b0 : BufOf (F := F) c d0M)
    (b1 : BufOf (F := F) c d1M) (g0 : BufOf (F := F) c p0M) (g1 : BufOf (F := F) c p1M) (h0 : BufOf (F := F) c e0M) (h1 : BufOf (F := F) c e1M) (k : ℕ) :
    invSt c i arg2 harg2 arg3 harg3 arg4 harg4 arg5 harg5 arg6 harg6 v2 v5 v8 v11 v29 v30 f3 f4 fq fk fv a0 a1 b0 b1 g0 g1 h0 h1 k
      = ResSt c arg3 arg4 f3 f4 (stAt c i arg2 harg2 arg3 harg3 arg4 harg4 arg5 harg5 arg6 harg6 v2 v5 v8 v11 v29 v30 f3 f4 ⟨fq, fk, fv, a0, a1, b0, b1, g0, g1, h0, h1⟩ k) := by
  cases k <;> rfl

set_option warn.classDefReducibility false in
/-- The loop's invariant: the scratch at `stAt`. -/
@[sl_loop] def loopInv (f3 : BufOf (F := F) c arg3) (f4 : BufOf (F := F) c arg4) (fq : BufOf (F := F) c dqM)
    (fk : BufOf (F := F) c dkM) (fv : BufOf (F := F) c dvM) (a0 : BufOf (F := F) c s0M) (a1 : BufOf (F := F) c s1M) (b0 : BufOf (F := F) c d0M)
    (b1 : BufOf (F := F) c d1M) (g0 : BufOf (F := F) c p0M) (g1 : BufOf (F := F) c p1M) (h0 : BufOf (F := F) c e0M) (h1 : BufOf (F := F) c e1M) :
    LoopInvTy_k0_t1 (F := F) Unit ℕ (Pipeline.UD sig nD τ) ℕ Variants.none c none Set.univ i arg2 harg2 arg3 harg3 arg4 harg4 arg5 harg5
      arg6 harg6 dkH (Memref.isWhole_whole _) dvH (Memref.isWhole_whole _)
      dqM (Memref.isWhole_whole _) dkM (Memref.isWhole_whole _) dvM (Memref.isWhole_whole _)
      s0M (Memref.isWhole_whole _) s1M (Memref.isWhole_whole _) d0M (Memref.isWhole_whole _) d1M (Memref.isWhole_whole _)
      p0M (Memref.isWhole_whole _) p1M (Memref.isWhole_whole _) e0M (Memref.isWhole_whole _) e1M (Memref.isWhole_whole _)
      cc0_scratch11 v2 v5 v8 v11 v29 v30 where
  inv k _ := invSt c i arg2 harg2 arg3 harg3 arg4 harg4 arg5 harg5 arg6 harg6 v2 v5 v8 v11 v29 v30 f3 f4 fq fk fv a0 a1 b0 b1 g0 g1 h0 h1 k
  step k _ := by
    rw [invSt_eq, invSt_eq, stAt_succ]
    exact trip_wp c i arg2 harg2 arg3 harg3 arg4 harg4 arg5 harg5 arg6 harg6 v2 v5 v8 v11 v29 v30 f3 f4 k _

/-- What the loop leaves. -/
instance loopExit (f3 : BufOf (F := F) c arg3) (f4 : BufOf (F := F) c arg4) (fq : BufOf (F := F) c dqM)
    (fk : BufOf (F := F) c dkM) (fv : BufOf (F := F) c dvM) (a0 : BufOf (F := F) c s0M) (a1 : BufOf (F := F) c s1M) (b0 : BufOf (F := F) c d0M)
    (b1 : BufOf (F := F) c d1M) (g0 : BufOf (F := F) c p0M) (g1 : BufOf (F := F) c p1M) (h0 : BufOf (F := F) c e0M) (h1 : BufOf (F := F) c e1M) :
    LoopExit (loopInv (F := F) c i arg2 harg2 arg3 harg3 arg4 harg4 arg5 harg5 arg6 harg6 v2 v5 v8 v11 v29 v30 f3 f4 fq fk fv a0 a1 b0 b1 g0 g1 h0 h1) where
  post _ := ResSt c arg3 arg4 f3 f4 (stAt c i arg2 harg2 arg3 harg3 arg4 harg4 arg5 harg5 arg6 harg6 v2 v5 v8 v11 v29 v30 f3 f4 ⟨fq, fk, fv, a0, a1, b0, b1, g0, g1, h0, h1⟩ 8)
  exit _ := by
    rw [show Scf.trips k0_t1_loop.lb k0_t1_loop.ub k0_t1_loop.st = 8 from trips_eq]
    exact .rfl

end Cert.KernelIdeal.Hand

end
-- ==== Proof.Steps.lean ====
/-
  What one point of the grid computes, as a recursion over the chunks of `k` and `v`.

  A point takes one block of queries through all 32 chunks. Step `n` finishes chunk `n - 1`: it adds `e · k` to the block's
  `dq`, `q^T · e` to the chunk's slab of `dk` and `do^T · p` to the chunk's slab of `dv`, where `p` is the exponential of
  the chunk's scores and `e` is `p` times the chunk's products of `do` and `v`. Step 0 runs on zeros.
-/
module

public import proofs.«01_k».proof.Proof.Loop
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe
open Idealize.ShloMosaic.VecWindow

variable {F : FTy → Type} [FloatOps F]

/-! ## The recursion -/

/-- Rows `512 j …` of a block of `k` or `v`; the last ones where `j` is too large. -/
def chunk (X : Vec F S1x16384x128 .bf16) (j : ℕ) : Vec F S1x512x128 .bf16 :=
  window X ![0, 512 * min j 31, 0] S1x512x128.size (by
    intro a; fin_cases a <;> simp [S1x16384x128, S1x512x128] <;> omega)

/-- Slab `j` of an accumulator; the last one where `j` is too large. -/
def slab (X : Vec F S32x128x512 .f32) (j : ℕ) : Vec F S1x128x512 .f32 :=
  window X ![min j 31, 0, 0] S1x128x512.size (by
    intro a; fin_cases a <;> simp [S32x128x512, S1x128x512] <;> omega)

/-- An accumulator with slab `j` replaced. -/
def setSlab (X : Vec F S32x128x512 .f32) (j : ℕ) (w : Vec F S1x128x512 .f32) : Vec F S32x128x512 .f32 :=
  put X ![min j 31, 0, 0] S1x128x512.size w

/-- The weights of a chunk, of its scores. -/
def pOf (s : Vec F S2048x512 .f32) : Vec F S2048x512 .bf16 := exp (truncf .bf16 s bitsLt_bf16_f32)

/-- The gradient of a chunk's scores, of its scores and of its products of `do` and `v`. -/
def eOf (s d : Vec F S2048x512 .f32) : Vec F S2048x512 .bf16 :=
  truncf .bf16 (mulf (extf .f32 (pOf s) bitsLt_bf16_f32) d) bitsLt_bf16_f32

variable (q2 d2 : FVec F S2048x128 .bf16) (qT dT : FVec F S128x2048 .bf16) (K V : Vec F S1x16384x128 .bf16)

/-- The scores of chunk `j`. -/
def scOf (j : ℕ) : Vec F S2048x512 .f32 := k0_pay3 q2 (chunk K j)
/-- The products of `do` and `v` of chunk `j`. -/
def dpOf (j : ℕ) : Vec F S2048x512 .f32 := k0_pay4 d2 (chunk V j)
/-- The weights that step `n` uses: those of chunk `n - 1`, and zeros at first. -/
def ppAt : ℕ → Vec F S2048x512 .bf16
  | 0 => k0_pay84
  | n + 1 => pOf (scOf q2 K n)
/-- The gradients of the scores that step `n` uses. -/
def eeAt : ℕ → Vec F S2048x512 .bf16
  | 0 => k0_pay85
  | n + 1 => eOf (scOf q2 K n) (dpOf d2 V n)
/-- The block's `dq` before step `n`. -/
def dqAt : ℕ → Vec F S2048x128 .f32
  | 0 => k0_pay81
  | n + 1 => k0_pay18 (eeAt q2 d2 K V n) (dqAt n) (chunk K (n - 1))
/-- The accumulator of `dk` before step `n`, from `x` before the point. -/
def dkAt (x : Vec F S32x128x512 .f32) : ℕ → Vec F S32x128x512 .f32
  | 0 => x
  | n + 1 => setSlab (dkAt x n) (n - 1) (k0_pay20 qT (eeAt q2 d2 K V n) (slab (dkAt x n) (n - 1)))
/-- The accumulator of `dv` before step `n`, from `x` before the point. -/
def dvAt (x : Vec F S32x128x512 .f32) : ℕ → Vec F S32x128x512 .f32
  | 0 => x
  | n + 1 => setSlab (dvAt x n) (n - 1) (k0_pay19 dT (slab (dvAt x n) (n - 1)) (ppAt q2 K n))

/-! ## Reads -/

variable {sp : Space}

theorem read_chunk (v : View sig .tc sp S1x16384x128 .bf16) (f : v.ty.Contents (Elt F)) (off : Fin 3 → ℕ) (j : ℕ)
    (inb : ∀ a, off a + S1x512x128.size a ≤ S1x16384x128.size a) (h : off = ![0, 512 * min j 31, 0]) :
    v.readAt (Elt F) (Rect.unit (s := S1x16384x128) off S1x512x128.size inb).toLoadRect f = chunk (v.read (Elt F) f) j := by
  subst h; rfl

theorem read_slab (v : View sig .tc sp S32x128x512 .f32) (f : v.ty.Contents (Elt F)) (off : Fin 3 → ℕ) (j : ℕ)
    (inb : ∀ a, off a + S1x128x512.size a ≤ S32x128x512.size a) (h : off = ![min j 31, 0, 0]) :
    v.readAt (Elt F) (Rect.unit (s := S32x128x512) off S1x128x512.size inb).toLoadRect f = slab (v.read (Elt F) f) j := by
  subst h; rfl

theorem read_cons_slab (v : View sig .tc sp S32x128x512 .f32) (f : v.ty.Contents (Elt F)) (off : Fin 3 → ℕ) (j : ℕ)
    (inb : ∀ a, off a + S1x128x512.size a ≤ S32x128x512.size a) (w : Vec F S1x128x512 .f32) (L : List (View.Piece (Elt F) S32x128x512 .f32))
    (h : off = ![min j 31, 0, 0]) :
    v.read (Elt F) (v.writes (Elt F) f (⟨Rect.unit off S1x128x512.size inb, w⟩ :: L)) = setSlab (v.read (Elt F) (v.writes (Elt F) f L)) j w := by
  subst h
  exact View.read_writes_cons_put v f inb w L rfl

/-- Four blocks of 512 rows cover the array: with each the rows of `G`, the array is `G`. -/
theorem put_rows {α : Type} (X G : S2048x512.Idx → α) (w0 w1 w2 w3 : S512x512.Idx → α)
    (h0 : w0 = window G ![0, 0] S512x512.size inb_S2048x512_S512x512_0_0)
    (h1 : w1 = window G ![512, 0] S512x512.size inb_S2048x512_S512x512_512_0)
    (h2 : w2 = window G ![1024, 0] S512x512.size inb_S2048x512_S512x512_1024_0)
    (h3 : w3 = window G ![1536, 0] S512x512.size inb_S2048x512_S512x512_1536_0) :
    put (put (put (put X ![0, 0] S512x512.size w0) ![512, 0] S512x512.size w1) ![1024, 0] S512x512.size w2) ![1536, 0] S512x512.size w3 = G := by
  subst h0 h1 h2 h3
  have key : ∀ (o : ℕ) (inb : ∀ a, (![o, 0] : Fin 2 → ℕ) a + S512x512.size a ≤ S2048x512.size a) (Y : S2048x512.Idx → α) (y : S2048x512.Idx),
      put Y ![o, 0] S512x512.size (window G ![o, 0] S512x512.size inb) y = if o ≤ (y 0).val ∧ (y 0).val < o + 512 then G y else Y y := by
    intro o inb Y y
    unfold put
    have hy1 : (y 1).val < 512 := (y 1).isLt
    by_cases hc : o ≤ (y 0).val ∧ (y 0).val < o + 512
    · rw [if_pos hc, dif_pos (by
        intro a; fin_cases a
        · exact hc
        · exact ⟨Nat.zero_le _, by show (y 1).val < 0 + 512; omega⟩)]
      unfold window
      refine congrArg G (funext fun a => Fin.ext ?_)
      fin_cases a
      · show o + 1 * ((y 0).val - o) = (y 0).val; omega
      · show 0 + 1 * ((y 1).val - 0) = (y 1).val; omega
    · rw [if_neg hc, dif_neg fun h => hc (h 0)]
  funext y
  have hy0 : (y 0).val < 2048 := (y 0).isLt
  rw [key, key, key, key]
  split_ifs <;> first | rfl | (exfalso; omega)

theorem read_cons_rows {e : EltTy} (v : View sig .tc sp S2048x512 e) (f : v.ty.Contents (Elt F)) (o : ℕ)
    (inb : ∀ a, (![o, 0] : Fin 2 → ℕ) a + S512x512.size a ≤ S2048x512.size a) (w : Vec F S512x512 e) (L : List (View.Piece (Elt F) S2048x512 e)) :
    v.read (Elt F) (v.writes (Elt F) f (⟨Rect.unit ![o, 0] S512x512.size inb, w⟩ :: L))
      = put (s := S2048x512) (v.read (Elt F) (v.writes (Elt F) f L)) ![o, 0] S512x512.size w :=
  View.read_writes_cons_put v f inb w L rfl

theorem read_rows {e : EltTy} (v : View sig .tc sp S2048x512 e) (f : v.ty.Contents (Elt F)) (G : Vec F S2048x512 e) (w0 w1 w2 w3 : Vec F S512x512 e)
    (L : List (View.Piece (Elt F) S2048x512 e))
    (h0 : w0 = window G ![0, 0] S512x512.size inb_S2048x512_S512x512_0_0)
    (h1 : w1 = window G ![512, 0] S512x512.size inb_S2048x512_S512x512_512_0)
    (h2 : w2 = window G ![1024, 0] S512x512.size inb_S2048x512_S512x512_1024_0)
    (h3 : w3 = window G ![1536, 0] S512x512.size inb_S2048x512_S512x512_1536_0) :
    v.read (Elt F) (v.writes (Elt F) f (⟨Rect.unit ![1536, 0] S512x512.size inb_S2048x512_S512x512_1536_0, w3⟩ ::
      ⟨Rect.unit ![1024, 0] S512x512.size inb_S2048x512_S512x512_1024_0, w2⟩ :: ⟨Rect.unit ![512, 0] S512x512.size inb_S2048x512_S512x512_512_0, w1⟩ ::
      ⟨Rect.unit ![0, 0] S512x512.size inb_S2048x512_S512x512_0_0, w0⟩ :: L)) = G := by
  refine (read_cons_rows v f _ _ w3 _).trans ?_
  rw [read_cons_rows v f _ _ w2 _, read_cons_rows v f _ _ w1 _, read_cons_rows v f _ _ w0 _]
  exact put_rows _ G w0 w1 w2 w3 h0 h1 h2 h3

/-- The whole of a staging buffer just written, read back. -/
theorem read_big {e : EltTy} (v : View sig .tc sp S2048x512 e) (f : v.ty.Contents (Elt F)) (w : Vec F S2048x512 e) (L : List (View.Piece (Elt F) S2048x512 e)) :
    v.read (Elt F) (v.writes (Elt F) f (⟨Rect.unit ![0, 0] S2048x512.size inb_S2048x512_S2048x512_0_0, w⟩ :: L)) = w :=
  View.read_writes_full v f _ w L

theorem read_dq (v : View sig .tc sp S2048x128 .f32) (f : v.ty.Contents (Elt F)) (w : Vec F S2048x128 .f32) (L : List (View.Piece (Elt F) S2048x128 .f32)) :
    v.read (Elt F) (v.writes (Elt F) f (⟨Rect.unit ![0, 0] S2048x128.size inb_S2048x128_S2048x128_0_0, w⟩ :: L)) = w :=
  View.read_writes_full v f _ w L

theorem readAt_big {e : EltTy} (v : View sig .tc sp S2048x512 e) (f : v.ty.Contents (Elt F)) :
    v.readAt (Elt F) (Rect.unit ![0, 0] S2048x512.size inb_S2048x512_S2048x512_0_0).toLoadRect f = v.read (Elt F) f :=
  View.readAt_full v f _

theorem readAt_dq (v : View sig .tc sp S2048x128 .f32) (f : v.ty.Contents (Elt F)) :
    v.readAt (Elt F) (Rect.unit ![0, 0] S2048x128.size inb_S2048x128_S2048x128_0_0).toLoadRect f = v.read (Elt F) f :=
  View.readAt_full v f _

end Cert.KernelIdeal.Hand

end
-- ==== Proof.TripValue.lean ====
/-
  What one trip of the loop leaves in the scratch: four steps of the recursion.
-/
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe
open Idealize.ShloMosaic.VecWindow

variable {F : FTy → Type} [FloatOps F]

variable (c : Dev nD)
  (arg3 : Memref sig .tc .vmem S1x16384x128 .bf16) (arg4 : Memref sig .tc .vmem S1x16384x128 .bf16)
  (v2 v5 : FVec F S2048x128 .bf16) (v8 v11 : FVec F S128x2048 .bf16)
  (k : Fin k0_t1_loop.trips) (f3 : BufOf (F := F) c arg3) (f4 : BufOf (F := F) c arg4) (fq : BufOf (F := F) c dqM)
    (fk : BufOf (F := F) c dkM) (fv : BufOf (F := F) c dvM) (a0 : BufOf (F := F) c s0M) (b0 : BufOf (F := F) c d0M)
    (g1 : BufOf (F := F) c p1M) (h1 : BufOf (F := F) c e1M)

theorem off2_chunk (r : Fin 4) : k0_off2 k (BitVec.ofNat 32 r.val) = ![0, 512 * min (4 * k.val + r.val - 1) 31, 0] := by
  have hk : k.val < 8 := k.isLt
  have hr := r.isLt
  rw [off2_eq, Nat.min_eq_left (by omega)]

theorem off3_slab (r : Fin 4) : k0_off3 k (BitVec.ofNat 32 r.val) = ![min (4 * k.val + r.val - 1) 31, 0, 0] := by
  have hk : k.val < 8 := k.isLt
  have hr := r.isLt
  rw [off3_eq, Nat.min_eq_left (by omega)]

/-- Rows of a staging buffer just written. -/
theorem readCov_rows {sp : Space} (v : View sig .tc sp S2048x512 .f32) (w G : Vec F S2048x512 .f32) (L : List (View.Piece (Elt F) S2048x512 .f32)) (o : ℕ)
    (inb : ∀ a, (![o, 0] : Fin 2 → ℕ) a + S512x512.size a ≤ S2048x512.size a) (h : w = G) :
    v.readCov (⟨Rect.unit ![0, 0] S2048x512.size inb_S2048x512_S2048x512_0_0, w⟩ :: L) (Rect.unit (s := S2048x512) ![o, 0] S512x512.size inb).toLoadRect
      = window (s := S2048x512) G ![o, 0] S512x512.size inb := by
  subst h
  exact congrArg (fun X => window (s := S2048x512) X ![o, 0] S512x512.size inb) (read_big v _ w L)

/-! ## The weights and the gradients of the scores, from the staged scores -/

theorem val_p0 : p0M.view.readCov (tripRun.sl.Hg0_4 c a0) (Rect.unit ![0, 0] S2048x512.size inb_S2048x512_S2048x512_0_0).toLoadRect
    = pOf (s0M.view.read (Elt F) a0) := by
  unfold View.readCov tripRun.sl.Hg0_4
  rw [readAt_big]
  refine read_rows _ _ _ _ _ _ _ _ ?_ ?_ ?_ ?_ <;> (try unfold tripRun.sl.r_2) <;> exact (shapeCast_self _ _).trans rfl

theorem val_e0 : e0M.view.readCov (tripRun.sl.Hh0_4 c a0 b0) (Rect.unit ![0, 0] S2048x512.size inb_S2048x512_S2048x512_0_0).toLoadRect
    = eOf (s0M.view.read (Elt F) a0) (d0M.view.read (Elt F) b0) := by
  unfold View.readCov tripRun.sl.Hh0_4
  rw [readAt_big]
  refine read_rows _ _ _ _ _ _ _ _ ?_ ?_ ?_ ?_ <;> exact (shapeCast_self _ _).trans rfl

/-- The four reads of the scores that a trip stages and uses itself, and of the products. -/
theorem sc_read (r : Fin 4) (inb) : k0_pay3 v2 (View.readAt (Elt F) arg3.view (Rect.unit (s := S1x16384x128) (k0_off1 k (BitVec.ofNat 32 r.val)) S1x512x128.size inb).toLoadRect f3)
    = scOf v2 (arg3.view.read (Elt F) f3) (4 * k.val + r.val + 1) :=
  congrArg (k0_pay3 v2) (read_chunk _ _ _ _ _ (k0_off1_eq k r))

theorem dp_read (r : Fin 4) (inb) : k0_pay4 v5 (View.readAt (Elt F) arg4.view (Rect.unit (s := S1x16384x128) (k0_off1 k (BitVec.ofNat 32 r.val)) S1x512x128.size inb).toLoadRect f4)
    = dpOf v5 (arg4.view.read (Elt F) f4) (4 * k.val + r.val + 1) :=
  congrArg (k0_pay4 v5) (read_chunk _ _ _ _ _ (k0_off1_eq k r))

/-! ## The rows of the staged scores and products -/

theorem rows_a11 (o : ℕ) (inb : ∀ a, (![o, 0] : Fin 2 → ℕ) a + S512x512.size a ≤ S2048x512.size a) :
    s1M.view.readCov (tripRun.sl.Ha1_1 c arg3 v2 k f3) (Rect.unit (s := S2048x512) ![o, 0] S512x512.size inb).toLoadRect
      = window (s := S2048x512) (scOf v2 (arg3.view.read (Elt F) f3) (4 * k.val + 1)) ![o, 0] S512x512.size inb :=
  readCov_rows _ _ _ _ _ _ (sc_read c arg3 v2 k f3 0 _)

theorem rows_b11 (o : ℕ) (inb : ∀ a, (![o, 0] : Fin 2 → ℕ) a + S512x512.size a ≤ S2048x512.size a) :
    d1M.view.readCov (tripRun.sl.Hb1_1 c arg4 v5 k f4) (Rect.unit (s := S2048x512) ![o, 0] S512x512.size inb).toLoadRect
      = window (s := S2048x512) (dpOf v5 (arg4.view.read (Elt F) f4) (4 * k.val + 1)) ![o, 0] S512x512.size inb :=
  readCov_rows _ _ _ _ _ _ (dp_read c arg4 v5 k f4 0 _)

theorem rows_a01 (o : ℕ) (inb : ∀ a, (![o, 0] : Fin 2 → ℕ) a + S512x512.size a ≤ S2048x512.size a) :
    s0M.view.readCov (tripRun.sl.Ha0_1 c arg3 v2 k f3) (Rect.unit (s := S2048x512) ![o, 0] S512x512.size inb).toLoadRect
      = window (s := S2048x512) (scOf v2 (arg3.view.read (Elt F) f3) (4 * k.val + 2)) ![o, 0] S512x512.size inb :=
  readCov_rows _ _ _ _ _ _ (sc_read c arg3 v2 k f3 1 _)

theorem rows_b01 (o : ℕ) (inb : ∀ a, (![o, 0] : Fin 2 → ℕ) a + S512x512.size a ≤ S2048x512.size a) :
    d0M.view.readCov (tripRun.sl.Hb0_1 c arg4 v5 k f4) (Rect.unit (s := S2048x512) ![o, 0] S512x512.size inb).toLoadRect
      = window (s := S2048x512) (dpOf v5 (arg4.view.read (Elt F) f4) (4 * k.val + 2)) ![o, 0] S512x512.size inb :=
  readCov_rows _ _ _ _ _ _ (dp_read c arg4 v5 k f4 1 _)

theorem rows_a12 (o : ℕ) (inb : ∀ a, (![o, 0] : Fin 2 → ℕ) a + S512x512.size a ≤ S2048x512.size a) :
    s1M.view.readCov (tripRun.sl.Ha1_2 c arg3 v2 k f3) (Rect.unit (s := S2048x512) ![o, 0] S512x512.size inb).toLoadRect
      = window (s := S2048x512) (scOf v2 (arg3.view.read (Elt F) f3) (4 * k.val + 3)) ![o, 0] S512x512.size inb :=
  readCov_rows _ _ _ _ _ _ (sc_read c arg3 v2 k f3 2 _)

theorem rows_b12 (o : ℕ) (inb : ∀ a, (![o, 0] : Fin 2 → ℕ) a + S512x512.size a ≤ S2048x512.size a) :
    d1M.view.readCov (tripRun.sl.Hb1_2 c arg4 v5 k f4) (Rect.unit (s := S2048x512) ![o, 0] S512x512.size inb).toLoadRect
      = window (s := S2048x512) (dpOf v5 (arg4.view.read (Elt F) f4) (4 * k.val + 3)) ![o, 0] S512x512.size inb :=
  readCov_rows _ _ _ _ _ _ (dp_read c arg4 v5 k f4 2 _)

/-! ## The weights and gradients of the scores that the steps use -/

section
attribute [local irreducible] scOf dpOf

theorem val_p1 : tripRun.sl.v375 c arg3 v2 k f3 = pOf (scOf v2 (arg3.view.read (Elt F) f3) (4 * k.val + 1)) := by
  unfold tripRun.sl.v375 View.readCov tripRun.sl.Hg1_4
  rw [readAt_big]
  refine read_rows _ _ _ _ _ _ _ _ ?_ ?_ ?_ ?_
  · rw [tripRun.sl.r_4, tripRun.sl.v199, rows_a11]
    exact (shapeCast_self _ _).trans rfl
  · rw [tripRun.sl.v212, rows_a11]
    exact (shapeCast_self _ _).trans rfl
  · rw [tripRun.sl.v225, rows_a11]
    exact (shapeCast_self _ _).trans rfl
  · rw [tripRun.sl.v238, rows_a11]
    exact (shapeCast_self _ _).trans rfl

theorem val_e1 : tripRun.sl.v360 c arg3 arg4 v2 v5 k f3 f4 = eOf (scOf v2 (arg3.view.read (Elt F) f3) (4 * k.val + 1)) (dpOf v5 (arg4.view.read (Elt F) f4) (4 * k.val + 1)) := by
  unfold tripRun.sl.v360 View.readCov tripRun.sl.Hh1_4
  rw [readAt_big]
  refine read_rows _ _ _ _ _ _ _ _ ?_ ?_ ?_ ?_
  · rw [tripRun.sl.r_4, tripRun.sl.v199, tripRun.sl.v206, rows_a11, rows_b11]
    exact (shapeCast_self _ _).trans rfl
  · rw [tripRun.sl.v212, tripRun.sl.v219, rows_a11, rows_b11]
    exact (shapeCast_self _ _).trans rfl
  · rw [tripRun.sl.r_5, tripRun.sl.v225, tripRun.sl.v232, rows_a11, rows_b11]
    exact (shapeCast_self _ _).trans rfl
  · rw [tripRun.sl.v238, tripRun.sl.v245, rows_a11, rows_b11]
    exact (shapeCast_self _ _).trans rfl

theorem val_p2 : tripRun.sl.v482 c arg3 v2 k f3 a0 = pOf (scOf v2 (arg3.view.read (Elt F) f3) (4 * k.val + 2)) := by
  unfold tripRun.sl.v482 View.readCov tripRun.sl.Hg0_8
  rw [readAt_big]
  refine read_rows _ _ _ _ _ _ _ _ ?_ ?_ ?_ ?_
  · rw [tripRun.sl.v306, rows_a01]
    exact (shapeCast_self _ _).trans rfl
  · rw [tripRun.sl.v319, rows_a01]
    exact (shapeCast_self _ _).trans rfl
  · rw [tripRun.sl.r_8, tripRun.sl.v332, rows_a01]
    exact (shapeCast_self _ _).trans rfl
  · rw [tripRun.sl.v345, rows_a01]
    exact (shapeCast_self _ _).trans rfl

theorem val_e2 : tripRun.sl.v467 c arg3 arg4 v2 v5 k f3 f4 a0 b0 = eOf (scOf v2 (arg3.view.read (Elt F) f3) (4 * k.val + 2)) (dpOf v5 (arg4.view.read (Elt F) f4) (4 * k.val + 2)) := by
  unfold tripRun.sl.v467 View.readCov tripRun.sl.Hh0_8
  rw [readAt_big]
  refine read_rows _ _ _ _ _ _ _ _ ?_ ?_ ?_ ?_
  · rw [tripRun.sl.v306, tripRun.sl.v313, rows_a01, rows_b01]
    exact (shapeCast_self _ _).trans rfl
  · rw [tripRun.sl.v319, tripRun.sl.v326, rows_a01, rows_b01]
    exact (shapeCast_self _ _).trans rfl
  · rw [tripRun.sl.r_8, tripRun.sl.v332, tripRun.sl.v339, rows_a01, rows_b01]
    exact (shapeCast_self _ _).trans rfl
  · rw [tripRun.sl.v345, tripRun.sl.v352, rows_a01, rows_b01]
    exact (shapeCast_self _ _).trans rfl

end

/-! ## The accumulators -/

variable (qx : Vec F S2048x128 .f32) (kx vx : Vec F S32x128x512 .f32)

/-- One more slab of `dk`. -/
theorem dk_step {q2 d2 : FVec F S2048x128 .bf16} {K V : Vec F S1x16384x128 .bf16} {x : Vec F S32x128x512 .f32} (n : ℕ) (off : Fin 3 → ℕ)
    (inb : ∀ a, off a + S1x128x512.size a ≤ S32x128x512.size a) (e : Vec F S2048x512 .bf16) (L : List (View.Piece (Elt F) S32x128x512 .f32))
    (hoff : off = ![min (n - 1) 31, 0, 0]) (hX : dkM.view.read (Elt F) (dkM.view.writes (Elt F) fk L) = dkAt q2 d2 v8 K V x n)
    (he : e = eeAt q2 d2 K V n) :
    dkM.view.read (Elt F) (dkM.view.writes (Elt F) fk (⟨Rect.unit (s := S32x128x512) off S1x128x512.size inb,
      k0_pay20 v8 e (dkM.view.readAt (Elt F) (Rect.unit (s := S32x128x512) off S1x128x512.size inb).toLoadRect (dkM.view.writes (Elt F) fk L))⟩ :: L))
      = dkAt q2 d2 v8 K V x (n + 1) := by
  rw [read_cons_slab _ _ _ (n - 1) inb _ _ hoff, read_slab _ _ _ (n - 1) inb hoff, hX, he]
  rfl

/-- One more slab of `dv`. -/
theorem dv_step {q2 : FVec F S2048x128 .bf16} {K : Vec F S1x16384x128 .bf16} {x : Vec F S32x128x512 .f32} (n : ℕ) (off : Fin 3 → ℕ)
    (inb : ∀ a, off a + S1x128x512.size a ≤ S32x128x512.size a) (e : Vec F S2048x512 .bf16) (L : List (View.Piece (Elt F) S32x128x512 .f32))
    (hoff : off = ![min (n - 1) 31, 0, 0]) (hX : dvM.view.read (Elt F) (dvM.view.writes (Elt F) fv L) = dvAt q2 v11 K x n)
    (he : e = ppAt q2 K n) :
    dvM.view.read (Elt F) (dvM.view.writes (Elt F) fv (⟨Rect.unit (s := S32x128x512) off S1x128x512.size inb,
      k0_pay19 v11 (dvM.view.readAt (Elt F) (Rect.unit (s := S32x128x512) off S1x128x512.size inb).toLoadRect (dvM.view.writes (Elt F) fv L)) e⟩ :: L))
      = dvAt q2 v11 K x (n + 1) := by
  rw [read_cons_slab _ _ _ (n - 1) inb _ _ hoff, read_slab _ _ _ (n - 1) inb hoff, hX, he]
  rfl

/-- One more term of `dq`. -/
theorem dq_step {q2 d2 : FVec F S2048x128 .bf16} {V : Vec F S1x16384x128 .bf16} (n : ℕ) (off : Fin 3 → ℕ)
    (inb : ∀ a, off a + S1x512x128.size a ≤ S1x16384x128.size a) (e : Vec F S2048x512 .bf16) (X : Vec F S2048x128 .f32)
    (L : List (View.Piece (Elt F) S2048x128 .f32))
    (hoff : off = ![0, 512 * min (n - 1) 31, 0]) (hX : X = dqAt q2 d2 (arg3.view.read (Elt F) f3) V n) (he : e = eeAt q2 d2 (arg3.view.read (Elt F) f3) V n) :
    dqM.view.read (Elt F) (dqM.view.writes (Elt F) fq (⟨Rect.unit ![0, 0] S2048x128.size inb_S2048x128_S2048x128_0_0,
      k0_pay18 e X (arg3.view.readAt (Elt F) (Rect.unit (s := S1x16384x128) off S1x512x128.size inb).toLoadRect f3)⟩ :: L))
      = dqAt q2 d2 (arg3.view.read (Elt F) f3) V (n + 1) := by
  rw [read_dq, read_chunk _ _ _ (n - 1) inb hoff, hX, he]
  rfl

/-- The staged arrays and the accumulators are those of the recursion before step `n`. -/
structure Holds (q2 d2 : FVec F S2048x128 .bf16) (qT dT : FVec F S128x2048 .bf16) (K V : Vec F S1x16384x128 .bf16) (kx vx : Vec F S32x128x512 .f32)
    (n : ℕ) (st : St (F := F) c) : Prop where
  s0 : s0M.view.read (Elt F) st.s0 = scOf q2 K n
  d0 : d0M.view.read (Elt F) st.d0 = dpOf d2 V n
  p1 : p1M.view.read (Elt F) st.p1 = ppAt q2 K n
  e1 : e1M.view.read (Elt F) st.e1 = eeAt q2 d2 K V n
  dq : dqM.view.read (Elt F) st.dq = dqAt q2 d2 K V n
  dk : dkM.view.read (Elt F) st.dk = dkAt q2 d2 qT K V kx n
  dv : dvM.view.read (Elt F) st.dv = dvAt q2 dT K vx n

section
attribute [local irreducible] scOf dpOf pOf eOf

variable {kx vx} {st : St (F := F) c}

theorem val_q1 (h : Holds c v2 v5 v8 v11 (arg3.view.read (Elt F) f3) (arg4.view.read (Elt F) f4) kx vx (4 * k.val) st) :
    dqM.view.read (Elt F) (dqM.view.writes (Elt F) st.dq (tripRun.sl.Hq_1 c arg3 k f3 st.dq st.e1)) = dqAt v2 v5 (arg3.view.read (Elt F) f3) (arg4.view.read (Elt F) f4) (4 * k.val + 1) :=
  dq_step c arg3 f3 st.dq (4 * k.val) _ _ _ _ _ (off2_chunk k 0) ((readAt_dq _ _).trans h.dq) ((readAt_big _ _).trans h.e1)

theorem val_q2 (h : Holds c v2 v5 v8 v11 (arg3.view.read (Elt F) f3) (arg4.view.read (Elt F) f4) kx vx (4 * k.val) st) :
    dqM.view.read (Elt F) (dqM.view.writes (Elt F) st.dq (tripRun.sl.Hq_2 c arg3 k f3 st.dq st.s0 st.d0 st.e1)) = dqAt v2 v5 (arg3.view.read (Elt F) f3) (arg4.view.read (Elt F) f4) (4 * k.val + 2) :=
  dq_step c arg3 f3 st.dq (4 * k.val + 1) _ _ _ _ _ (off2_chunk k 1)
    (by unfold tripRun.sl.v254 View.readCov; rw [readAt_dq]; unfold tripRun.sl.Hq_1; rw [read_dq]; exact (read_dq dqM.view st.dq _ []).symm.trans (val_q1 c arg3 arg4 v2 v5 v8 v11 k f3 f4 h))
    (by unfold tripRun.sl.v253; rw [val_e0, h.s0, h.d0]; rfl)

theorem val_q3 (h : Holds c v2 v5 v8 v11 (arg3.view.read (Elt F) f3) (arg4.view.read (Elt F) f4) kx vx (4 * k.val) st) :
    dqM.view.read (Elt F) (dqM.view.writes (Elt F) st.dq (tripRun.sl.Hq_3 c arg3 arg4 v2 v5 k f3 f4 st.dq st.s0 st.d0 st.e1)) = dqAt v2 v5 (arg3.view.read (Elt F) f3) (arg4.view.read (Elt F) f4) (4 * k.val + 3) :=
  dq_step c arg3 f3 st.dq (4 * k.val + 2) _ _ _ _ _ (off2_chunk k 2)
    (by unfold tripRun.sl.v361 View.readCov; rw [readAt_dq]; unfold tripRun.sl.Hq_2; rw [read_dq]; exact (read_dq dqM.view st.dq _ _).symm.trans (val_q2 c arg3 arg4 v2 v5 v8 v11 k f3 f4 h))
    (by rw [val_e1]; rfl)

end

end Cert.KernelIdeal.Hand

end
-- ==== Proof.TripHolds.lean ====
/-
  A trip of the loop is four steps of the recursion, and the loop is 32.
-/
module

public import proofs.«01_k».proof.Proof.TripValue

@[expose] public section

set_option maxRecDepth 16384

noncomputable section

namespace Cert.KernelIdeal.Hand

open Cert.KernelIdeal Cert.KernelIdeal.Gen
open Idealize.ShloMosaic Idealize.ShloMosaic.TcCoe
open Idealize.ShloMosaic.VecWindow

variable {F : FTy → Type} [FloatOps F]

variable (c : Dev nD) (i : grid0.Coords)
  (arg2 : Memref sig .tc .vmem S4x512x128 .bf16) (harg2 : arg2.IsWhole)
  (arg3 : Memref sig .tc .vmem S1x16384x128 .bf16) (harg3 : arg3.IsWhole)
  (arg4 : Memref sig .tc .vmem S1x16384x128 .bf16) (harg4 : arg4.IsWhole)
  (arg5 : Memref sig .tc .vmem S4x512x128 .bf16) (harg5 : arg5.IsWhole)
  (arg6 : Memref sig .tc .vmem S4x512x128 .f32) (harg6 : arg6.IsWhole)
  (v2 v5 : FVec F S2048x128 .bf16) (v8 v11 : FVec F S128x2048 .bf16)
  (v29 : FVec F S2048x512 .f32) (v30 : Vec F S2048x512 .f32)
  (k : Fin k0_t1_loop.trips) (f3 : BufOf (F := F) c arg3) (f4 : BufOf (F := F) c arg4)
  {kx vx : Vec F S32x128x512 .f32} {st : St (F := F) c}

section
attribute [local irreducible] scOf dpOf

theorem val_k1 (h : Holds c v2 v5 v8 v11 (arg3.view.read (Elt F) f3) (arg4.view.read (Elt F) f4) kx vx (4 * k.val) st) :
    dkM.view.read (Elt F) (dkM.view.writes (Elt F) st.dk (tripRun.sl.Hk_1 c v8 k st.dk st.e1)) = dkAt v2 v5 v8 (arg3.view.read (Elt F) f3) (arg4.view.read (Elt F) f4) kx (4 * k.val + 1) :=
  dk_step c v8 st.dk (4 * k.val) _ _ _ [] (off3_slab k 0) h.dk ((readAt_big _ _).trans h.e1)

theorem val_k2 (h : Holds c v2 v5 v8 v11 (arg3.view.read (Elt F) f3) (arg4.view.read (Elt F) f4) kx vx (4 * k.val) st) :
    dkM.view.read (Elt F) (dkM.view.writes (Elt F) st.dk (tripRun.sl.Hk_2 c v8 k st.dk st.s0 st.d0 st.e1)) = dkAt v2 v5 v8 (arg3.view.read (Elt F) f3) (arg4.view.read (Elt F) f4) kx (4 * k.val + 2) :=
  dk_step c v8 st.dk (4 * k.val + 1) _ _ _ _ (off3_slab k 1) (val_k1 c arg3 arg4 v2 v5 v8 v11 k f3 f4 h)
    (by unfold tripRun.sl.v253; rw [val_e0, h.s0, h.d0]; rfl)

theorem val_k3 (h : Holds c v2 v5 v8 v11 (arg3.view.read (Elt F) f3) (arg4.view.read (Elt F) f4) kx vx (4 * k.val) st) :
    dkM.view.read (Elt F) (dkM.view.writes (Elt F) st.dk (tripRun.sl.Hk_3 c arg3 arg4 v2 v5 v8 k f3 f4 st.dk st.s0 st.d0 st.e1))
      = dkAt v2 v5 v8 (arg3.view.read (Elt F) f3) (arg4.view.read (Elt F) f4) kx (4 * k.val + 3) :=
  dk_step c v8 st.dk (4 * k.val + 2) _ _ _ _ (off3_slab k 2) (val_k2 c arg3 arg4 v2 v5 v8 v11 k f3 f4 h)
    (by rw [val_e1]; rfl)

theorem val_v1 (h : Holds c v2 v5 v8 v11 (arg3.view.read (Elt F) f3) (arg4.view.read (Elt F) f4) kx vx (4 * k.val) st) :
    dvM.view.read (Elt F) (dvM.view.writes (Elt F) st.dv (tripRun.sl.Hv_1 c v11 k st.dv st.p1)) = dvAt v2 v11 (arg3.view.read (Elt F) f3) vx (4 * k.val + 1) :=
  dv_step c v11 st.dv (4 * k.val) _ _ _ [] (off3_slab k 0) h.dv ((readAt_big _ _).trans h.p1)

theorem val_v2 (h : Holds c v2 v5 v8 v11 (arg3.view.read (Elt F) f3) (arg4.view.read (Elt F) f4) kx vx (4 * k.val) st) :
    dvM.view.read (Elt F) (dvM.view.writes (Elt F) st.dv (tripRun.sl.Hv_2 c v11 k st.dv st.s0 st.p1)) = dvAt v2 v11 (arg3.view.read (Elt F) f3) vx (4 * k.val + 2) :=
  dv_step c v11 st.dv (4 * k.val + 1) _ _ _ _ (off3_slab k 1) (val_v1 c arg3 arg4 v2 v5 v8 v11 k f3 f4 h)
    (by unfold tripRun.sl.v268; rw [val_p0, h.s0]; rfl)

theorem val_v3 (h : Holds c v2 v5 v8 v11 (arg3.view.read (Elt F) f3) (arg4.view.read (Elt F) f4) kx vx (4 * k.val) st) :
    dvM.view.read (Elt F) (dvM.view.writes (Elt F) st.dv (tripRun.sl.Hv_3 c arg3 v2 v11 k f3 st.dv st.s0 st.p1)) = dvAt v2 v11 (arg3.view.read (Elt F) f3) vx (4 * k.val + 3) :=
  dv_step c v11 st.dv (4 * k.val + 2) _ _ _ _ (off3_slab k 2) (val_v2 c arg3 arg4 v2 v5 v8 v11 k f3 f4 h)
    (by rw [val_p1]; rfl)

set_option maxHeartbeats 1000000 in
/-- A trip is four steps. -/
theorem holds_step (h : Holds c v2 v5 v8 v11 (arg3.view.read (Elt F) f3) (arg4.view.read (Elt F) f4) kx vx (4 * k.val) st) :
    Holds c v2 v5 v8 v11 (arg3.view.read (Elt F) f3) (arg4.view.read (Elt F) f4) kx vx (4 * k.val + 4)
      (stepSt c i arg2 harg2 arg3 harg3 arg4 harg4 arg5 harg5 arg6 harg6 v2 v5 v8 v11 v29 v30 f3 f4 k st) where
  s0 := by
    unfold stepSt tripOf; unfold tripRun; dsimp only []
    exact (read_big s0M.view st.s0 _ (tripRun.sl.Ha0_1 c arg3 v2 k f3)).trans (sc_read c arg3 v2 k f3 3 _)
  d0 := by
    unfold stepSt tripOf; unfold tripRun; dsimp only []
    exact (read_big d0M.view st.d0 _ (tripRun.sl.Hb0_1 c arg4 v5 k f4)).trans (dp_read c arg4 v5 k f4 3 _)
  p1 := by
    unfold stepSt tripOf; unfold tripRun; dsimp only []
    refine read_rows p1M.view st.p1 _ _ _ _ _ (tripRun.sl.Hg1_4 c arg3 v2 k f3) ?_ ?_ ?_ ?_
    · rw [tripRun.sl.v413, rows_a12]; exact (shapeCast_self _ _).trans rfl
    · rw [tripRun.sl.v426, rows_a12]; exact (shapeCast_self _ _).trans rfl
    · rw [tripRun.sl.v439, rows_a12]; exact (shapeCast_self _ _).trans rfl
    · rw [tripRun.sl.v452, rows_a12]; exact (shapeCast_self _ _).trans rfl
  e1 := by
    unfold stepSt tripOf; unfold tripRun; dsimp only []
    refine read_rows e1M.view st.e1 _ _ _ _ _ (tripRun.sl.Hh1_4 c arg3 arg4 v2 v5 k f3 f4) ?_ ?_ ?_ ?_
    · rw [tripRun.sl.v413, tripRun.sl.v420, rows_a12, rows_b12]; exact (shapeCast_self _ _).trans rfl
    · rw [tripRun.sl.r_11, tripRun.sl.v426, tripRun.sl.v433, rows_a12, rows_b12]; exact (shapeCast_self _ _).trans rfl
    · rw [tripRun.sl.v439, tripRun.sl.v446, rows_a12, rows_b12]; exact (shapeCast_self _ _).trans rfl
    · rw [tripRun.sl.v452, tripRun.sl.v459, rows_a12, rows_b12]; exact (shapeCast_self _ _).trans rfl
  dq := by
    unfold stepSt tripOf; unfold tripRun; dsimp only []
    exact dq_step c arg3 f3 st.dq (4 * k.val + 3) _ _ _ _ (tripRun.sl.Hq_3 c arg3 arg4 v2 v5 k f3 f4 st.dq st.s0 st.d0 st.e1) (off2_chunk k 3)
      (by unfold tripRun.sl.v468 View.readCov; rw [readAt_dq]; unfold tripRun.sl.Hq_3; rw [read_dq]; exact (read_dq dqM.view st.dq _ _).symm.trans (val_q3 c arg3 arg4 v2 v5 v8 v11 k f3 f4 h))
      (by rw [val_e2]; rfl)
  dk := by
    unfold stepSt tripOf; unfold tripRun; dsimp only []
    exact dk_step c v8 st.dk (4 * k.val + 3) _ _ _ _ (off3_slab k 3) (val_k3 c arg3 arg4 v2 v5 v8 v11 k f3 f4 h)
      (by rw [val_e2]; rfl)
  dv := by
    unfold stepSt tripOf; unfold tripRun; dsimp only []
    exact dv_step c v11 st.dv (4 * k.val + 3) _ _ _ _ (off3_slab k 3) (val_v3 c arg3 arg4 v2 v5 v8 v11 k f3 f4 h)
      (by rw [val_p2]; rfl)

end

/-- The loop from step `0` is 32 steps. -/
theorem holds_loop (h : Holds c v2 v5 v8 v11 (arg3.view.read (Elt F) f3) (arg4.view.read (Elt F) f4) kx vx 0 st) (n : ℕ) (hn : n ≤ 8) :
    Holds c v2 v5 v8 v11 (arg3.view.read (Elt F) f3) (arg4.view.read (Elt F) f4) kx vx (4 * n)
      (stAt c i arg2 harg2 arg3 harg3 arg4 harg4 arg5 harg5 arg6 harg6 v2 v5 v8 v11 v29 v30 f3 f4 st n) := by
  induction n with
  | zero => exact h
  | succ n ih =>
    have hn' : n < k0_t1_loop.trips := by rw [trips_eq]; omega
    rw [show n + 1 = (⟨n, hn'⟩ : Fin k0_t1_loop.trips).val + 1 from rfl, stAt_succ]
    exact holds_step c i arg2 harg2 arg3 harg3 arg4 harg4 arg5 harg5 arg6 harg6 v2 v5 v8 v11 v29 v30 ⟨n, hn'⟩ f3 f4 (ih (by omega))

end Cert.KernelIdeal.Hand

end
-- ==== Proof.Body.lean ====
/-
  The run of the kernel's body at one grid point: the first of a head's, one in the middle, and the last, which copies the two accumulators out.
-/
module

public import proofs.«01_k».proof.Proof.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg2 : Memref sig .tc .vmem S4x512x128 .bf16) (harg2 : arg2.IsWhole)
  (arg3 : Memref sig .tc .vmem S1x16384x128 .bf16) (harg3 : arg3.IsWhole)
  (arg4 : Memref sig .tc .vmem S1x16384x128 .bf16) (harg4 : arg4.IsWhole)
  (arg5 : Memref sig .tc .vmem S4x512x128 .bf16) (harg5 : arg5.IsWhole)
  (arg6 : Memref sig .tc .vmem S4x512x128 .f32) (harg6 : arg6.IsWhole)

/-- The kernel at its own scratch and results. -/
abbrev kernelAt : Prog (TpuEff nD τ sig (Elt F) Λ₀ .tc) PUnit :=
  cc0_flash_bwd (F := F) i arg2 harg2 arg3 harg3 arg4 harg4 arg5 harg5 arg6 harg6 dkH (Memref.isWhole_whole _) dvH (Memref.isWhole_whole _)
    dqM (Memref.isWhole_whole _) dkM (Memref.isWhole_whole _) dvM (Memref.isWhole_whole _)
    s0M (Memref.isWhole_whole _) s1M (Memref.isWhole_whole _) d0M (Memref.isWhole_whole _) d1M (Memref.isWhole_whole _)
    p0M (Memref.isWhole_whole _) p1M (Memref.isWhole_whole _) e0M (Memref.isWhole_whole _) e1M (Memref.isWhole_whole _)
    cc0_scratch11

/-- Whether the point is the first of its key head, which clears the accumulators. -/
abbrev condFirst (i : grid0.Coords) : BitVec 1 :=
  Scalar.cmpi .ne (Scalar.extui (Scalar.cmpi .eq (BitVec.ofNat 32 (i 1).val) 0#32) : BitVec 32) 0#32

/-- The buffers that a point's run reads at known contents: the four blocks, and the scratch `st`. -/
abbrev Blocks (f2 : BufOf (F := F) c arg2) (f3 : BufOf (F := F) c arg3) (f4 : BufOf (F := F) c arg4) (f5 : BufOf (F := F) c arg5) : sProp 𝕄 :=
  iprop(pt c arg2 f2 ∗ pt c arg3 f3 ∗ pt c arg4 f4 ∗ pt c arg5 f5)

/-- The staging buffers of the stages and the accumulator of `dq`, at anything. -/
abbrev Any : sProp 𝕄 :=
  iprop((∃ f, pt (F := F) c dqM f) ∗ (∃ f, pt (F := F) c s0M f) ∗ (∃ f, pt (F := F) c s1M f) ∗ (∃ f, pt (F := F) c d0M f)
    ∗ (∃ f, pt (F := F) c d1M f) ∗ (∃ f, pt (F := F) c p0M f) ∗ (∃ f, pt (F := F) c p1M f) ∗ (∃ f, pt (F := F) c e0M f) ∗ (∃ f, pt (F := F) c e1M f))

set_option maxHeartbeats 2000000 in
/-- The first point of a key head: what it leaves of the two accumulators, and what it stores into the block of `dq`. -/
def firstRun (h1 : condFirst i = 1#1) (h2 : ¬ k0_cond2 i = 1#1)
    (f2 : BufOf (F := F) c arg2) (f3 : BufOf (F := F) c arg3) (f4 : BufOf (F := F) c arg4) (f5 : BufOf (F := F) c arg5)
    (f6 : BufOf (F := F) c arg6) (st : St (F := F) c) :
    Σ' (fk : BufOf (F := F) c dkM) (fv : BufOf (F := F) c dvM),
    { L6 : List (View.Piece (Elt F) S4x512x128 .f32) //
      iprop(Blocks c arg2 arg3 arg4 arg5 f2 f3 f4 f5 ∗ pt c arg6 f6 ∗ pt c dqM st.dq ∗ pt c dkM st.dk ∗ pt c dvM st.dv ∗ pt c s0M st.s0
          ∗ pt c s1M st.s1 ∗ pt c d0M st.d0 ∗ pt c d1M st.d1 ∗ pt c p0M st.p0 ∗ pt c p1M st.p1 ∗ pt c e0M st.e0 ∗ pt c e1M st.e1)
        ⊢ wp frame (wpE (defs₀ (F := F)) Variants.none c none) Set.univ
            (kernelAt i arg2 harg2 arg3 harg3 arg4 harg4 arg5 harg5 arg6 harg6)
            (fun _ => iprop(Blocks c arg2 arg3 arg4 arg5 f2 f3 f4 f5 ∗ pt c arg6 (arg6.view.writes (Elt F) f6 L6)
              ∗ pt c dkM fk ∗ pt c dvM fv ∗ Any (F := F) c)) } := by
  refine ⟨?_, ?_, ?_, ?run⟩
  case run =>
    unfold kernelAt
    simp only [cc0_flash_bwd_eq_skeleton]; unfold cc0_flash_bwd_skel
    iintro ⟨⟨H2, H3, H4, H5⟩, H6, Hq, Hk, Hv, Ha0, Ha1, Hb0, Hb1, Hg0, Hg1, Hh0, Hh1⟩
    sl_exec
    sl_step
    sl_close

set_option maxHeartbeats 2000000 in
/-- A point in the middle: what it leaves of the two accumulators, and what it stores into the block of `dq`. -/
def midRun (h1 : ¬ condFirst i = 1#1) (h2 : ¬ k0_cond2 i = 1#1)
    (f2 : BufOf (F := F) c arg2) (f3 : BufOf (F := F) c arg3) (f4 : BufOf (F := F) c arg4) (f5 : BufOf (F := F) c arg5)
    (f6 : BufOf (F := F) c arg6) (st : St (F := F) c) :
    Σ' (fk : BufOf (F := F) c dkM) (fv : BufOf (F := F) c dvM),
    { L6 : List (View.Piece (Elt F) S4x512x128 .f32) //
      iprop(Blocks c arg2 arg3 arg4 arg5 f2 f3 f4 f5 ∗ pt c arg6 f6 ∗ pt c dqM st.dq ∗ pt c dkM st.dk ∗ pt c dvM st.dv ∗ pt c s0M st.s0
          ∗ pt c s1M st.s1 ∗ pt c d0M st.d0 ∗ pt c d1M st.d1 ∗ pt c p0M st.p0 ∗ pt c p1M st.p1 ∗ pt c e0M st.e0 ∗ pt c e1M st.e1)
        ⊢ wp frame (wpE (defs₀ (F := F)) Variants.none c none) Set.univ
            (kernelAt i arg2 harg2 arg3 harg3 arg4 harg4 arg5 harg5 arg6 harg6)
            (fun _ => iprop(Blocks c arg2 arg3 arg4 arg5 f2 f3 f4 f5 ∗ pt c arg6 (arg6.view.writes (Elt F) f6 L6)
              ∗ pt c dkM fk ∗ pt c dvM fv ∗ Any (F := F) c)) } := by
  refine ⟨?_, ?_, ?_, ?run⟩
  case run =>
    unfold kernelAt
    simp only [cc0_flash_bwd_eq_skeleton]; unfold cc0_flash_bwd_skel
    iintro ⟨⟨H2, H3, H4, H5⟩, H6, Hq, Hk, Hv, Ha0, Ha1, Hb0, Hb1, Hg0, Hg1, Hh0, Hh1⟩
    sl_exec
    sl_step
    sl_close

set_option maxHeartbeats 2000000 in
/-- The last point of a key head: what it leaves of the two accumulators, what it stores into the block of `dq`, and the two
    results in HBM with the accumulators copied in. -/
def lastRun (h1 : ¬ condFirst i = 1#1) (h2 : k0_cond2 i = 1#1)
    (f2 : BufOf (F := F) c arg2) (f3 : BufOf (F := F) c arg3) (f4 : BufOf (F := F) c arg4) (f5 : BufOf (F := F) c arg5)
    (f6 : BufOf (F := F) c arg6) (st : St (F := F) c) (hk : BufOf (F := F) c dkH) (hv : BufOf (F := F) c dvH) :
    Σ' (fk : BufOf (F := F) c dkM) (fv : BufOf (F := F) c dvM) (hk' : BufOf (F := F) c dkH) (hv' : BufOf (F := F) c dvH),
    { L6 : List (View.Piece (Elt F) S4x512x128 .f32) //
      ∀ (W : Waits sig Unit),
      iprop(Blocks c arg2 arg3 arg4 arg5 f2 f3 f4 f5 ∗ pt c arg6 f6 ∗ pt c dqM st.dq ∗ pt c dkM st.dk ∗ pt c dvM st.dv ∗ pt c s0M st.s0
          ∗ pt c s1M st.s1 ∗ pt c d0M st.d0 ∗ pt c d1M st.d1 ∗ pt c p0M st.p0 ∗ pt c p1M st.p1 ∗ pt c e0M st.e0 ∗ pt c e1M st.e1
          ∗ pt c dkH hk ∗ pt c dvH hv ∗ semVal ((c : Thread nD τ), SemLoc.dma 8) 0 ∗ semVal ((c : Thread nD τ), SemLoc.dma 9) 0
          ∗ owes (c : Thread nD τ) 0 W)
        ⊢ wp frame (wpE (defs₀ (F := F)) Variants.none c none) Set.univ
            (kernelAt i arg2 harg2 arg3 harg3 arg4 harg4 arg5 harg5 arg6 harg6)
            (fun _ => iprop(Blocks c arg2 arg3 arg4 arg5 f2 f3 f4 f5 ∗ pt c arg6 (arg6.view.writes (Elt F) f6 L6)
              ∗ pt c dkM fk ∗ pt c dvM fv ∗ Any (F := F) c
              ∗ pt c dkH hk' ∗ pt c dvH hv' ∗ semVal ((c : Thread nD τ), SemLoc.dma 8) 0 ∗ semVal ((c : Thread nD τ), SemLoc.dma 9) 0
              ∗ ∃ W', owes (c : Thread nD τ) 0 W')) } := by
  refine ⟨?_, ?_, ?_, ?_, ?_, fun W => ?run⟩
  case run =>
    unfold kernelAt
    simp only [cc0_flash_bwd_eq_skeleton]; unfold cc0_flash_bwd_skel
    iintro ⟨⟨H2, H3, H4, H5⟩, H6, Hq, Hk, Hv, Ha0, Ha1, Hb0, Hb1, Hg0, Hg1, Hh0, Hh1, Hhk, Hhv, Hs0, Hs1, HW⟩
    sl_exec
    sl_step
    sl_close

end Cert.KernelIdeal.Hand

end
-- ==== Proof.PointValue.lean ====
/-
  What the run of one point leaves, as the recursion over its chunks.
-/
module

public import proofs.«01_k».proof.Proof.TripHolds
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe
open Idealize.ShloMosaic.VecWindow

variable {F : FTy → Type} [FloatOps F]

variable (c : Dev nD) (i : grid0.Coords)
  (arg2 : Memref sig .tc .vmem S4x512x128 .bf16) (harg2 : arg2.IsWhole)
  (arg3 : Memref sig .tc .vmem S1x16384x128 .bf16) (harg3 : arg3.IsWhole)
  (arg4 : Memref sig .tc .vmem S1x16384x128 .bf16) (harg4 : arg4.IsWhole)
  (arg5 : Memref sig .tc .vmem S4x512x128 .bf16) (harg5 : arg5.IsWhole)
  (arg6 : Memref sig .tc .vmem S4x512x128 .f32) (harg6 : arg6.IsWhole)

/-! ## A point's results -/

/-- The block of `dq` of a point, of its blocks of `q` and `do` and its head's `k` and `v`. -/
def dqPt (Q D : Vec F S4x512x128 .bf16) (K V : Vec F S1x16384x128 .bf16) : Vec F S4x512x128 .f32 :=
  k0_pay2 (dqAt (k0_pay77 Q) (k0_pay78 D) K V 33)
/-- The accumulator of `dk` after a point, from `x` before it. -/
def dkPt (Q D : Vec F S4x512x128 .bf16) (K V : Vec F S1x16384x128 .bf16) (x : Vec F S32x128x512 .f32) : Vec F S32x128x512 .f32 :=
  dkAt (k0_pay77 Q) (k0_pay78 D) (k0_pay79 Q) K V x 33
/-- The accumulator of `dv` after a point, from `x` before it. -/
def dvPt (Q D : Vec F S4x512x128 .bf16) (K : Vec F S1x16384x128 .bf16) (x : Vec F S32x128x512 .f32) : Vec F S32x128x512 .f32 :=
  dvAt (k0_pay77 Q) (k0_pay80 D) K x 33

section
attribute [local irreducible] scOf dpOf

variable {q2 d2 : FVec F S2048x128 .bf16} {qT dT : FVec F S128x2048 .bf16} {V : Vec F S1x16384x128 .bf16} {kx vx : Vec F S32x128x512 .f32} {T : St (F := F) c}
  (f3 : BufOf (F := F) c arg3)

theorem fin_k {K : Vec F S1x16384x128 .bf16} (h : Holds c q2 d2 qT dT K V kx vx 32 T) :
    dkM.view.read (Elt F) (dkM.view.writes (Elt F) T.dk [⟨Rect.unit ![31, 0, 0] S1x128x512.size inb_S32x128x512_S1x128x512_31_0_0,
      k0_pay1 qT (e1M.view.readAt (Elt F) (Rect.unit ![0, 0] S2048x512.size inb_S2048x512_S2048x512_0_0).toLoadRect T.e1)
        (dkM.view.readAt (Elt F) (Rect.unit (s := S32x128x512) ![31, 0, 0] S1x128x512.size inb_S32x128x512_S1x128x512_31_0_0).toLoadRect T.dk)⟩])
      = dkAt q2 d2 qT K V kx 33 :=
  dk_step c qT T.dk 32 _ _ _ [] rfl h.dk ((readAt_big _ _).trans h.e1)

theorem fin_v {K : Vec F S1x16384x128 .bf16} (h : Holds c q2 d2 qT dT K V kx vx 32 T) :
    dvM.view.read (Elt F) (dvM.view.writes (Elt F) T.dv [⟨Rect.unit ![31, 0, 0] S1x128x512.size inb_S32x128x512_S1x128x512_31_0_0,
      k0_pay90 dT (dvM.view.readAt (Elt F) (Rect.unit (s := S32x128x512) ![31, 0, 0] S1x128x512.size inb_S32x128x512_S1x128x512_31_0_0).toLoadRect T.dv)
        (p1M.view.readAt (Elt F) (Rect.unit ![0, 0] S2048x512.size inb_S2048x512_S2048x512_0_0).toLoadRect T.p1)⟩])
      = dvAt q2 dT K vx 33 :=
  dv_step c dT T.dv 32 _ _ _ [] rfl h.dv ((readAt_big _ _).trans h.p1)

theorem fin_q (h : Holds c q2 d2 qT dT (arg3.view.read (Elt F) f3) V kx vx 32 T) :
    dqM.view.readCov [⟨Rect.unit ![0, 0] S2048x128.size inb_S2048x128_S2048x128_0_0,
      k0_pay89 (e1M.view.readAt (Elt F) (Rect.unit ![0, 0] S2048x512.size inb_S2048x512_S2048x512_0_0).toLoadRect T.e1)
        (dqM.view.readAt (Elt F) (Rect.unit ![0, 0] S2048x128.size inb_S2048x128_S2048x128_0_0).toLoadRect T.dq)
        (arg3.view.readAt (Elt F) (Rect.unit (s := S1x16384x128) ![0, 15872, 0] S1x512x128.size inb_S1x16384x128_S1x512x128_0_15872_0).toLoadRect f3)⟩]
      (Rect.unit ![0, 0] S2048x128.size inb_S2048x128_S2048x128_0_0).toLoadRect
      = dqAt q2 d2 (arg3.view.read (Elt F) f3) V 33 :=
  (readAt_dq _ _).trans (dq_step c arg3 f3 dqM.view.junk 32 _ _ _ _ [] rfl ((readAt_dq _ _).trans h.dq) ((readAt_big _ _).trans h.e1))

end

variable (f2 : BufOf (F := F) c arg2) (f3 : BufOf (F := F) c arg3) (f4 : BufOf (F := F) c arg4) (f5 : BufOf (F := F) c arg5)
    (f6 : BufOf (F := F) c arg6) (st : St (F := F) c)

theorem readAt_q {sp : Space} (v : View sig .tc sp S4x512x128 .bf16) (f : v.ty.Contents (Elt F)) :
    v.readAt (Elt F) (Rect.unit ![0, 0, 0] S4x512x128.size inb_S4x512x128_S4x512x128_0_0_0).toLoadRect f = v.read (Elt F) f :=
  View.readAt_full v f _

theorem read_q {sp : Space} (v : View sig .tc sp S4x512x128 .f32) (f : v.ty.Contents (Elt F)) (w : Vec F S4x512x128 .f32) :
    v.read (Elt F) (v.writes (Elt F) f [⟨Rect.unit ![0, 0, 0] S4x512x128.size inb_S4x512x128_S4x512x128_0_0_0, w⟩]) = w :=
  View.read_writes_full v f _ w []

theorem read_acc {sp : Space} (v : View sig .tc sp S32x128x512 .f32) (f : v.ty.Contents (Elt F)) (w : Vec F S32x128x512 .f32) :
    v.read (Elt F) (v.writes (Elt F) f [⟨Rect.unit ![0, 0, 0] S32x128x512.size inb_S32x128x512_S32x128x512_0_0_0, w⟩]) = w :=
  View.read_writes_full v f _ w []

theorem dkAt_zero {q2 d2 : FVec F S2048x128 .bf16} {qT : FVec F S128x2048 .bf16} {K V : Vec F S1x16384x128 .bf16} {x : Vec F S32x128x512 .f32} :
    dkAt q2 d2 qT K V x 0 = x := rfl
theorem dvAt_zero {q2 : FVec F S2048x128 .bf16} {dT : FVec F S128x2048 .bf16} {K : Vec F S1x16384x128 .bf16} {x : Vec F S32x128x512 .f32} :
    dvAt q2 dT K x 0 = x := rfl

theorem s0_start {sp : Space} (Q : Vec F S4x512x128 .bf16) (v : View sig .tc sp S1x16384x128 .bf16) (f : v.ty.Contents (Elt F)) :
    k0_pay87 (k0_pay86 Q (v.readAt (Elt F) (Rect.unit (s := S1x16384x128) ![0, 0, 0] S1x512x128.size inb_S1x16384x128_S1x512x128_0_0_0).toLoadRect f))
      = scOf (k0_pay77 Q) (v.read (Elt F) f) 0 := by
  rw [read_chunk v f ![0, 0, 0] 0 _ rfl]
  rfl

theorem d0_start {sp : Space} (d2 : FVec F S2048x128 .bf16) (v : View sig .tc sp S1x16384x128 .bf16) (f : v.ty.Contents (Elt F)) :
    k0_pay88 d2 (v.readAt (Elt F) (Rect.unit (s := S1x16384x128) ![0, 0, 0] S1x512x128.size inb_S1x16384x128_S1x512x128_0_0_0).toLoadRect f)
      = dpOf d2 (v.read (Elt F) f) 0 := by
  rw [read_chunk v f ![0, 0, 0] 0 _ rfl]
  rfl

/-! ## A middle point -/

/-- The scratch with which a middle point enters its loop. -/
def midIn : St (F := F) c :=
  { dq := dqM.view.writes (Elt F) dqM.view.junk midRun.sl.Hq_1, dk := st.dk, dv := st.dv,
    s0 := s0M.view.writes (Elt F) s0M.view.junk (midRun.sl.Ha0_1 c arg2 arg3 f2 f3), s1 := st.s1,
    d0 := d0M.view.writes (Elt F) d0M.view.junk (midRun.sl.Hb0_1 c arg4 arg5 f4 f5), d1 := st.d1, p0 := st.p0,
    p1 := p1M.view.writes (Elt F) p1M.view.junk midRun.sl.Hg1_1, e0 := st.e0,
    e1 := e1M.view.writes (Elt F) e1M.view.junk midRun.sl.Hh1_1 }

theorem mid_zero :
    Holds c (midRun.sl.r c arg2 f2) (midRun.sl.r_1 c arg5 f5) (midRun.sl.r_2 c arg2 f2) (midRun.sl.r_3 c arg5 f5)
      (arg3.view.read (Elt F) f3) (arg4.view.read (Elt F) f4) (dkM.view.read (Elt F) st.dk) (dvM.view.read (Elt F) st.dv) 0 (midIn c arg2 arg3 arg4 arg5 f2 f3 f4 f5 st) where
  s0 := by unfold midIn midRun.sl.Ha0_1 midRun.sl.r_4 midRun.sl.r; rw [read_big]; exact s0_start _ _ _
  d0 := by unfold midIn midRun.sl.Hb0_1; rw [read_big]; exact d0_start _ _ _
  p1 := by unfold midIn midRun.sl.Hg1_1; rw [read_big]; rfl
  e1 := by unfold midIn midRun.sl.Hh1_1; rw [read_big]; rfl
  dq := by unfold midIn midRun.sl.Hq_1; rw [read_dq]; rfl
  dk := by unfold midIn; rw [dkAt_zero]
  dv := by unfold midIn; rw [dvAt_zero]

section
attribute [local irreducible] scOf dpOf stAt

/-- The scratch with which it leaves it. -/
abbrev midOut : St (F := F) c :=
  stAt c i arg2 harg2 arg3 harg3 arg4 harg4 arg5 harg5 arg6 harg6 (midRun.sl.r c arg2 f2) (midRun.sl.r_1 c arg5 f5) (midRun.sl.r_2 c arg2 f2) (midRun.sl.r_3 c arg5 f5) (midRun.sl.r_4 c arg2 arg3 f2 f3) (midRun.sl.r_5 c st)
    f3 f4 (midIn c arg2 arg3 arg4 arg5 f2 f3 f4 f5 st) 8

theorem mid_end :
    Holds c (midRun.sl.r c arg2 f2) (midRun.sl.r_1 c arg5 f5) (midRun.sl.r_2 c arg2 f2) (midRun.sl.r_3 c arg5 f5)
      (arg3.view.read (Elt F) f3) (arg4.view.read (Elt F) f4) (dkM.view.read (Elt F) st.dk) (dvM.view.read (Elt F) st.dv) 32 (midOut c i arg2 harg2 arg3 harg3 arg4 harg4 arg5 harg5 arg6 harg6 f2 f3 f4 f5 st) :=
  holds_loop c i arg2 harg2 arg3 harg3 arg4 harg4 arg5 harg5 arg6 harg6 _ _ _ _ _ _ f3 f4 (mid_zero c arg2 arg3 arg4 arg5 f2 f3 f4 f5 st) 8 le_rfl

theorem mid_k (h1 : ¬ condFirst i = 1#1) (h2 : ¬ k0_cond2 i = 1#1) :
    dkM.view.read (Elt F) (midRun c i arg2 harg2 arg3 harg3 arg4 harg4 arg5 harg5 arg6 harg6 h1 h2 f2 f3 f4 f5 f6 st).1 = dkPt (arg2.view.read (Elt F) f2) (arg5.view.read (Elt F) f5) (arg3.view.read (Elt F) f3) (arg4.view.read (Elt F) f4) (dkM.view.read (Elt F) st.dk) := by
  have h := fin_k c (mid_end c i arg2 harg2 arg3 harg3 arg4 harg4 arg5 harg5 arg6 harg6 f2 f3 f4 f5 st)
  rw [dkPt, ← readAt_q arg2.view f2, ← readAt_q arg5.view f5]
  refine Eq.trans ?_ h
  unfold midRun
  dsimp only []
  unfold midRun.sl.v40 midRun.sl.v57
  rfl

theorem mid_v (h1 : ¬ condFirst i = 1#1) (h2 : ¬ k0_cond2 i = 1#1) :
    dvM.view.read (Elt F) (midRun c i arg2 harg2 arg3 harg3 arg4 harg4 arg5 harg5 arg6 harg6 h1 h2 f2 f3 f4 f5 f6 st).2.1 = dvPt (arg2.view.read (Elt F) f2) (arg5.view.read (Elt F) f5) (arg3.view.read (Elt F) f3) (dvM.view.read (Elt F) st.dv) := by
  have h := fin_v c (mid_end c i arg2 harg2 arg3 harg3 arg4 harg4 arg5 harg5 arg6 harg6 f2 f3 f4 f5 st)
  rw [dvPt, ← readAt_q arg2.view f2, ← readAt_q arg5.view f5]
  refine Eq.trans ?_ h
  unfold midRun
  dsimp only []
  unfold midRun.sl.v49 midRun.sl.v51
  rfl

theorem mid_q (h1 : ¬ condFirst i = 1#1) (h2 : ¬ k0_cond2 i = 1#1) :
    arg6.view.read (Elt F) (arg6.view.writes (Elt F) f6 (midRun c i arg2 harg2 arg3 harg3 arg4 harg4 arg5 harg5 arg6 harg6 h1 h2 f2 f3 f4 f5 f6 st).2.2.1)
      = dqPt (arg2.view.read (Elt F) f2) (arg5.view.read (Elt F) f5) (arg3.view.read (Elt F) f3) (arg4.view.read (Elt F) f4) := by
  have h := fin_q c arg3 f3 (mid_end c i arg2 harg2 arg3 harg3 arg4 harg4 arg5 harg5 arg6 harg6 f2 f3 f4 f5 st)
  rw [dqPt, ← readAt_q arg2.view f2, ← readAt_q arg5.view f5]
  unfold midRun
  dsimp only []
  refine (read_q _ _ _).trans (congrArg k0_pay2 (Eq.trans ?_ h))
  unfold midRun.sl.v64 midRun.sl.Hq_1_1 midRun.sl.v40 midRun.sl.v41
  rfl

end

/-! ## The first point -/

/-- The scratch with which the first point enters its loop. -/
def firstIn : St (F := F) c :=
  { dq := dqM.view.writes (Elt F) dqM.view.junk firstRun.sl.Hq_1, dk := dkM.view.writes (Elt F) dkM.view.junk firstRun.sl.Hk_1, dv := dvM.view.writes (Elt F) dvM.view.junk firstRun.sl.Hv_1,
    s0 := s0M.view.writes (Elt F) s0M.view.junk (firstRun.sl.Ha0_1 c arg2 arg3 f2 f3), s1 := st.s1,
    d0 := d0M.view.writes (Elt F) d0M.view.junk (firstRun.sl.Hb0_1 c arg4 arg5 f4 f5), d1 := st.d1, p0 := st.p0,
    p1 := p1M.view.writes (Elt F) p1M.view.junk firstRun.sl.Hg1_1, e0 := st.e0,
    e1 := e1M.view.writes (Elt F) e1M.view.junk firstRun.sl.Hh1_1 }

theorem first_zero :
    Holds c (firstRun.sl.r c arg2 f2) (firstRun.sl.r_1 c arg5 f5) (firstRun.sl.r_2 c arg2 f2) (firstRun.sl.r_3 c arg5 f5)
      (arg3.view.read (Elt F) f3) (arg4.view.read (Elt F) f4) k0_pay82 k0_pay83 0 (firstIn c arg2 arg3 arg4 arg5 f2 f3 f4 f5 st) where
  s0 := by unfold firstIn firstRun.sl.Ha0_1 firstRun.sl.r_4 firstRun.sl.r; rw [read_big]; exact s0_start _ _ _
  d0 := by unfold firstIn firstRun.sl.Hb0_1; rw [read_big]; exact d0_start _ _ _
  p1 := by unfold firstIn firstRun.sl.Hg1_1; rw [read_big]; rfl
  e1 := by unfold firstIn firstRun.sl.Hh1_1; rw [read_big]; rfl
  dq := by unfold firstIn firstRun.sl.Hq_1; rw [read_dq]; rfl
  dk := by unfold firstIn firstRun.sl.Hk_1; rw [dkAt_zero, read_acc]
  dv := by unfold firstIn firstRun.sl.Hv_1; rw [dvAt_zero, read_acc]

section
attribute [local irreducible] scOf dpOf stAt

/-- The scratch with which it leaves it. -/
abbrev firstOut : St (F := F) c :=
  stAt c i arg2 harg2 arg3 harg3 arg4 harg4 arg5 harg5 arg6 harg6 (firstRun.sl.r c arg2 f2) (firstRun.sl.r_1 c arg5 f5) (firstRun.sl.r_2 c arg2 f2) (firstRun.sl.r_3 c arg5 f5) (firstRun.sl.r_4 c arg2 arg3 f2 f3) (firstRun.sl.r_5 c st)
    f3 f4 (firstIn c arg2 arg3 arg4 arg5 f2 f3 f4 f5 st) 8

theorem first_end :
    Holds c (firstRun.sl.r c arg2 f2) (firstRun.sl.r_1 c arg5 f5) (firstRun.sl.r_2 c arg2 f2) (firstRun.sl.r_3 c arg5 f5)
      (arg3.view.read (Elt F) f3) (arg4.view.read (Elt F) f4) k0_pay82 k0_pay83 32 (firstOut c i arg2 harg2 arg3 harg3 arg4 harg4 arg5 harg5 arg6 harg6 f2 f3 f4 f5 st) :=
  holds_loop c i arg2 harg2 arg3 harg3 arg4 harg4 arg5 harg5 arg6 harg6 _ _ _ _ _ _ f3 f4 (first_zero c arg2 arg3 arg4 arg5 f2 f3 f4 f5 st) 8 le_rfl

theorem first_k (h1 : condFirst i = 1#1) (h2 : ¬ k0_cond2 i = 1#1) :
    dkM.view.read (Elt F) (firstRun c i arg2 harg2 arg3 harg3 arg4 harg4 arg5 harg5 arg6 harg6 h1 h2 f2 f3 f4 f5 f6 st).1 = dkPt (arg2.view.read (Elt F) f2) (arg5.view.read (Elt F) f5) (arg3.view.read (Elt F) f3) (arg4.view.read (Elt F) f4) k0_pay82 := by
  have h := fin_k c (first_end c i arg2 harg2 arg3 harg3 arg4 harg4 arg5 harg5 arg6 harg6 f2 f3 f4 f5 st)
  rw [dkPt, ← readAt_q arg2.view f2, ← readAt_q arg5.view f5]
  refine Eq.trans ?_ h
  unfold firstRun
  dsimp only []
  unfold firstRun.sl.v40 firstRun.sl.v57
  rfl

theorem first_v (h1 : condFirst i = 1#1) (h2 : ¬ k0_cond2 i = 1#1) :
    dvM.view.read (Elt F) (firstRun c i arg2 harg2 arg3 harg3 arg4 harg4 arg5 harg5 arg6 harg6 h1 h2 f2 f3 f4 f5 f6 st).2.1 = dvPt (arg2.view.read (Elt F) f2) (arg5.view.read (Elt F) f5) (arg3.view.read (Elt F) f3) k0_pay83 := by
  have h := fin_v c (first_end c i arg2 harg2 arg3 harg3 arg4 harg4 arg5 harg5 arg6 harg6 f2 f3 f4 f5 st)
  rw [dvPt, ← readAt_q arg2.view f2, ← readAt_q arg5.view f5]
  refine Eq.trans ?_ h
  unfold firstRun
  dsimp only []
  unfold firstRun.sl.v49 firstRun.sl.v51
  rfl

theorem first_q (h1 : condFirst i = 1#1) (h2 : ¬ k0_cond2 i = 1#1) :
    arg6.view.read (Elt F) (arg6.view.writes (Elt F) f6 (firstRun c i arg2 harg2 arg3 harg3 arg4 harg4 arg5 harg5 arg6 harg6 h1 h2 f2 f3 f4 f5 f6 st).2.2.1)
      = dqPt (arg2.view.read (Elt F) f2) (arg5.view.read (Elt F) f5) (arg3.view.read (Elt F) f3) (arg4.view.read (Elt F) f4) := by
  have h := fin_q c arg3 f3 (first_end c i arg2 harg2 arg3 harg3 arg4 harg4 arg5 harg5 arg6 harg6 f2 f3 f4 f5 st)
  rw [dqPt, ← readAt_q arg2.view f2, ← readAt_q arg5.view f5]
  unfold firstRun
  dsimp only []
  refine (read_q _ _ _).trans (congrArg k0_pay2 (Eq.trans ?_ h))
  unfold firstRun.sl.v64 firstRun.sl.Hq_1_1 firstRun.sl.v40 firstRun.sl.v41
  rfl

end

/-! ## The last point -/

/-- The scratch with which the last point enters its loop. -/
def lastIn : St (F := F) c :=
  { dq := dqM.view.writes (Elt F) dqM.view.junk lastRun.sl.Hq_1, dk := st.dk, dv := st.dv,
    s0 := s0M.view.writes (Elt F) s0M.view.junk (lastRun.sl.Ha0_1 c arg2 arg3 f2 f3), s1 := st.s1,
    d0 := d0M.view.writes (Elt F) d0M.view.junk (lastRun.sl.Hb0_1 c arg4 arg5 f4 f5), d1 := st.d1, p0 := st.p0,
    p1 := p1M.view.writes (Elt F) p1M.view.junk lastRun.sl.Hg1_1, e0 := st.e0,
    e1 := e1M.view.writes (Elt F) e1M.view.junk lastRun.sl.Hh1_1 }

theorem last_zero :
    Holds c (lastRun.sl.r c arg2 f2) (lastRun.sl.r_1 c arg5 f5) (lastRun.sl.r_2 c arg2 f2) (lastRun.sl.r_3 c arg5 f5)
      (arg3.view.read (Elt F) f3) (arg4.view.read (Elt F) f4) (dkM.view.read (Elt F) st.dk) (dvM.view.read (Elt F) st.dv) 0 (lastIn c arg2 arg3 arg4 arg5 f2 f3 f4 f5 st) where
  s0 := by unfold lastIn lastRun.sl.Ha0_1 lastRun.sl.r_4 lastRun.sl.r; rw [read_big]; exact s0_start _ _ _
  d0 := by unfold lastIn lastRun.sl.Hb0_1; rw [read_big]; exact d0_start _ _ _
  p1 := by unfold lastIn lastRun.sl.Hg1_1; rw [read_big]; rfl
  e1 := by unfold lastIn lastRun.sl.Hh1_1; rw [read_big]; rfl
  dq := by unfold lastIn lastRun.sl.Hq_1; rw [read_dq]; rfl
  dk := by unfold lastIn; rw [dkAt_zero]
  dv := by unfold lastIn; rw [dvAt_zero]

section
attribute [local irreducible] scOf dpOf stAt

/-- The scratch with which it leaves it. -/
abbrev lastOut : St (F := F) c :=
  stAt c i arg2 harg2 arg3 harg3 arg4 harg4 arg5 harg5 arg6 harg6 (lastRun.sl.r c arg2 f2) (lastRun.sl.r_1 c arg5 f5) (lastRun.sl.r_2 c arg2 f2) (lastRun.sl.r_3 c arg5 f5) (lastRun.sl.r_4 c arg2 arg3 f2 f3) (lastRun.sl.r_5 c st)
    f3 f4 (lastIn c arg2 arg3 arg4 arg5 f2 f3 f4 f5 st) 8

theorem last_end :
    Holds c (lastRun.sl.r c arg2 f2) (lastRun.sl.r_1 c arg5 f5) (lastRun.sl.r_2 c arg2 f2) (lastRun.sl.r_3 c arg5 f5)
      (arg3.view.read (Elt F) f3) (arg4.view.read (Elt F) f4) (dkM.view.read (Elt F) st.dk) (dvM.view.read (Elt F) st.dv) 32 (lastOut c i arg2 harg2 arg3 harg3 arg4 harg4 arg5 harg5 arg6 harg6 f2 f3 f4 f5 st) :=
  holds_loop c i arg2 harg2 arg3 harg3 arg4 harg4 arg5 harg5 arg6 harg6 _ _ _ _ _ _ f3 f4 (last_zero c arg2 arg3 arg4 arg5 f2 f3 f4 f5 st) 8 le_rfl

theorem last_k (h1 : ¬ condFirst i = 1#1) (h2 : k0_cond2 i = 1#1) (hk : BufOf (F := F) c dkH) (hv : BufOf (F := F) c dvH) :
    dkM.view.read (Elt F) (lastRun c i arg2 harg2 arg3 harg3 arg4 harg4 arg5 harg5 arg6 harg6 h1 h2 f2 f3 f4 f5 f6 st hk hv).1 = dkPt (arg2.view.read (Elt F) f2) (arg5.view.read (Elt F) f5) (arg3.view.read (Elt F) f3) (arg4.view.read (Elt F) f4) (dkM.view.read (Elt F) st.dk) := by
  have h := fin_k c (last_end c i arg2 harg2 arg3 harg3 arg4 harg4 arg5 harg5 arg6 harg6 f2 f3 f4 f5 st)
  rw [dkPt, ← readAt_q arg2.view f2, ← readAt_q arg5.view f5]
  refine Eq.trans ?_ h
  unfold lastRun
  dsimp only []
  unfold lastRun.sl.Hk_1 lastRun.sl.v40 lastRun.sl.v57
  rfl

theorem last_v (h1 : ¬ condFirst i = 1#1) (h2 : k0_cond2 i = 1#1) (hk : BufOf (F := F) c dkH) (hv : BufOf (F := F) c dvH) :
    dvM.view.read (Elt F) (lastRun c i arg2 harg2 arg3 harg3 arg4 harg4 arg5 harg5 arg6 harg6 h1 h2 f2 f3 f4 f5 f6 st hk hv).2.1 = dvPt (arg2.view.read (Elt F) f2) (arg5.view.read (Elt F) f5) (arg3.view.read (Elt F) f3) (dvM.view.read (Elt F) st.dv) := by
  have h := fin_v c (last_end c i arg2 harg2 arg3 harg3 arg4 harg4 arg5 harg5 arg6 harg6 f2 f3 f4 f5 st)
  rw [dvPt, ← readAt_q arg2.view f2, ← readAt_q arg5.view f5]
  refine Eq.trans ?_ h
  unfold lastRun
  dsimp only []
  unfold lastRun.sl.Hv_1 lastRun.sl.v49 lastRun.sl.v51
  rfl

theorem last_q (h1 : ¬ condFirst i = 1#1) (h2 : k0_cond2 i = 1#1) (hk : BufOf (F := F) c dkH) (hv : BufOf (F := F) c dvH) :
    arg6.view.read (Elt F) (arg6.view.writes (Elt F) f6 (lastRun c i arg2 harg2 arg3 harg3 arg4 harg4 arg5 harg5 arg6 harg6 h1 h2 f2 f3 f4 f5 f6 st hk hv).2.2.2.2.1)
      = dqPt (arg2.view.read (Elt F) f2) (arg5.view.read (Elt F) f5) (arg3.view.read (Elt F) f3) (arg4.view.read (Elt F) f4) := by
  have h := fin_q c arg3 f3 (last_end c i arg2 harg2 arg3 harg3 arg4 harg4 arg5 harg5 arg6 harg6 f2 f3 f4 f5 st)
  unfold lastRun
  dsimp only []
  rw [read_q, dqPt, ← readAt_q arg2.view f2, ← readAt_q arg5.view f5]
  refine (congrArg k0_pay2 (Eq.trans ?_ h))
  unfold lastRun.sl.v64 lastRun.sl.Hq_1_1 lastRun.sl.v40 lastRun.sl.v41
  rfl

/-- The part of the result `dk` that the last point of a key head copies out. -/
abbrev rowH (M : Memref sig .tc .hbm S2x32x128x512 .f32) (h2 : k0_cond2 i = 1#1) : Memref sig .tc .hbm S32x128x512 .f32 :=
  (M.slice (Rect.unit (s := S2x32x128x512) (k0_off4 i) S1x32x128x512.size (k0_off4_inb i h2)) (fun _ => rfl)).squeeze S32x128x512
    squeezes_S1x32x128x512_S32x128x512

theorem last_hk (h1 : ¬ condFirst i = 1#1) (h2 : k0_cond2 i = 1#1) (hk : BufOf (F := F) c dkH) (hv : BufOf (F := F) c dvH) :
    (lastRun c i arg2 harg2 arg3 harg3 arg4 harg4 arg5 harg5 arg6 harg6 h1 h2 f2 f3 f4 f5 f6 st hk hv).2.2.1
      = (rowH i dkH h2).view.write (Elt F) hk (dkPt (arg2.view.read (Elt F) f2) (arg5.view.read (Elt F) f5) (arg3.view.read (Elt F) f3) (arg4.view.read (Elt F) f4) (dkM.view.read (Elt F) st.dk)) Finset.univ := by
  rw [← last_k c i arg2 harg2 arg3 harg3 arg4 harg4 arg5 harg5 arg6 harg6 f2 f3 f4 f5 f6 st h1 h2 hk hv]
  unfold lastRun
  dsimp only []
  unfold lastRun.sl.Hhk_w0 lastRun.sl.dma15
  rfl

theorem last_hv (h1 : ¬ condFirst i = 1#1) (h2 : k0_cond2 i = 1#1) (hk : BufOf (F := F) c dkH) (hv : BufOf (F := F) c dvH) :
    (lastRun c i arg2 harg2 arg3 harg3 arg4 harg4 arg5 harg5 arg6 harg6 h1 h2 f2 f3 f4 f5 f6 st hk hv).2.2.2.1
      = (rowH i dvH h2).view.write (Elt F) hv (dvPt (arg2.view.read (Elt F) f2) (arg5.view.read (Elt F) f5) (arg3.view.read (Elt F) f3) (dvM.view.read (Elt F) st.dv)) Finset.univ := by
  rw [← last_v c i arg2 harg2 arg3 harg3 arg4 harg4 arg5 harg5 arg6 harg6 f2 f3 f4 f5 f6 st h1 h2 hk hv]
  unfold lastRun
  dsimp only []
  unfold lastRun.sl.Hhv_w1 lastRun.sl.dma15_1
  rfl

end

end Cert.KernelIdeal.Hand

end
-- ==== Proof.Point.lean ====
/-
  The kernel's points in order: what the two accumulators and the two results in HBM hold before each, and the body's obligation.
-/
module

public import proofs.«01_k».proof.Proof.PointValue
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The `n`-th point of the grid. -/
def pnt (n : ℕ) : Fin cfg0.N := ⟨min n 63, by rw [show cfg0.N = 64 from N_0]; omega⟩

theorem pnt_val (t : Fin cfg0.N) : pnt t.val = t := by
  have h : t.val < 64 := t.isLt.trans_eq N_0
  exact Fin.ext (show min t.val 63 = t.val by omega)

/-- A point clears the accumulators when it is the first of its key head's 32. -/
theorem condFirst_iff : ∀ t : Fin grid0.N, condFirst (grid0.coords t) = 1#1 ↔ t.val % 32 = 0 := by decide +kernel
/-- A point copies them out when it is the last. -/
theorem cond2_iff : ∀ t : Fin grid0.N, k0_cond2 (grid0.coords t) = 1#1 ↔ t.val % 32 = 31 := by decide +kernel

/-- The blocks of `q`, `k`, `v` and `do` at point `n`. -/
def qB (c : Dev nD) (n : ℕ) : Vec F S4x512x128 .bf16 := iblk m c 0 (pnt n)
def kB (c : Dev nD) (n : ℕ) : Vec F S1x16384x128 .bf16 := iblk m c 1 (pnt n)
def vB (c : Dev nD) (n : ℕ) : Vec F S1x16384x128 .bf16 := iblk m c 2 (pnt n)
def dB (c : Dev nD) (n : ℕ) : Vec F S4x512x128 .bf16 := iblk m c 3 (pnt n)

/-- The accumulator of `dk` before point `n`. -/
def accK (c : Dev nD) : ℕ → Vec F S32x128x512 .f32
  | 0 => k0_pay82
  | n + 1 => dkPt (qB m c n) (dB m c n) (kB m c n) (vB m c n) (if n % 32 = 0 then k0_pay82 else accK c n)
/-- The accumulator of `dv` before point `n`. -/
def accV (c : Dev nD) : ℕ → Vec F S32x128x512 .f32
  | 0 => k0_pay83
  | n + 1 => dvPt (qB m c n) (dB m c n) (kB m c n) (if n % 32 = 0 then k0_pay83 else accV c n)

/-- The result `dk` in HBM before point `n`: each head's last point has copied its accumulator in. -/
def resK (c : Dev nD) : ℕ → BufOf (F := F) c dkH
  | 0 => V m c main_v61_1
  | n + 1 => if h : k0_cond2 (grid0.coords (pnt n)) = 1#1 then
      (rowH (grid0.coords (pnt n)) dkH h).view.write (Elt F) (resK c n) (accK m c (n + 1)) Finset.univ else resK c n
/-- The result `dv` in HBM before point `n`. -/
def resV (c : Dev nD) : ℕ → BufOf (F := F) c dvH
  | 0 => V m c main_v61_2
  | n + 1 => if h : k0_cond2 (grid0.coords (pnt n)) = 1#1 then
      (rowH (grid0.coords (pnt n)) dvH h).view.write (Elt F) (resV c n) (accV m c (n + 1)) Finset.univ else resV c n

/-- What the body keeps between points: the accumulators named inside a head, the other scratch at anything, the two
    semaphores at zero and the two results in HBM. -/
def Inv (c : Dev nD) (n : ℕ) : sProp 𝕄 :=
  iprop((∃ fk : BufOf (F := F) c dkM, ⌜n % 32 ≠ 0 → dkM.view.read (Elt F) fk = accK m c n⌝ ∗ pt c dkM fk)
    ∗ (∃ fv : BufOf (F := F) c dvM, ⌜n % 32 ≠ 0 → dvM.view.read (Elt F) fv = accV m c n⌝ ∗ pt c dvM fv)
    ∗ Any (F := F) c ∗ semVal ((c : Thread nD τ), SemLoc.dma 8) 0 ∗ semVal ((c : Thread nD τ), SemLoc.dma 9) 0
    ∗ pt c dkH (resK m c n) ∗ pt c dvH (resV m c n))

/-- The proof data of the pipeline: each input keeps its block, the block of `dq` is the point's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqPt (qB m c t.val) (dB m c t.val) (kB m c t.val) (vB m c t.val)
  Φ t := Inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = dqPt (qB m c t.val) (dB m c t.val) (kB m c t.val) (vB m c t.val) := by dsimp only [dats]

/-- An input's staging buffer holds its point's block. -/
theorem before_0 (c : Dev nD) (t : Fin cfg0.N) (d) : (dats m 0 c).before 0 t d = qB m c t.val :=
  (((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl) : _ = iblk m c 0 t).trans (by unfold qB; rw [pnt_val])
theorem before_1 (c : Dev nD) (t : Fin cfg0.N) (d) : (dats m 0 c).before 1 t d = kB m c t.val :=
  (((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl) : _ = iblk m c 1 t).trans (by unfold kB; rw [pnt_val])
theorem before_2 (c : Dev nD) (t : Fin cfg0.N) (d) : (dats m 0 c).before 2 t d = vB m c t.val :=
  (((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl) : _ = iblk m c 2 t).trans (by unfold vB; rw [pnt_val])
theorem before_3 (c : Dev nD) (t : Fin cfg0.N) (d) : (dats m 0 c).before 3 t d = dB m c t.val :=
  (((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl) : _ = iblk m c 3 t).trans (by unfold dB; rw [pnt_val])

/-- What the body has at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The same, at named operands and contents: the body's run at a point, between the four blocks held at known contents. -/
abbrev Pre (c : Dev nD) (n : ℕ) (arg2 : Memref sig .tc .vmem S4x512x128 .bf16)
    (arg3 : Memref sig .tc .vmem S1x16384x128 .bf16) (arg4 : Memref sig .tc .vmem S1x16384x128 .bf16)
    (arg5 : Memref sig .tc .vmem S4x512x128 .bf16) (arg6 : Memref sig .tc .vmem S4x512x128 .f32) (W : Waits sig Unit) : sProp 𝕄 :=
  iprop(Inv m c n ∗ owes (c : Thread nD τ) 0 W
    ∗ owns (c : Thread nD τ) arg2 fullShare (qB m c n) ∗ owns (c : Thread nD τ) arg3 fullShare (kB m c n)
    ∗ owns (c : Thread nD τ) arg4 fullShare (vB m c n) ∗ owns (c : Thread nD τ) arg5 fullShare (dB m c n)
    ∗ (∃ d, owns (c : Thread nD τ) arg6 fullShare d))
abbrev Post (c : Dev nD) (n : ℕ) (arg2 : Memref sig .tc .vmem S4x512x128 .bf16)
    (arg3 : Memref sig .tc .vmem S1x16384x128 .bf16) (arg4 : Memref sig .tc .vmem S1x16384x128 .bf16)
    (arg5 : Memref sig .tc .vmem S4x512x128 .bf16) (arg6 : Memref sig .tc .vmem S4x512x128 .f32) : sProp 𝕄 :=
  iprop(Inv m c (n + 1) ∗ (∃ W, owes (c : Thread nD τ) 0 W)
    ∗ owns (c : Thread nD τ) arg2 fullShare (qB m c n) ∗ owns (c : Thread nD τ) arg3 fullShare (kB m c n)
    ∗ owns (c : Thread nD τ) arg4 fullShare (vB m c n) ∗ owns (c : Thread nD τ) arg5 fullShare (dB m c n)
    ∗ owns (c : Thread nD τ) arg6 fullShare (dqPt (qB m c n) (dB m c n) (kB m c n) (vB m c n)))

section Runs

variable (c : Dev nD) (n : ℕ)
  (arg2 : Memref sig .tc .vmem S4x512x128 .bf16) (harg2 : arg2.IsWhole)
  (arg3 : Memref sig .tc .vmem S1x16384x128 .bf16) (harg3 : arg3.IsWhole)
  (arg4 : Memref sig .tc .vmem S1x16384x128 .bf16) (harg4 : arg4.IsWhole)
  (arg5 : Memref sig .tc .vmem S4x512x128 .bf16) (harg5 : arg5.IsWhole)
  (arg6 : Memref sig .tc .vmem S4x512x128 .f32) (harg6 : arg6.IsWhole) (W : Waits sig Unit)

theorem accK_first {n : ℕ} (h : n % 32 = 0) : accK m c (n + 1) = dkPt (qB m c n) (dB m c n) (kB m c n) (vB m c n) k0_pay82 := by
  rw [accK, if_pos h]
theorem accV_first {n : ℕ} (h : n % 32 = 0) : accV m c (n + 1) = dvPt (qB m c n) (dB m c n) (kB m c n) k0_pay83 := by
  rw [accV, if_pos h]
theorem accK_later {n : ℕ} (h : n % 32 ≠ 0) : accK m c (n + 1) = dkPt (qB m c n) (dB m c n) (kB m c n) (vB m c n) (accK m c n) := by
  rw [accK, if_neg h]
theorem accV_later {n : ℕ} (h : n % 32 ≠ 0) : accV m c (n + 1) = dvPt (qB m c n) (dB m c n) (kB m c n) (accV m c n) := by
  rw [accV, if_neg h]
theorem resK_keep {n : ℕ} (h : ¬ k0_cond2 (grid0.coords (pnt n)) = 1#1) : resK m c (n + 1) = resK m c n := by rw [resK, dif_neg h]
theorem resV_keep {n : ℕ} (h : ¬ k0_cond2 (grid0.coords (pnt n)) = 1#1) : resV m c (n + 1) = resV m c n := by rw [resV, dif_neg h]
theorem resK_last {n : ℕ} (h : k0_cond2 (grid0.coords (pnt n)) = 1#1) :
    resK m c (n + 1) = (rowH (grid0.coords (pnt n)) dkH h).view.write (Elt F) (resK m c n) (accK m c (n + 1)) Finset.univ := by rw [resK, dif_pos h]
theorem resV_last {n : ℕ} (h : k0_cond2 (grid0.coords (pnt n)) = 1#1) :
    resV m c (n + 1) = (rowH (grid0.coords (pnt n)) dvH h).view.write (Elt F) (resV m c n) (accV m c (n + 1)) Finset.univ := by rw [resV, dif_pos h]

/-- What a run that copies nothing out gives at contents `f2 … f6` and scratch `st`: contents of the accumulators and
    pieces of the block of `dq` that it ends with, which read as the recursion says. -/
def Keeps : Prop :=
  ∀ (f2 : BufOf (F := F) c arg2) (f3 : BufOf (F := F) c arg3) (f4 : BufOf (F := F) c arg4) (f5 : BufOf (F := F) c arg5)
    (f6 : BufOf (F := F) c arg6) (st : St (F := F) c),
    arg2.view.read (Elt F) f2 = qB m c n → arg3.view.read (Elt F) f3 = kB m c n → arg4.view.read (Elt F) f4 = vB m c n →
    arg5.view.read (Elt F) f5 = dB m c n → (n % 32 ≠ 0 → dkM.view.read (Elt F) st.dk = accK m c n) →
    (n % 32 ≠ 0 → dvM.view.read (Elt F) st.dv = accV m c n) →
    ∃ (xk : BufOf (F := F) c dkM) (xv : BufOf (F := F) c dvM) (L6 : List (View.Piece (Elt F) S4x512x128 .f32)),
      (iprop(Blocks c arg2 arg3 arg4 arg5 f2 f3 f4 f5 ∗ pt c arg6 f6 ∗ pt c dqM st.dq ∗ pt c dkM st.dk ∗ pt c dvM st.dv ∗ pt c s0M st.s0
          ∗ pt c s1M st.s1 ∗ pt c d0M st.d0 ∗ pt c d1M st.d1 ∗ pt c p0M st.p0 ∗ pt c p1M st.p1 ∗ pt c e0M st.e0 ∗ pt c e1M st.e1)
        ⊢ wp frame (wpE (defs₀ (F := F)) Variants.none c none) Set.univ
            (kernelAt (grid0.coords (pnt n)) arg2 harg2 arg3 harg3 arg4 harg4 arg5 harg5 arg6 harg6)
            (fun _ => iprop(Blocks c arg2 arg3 arg4 arg5 f2 f3 f4 f5 ∗ pt c arg6 (arg6.view.writes (Elt F) f6 L6)
              ∗ pt c dkM xk ∗ pt c dvM xv ∗ Any (F := F) c)))
      ∧ dkM.view.read (Elt F) xk = accK m c (n + 1) ∧ dvM.view.read (Elt F) xv = accV m c (n + 1)
      ∧ arg6.view.read (Elt F) (arg6.view.writes (Elt F) f6 L6) = dqPt (qB m c n) (dB m c n) (kB m c n) (vB m c n)

theorem keeps_first (h1 : condFirst (grid0.coords (pnt n)) = 1#1) (h2 : ¬ k0_cond2 (grid0.coords (pnt n)) = 1#1) (hn : n % 32 = 0) :
    Keeps m c n arg2 harg2 arg3 harg3 arg4 harg4 arg5 harg5 arg6 harg6 := by
  intro f2 f3 f4 f5 f6 st e2 e3 e4 e5 ek ev
  refine ⟨_, _, _, (firstRun c (grid0.coords (pnt n)) arg2 harg2 arg3 harg3 arg4 harg4 arg5 harg5 arg6 harg6 h1 h2 f2 f3 f4 f5 f6 st).2.2.2, ?_, ?_, ?_⟩
  · refine (first_k c (grid0.coords (pnt n)) arg2 harg2 arg3 harg3 arg4 harg4 arg5 harg5 arg6 harg6 f2 f3 f4 f5 f6 st h1 h2).trans ?_
    rw [e2, e5, e3, e4, accK_first m c hn]
  · refine (first_v c (grid0.coords (pnt n)) arg2 harg2 arg3 harg3 arg4 harg4 arg5 harg5 arg6 harg6 f2 f3 f4 f5 f6 st h1 h2).trans ?_
    rw [e2, e5, e3, accV_first m c hn]
  · refine (first_q c (grid0.coords (pnt n)) arg2 harg2 arg3 harg3 arg4 harg4 arg5 harg5 arg6 harg6 f2 f3 f4 f5 f6 st h1 h2).trans ?_
    rw [e2, e5, e3, e4]

theorem keeps_mid (h1 : ¬ condFirst (grid0.coords (pnt n)) = 1#1) (h2 : ¬ k0_cond2 (grid0.coords (pnt n)) = 1#1) (hn : n % 32 ≠ 0) :
    Keeps m c n arg2 harg2 arg3 harg3 arg4 harg4 arg5 harg5 arg6 harg6 := by
  intro f2 f3 f4 f5 f6 st e2 e3 e4 e5 ek ev
  refine ⟨_, _, _, (midRun c (grid0.coords (pnt n)) arg2 harg2 arg3 harg3 arg4 harg4 arg5 harg5 arg6 harg6 h1 h2 f2 f3 f4 f5 f6 st).2.2.2, ?_, ?_, ?_⟩
  · refine (mid_k c (grid0.coords (pnt n)) arg2 harg2 arg3 harg3 arg4 harg4 arg5 harg5 arg6 harg6 f2 f3 f4 f5 f6 st h1 h2).trans ?_
    rw [e2, e5, e3, e4, ek hn, accK_later m c hn]
  · refine (mid_v c (grid0.coords (pnt n)) arg2 harg2 arg3 harg3 arg4 harg4 arg5 harg5 arg6 harg6 f2 f3 f4 f5 f6 st h1 h2).trans ?_
    rw [e2, e5, e3, ev hn, accV_later m c hn]
  · refine (mid_q c (grid0.coords (pnt n)) arg2 harg2 arg3 harg3 arg4 harg4 arg5 harg5 arg6 harg6 f2 f3 f4 f5 f6 st h1 h2).trans ?_
    rw [e2, e5, e3, e4]

/-- A point that copies nothing out. -/
theorem point_keep (h2 : ¬ k0_cond2 (grid0.coords (pnt n)) = 1#1) (H : Keeps m c n arg2 harg2 arg3 harg3 arg4 harg4 arg5 harg5 arg6 harg6) :
    Pre m c n arg2 arg3 arg4 arg5 arg6 W ⊢ wp frame (wpE (defs₀ (F := F)) Variants.none c none) Set.univ
      (kernelAt (grid0.coords (pnt n)) arg2 harg2 arg3 harg3 arg4 harg4 arg5 harg5 arg6 harg6) (fun _ => Post m c n arg2 arg3 arg4 arg5 arg6) := by
  unfold Pre Post Inv owns
  iintro ⟨⟨⟨%fk, %ek, Hk⟩, ⟨%fv, %ev, Hv⟩, ⟨⟨%gq, Hq⟩, ⟨%g0, Ha0⟩, ⟨%g1, Ha1⟩, ⟨%g2, Hb0⟩, ⟨%g3, Hb1⟩, ⟨%g4, Hg0⟩, ⟨%g5, Hg1⟩, ⟨%g6, Hh0⟩, ⟨%g7, Hh1⟩⟩, Hs0, Hs1, Hhk, Hhv⟩, HW,
    ⟨%f2, %e2, H2⟩, ⟨%f3, %e3, H3⟩, ⟨%f4, %e4, H4⟩, ⟨%f5, %e5, H5⟩, ⟨%d6, %f6, -, H6⟩⟩
  obtain ⟨xk, xv, L6, run, hk, hv, hq⟩ := H f2 f3 f4 f5 f6 ⟨gq, fk, fv, g0, g1, g2, g3, g4, g5, g6, g7⟩ e2 e3 e4 e5 ek ev
  rw [resK_keep m c h2, resV_keep m c h2]
  iapply (wp_wand_r frame (wpE (defs₀ (F := F)) Variants.none c none) Set.univ)
  isplitl [H2 H3 H4 H5 H6 Hq Hk Hv Ha0 Ha1 Hb0 Hb1 Hg0 Hg1 Hh0 Hh1]
  · iapply run
    isplitl [H2 H3 H4 H5]
    · isplitl [H2]; · iexact H2
      isplitl [H3]; · iexact H3
      isplitl [H4]; · iexact H4
      iexact H5
    isplitl [H6]; · iexact H6
    isplitl [Hq]; · iexact Hq
    isplitl [Hk]; · iexact Hk
    isplitl [Hv]; · iexact Hv
    isplitl [Ha0]; · iexact Ha0
    isplitl [Ha1]; · iexact Ha1
    isplitl [Hb0]; · iexact Hb0
    isplitl [Hb1]; · iexact Hb1
    isplitl [Hg0]; · iexact Hg0
    isplitl [Hg1]; · iexact Hg1
    isplitl [Hh0]; · iexact Hh0
    iexact Hh1
  iintro %a ⟨⟨H2, H3, H4, H5⟩, H6, Hk, Hv, HA⟩
  isplitl [Hk Hv HA Hs0 Hs1 Hhk Hhv]
  · isplitl [Hk]
    · iexists xk; isplitr; · ipureintro; exact fun _ => hk
      iexact Hk
    isplitl [Hv]
    · iexists xv; isplitr; · ipureintro; exact fun _ => hv
      iexact Hv
    isplitl [HA]; · iexact HA
    isplitl [Hs0]; · iexact Hs0
    isplitl [Hs1]; · iexact Hs1
    isplitl [Hhk]; · iexact Hhk
    iexact Hhv
  isplitl [HW]; · iexists W; iexact HW
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _; isplitr; swap; · iexact H6
  ipureintro; exact hq

end Runs

end Cert.KernelIdeal.Hand

end
-- ==== Proof.PointLast.lean ====
/-
  A head's last point, and the body's obligation at every point.
-/
module

public import proofs.«01_k».proof.Proof.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A fact about five found things, two of them at their other names. -/
theorem at_named {α β γ δ ε : Type} {P : α → β → γ → δ → ε → Prop} (R : Σ' (a : α) (b : β) (c : γ) (d : δ), { l : ε // P a b c d l })
    {c₀ : γ} {d₀ : δ} (hc : R.2.2.1 = c₀) (hd : R.2.2.2.1 = d₀) : P R.1 R.2.1 c₀ d₀ R.2.2.2.2.1 := by
  subst hc hd; exact R.2.2.2.2.2

section Runs

variable (c : Dev nD) (n : ℕ)
  (arg2 : Memref sig .tc .vmem S4x512x128 .bf16) (harg2 : arg2.IsWhole)
  (arg3 : Memref sig .tc .vmem S1x16384x128 .bf16) (harg3 : arg3.IsWhole)
  (arg4 : Memref sig .tc .vmem S1x16384x128 .bf16) (harg4 : arg4.IsWhole)
  (arg5 : Memref sig .tc .vmem S4x512x128 .bf16) (harg5 : arg5.IsWhole)
  (arg6 : Memref sig .tc .vmem S4x512x128 .f32) (harg6 : arg6.IsWhole) (W : Waits sig Unit)

/-- What a run that copies the accumulators out gives, at every contents it may start from. -/
def Copies : Prop :=
  ∀ (f2 : BufOf (F := F) c arg2) (f3 : BufOf (F := F) c arg3) (f4 : BufOf (F := F) c arg4) (f5 : BufOf (F := F) c arg5)
    (f6 : BufOf (F := F) c arg6) (st : St (F := F) c) (W : Waits sig Unit),
    arg2.view.read (Elt F) f2 = qB m c n → arg3.view.read (Elt F) f3 = kB m c n → arg4.view.read (Elt F) f4 = vB m c n →
    arg5.view.read (Elt F) f5 = dB m c n → dkM.view.read (Elt F) st.dk = accK m c n → dvM.view.read (Elt F) st.dv = accV m c n →
    ∃ (xk : BufOf (F := F) c dkM) (xv : BufOf (F := F) c dvM) (L6 : List (View.Piece (Elt F) S4x512x128 .f32)),
      (iprop(Blocks c arg2 arg3 arg4 arg5 f2 f3 f4 f5 ∗ pt c arg6 f6 ∗ pt c dqM st.dq ∗ pt c dkM st.dk ∗ pt c dvM st.dv ∗ pt c s0M st.s0
          ∗ pt c s1M st.s1 ∗ pt c d0M st.d0 ∗ pt c d1M st.d1 ∗ pt c p0M st.p0 ∗ pt c p1M st.p1 ∗ pt c e0M st.e0 ∗ pt c e1M st.e1
          ∗ pt c dkH (resK m c n) ∗ pt c dvH (resV m c n) ∗ semVal ((c : Thread nD τ), SemLoc.dma 8) 0 ∗ semVal ((c : Thread nD τ), SemLoc.dma 9) 0
          ∗ owes (c : Thread nD τ) 0 W)
        ⊢ wp frame (wpE (defs₀ (F := F)) Variants.none c none) Set.univ
            (kernelAt (grid0.coords (pnt n)) arg2 harg2 arg3 harg3 arg4 harg4 arg5 harg5 arg6 harg6)
            (fun _ => iprop(Blocks c arg2 arg3 arg4 arg5 f2 f3 f4 f5 ∗ pt c arg6 (arg6.view.writes (Elt F) f6 L6)
              ∗ pt c dkM xk ∗ pt c dvM xv ∗ Any (F := F) c
              ∗ pt c dkH (resK m c (n + 1)) ∗ pt c dvH (resV m c (n + 1)) ∗ semVal ((c : Thread nD τ), SemLoc.dma 8) 0
              ∗ semVal ((c : Thread nD τ), SemLoc.dma 9) 0 ∗ ∃ W', owes (c : Thread nD τ) 0 W')))
      ∧ dkM.view.read (Elt F) xk = accK m c (n + 1) ∧ dvM.view.read (Elt F) xv = accV m c (n + 1)
      ∧ arg6.view.read (Elt F) (arg6.view.writes (Elt F) f6 L6) = dqPt (qB m c n) (dB m c n) (kB m c n) (vB m c n)

theorem copies_last (h1 : ¬ condFirst (grid0.coords (pnt n)) = 1#1) (h2 : k0_cond2 (grid0.coords (pnt n)) = 1#1) (hn : n % 32 ≠ 0) :
    Copies m c n arg2 harg2 arg3 harg3 arg4 harg4 arg5 harg5 arg6 harg6 := by
  intro f2 f3 f4 f5 f6 st W e2 e3 e4 e5 ek ev
  have hk : (lastRun c (grid0.coords (pnt n)) arg2 harg2 arg3 harg3 arg4 harg4 arg5 harg5 arg6 harg6 h1 h2 f2 f3 f4 f5 f6 st (resK m c n) (resV m c n)).2.2.1 = resK m c (n + 1) := by
    refine (last_hk c (grid0.coords (pnt n)) arg2 harg2 arg3 harg3 arg4 harg4 arg5 harg5 arg6 harg6 f2 f3 f4 f5 f6 st h1 h2 (resK m c n) (resV m c n)).trans ?_
    rw [e2, e5, e3, e4, ek, resK_last m c h2, accK_later m c hn]
  have hv : (lastRun c (grid0.coords (pnt n)) arg2 harg2 arg3 harg3 arg4 harg4 arg5 harg5 arg6 harg6 h1 h2 f2 f3 f4 f5 f6 st (resK m c n) (resV m c n)).2.2.2.1 = resV m c (n + 1) := by
    refine (last_hv c (grid0.coords (pnt n)) arg2 harg2 arg3 harg3 arg4 harg4 arg5 harg5 arg6 harg6 f2 f3 f4 f5 f6 st h1 h2 (resK m c n) (resV m c n)).trans ?_
    rw [e2, e5, e3, ev, resV_last m c h2, accV_later m c hn]
  refine ⟨_, _, _, at_named (lastRun c (grid0.coords (pnt n)) arg2 harg2 arg3 harg3 arg4 harg4 arg5 harg5 arg6 harg6 h1 h2 f2 f3 f4 f5 f6 st (resK m c n) (resV m c n)) hk hv W, ?_, ?_, ?_⟩
  · refine (last_k c (grid0.coords (pnt n)) arg2 harg2 arg3 harg3 arg4 harg4 arg5 harg5 arg6 harg6 f2 f3 f4 f5 f6 st h1 h2 (resK m c n) (resV m c n)).trans ?_
    rw [e2, e5, e3, e4, ek, accK_later m c hn]
  · refine (last_v c (grid0.coords (pnt n)) arg2 harg2 arg3 harg3 arg4 harg4 arg5 harg5 arg6 harg6 f2 f3 f4 f5 f6 st h1 h2 (resK m c n) (resV m c n)).trans ?_
    rw [e2, e5, e3, ev, accV_later m c hn]
  · refine (last_q c (grid0.coords (pnt n)) arg2 harg2 arg3 harg3 arg4 harg4 arg5 harg5 arg6 harg6 f2 f3 f4 f5 f6 st h1 h2 (resK m c n) (resV m c n)).trans ?_
    rw [e2, e5, e3, e4]

/-- A head's last point. -/
theorem point_last (hn : n % 32 ≠ 0) (H : Copies m c n arg2 harg2 arg3 harg3 arg4 harg4 arg5 harg5 arg6 harg6) :
    Pre m c n arg2 arg3 arg4 arg5 arg6 W ⊢ wp frame (wpE (defs₀ (F := F)) Variants.none c none) Set.univ
      (kernelAt (grid0.coords (pnt n)) arg2 harg2 arg3 harg3 arg4 harg4 arg5 harg5 arg6 harg6) (fun _ => Post m c n arg2 arg3 arg4 arg5 arg6) := by
  unfold Pre Post Inv owns
  iintro ⟨⟨⟨%fk, %ek, Hk⟩, ⟨%fv, %ev, Hv⟩, ⟨⟨%gq, Hq⟩, ⟨%g0, Ha0⟩, ⟨%g1, Ha1⟩, ⟨%g2, Hb0⟩, ⟨%g3, Hb1⟩, ⟨%g4, Hg0⟩, ⟨%g5, Hg1⟩, ⟨%g6, Hh0⟩, ⟨%g7, Hh1⟩⟩, Hs0, Hs1, Hhk, Hhv⟩, HW,
    ⟨%f2, %e2, H2⟩, ⟨%f3, %e3, H3⟩, ⟨%f4, %e4, H4⟩, ⟨%f5, %e5, H5⟩, ⟨%d6, %f6, -, H6⟩⟩
  obtain ⟨xk, xv, L6, run, hk, hv, hq⟩ := H f2 f3 f4 f5 f6 ⟨gq, fk, fv, g0, g1, g2, g3, g4, g5, g6, g7⟩ W e2 e3 e4 e5 (ek hn) (ev hn)
  iapply (wp_wand_r frame (wpE (defs₀ (F := F)) Variants.none c none) Set.univ)
  isplitl [H2 H3 H4 H5 H6 Hq Hk Hv Ha0 Ha1 Hb0 Hb1 Hg0 Hg1 Hh0 Hh1 Hs0 Hs1 Hhk Hhv HW]
  · iapply run
    isplitl [H2 H3 H4 H5]
    · isplitl [H2]; · iexact H2
      isplitl [H3]; · iexact H3
      isplitl [H4]; · iexact H4
      iexact H5
    isplitl [H6]; · iexact H6
    isplitl [Hq]; · iexact Hq
    isplitl [Hk]; · iexact Hk
    isplitl [Hv]; · iexact Hv
    isplitl [Ha0]; · iexact Ha0
    isplitl [Ha1]; · iexact Ha1
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hhk]; · iexact Hhk
    isplitl [Hhv]; · iexact Hhv
    isplitl [Hs0]; · iexact Hs0
    isplitl [Hs1]; · iexact Hs1
    iexact HW
  iintro %a ⟨⟨H2, H3, H4, H5⟩, H6, Hk, Hv, HA, Hhk, Hhv, Hs0, Hs1, HW⟩
  isplitl [Hk Hv HA Hs0 Hs1 Hhk Hhv]
  · isplitl [Hk]
    · iexists xk; isplitr; · ipureintro; exact fun _ => hk
      iexact Hk
    isplitl [Hv]
    · iexists xv; isplitr; · ipureintro; exact fun _ => hv
      iexact Hv
    isplitl [HA]; · iexact HA
    isplitl [Hs0]; · iexact Hs0
    isplitl [Hs1]; · iexact Hs1
    isplitl [Hhk]; · iexact Hhk
    iexact Hhv
  isplitl [HW]; · iexact HW
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _; isplitr; swap; · iexact H6
  ipureintro; exact hq

/-- Every point. -/
theorem point (hc1 : condFirst (grid0.coords (pnt n)) = 1#1 ↔ n % 32 = 0) (hc2 : k0_cond2 (grid0.coords (pnt n)) = 1#1 ↔ n % 32 = 31) :
    Pre m c n arg2 arg3 arg4 arg5 arg6 W ⊢ wp frame (wpE (defs₀ (F := F)) Variants.none c none) Set.univ
      (kernelAt (grid0.coords (pnt n)) arg2 harg2 arg3 harg3 arg4 harg4 arg5 harg5 arg6 harg6) (fun _ => Post m c n arg2 arg3 arg4 arg5 arg6) := by
  by_cases h0 : n % 32 = 0
  · have h2 : ¬ k0_cond2 (grid0.coords (pnt n)) = 1#1 := fun h => by have := hc2.mp h; omega
    exact point_keep m c n arg2 harg2 arg3 harg3 arg4 harg4 arg5 harg5 arg6 harg6 W h2
      (keeps_first m c n arg2 harg2 arg3 harg3 arg4 harg4 arg5 harg5 arg6 harg6 (hc1.mpr h0) h2 h0)
  have h1 : ¬ condFirst (grid0.coords (pnt n)) = 1#1 := fun h => h0 (hc1.mp h)
  by_cases h2 : k0_cond2 (grid0.coords (pnt n)) = 1#1
  · exact point_last m c n arg2 harg2 arg3 harg3 arg4 harg4 arg5 harg5 arg6 harg6 W h0
      (copies_last m c n arg2 harg2 arg3 harg3 arg4 harg4 arg5 harg5 arg6 harg6 h1 h2 h0)
  · exact point_keep m c n arg2 harg2 arg3 harg3 arg4 harg4 arg5 harg5 arg6 harg6 W h2
      (keeps_mid m c n arg2 harg2 arg3 harg3 arg4 harg4 arg5 harg5 arg6 harg6 h1 h2 h0)

end Runs

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3]
  rw [after_0, after_1, after_2, after_3, after_4]
  rw [show (dats m 0 c).Φ t.castSucc = Inv m c t.val from rfl, show (dats m 0 c).Φ t.succ = Inv m c (t.val + 1) from rfl]
  rw [show iblk m c 0 t = qB m c t.val by unfold qB; rw [pnt_val], show iblk m c 1 t = kB m c t.val by unfold kB; rw [pnt_val],
    show iblk m c 2 t = vB m c t.val by unfold vB; rw [pnt_val], show iblk m c 3 t = dB m c t.val by unfold dB; rw [pnt_val]]
  unfold Dat.owesAt Pipeline.owesWithin
  rw [show (dats m 0 c).owed t.castSucc = 0 from rfl, show (dats m 0 c).owed t.succ = 0 from rfl]
  have hc1 := condFirst_iff t
  have hc2 := cond2_iff t
  have hp := point m c t.val (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4))
  rw [pnt_val] at hp
  iintro ⟨HI, ⟨%W, -, HW⟩, ⟨%d0, H0⟩, ⟨%d1, H1⟩, ⟨%d2, H2⟩, ⟨%d3, H3⟩, ⟨%d4, H4⟩⟩
  iapply (wp_wand_r frame (wpE (defs₀ (F := F)) Variants.none c none) Set.univ)
  isplitl [HI HW H0 H1 H2 H3 H4]
  · iapply (hp W hc1 hc2)
    isplitl [HI]; · iexact HI
    isplitl [HW]; · iexact HW
    isplitl [H0]; · iexact H0
    isplitl [H1]; · iexact H1
    isplitl [H2]; · iexact H2
    isplitl [H3]; · iexact H3
    iexists _; iexact H4
  iintro %a ⟨HI, ⟨%W', HW⟩, H0, H1, H2, H3, H4⟩
  isplitl [HI]; · iexact HI
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.FrameHand.lean ====
/-
  The launch: the whole program's run, with what every buffer of the core holds at the end, and the frame.
-/
module

public import proofs.«01_k».proof.Proof.PointLast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The two cells of the kernel's own copies. -/
abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl

/-- The results that the kernel writes itself. -/
def R0 : Finset (Ref sig .tc) := {main_v61_1, main_v61_2}
theorem R0_sub : R0 ⊆ Pipeline.restRefs sig spec0 \ ∅ := by decide

/-- What the region leaves in them. -/
def G0 (c : Dev nD) (b : Ref sig .tc) : Buf (Elt F) ((c : Thread nD τ).loc b) :=
  if h : b = main_v61_1 then h ▸ resK m c 64 else if h : b = main_v61_2 then h ▸ resV m c 64 else V m c b
theorem G0_k (c : Dev nD) : G0 m c main_v61_1 = resK m c 64 := by
  unfold G0; rw [dif_pos rfl]
theorem G0_v (c : Dev nD) : G0 m c main_v61_2 = resV m c 64 := by
  unfold G0; rw [dif_neg (by decide), dif_pos rfl]

/-- A whole buffer held, in its two spellings. -/
theorem pt_whole (c : Dev nD) (b : Ref sig .tc) (f : Buf (Elt F) ((c : Thread nD τ).loc b)) :
    (pt c (Memref.whole b) f : sProp 𝕄) = (((c : Thread nD τ).loc b) ↦{fullShare} f) := by
  unfold pt; rw [show (Memref.whole b : Memref sig .tc _ _ _).view.set = Finset.univ from View.set_whole b]

theorem any_whole (c : Dev nD) (b : Ref sig .tc) :
    (iprop(∃ f : Buf (Elt F) ((c : Thread nD τ).loc b), ((c : Thread nD τ).loc b) ↦{fullShare} f) : sProp 𝕄)
      = iprop(∃ f : BufOf (F := F) c (Memref.whole b), pt c (Memref.whole b) f) :=
  congrArg (fun P : Buf (Elt F) ((c : Thread nD τ).loc b) → sProp 𝕄 => iprop(∃ f, P f)) (funext fun f => (pt_whole c b f).symm)

theorem R0_eq (c : Dev nD) (G : (b : Ref sig .tc) → Buf (Elt F) ((c : Thread nD τ).loc b)) :
    (bigSep R0 (fun b => ((c : Thread nD τ).loc b) ↦{fullShare} G b) : sProp 𝕄)
      = iprop(pt c dkH (G main_v61_1) ∗ pt c dvH (G main_v61_2)) := by
  rw [BI.bigSep_eq_bigSepL_of_eq [main_v61_1, main_v61_2] (by decide) (by decide)]
  rw [show (pt c dkH (G main_v61_1) : sProp 𝕄) = _ from pt_whole c _ _, show (pt c dvH (G main_v61_2) : sProp 𝕄) = _ from pt_whole c _ _]
  rfl

/-- What the region is entered and left with, spelled out. -/
theorem outer_eq (c : Dev nD) (G : (c : Dev nD) → (b : Ref sig .tc) → Buf (Elt F) ((c : Thread nD τ).loc b)) :
    (Pipeline.ΦDRV osem0 spec0 ∅ R0 (V m) G c : sProp 𝕄)
      = iprop(iprop((∃ f, pt c dqM f) ∗ (∃ f, pt c dkM f) ∗ (∃ f, pt c dvM f) ∗ (∃ f, pt c s0M f) ∗ (∃ f, pt c s1M f)
          ∗ (∃ f, pt c d0M f) ∗ (∃ f, pt c d1M f) ∗ (∃ f, pt c p0M f) ∗ (∃ f, pt c p1M f) ∗ (∃ f, pt c e0M f) ∗ (∃ f, pt c e1M f))
        ∗ iprop(semVal ((c : Thread nD τ), SemLoc.dma 8) 0 ∗ semVal ((c : Thread nD τ), SemLoc.dma 9) 0)
        ∗ emp ∗ iprop(pt c dkH (G c main_v61_1) ∗ pt c dvH (G c main_v61_2))) := by
  unfold Pipeline.ΦDRV
  rw [scopedRest0_eq, ownSems00_eq, R0_eq, BI.bigSep_empty]
  refine congrArg₂ _ ?_ rfl
  refine congrArg₂ _ (any_whole c cc0_scratch0) (congrArg₂ _ (any_whole c cc0_scratch1) (congrArg₂ _ (any_whole c cc0_scratch2)
    (congrArg₂ _ (any_whole c cc0_scratch3) (congrArg₂ _ (any_whole c cc0_scratch4) (congrArg₂ _ (any_whole c cc0_scratch5)
    (congrArg₂ _ (any_whole c cc0_scratch6) (congrArg₂ _ (any_whole c cc0_scratch7) (congrArg₂ _ (any_whole c cc0_scratch8)
    (congrArg₂ _ (any_whole c cc0_scratch9) (any_whole c cc0_scratch10))))))))))

theorem enter (c : Dev nD) : Pipeline.ΦDRV osem0 spec0 ∅ R0 (V m) (V m) c ⊢ Inv m c 0 := by
  rw [outer_eq]
  unfold Inv
  iintro ⟨⟨Hq, ⟨%fk, Hk⟩, ⟨%fv, Hv⟩, H⟩, ⟨Hs0, Hs1⟩, -, Hhk, Hhv⟩
  isplitl [Hk]
  · iexists fk; isplitr; · ipureintro; exact fun h => absurd rfl h
    iexact Hk
  isplitl [Hv]
  · iexists fv; isplitr; · ipureintro; exact fun h => absurd rfl h
    iexact Hv
  isplitl [Hq H]
  · isplitl [Hq]; · iexact Hq
    iexact H
  isplitl [Hs0]; · iexact Hs0
  isplitl [Hs1]; · iexact Hs1
  isplitl [Hhk]; · iexact Hhk
  iexact Hhv

theorem leave (c : Dev nD) : Inv m c 64 ⊢ Pipeline.ΦDRV osem0 spec0 ∅ R0 (V m) (G0 m) c := by
  rw [outer_eq, G0_k, G0_v]
  unfold Inv
  iintro ⟨⟨%fk, -, Hk⟩, ⟨%fv, -, Hv⟩, ⟨Hq, H⟩, Hs0, Hs1, Hhk, Hhv⟩
  isplitl [Hq Hk Hv H]
  · isplitl [Hq]; · iexact Hq
    isplitl [Hk]; · iexists fk; iexact Hk
    isplitl [Hv]; · iexists fv; iexact Hv
    iexact H
  isplitl [Hs0 Hs1]
  · isplitl [Hs0]; · iexact Hs0
    iexact Hs1
  isplitr; · iempintro
  isplitl [Hhk]; · iexact Hhk
  iexact Hhv

set_option maxHeartbeats 800000 in
/-- The program around the region. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the core's buffers hold after the region: the staged arrays, the two copied out, the rest as before it. -/
abbrev atEnd (c : Dev nD) : Valuation τ sig (Elt F) :=
  Pipeline.withArrays spec0 c (Pipeline.withR (V0 m c) R0 c (G0 m c)) fun w => (dats m 0 c).arrAt w cfg0.N

set_option backward.isDefEq.respectTransparency.types false in
/-- The whole run: every semaphore at zero, and each buffer that is no array of the pipeline as the host lines after the
    region leave it. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (List.flatten [hostOps1]) (atEnd m c) (Proc.devRef .tc b)) ∧ r.2.sem = fun _ => 0) :=
  Pipeline.θ_run_frame_dmaR_aroundV (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G0 m) (hmain := hmain m Variants.none) (hA := A_eq m)
    (hin := fun c => enter m c) (hout := fun c => leave m c)

end Cert.KernelIdeal.Hand

end
-- ==== Proof.Frames.lean ====
/-
  The two frames: the run of the one program, read at its arguments, and the other's from it, whose text is the same.
-/
module

public import proofs.«01_k».proof.Proof.FrameHand
public import proofs.«01_k».proof.Defs
public import proofs.«01_k».proof.Proof.Gen.Kernel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

variable (m : (ℓ : Loc nD τ sig) → Buf (Elt F) ℓ) (ρ : Dev nD → PrngReg)

/-- A buffer that neither the later host lines write nor the region ends as the region found it. -/
theorem after_keep (c : Dev nD) (b : Ref sig .tc) (h : ∀ op ∈ (List.flatten [hostOps1] : List (HloOp τ sig (Elt F))), Proc.devRef .tc b ∉ op.writes)
    (hw : ∀ w, Pipeline.arrRef spec0 w ≠ b) (hr : b ∉ R0) :
    StableHlo.after (List.flatten [hostOps1]) (atEnd m c) (Proc.devRef .tc b) = V m c b := by
  rw [StableHlo.after_of_forall_not_mem _ _ h]
  unfold atEnd
  rw [Pipeline.withArrays_of_ne _ c _ _ b hw, Pipeline.withR_of_not_mem _ _ _ _ b hr]

theorem end_arg0 (c : Dev nD) : StableHlo.after (List.flatten [hostOps1]) (atEnd m c) (Proc.devRef .tc main_arg0) = m ((c : Thread nD τ).loc main_arg0) := by
  rw [after_keep m c main_arg0 (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals exact StableHlo.devRef_ne_of_ne (by decide))) (by decide) (by decide)]
  exact V_main_arg0 m c
theorem end_arg1 (c : Dev nD) : StableHlo.after (List.flatten [hostOps1]) (atEnd m c) (Proc.devRef .tc main_arg1) = m ((c : Thread nD τ).loc main_arg1) := by
  rw [after_keep m c main_arg1 (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals exact StableHlo.devRef_ne_of_ne (by decide))) (by decide) (by decide)]
  exact V_main_arg1 m c
theorem end_arg2 (c : Dev nD) : StableHlo.after (List.flatten [hostOps1]) (atEnd m c) (Proc.devRef .tc main_arg2) = m ((c : Thread nD τ).loc main_arg2) := by
  rw [after_keep m c main_arg2 (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals exact StableHlo.devRef_ne_of_ne (by decide))) (by decide) (by decide)]
  exact V_main_arg2 m c
theorem end_arg3 (c : Dev nD) : StableHlo.after (List.flatten [hostOps1]) (atEnd m c) (Proc.devRef .tc main_arg3) = m ((c : Thread nD τ).loc main_arg3) := by
  rw [after_keep m c main_arg3 (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals exact StableHlo.devRef_ne_of_ne (by decide))) (by decide) (by decide)]
  exact V_main_arg3 m c

/-- The four arguments at a state where every buffer that no window stages is as the later host lines leave it. -/
theorem args_kept (c : Dev nD) {σ : (ℓ : Loc nD τ sig) → Buf (Elt F) ℓ} (h : ∀ b ∈ Pipeline.restRefs sig spec0,
      σ ((c.tc : Thread nD τ).loc b) = StableHlo.after (List.flatten [hostOps1]) (atEnd m c) (Proc.devRef .tc b)) :
    σ ((c.tc : Thread nD τ).loc main_arg0) = m ((c.tc : Thread nD τ).loc main_arg0)
      ∧ σ ((c.tc : Thread nD τ).loc main_arg1) = m ((c.tc : Thread nD τ).loc main_arg1)
      ∧ σ ((c.tc : Thread nD τ).loc main_arg2) = m ((c.tc : Thread nD τ).loc main_arg2)
      ∧ σ ((c.tc : Thread nD τ).loc main_arg3) = m ((c.tc : Thread nD τ).loc main_arg3) :=
  ⟨(h main_arg0 (Pipeline.mem_restRefs_of main_arg0 (by decide) (by decide))).trans (end_arg0 m c),
    (h main_arg1 (Pipeline.mem_restRefs_of main_arg1 (by decide) (by decide))).trans (end_arg1 m c),
    (h main_arg2 (Pipeline.mem_restRefs_of main_arg2 (by decide) (by decide))).trans (end_arg2 m c),
    (h main_arg3 (Pipeline.mem_restRefs_of main_arg3 (by decide) (by decide))).trans (end_arg3 m c)⟩

/-- The program runs, leaves its arguments as launched and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept m c (h.1 c).2, h.2⟩) (run_main m ρ)

theorem frame_ideal : Cert.quiescent_KernelIdeal := fun m ρ _ => frame_any m ρ

/-- The frame over bits, of this program's text. -/
def FrameBits : Prop :=
  ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The two programs have the same text. -/
theorem same_text : Cert.quiescent_Kernel = FrameBits := by sl_kernel_rfl

theorem frame_kernel : Cert.quiescent_Kernel := same_text.mpr fun m ρ _ => frame_any (F := Bits) m ρ

end Cert.KernelIdeal.Hand

end
-- ==== Proof.Math.lean ====
/-
  Softmax attention's gradients over the reals, and the few extended-real facts that lift them.
-/
module

public import Idealize.ShloMosaic.Lib.Pointwise
public import Idealize.ShloMosaic.Lib.IdealHost
public import Mathlib.Analysis.SpecialFunctions.Log.Basic

@[expose] public section

set_option maxRecDepth 16384

noncomputable section

namespace Cert.Attn

open Idealize.ShloMosaic
open scoped BigOperators

/-! ## Extended reals that are real -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite maximum of reals over a nonempty range, from minus infinity, is real. -/
theorem max_real {ι : Type} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM, EReal.coe_strictMono.monotone.map_max]

theorem div_real {x y : ℝ} (h : y ≠ 0) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (not_le.mpr h)]

/-- An extended real whose absolute value is below plus infinity is real. -/
theorem real_of_abs_lt {x : EReal} (h : max x (-x) < ⊤) : ((x.toReal : ℝ) : EReal) = x := by
  apply EReal.coe_toReal
  · rintro rfl; simp at h
  · rintro rfl; simp at h

/-- So an array whose absolute values all compare below plus infinity holds reals. -/
theorem real_of_pre {s : Shape} (x b : FVec Ideal s .f32) (hb : ∀ i, b i = (⊤ : EReal)) (h : cmpf .olt (Host.absf x) b = fun _ => 1#1) (i : s.Idx) :
    ((EReal.toReal (x i) : ℝ) : EReal) = x i := by
  have e : BitVec.ofBool (decide (max (x i : EReal) (-(x i : EReal)) < b i)) = 1#1 := congrFun h i
  rw [hb] at e
  refine real_of_abs_lt ?_
  by_contra hn
  rw [decide_eq_false hn] at e
  exact absurd e (by decide)

theorem ofBits_pos_inf : Ideal.ofBits .f32 0x7F800000#32 = ⊤ := by simp [Ideal.ofBits, Ideal.ieee]

/-- A host maximum of reals over a fiber that holds an index is real. -/
theorem reduce_max_real {s t u : Shape} {axes : List (Fin s.rank)} (x : FVec Ideal s .f32) (b : FVec Ideal u .f32) (h : s.ReducesTo axes t)
    (hu : 0 < u.numel) (j : t.Idx) (hb : b (Shape.Idx.first hu) = (⊥ : EReal)) (hx : ∀ i, ∃ r : ℝ, x i = (r : EReal))
    (hne : ∃ i, h.drop i = j) : ∃ M : ℝ, Host.reduce FloatOps.maximumf x b h hu j = (M : EReal) := by
  choose f hf using hx
  obtain ⟨M, hM⟩ := max_real (Finset.univ.filter fun i => h.drop i = j) (by obtain ⟨i, hi⟩ := hne; exact ⟨i, by simpa using hi⟩) f
  refine ⟨M, ?_⟩
  have e := Host.reduce_eq_fold (max : EReal → EReal → EReal) x b h hu j
  rw [hb] at e
  refine Eq.trans e (Eq.trans ?_ hM)
  exact congrArg (fun y : s.Idx → EReal => (Finset.univ.filter fun i => h.drop i = j).fold max ⊥ y) (funext hf)

theorem maximumf_bot {t : Shape} (x y : FVec Ideal t .f32) (j : t.Idx) (M : ℝ) (hx : x j = (⊥ : EReal)) (hy : y j = (M : EReal)) :
    maximumf x y j = (M : EReal) := by
  have e : maximumf x y j = max (x j : EReal) (y j : EReal) := rfl
  rw [e, hx, hy, max_eq_right bot_le]

theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The words of minus infinity and of 1/8. -/
theorem ofBits_neg_inf : Ideal.ofBits .f32 0xFF800000#32 = ⊥ := by simp [Ideal.ofBits, Ideal.ieee]
theorem ofBits_eighth : Ideal.ofBits .f32 0x3E000000#32 = ((1 / 8 : ℝ) : EReal) := by
  simp [Ideal.ofBits, Ideal.ieee]
  rw [← EReal.coe_mul]; norm_num

/-! ## A row of the softmax -/

variable {ι δ : Type} [Fintype ι] [Fintype δ]

/-- A row's probabilities, of its scores. -/
def prob (s : ι → ℝ) (j : ι) : ℝ := Real.exp (s j) / ∑ j', Real.exp (s j')

theorem sum_exp_pos [Nonempty ι] (s : ι → ℝ) (M : ℝ) : 0 < ∑ j, Real.exp (s j - M) :=
  Finset.sum_pos (fun _ _ => Real.exp_pos _) Finset.univ_nonempty

theorem sum_shift (s : ι → ℝ) (M : ℝ) : ∑ j, Real.exp (s j - M) = (∑ j, Real.exp (s j)) / Real.exp M := by
  rw [Finset.sum_div]; exact Finset.sum_congr rfl fun j _ => Real.exp_sub _ _

/-- They do not change when the scores are shifted. -/
theorem prob_shift (s : ι → ℝ) (M : ℝ) (j : ι) : Real.exp (s j - M) / ∑ j', Real.exp (s j' - M) = prob s j := by
  rw [sum_shift, Real.exp_sub, prob, div_div_div_cancel_right₀ (Real.exp_pos M).ne']

/-- The exponential of a score less the row's log-sum is its probability. -/
theorem prob_lse [Nonempty ι] (s : ι → ℝ) (M : ℝ) (j : ι) :
    Real.exp (s j - (M + Real.log (∑ j', Real.exp (s j' - M)))) = prob s j := by
  rw [← sub_sub, Real.exp_sub, Real.exp_log (sum_exp_pos s M), prob_shift]

/-- The row's cotangent times its output is the probabilities' mean of the products. -/
theorem sum_delta (w : δ → ℝ) (p : ι → ℝ) (v : ι → δ → ℝ) :
    ∑ d, w d * ∑ j, p j * v j d = ∑ j, p j * ∑ d, w d * v j d := by
  simp only [Finset.mul_sum]
  rw [Finset.sum_comm]
  exact Finset.sum_congr rfl fun j _ => Finset.sum_congr rfl fun d _ => by ring

/-- The derivative of the softmax as automatic differentiation writes it. -/
theorem soft_grad [Nonempty ι] (s dp : ι → ℝ) (M : ℝ) (j : ι) :
    (dp j / (∑ j', Real.exp (s j' - M))
        + -(∑ j', dp j' * (1 / ((∑ j'', Real.exp (s j'' - M)) * ∑ j'', Real.exp (s j'' - M))) * Real.exp (s j' - M))) * Real.exp (s j - M)
      = prob s j * (dp j - ∑ j', prob s j' * dp j') := by
  have hl := (sum_exp_pos s M).ne'
  simp only [← prob_shift s M]
  have e : ∑ j', dp j' * (1 / ((∑ j'', Real.exp (s j'' - M)) * ∑ j'', Real.exp (s j'' - M))) * Real.exp (s j' - M)
      = (∑ j', Real.exp (s j' - M) / (∑ j'', Real.exp (s j'' - M)) * dp j') / ∑ j'', Real.exp (s j'' - M) := by
    rw [Finset.sum_div]
    exact Finset.sum_congr rfl fun j' _ => by field_simp
  rw [e]
  field_simp
  ring

/-! ## The gradients -/

/-- The arguments as reals: `q` and the cotangent by key head, member of its group, token and lane; `k` and `v` by key head,
    token and lane. -/
structure Args where
  q : Fin 2 → Fin 4 → Fin 16384 → Fin 64 → ℝ
  k : Fin 2 → Fin 16384 → Fin 64 → ℝ
  v : Fin 2 → Fin 16384 → Fin 64 → ℝ
  w : Fin 2 → Fin 4 → Fin 16384 → Fin 64 → ℝ

variable (A : Args)

/-- The scores of a row. -/
def score (g : Fin 2) (a : Fin 4) (i j : Fin 16384) : ℝ := (∑ d, A.q g a i d * A.k g j d) * (1 / 8)
def pr (g : Fin 2) (a : Fin 4) (i j : Fin 16384) : ℝ := prob (score A g a i) j
/-- The gradient of a probability. -/
def dpr (g : Fin 2) (a : Fin 4) (i j : Fin 16384) : ℝ := ∑ d, A.w g a i d * A.v g j d
def del (g : Fin 2) (a : Fin 4) (i : Fin 16384) : ℝ := ∑ j, pr A g a i j * dpr A g a i j
/-- The gradient of a score. -/
def dsc (g : Fin 2) (a : Fin 4) (i j : Fin 16384) : ℝ := pr A g a i j * (dpr A g a i j - del A g a i)
/-- The gradients of `q`, `k` and `v`. -/
def gq (g : Fin 2) (a : Fin 4) (i : Fin 16384) (d : Fin 64) : ℝ := (∑ j, dsc A g a i j * A.k g j d) * (1 / 8)
def gk (g : Fin 2) (j : Fin 16384) (d : Fin 64) : ℝ := ∑ a, ∑ i, dsc A g a i j * (A.q g a i d * (1 / 8))
def gv (g : Fin 2) (j : Fin 16384) (d : Fin 64) : ℝ := ∑ a, ∑ i, A.w g a i d * pr A g a i j

end Cert.Attn

end
-- ==== Proof.HostTerms.lean ====
/-
  The slabs that the kernel's host lines prepare, as named terms of the arguments.
-/
module

public import proofs.«01_k».proof.Proof.Math
public import proofs.«01_k».proof.Proof.Gen.KernelIdeal.Launch
public import proofs.«01_k».proof.Proof.Gen.KernelIdeal.Frame
public import Idealize.ShloMosaic.Lib.StableHlo.Run

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.StableHlo

/-- Queries by head. -/
def byQuery (x : FVec Ideal S16384x8x64 .f32) : FVec Ideal S8x16384x64 .f32 := transpose S8x16384x64 [1, 0, 2] x transposes_S16384x8x64_S8x16384x64_1_0_2
def qhT (Q : FVec Ideal S1x16384x8x64 .f32) : FVec Ideal S8x16384x64 .f32 :=
  mulf (byQuery (shapeCast _ Q shapeCasts_S1x16384x8x64_S16384x8x64)) (broadcastInDim S8x16384x64 ![] bcast_S_S8x16384x64 (constant S_ .f32 0x3E000000#32))
def dhT (D : FVec Ideal S1x16384x512 .f32) : FVec Ideal S8x16384x64 .f32 :=
  byQuery (shapeCast S16384x8x64 (shapeCast S1x16384x8x64 D shapeCasts_S1x16384x512_S1x16384x8x64) shapeCasts_S1x16384x8x64_S16384x8x64)
def khT (K : FVec Ideal S1x16384x2x64 .f32) : FVec Ideal S2x16384x64 .f32 :=
  transpose S2x16384x64 [1, 0, 2] (shapeCast S16384x2x64 K shapeCasts_S1x16384x2x64_S16384x2x64) transposes_S16384x2x64_S2x16384x64_1_0_2
/-- The scores, their row maxima, exponentials and row sums. -/
def scT (Q : FVec Ideal S1x16384x8x64 .f32) (K : FVec Ideal S1x16384x2x64 .f32) : FVec Ideal S2x4x16384x16384 .f32 :=
  Host.dotGeneral dot_S2x4x16384x64_S2x16384x64_S2x4x16384x16384_3_2_12_1_0_0 none (shapeCast S2x4x16384x64 (qhT Q) shapeCasts_S8x16384x64_S2x4x16384x64) (khT K)
def mxT (s : FVec Ideal S2x4x16384x16384 .f32) : FVec Ideal S2x4x16384 .f32 :=
  Host.reduce FloatOps.maximumf s (constant S_ .f32 0xFF800000#32) reducesTo_S2x4x16384x16384_S2x4x16384_d3 h_S_
def colT (x : FVec Ideal S2x4x16384 .f32) : FVec Ideal S2x4x16384x1 .f32 := broadcastInDim S2x4x16384x1 ![0, 1, 2] bcast_S2x4x16384_S2x4x16384x1_0_1_2 x
def sprT (x : FVec Ideal S2x4x16384x1 .f32) : FVec Ideal S2x4x16384x16384 .f32 :=
  broadcastInDim S2x4x16384x16384 ![0, 1, 2, 3] bcast_S2x4x16384x1_S2x4x16384x16384_0_1_2_3 x
def exT (s : FVec Ideal S2x4x16384x16384 .f32) : FVec Ideal S2x4x16384x16384 .f32 := Host.exp (subf s (sprT (colT (mxT s))))
def smT (s : FVec Ideal S2x4x16384x16384 .f32) : FVec Ideal S2x4x16384x1 .f32 :=
  colT (Host.reduceAdd (exT s) (constant S_ .f32 0x00000000#32) reducesTo_S2x4x16384x16384_S2x4x16384_d3 h_S_)
/-- Each row's log-sum. -/
def lseT (s : FVec Ideal S2x4x16384x16384 .f32) : FVec Ideal S8x16384x1 .f32 :=
  shapeCast S8x16384x1 (addf (colT (mxT s)) (Host.log (smT s))) shapeCasts_S2x4x16384x1_S8x16384x1
/-- The attention's output, and each row's sum of it times the cotangent. -/
def outT (s : FVec Ideal S2x4x16384x16384 .f32) (V : FVec Ideal S1x16384x2x64 .f32) : FVec Ideal S8x16384x64 .f32 :=
  shapeCast S8x16384x64 (Host.dotGeneral dot_S2x4x16384x16384_S2x16384x64_S2x4x16384x64_3_1_12_2_0_0 none (Host.divf (exT s) (sprT (smT s))) (khT V) :
    FVec Ideal S2x4x16384x64 .f32) shapeCasts_S2x4x16384x64_S8x16384x64
def delT (o d : FVec Ideal S8x16384x64 .f32) : FVec Ideal S8x16384x1 .f32 :=
  broadcastInDim S8x16384x1 ![0, 1] bcast_S8x16384_S8x16384x1_0_1
    (Host.reduceAdd (mulf d o) (constant S_ .f32 0x00000000#32) reducesTo_S8x16384x64_S8x16384_d2 h_S_)

/-- The nearest narrow value, and what is left. -/
def nearT (x : FVec Ideal S8x16384x1 .f32) : FVec Ideal S8x16384x1 .f32 := extf .f32 (truncf .bf16 x bitsLt_bf16_f32) bitsLt_bf16_f32
def leftT (x : FVec Ideal S8x16384x1 .f32) : FVec Ideal S8x16384x1 .f32 := subf x (nearT x)
/-- A slab of queries: 64 lanes of `a`, minus `x` in three parts, zeros. -/
def rowSlab (a : FVec Ideal S8x16384x64 .f32) (x : FVec Ideal S8x16384x1 .f32) : FVec Ideal S8x16384x128 .bf16 :=
  truncf .bf16 (concatenate S8x16384x128 2 [⟨S8x16384x64, a⟩, ⟨S8x16384x1, nearT (Host.negf x)⟩, ⟨S8x16384x1, nearT (leftT (Host.negf x))⟩,
    ⟨S8x16384x1, nearT (leftT (leftT (Host.negf x)))⟩,
    ⟨S8x16384x61, broadcastInDim S8x16384x61 ![] bcast_S_S8x16384x61 (constant (F := Ideal) S_ .f32 0x00000000#32)⟩]
    concatenates_S8x16384x64_S8x16384x1_S8x16384x1_S8x16384x1_S8x16384x61_S8x16384x128_d2 : FVec Ideal S8x16384x128 .f32) bitsLt_bf16_f32
/-- A slab of keys: 64 lanes of `a`, three ones, zeros. -/
def keySlab (a : FVec Ideal S2x16384x64 .f32) : FVec Ideal S2x16384x128 .bf16 :=
  truncf .bf16 (concatenate S2x16384x128 2 [⟨S2x16384x64, a⟩,
    ⟨S2x16384x3, broadcastInDim S2x16384x3 ![] bcast_S_S2x16384x3 (constant (F := Ideal) S_ .f32 0x3F800000#32)⟩,
    ⟨S2x16384x61, broadcastInDim S2x16384x61 ![] bcast_S_S2x16384x61 (constant (F := Ideal) S_ .f32 0x00000000#32)⟩]
    concatenates_S2x16384x64_S2x16384x3_S2x16384x61_S2x16384x128_d2 : FVec Ideal S2x16384x128 .f32) bitsLt_bf16_f32

/-- The five pieces of a slab of queries, each replaced by an equal one. -/
theorem pieces {a a' : FVec Ideal S8x16384x64 .f32} {b b' x x' y y' : FVec Ideal S8x16384x1 .f32} {z z' : FVec Ideal S8x16384x61 .f32}
    (ha : a = a') (hb : b = b') (hx : x = x') (hy : y = y') (hz : z = z') :
    (truncf .bf16 (concatenate S8x16384x128 2 [⟨S8x16384x64, a⟩, ⟨S8x16384x1, b⟩, ⟨S8x16384x1, x⟩, ⟨S8x16384x1, y⟩, ⟨S8x16384x61, z⟩]
      concatenates_S8x16384x64_S8x16384x1_S8x16384x1_S8x16384x1_S8x16384x61_S8x16384x128_d2 : FVec Ideal S8x16384x128 .f32) bitsLt_bf16_f32
        : FVec Ideal S8x16384x128 .bf16)
      = truncf .bf16 (concatenate S8x16384x128 2 [⟨S8x16384x64, a'⟩, ⟨S8x16384x1, b'⟩, ⟨S8x16384x1, x'⟩, ⟨S8x16384x1, y'⟩, ⟨S8x16384x61, z'⟩]
      concatenates_S8x16384x64_S8x16384x1_S8x16384x1_S8x16384x1_S8x16384x61_S8x16384x128_d2 : FVec Ideal S8x16384x128 .f32) bitsLt_bf16_f32 := by
  subst ha hb hx hy hz; rfl

variable (m : (ℓ : Loc nD τ sig) → Buf (Elt Ideal) ℓ) (c : Dev nD)

theorem slab_k : V m c main_v57 = keySlab (khT (m ((c.tc : Thread nD τ).loc main_arg1))) := by
  unfold V V0; simp only [List.flatten_cons, List.flatten_nil, List.append_nil]; after_results_simp <;> rfl
theorem slab_v : V m c main_v60 = keySlab (khT (m ((c.tc : Thread nD τ).loc main_arg2))) := by
  unfold V V0; simp only [List.flatten_cons, List.flatten_nil, List.append_nil]; after_results_simp <;> rfl
theorem slab_q : V m c main_v42 = rowSlab (qhT (m ((c.tc : Thread nD τ).loc main_arg0)))
    (lseT (scT (m ((c.tc : Thread nD τ).loc main_arg0)) (m ((c.tc : Thread nD τ).loc main_arg1)))) := by
  unfold V V0; simp only [List.flatten_cons, List.flatten_nil, List.append_nil]; after_results_simp
  refine pieces ?_ ?_ ?_ ?_ ?_ <;> dsimp only [Matrix.cons_val] <;> after_results_simp <;> rfl
theorem slab_d : V m c main_v54 = rowSlab (dhT (m ((c.tc : Thread nD τ).loc main_arg3)))
    (delT (outT (scT (m ((c.tc : Thread nD τ).loc main_arg0)) (m ((c.tc : Thread nD τ).loc main_arg1))) (m ((c.tc : Thread nD τ).loc main_arg2)))
      (dhT (m ((c.tc : Thread nD τ).loc main_arg3)))) := by
  unfold V V0; simp only [List.flatten_cons, List.flatten_nil, List.append_nil]; after_results_simp
  refine pieces ?_ ?_ ?_ ?_ ?_ <;> dsimp only [Matrix.cons_val] <;> after_results_simp <;> rfl

end Cert.KernelIdeal.Hand

end
-- ==== Proof.HostValue.lean ====
/-
  The slabs at an index, over real arguments.
-/
module

public import proofs.«01_k».proof.Proof.HostTerms

@[expose] public section

set_option maxRecDepth 16384

noncomputable section

namespace Cert.KernelIdeal.Hand

open Cert.KernelIdeal Cert.KernelIdeal.Gen Cert.Attn
open Idealize.ShloMosaic Idealize.ShloMosaic.TcCoe
open scoped BigOperators

/-- Member `a` of group `g`. -/
def head (g : Fin 2) (a : Fin 4) : Fin 8 := ⟨g.val * 4 + a.val, by omega⟩

theorem qhT_apply (Q : FVec Ideal S1x16384x8x64 .f32) (h : Fin 8) (i : Fin 16384) (d : Fin 64) :
    qhT Q (ix3 h i d) = (Q (ix4 0 i h d) * Ideal.ofBits .f32 0x3E000000#32 : EReal) := by
  pointwise [qhT, byQuery]
theorem dhT_apply (D : FVec Ideal S1x16384x512 .f32) (g : Fin 2) (a : Fin 4) (i : Fin 16384) (d : Fin 64) :
    dhT D (ix3 (head g a) i d) = D (ix3 0 i ⟨g.val * 256 + a.val * 64 + d.val, by omega⟩) := by
  unfold head
  pointwise [dhT, byQuery]
  refine congrArg (fun n => D (ix3 0 i n)) (Fin.ext ?_)
  show (g.val * 4 + a.val) * 64 + d.val = g.val * 256 + a.val * 64 + d.val
  omega
theorem khT_apply (K : FVec Ideal S1x16384x2x64 .f32) (g : Fin 2) (j : Fin 16384) (d : Fin 64) : khT K (ix3 g j d) = K (ix4 0 j g d) := by
  pointwise [khT]
theorem scT_apply (Q : FVec Ideal S1x16384x8x64 .f32) (K : FVec Ideal S1x16384x2x64 .f32) (g : Fin 2) (a : Fin 4) (i j : Fin 16384) :
    scT Q K (ix4 g a i j) = (∑ d : Fin 64, qhT Q (ix3 (head g a) i d) * khT K (ix3 g j d) : EReal) := by
  unfold head
  pointwise [scT]
theorem sprT_apply (x : FVec Ideal S2x4x16384 .f32) (g : Fin 2) (a : Fin 4) (i j : Fin 16384) :
    sprT (colT x) (ix4 g a i j) = x (ix3 g a i) := by
  pointwise [sprT, colT]
theorem smT_apply (s : FVec Ideal S2x4x16384x16384 .f32) (g : Fin 2) (a : Fin 4) (i : Fin 16384) :
    smT s (ix4 g a i 0) = (∑ j : Fin 16384, exT s (ix4 g a i j) : EReal) := by
  pointwise [smT, colT]
theorem spr_apply (x : FVec Ideal S2x4x16384x1 .f32) (g : Fin 2) (a : Fin 4) (i j : Fin 16384) :
    sprT x (ix4 g a i j) = x (ix4 g a i 0) := by
  pointwise [sprT]
theorem lse_apply (x : FVec Ideal S2x4x16384 .f32) (y : FVec Ideal S2x4x16384x1 .f32) (g : Fin 2) (a : Fin 4) (i : Fin 16384) :
    (shapeCast S8x16384x1 (addf (colT x) (Host.log y)) shapeCasts_S2x4x16384x1_S8x16384x1 : FVec Ideal S8x16384x1 .f32) (ix3 (head g a) i 0)
      = (x (ix3 g a i) + Ideal.log (y (ix4 g a i 0)) : EReal) := by
  unfold head
  pointwise [colT]
theorem lseT_apply (s : FVec Ideal S2x4x16384x16384 .f32) (g : Fin 2) (a : Fin 4) (i : Fin 16384) :
    lseT s (ix3 (head g a) i 0) = (mxT s (ix3 g a i) + Ideal.log (smT s (ix4 g a i 0)) : EReal) := by
  exact lse_apply (mxT s) (smT s) g a i
theorem outT_apply (s : FVec Ideal S2x4x16384x16384 .f32) (V : FVec Ideal S1x16384x2x64 .f32) (g : Fin 2) (a : Fin 4) (i : Fin 16384) (d : Fin 64) :
    outT s V (ix3 (head g a) i d) = (∑ j : Fin 16384, Ideal.div (exT s (ix4 g a i j)) (smT s (ix4 g a i 0)) * khT V (ix3 g j d) : EReal) := by
  unfold head
  pointwise [outT, sprT]
theorem delT_apply (o x : FVec Ideal S8x16384x64 .f32) (h : Fin 8) (i : Fin 16384) :
    delT o x (ix3 h i 0) = (∑ d : Fin 64, x (ix3 h i d) * o (ix3 h i d) : EReal) := by
  pointwise [delT]
theorem nearT_eq (x : FVec Ideal S8x16384x1 .f32) : nearT x = x := rfl
theorem leftT_apply (x : FVec Ideal S8x16384x1 .f32) (h : Fin 8) (i : Fin 16384) : leftT x (ix3 h i 0) = (x (ix3 h i 0) - x (ix3 h i 0) : EReal) := by
  pointwise [leftT, nearT]

/-- Lanes of a row slab and of a key slab. -/
def lanes (f : Fin 64 → ℝ) (x : ℝ) (l : Fin 128) : ℝ := if h : l.val < 64 then f ⟨l.val, h⟩ else if l.val = 64 then x else 0
def keyLanes (f : Fin 64 → ℝ) (l : Fin 128) : ℝ := if h : l.val < 64 then f ⟨l.val, h⟩ else if l.val < 67 then 1 else 0

theorem sum_lanes (f k : Fin 64 → ℝ) (x : ℝ) : ∑ l, lanes f x l * keyLanes k l = (∑ d, f d * k d) + x := by
  have e : ∀ l : Fin (64 + 64), lanes f x l * keyLanes k l
      = Fin.addCases (fun d => f d * k d) (fun d : Fin 64 => if d = 0 then x else 0) l := by
    intro l
    refine Fin.addCases (fun d => ?_) (fun d => ?_) l
    · rw [Fin.addCases_left]
      have h : (Fin.castAdd 64 d : Fin (64 + 64)).val < 64 := d.isLt
      rw [lanes, keyLanes, dif_pos h, dif_pos h]; rfl
    · rw [Fin.addCases_right]
      have h : ¬ (Fin.natAdd 64 d : Fin (64 + 64)).val < 64 := by show ¬ 64 + d.val < 64; omega
      rw [lanes, keyLanes, dif_neg h, dif_neg h]
      by_cases hd : d = 0
      · subst hd
        rw [if_pos (by rfl), if_pos (by decide), if_pos rfl, mul_one]
      · have hv : d.val ≠ 0 := fun e => hd (Fin.ext e)
        rw [if_neg (by show ¬ 64 + d.val = 64; omega), if_neg hd, zero_mul]
  refine (Finset.sum_congr rfl fun l _ => e l).trans ((Fin.sum_univ_add (a := 64) (b := 64) _).trans ?_)
  simp only [Fin.addCases_left, Fin.addCases_right, Finset.sum_ite_eq', Finset.mem_univ, if_true]

theorem rowSlab_real (a : FVec Ideal S8x16384x64 .f32) (x : FVec Ideal S8x16384x1 .f32) (h : Fin 8) (i : Fin 16384) (f : Fin 64 → ℝ) (y : ℝ)
    (ha : ∀ d, a (ix3 h i d) = (f d : EReal)) (hx : x (ix3 h i 0) = (y : EReal)) (l : Fin 128) :
    rowSlab a x (ix3 h i l) = (lanes f (-y) l : EReal) := by
  have n0 : (Host.negf x : FVec Ideal S8x16384x1 .f32) (ix3 h i 0) = ((-y : ℝ) : EReal) := by
    rw [EReal.coe_neg, ← hx]; rfl
  have n1 : leftT (Host.negf x) (ix3 h i 0) = (0 : EReal) := by
    rw [leftT_apply, n0, ← EReal.coe_sub, sub_self, EReal.coe_zero]
  have n2 : leftT (leftT (Host.negf x)) (ix3 h i 0) = (0 : EReal) := by
    rw [leftT_apply, n1, sub_zero]
  pointwise [rowSlab]
  rw [lanes]
  simp only [nearT_eq]
  split_ifs with h0 h1 h2 h3 h4 <;> first
    | exact ha _
    | omega
    | (have e : l.val = 64 := by omega
       rw [if_pos e, ← n0]; exact congrArg (fun n => Host.negf x (ix3 h i n)) (Fin.ext (by show l.val - 64 = 0; omega)))
    | (have e : ¬ l.val = 64 := by omega
       rw [if_neg e, EReal.coe_zero]
       first
         | exact n1 ▸ congrArg (fun n => leftT (Host.negf x) (ix3 h i n)) (Fin.ext (by show l.val - 64 - 1 = 0; omega))
         | exact n2 ▸ congrArg (fun n => leftT (leftT (Host.negf x)) (ix3 h i n)) (Fin.ext (by show l.val - 64 - 1 - 1 = 0; omega)))
    | exact EReal.coe_zero.symm

theorem keySlab_real (a : FVec Ideal S2x16384x64 .f32) (h : Fin 2) (i : Fin 16384) (f : Fin 64 → ℝ)
    (ha : ∀ d, a (ix3 h i d) = (f d : EReal)) (l : Fin 128) :
    keySlab a (ix3 h i l) = (keyLanes f l : EReal) := by
  pointwise [keySlab]
  rw [keyLanes]
  split_ifs with h0 h1 h2 h3 h4 <;> first
    | exact ha _
    | omega
    | rfl

/-! ## Over the reals -/

variable {A : Args} {Q : FVec Ideal S1x16384x8x64 .f32} {K V : FVec Ideal S1x16384x2x64 .f32} {D : FVec Ideal S1x16384x512 .f32}
  (hq : ∀ (g : Fin 2) (a : Fin 4) i d, Q (ix4 0 i (head g a) d) = (A.q g a i d : EReal))
  (hk : ∀ (g : Fin 2) j d, K (ix4 0 j g d) = (A.k g j d : EReal))
  (hv : ∀ (g : Fin 2) j d, V (ix4 0 j g d) = (A.v g j d : EReal))
  (hw : ∀ (g : Fin 2) (a : Fin 4) i (d : Fin 64), D (ix3 0 i ⟨g.val * 256 + a.val * 64 + d.val, by omega⟩) = (A.w g a i d : EReal))
  (g : Fin 2) (a : Fin 4) (i : Fin 16384)

include hq in
theorem qhT_real (d : Fin 64) : qhT Q (ix3 (head g a) i d) = ((A.q g a i d * (1 / 8) : ℝ) : EReal) := by
  rw [qhT_apply, ofBits_eighth, hq, EReal.coe_mul]
include hk in
theorem khT_real (d : Fin 64) : khT K (ix3 g i d) = (A.k g i d : EReal) := by rw [khT_apply, hk]
include hv in
theorem vhT_real (d : Fin 64) : khT V (ix3 g i d) = (A.v g i d : EReal) := by rw [khT_apply, hv]
include hw in
theorem dhT_real (d : Fin 64) : dhT D (ix3 (head g a) i d) = (A.w g a i d : EReal) := by rw [dhT_apply, hw]
include hq hk in
theorem scT_real (j : Fin 16384) : scT Q K (ix4 g a i j) = (score A g a i j : EReal) := by
  rw [scT_apply, score, Finset.sum_mul, ← coe_sum]
  refine Finset.sum_congr rfl fun d _ => ?_
  rw [qhT_real hq, khT_real hk, ← EReal.coe_mul, mul_right_comm]

include hq hk in
theorem mxT_real : ∃ M : ℝ, mxT (scT Q K) (ix3 g a i) = (M : EReal) := by
  refine reduce_max_real (scT Q K) (constant S_ .f32 0xFF800000#32) reducesTo_S2x4x16384x16384_S2x4x16384_d3 h_S_ (ix3 g a i)
    ofBits_neg_inf (fun n => ?_) ⟨ix4 g a i 0, by funext b; fin_cases b <;> rfl⟩
  obtain ⟨n0, n1, n2, n3, rfl⟩ : ∃ n0 n1 n2 n3, n = ix4 n0 n1 n2 n3 := ⟨_, _, _, _, eq_ix4 n⟩
  exact ⟨_, scT_real hq hk n0 n1 n2 n3⟩

section
variable (M : ℝ) (hM : mxT (scT Q K) (ix3 g a i) = (M : EReal))
include hq hk hM
theorem exT_real (j : Fin 16384) : exT (scT Q K) (ix4 g a i j) = ((Real.exp (score A g a i j - M) : ℝ) : EReal) := by
  rw [exT, hostExp_apply, ValueIdx.subf_apply, sprT_apply, hM, scT_real hq hk, ← EReal.coe_sub, Ideal.exp_coe]
theorem smT_real : smT (scT Q K) (ix4 g a i 0) = ((∑ j, Real.exp (score A g a i j - M) : ℝ) : EReal) := by
  rw [smT_apply, ← coe_sum]
  exact Finset.sum_congr rfl fun j _ => exT_real hq hk g a i M hM j
theorem lseT_real : lseT (scT Q K) (ix3 (head g a) i 0) = ((M + Real.log (∑ j, Real.exp (score A g a i j - M)) : ℝ) : EReal) := by
  rw [lseT_apply, hM, smT_real hq hk g a i M hM, log_real (sum_exp_pos (score A g a i) M), EReal.coe_add]
end

include hq hk hv in
theorem outT_real (d : Fin 64) : outT (scT Q K) V (ix3 (head g a) i d) = ((∑ j, pr A g a i j * A.v g j d : ℝ) : EReal) := by
  obtain ⟨M, hM⟩ := mxT_real hq hk g a i
  rw [outT_apply, ← coe_sum]
  refine Finset.sum_congr rfl fun j _ => ?_
  rw [exT_real hq hk g a i M hM, smT_real hq hk g a i M hM, div_real (sum_exp_pos (score A g a i) M).ne', prob_shift, vhT_real hv, ← EReal.coe_mul]
  rfl

include hq hk hv hw in
theorem delT_real : delT (outT (scT Q K) V) (dhT D) (ix3 (head g a) i 0) = (del A g a i : EReal) := by
  have e : del A g a i = ∑ d, A.w g a i d * ∑ j, pr A g a i j * A.v g j d := (sum_delta (A.w g a i) (pr A g a i) (A.v g)).symm
  rw [delT_apply, e, ← coe_sum]
  refine Finset.sum_congr rfl fun d _ => ?_
  rw [dhT_real hw, outT_real hq hk hv, ← EReal.coe_mul]

end Cert.KernelIdeal.Hand

end
-- ==== Proof.PayValue.lean ====
/-
  The body's pure steps at an index, at the ideal values.
-/
module

public import proofs.«01_k».proof.Proof.Steps
public import proofs.«01_k».proof.Proof.Math

@[expose] public section

set_option maxRecDepth 16384

noncomputable section

namespace Cert.KernelIdeal.Hand

open Cert.KernelIdeal Cert.KernelIdeal.Gen Cert.Attn
open Idealize.ShloMosaic Idealize.ShloMosaic.TcCoe
open Idealize.ShloMosaic.VecWindow
open scoped BigOperators

theorem pay3_apply (q : FVec Ideal S2048x128 .bf16) (k : Vec Ideal S1x512x128 .bf16) (r : Fin 2048) (t : Fin 512) :
    k0_pay3 q k (ix2 r t) = (∑ l : Fin 128, q (ix2 r l) * k (ix3 0 t l) : EReal) := by
  pointwise [k0_pay3]
theorem pay4_apply (q : FVec Ideal S2048x128 .bf16) (k : Vec Ideal S1x512x128 .bf16) (r : Fin 2048) (t : Fin 512) :
    k0_pay4 q k (ix2 r t) = (∑ l : Fin 128, q (ix2 r l) * k (ix3 0 t l) : EReal) := by
  pointwise [k0_pay4]
theorem pay18_apply (e : Vec Ideal S2048x512 .bf16) (x : Vec Ideal S2048x128 .f32) (k : Vec Ideal S1x512x128 .bf16) (r : Fin 2048) (l : Fin 128) :
    k0_pay18 e x k (ix2 r l) = (x (ix2 r l) + ∑ t : Fin 512, e (ix2 r t) * k (ix3 0 t l) : EReal) := by
  pointwise [k0_pay18]
theorem pay19_apply (d : FVec Ideal S128x2048 .bf16) (x : Vec Ideal S1x128x512 .f32) (p : Vec Ideal S2048x512 .bf16) (l : Fin 128) (t : Fin 512) :
    k0_pay19 d x p (ix3 0 l t) = (x (ix3 0 l t) + ∑ r : Fin 2048, d (ix2 l r) * p (ix2 r t) : EReal) := by
  pointwise [k0_pay19]
theorem pay20_apply (q : FVec Ideal S128x2048 .bf16) (e : Vec Ideal S2048x512 .bf16) (x : Vec Ideal S1x128x512 .f32) (l : Fin 128) (t : Fin 512) :
    k0_pay20 q e x (ix3 0 l t) = (x (ix3 0 l t) + ∑ r : Fin 2048, q (ix2 l r) * e (ix2 r t) : EReal) := by
  pointwise [k0_pay20]
theorem pOf_apply (s : Vec Ideal S2048x512 .f32) (r : Fin 2048) (t : Fin 512) : pOf s (ix2 r t) = Ideal.exp (s (ix2 r t)) := by
  pointwise [pOf]
theorem eOf_apply (s d : Vec Ideal S2048x512 .f32) (r : Fin 2048) (t : Fin 512) :
    eOf s d (ix2 r t) = (Ideal.exp (s (ix2 r t)) * d (ix2 r t) : EReal) := by
  pointwise [eOf, pOf]
theorem pay81_apply (r : Fin 2048) (l : Fin 128) : (k0_pay81 (F := Ideal)) (ix2 r l) = (0 : EReal) := by
  pointwise [k0_pay81]
theorem pay82_apply (j : Fin 32) (l : Fin 128) (t : Fin 512) : (k0_pay82 (F := Ideal)) (ix3 j l t) = (0 : EReal) := by
  pointwise [k0_pay82]
theorem pay83_apply (j : Fin 32) (l : Fin 128) (t : Fin 512) : (k0_pay83 (F := Ideal)) (ix3 j l t) = (0 : EReal) := by
  pointwise [k0_pay83]
theorem pay84_apply (r : Fin 2048) (t : Fin 512) : (k0_pay84 (F := Ideal)) (ix2 r t) = (0 : EReal) := by
  pointwise [k0_pay84]
theorem pay85_apply (r : Fin 2048) (t : Fin 512) : (k0_pay85 (F := Ideal)) (ix2 r t) = (0 : EReal) := by
  pointwise [k0_pay85]

/-- Row `512 a + i` of a block's 2048: row `i` of the group's member `a`. -/
def rowOf (a : Fin 4) (i : Fin 512) : Fin 2048 := ⟨a.val * 512 + i.val, by omega⟩
theorem pay77_apply (x : Vec Ideal S4x512x128 .bf16) (a : Fin 4) (i : Fin 512) (l : Fin 128) :
    k0_pay77 x (ix2 (rowOf a i) l) = x (ix3 a i l) := by
  unfold rowOf
  pointwise [k0_pay77]
theorem pay78_apply (x : Vec Ideal S4x512x128 .bf16) (a : Fin 4) (i : Fin 512) (l : Fin 128) :
    k0_pay78 x (ix2 (rowOf a i) l) = x (ix3 a i l) := by
  unfold rowOf
  pointwise [k0_pay78]
theorem pay79_apply (x : Vec Ideal S4x512x128 .bf16) (r : Fin 2048) (l : Fin 128) :
    k0_pay79 x (ix2 l r) = k0_pay77 x (ix2 r l) := by
  pointwise [k0_pay79]
theorem pay80_apply (x : Vec Ideal S4x512x128 .bf16) (r : Fin 2048) (l : Fin 128) :
    k0_pay80 x (ix2 l r) = k0_pay78 x (ix2 r l) := by
  pointwise [k0_pay80]
theorem pay2_apply (x : Vec Ideal S2048x128 .f32) (a : Fin 4) (i : Fin 512) (l : Fin 128) :
    k0_pay2 x (ix3 a i l) = x (ix2 (rowOf a i) l) := by
  unfold rowOf
  pointwise [k0_pay2]

/-- Token `512 n + t`, of chunk `n`; the last chunk's where `n` is too large. -/
def tok (n : ℕ) (t : Fin 512) : Fin 16384 := ⟨512 * min n 31 + t.val, by omega⟩

theorem chunk_apply (X : Vec Ideal S1x16384x128 .bf16) (n : ℕ) (t : Fin 512) (l : Fin 128) : chunk X n (ix3 0 t l) = X (ix3 0 (tok n t) l) := by
  unfold chunk window
  refine congrArg X (funext fun a => Fin.ext ?_)
  fin_cases a
  · rfl
  · show 512 * min n 31 + 1 * t.val = 512 * min n 31 + t.val; omega
  · show 0 + 1 * l.val = l.val; omega

theorem slab_apply (X : Vec Ideal S32x128x512 .f32) (n : ℕ) (hn : n < 32) (l : Fin 128) (t : Fin 512) :
    slab X n (ix3 0 l t) = X (ix3 ⟨n, hn⟩ l t) := by
  unfold slab window
  refine congrArg X (funext fun a => Fin.ext ?_)
  fin_cases a
  · show min n 31 + 1 * 0 = n; omega
  · show 0 + 1 * l.val = l.val; omega
  · show 0 + 1 * t.val = t.val; omega

theorem setSlab_same (X : Vec Ideal S32x128x512 .f32) (n : ℕ) (hn : n < 32) (w : Vec Ideal S1x128x512 .f32) (l : Fin 128) (t : Fin 512) :
    setSlab X n w (ix3 ⟨n, hn⟩ l t) = w (ix3 0 l t) := by
  unfold setSlab put
  have h0 : min n 31 = n := by omega
  rw [dif_pos (by
    intro a; fin_cases a
    · exact ⟨by show min n 31 ≤ n; omega, by show n < min n 31 + 1; omega⟩
    · exact ⟨Nat.zero_le _, by show l.val < 0 + 128; omega⟩
    · exact ⟨Nat.zero_le _, by show t.val < 0 + 512; omega⟩)]
  refine congrArg w (funext fun a => Fin.ext ?_)
  fin_cases a
  · show n - min n 31 = 0; omega
  · show l.val - 0 = l.val; omega
  · show t.val - 0 = t.val; omega

theorem setSlab_other (X : Vec Ideal S32x128x512 .f32) (n : ℕ) (hn : n < 32) (w : Vec Ideal S1x128x512 .f32) (j : Fin 32) (hj : j.val ≠ n) (l : Fin 128) (t : Fin 512) :
    setSlab X n w (ix3 j l t) = X (ix3 j l t) := by
  unfold setSlab put
  rw [dif_neg (by
    intro h
    have h1 : min n 31 ≤ j.val := (h 0).1
    have h2 : j.val < min n 31 + 1 := (h 0).2
    omega)]

end Cert.KernelIdeal.Hand

end
-- ==== Proof.PointReal.lean ====
/-
  One point of the grid over real operands: each result as sums over all tokens.
-/
module

public import proofs.«01_k».proof.Proof.PayValue

@[expose] public section

set_option maxRecDepth 16384

noncomputable section

namespace Cert.KernelIdeal.Hand

open Cert.KernelIdeal Cert.KernelIdeal.Gen Cert.Attn
open Idealize.ShloMosaic Idealize.ShloMosaic.TcCoe
open Idealize.ShloMosaic.VecWindow
open scoped BigOperators

/-- The point's operands as reals: rows of `q` and `do`, and the tokens of `k` and `v`, each of 128 lanes. -/
structure Slabs where
  q : Fin 2048 → Fin 128 → ℝ
  w : Fin 2048 → Fin 128 → ℝ
  k : Fin 16384 → Fin 128 → ℝ
  v : Fin 16384 → Fin 128 → ℝ

variable (S : Slabs)

/-- The weight of row `r` and token `j`, and the gradient of its score. -/
def Slabs.p (r : Fin 2048) (j : Fin 16384) : ℝ := Real.exp (∑ l, S.q r l * S.k j l)
def Slabs.e (r : Fin 2048) (j : Fin 16384) : ℝ := S.p r j * ∑ l, S.w r l * S.v j l

/-- A sum over the tokens, chunk by chunk. -/
theorem sum_tok (f : Fin 16384 → ℝ) : ∑ n ∈ Finset.range 32, ∑ t, f (tok n t) = ∑ j, f j := by
  rw [Finset.sum_range (fun n => ∑ t, f (tok n t)), ← Fintype.sum_prod_type' (fun (n : Fin 32) t => f (tok n.val t)),
    ← (finProdFinEquiv (m := 32) (n := 512)).sum_comp f]
  refine Finset.sum_congr rfl fun x _ => congrArg f (Fin.ext ?_)
  have h := x.1.isLt
  show 512 * min x.1.val 31 + x.2.val = x.2.val + 512 * x.1.val
  omega

section

variable {S} {q2 d2 : FVec Ideal S2048x128 .bf16} {qT dT : FVec Ideal S128x2048 .bf16} {K V : Vec Ideal S1x16384x128 .bf16}
  (hq : ∀ r l, q2 (ix2 r l) = (S.q r l : EReal)) (hd : ∀ r l, d2 (ix2 r l) = (S.w r l : EReal))
  (hqT : ∀ r l, qT (ix2 l r) = (S.q r l : EReal)) (hdT : ∀ r l, dT (ix2 l r) = (S.w r l : EReal))
  (hK : ∀ j l, K (ix3 0 j l) = (S.k j l : EReal)) (hV : ∀ j l, V (ix3 0 j l) = (S.v j l : EReal))

include hq hK in
theorem scOf_real (n : ℕ) (r : Fin 2048) (t : Fin 512) : scOf q2 K n (ix2 r t) = ((∑ l, S.q r l * S.k (tok n t) l : ℝ) : EReal) := by
  rw [scOf, pay3_apply, ← coe_sum]
  exact Finset.sum_congr rfl fun l _ => by rw [chunk_apply, hq, hK, EReal.coe_mul]

include hd hV in
theorem dpOf_real (n : ℕ) (r : Fin 2048) (t : Fin 512) : dpOf d2 V n (ix2 r t) = ((∑ l, S.w r l * S.v (tok n t) l : ℝ) : EReal) := by
  rw [dpOf, pay4_apply, ← coe_sum]
  exact Finset.sum_congr rfl fun l _ => by rw [chunk_apply, hd, hV, EReal.coe_mul]

include hq hK in
theorem ppAt_real (n : ℕ) (r : Fin 2048) (t : Fin 512) : ppAt q2 K (n + 1) (ix2 r t) = (S.p r (tok n t) : EReal) := by
  rw [ppAt, pOf_apply, scOf_real hq hK, Ideal.exp_coe]; rfl

include hq hd hK hV in
theorem eeAt_real (n : ℕ) (r : Fin 2048) (t : Fin 512) : eeAt q2 d2 K V (n + 1) (ix2 r t) = (S.e r (tok n t) : EReal) := by
  rw [eeAt, eOf_apply, scOf_real hq hK, dpOf_real hd hV, Ideal.exp_coe, ← EReal.coe_mul]; rfl

theorem ppAt_zero (r : Fin 2048) (t : Fin 512) : ppAt q2 K 0 (ix2 r t) = (0 : EReal) := pay84_apply r t
theorem eeAt_zero (r : Fin 2048) (t : Fin 512) : eeAt q2 d2 K V 0 (ix2 r t) = (0 : EReal) := pay85_apply r t

include hq hd hK hV in
theorem dqAt_real (n : ℕ) (r : Fin 2048) (l : Fin 128) :
    dqAt q2 d2 K V (n + 1) (ix2 r l) = ((∑ m ∈ Finset.range n, ∑ t, S.e r (tok m t) * S.k (tok m t) l : ℝ) : EReal) := by
  induction n with
  | zero =>
    rw [dqAt, pay18_apply, dqAt, pay81_apply, Finset.range_zero, Finset.sum_empty, zero_add]
    refine Finset.sum_eq_zero fun t _ => ?_
    rw [eeAt_zero, zero_mul]
  | succ n ih =>
    rw [dqAt, pay18_apply, ih, Finset.sum_range_succ, EReal.coe_add]
    congr 1
    rw [← coe_sum]
    refine Finset.sum_congr rfl fun t _ => ?_
    rw [eeAt_real hq hd hK hV, chunk_apply, hK, EReal.coe_mul]; rfl

include hq hd hK hV in
theorem dqAt_all (r : Fin 2048) (l : Fin 128) : dqAt q2 d2 K V 33 (ix2 r l) = ((∑ j, S.e r j * S.k j l : ℝ) : EReal) := by
  rw [show (33 : ℕ) = 32 + 1 from rfl, dqAt_real hq hd hK hV 32 r l, sum_tok fun j => S.e r j * S.k j l]

/-- A slab recursion that adds nothing at first, and `w n` to slab `n` at step `n + 1`, has added `w j` to each slab `j`. -/
theorem slabs_real (X : ℕ → Vec Ideal S32x128x512 .f32) (w : Fin 16384 → Fin 128 → ℝ)
    (h0 : ∀ j l t, X 1 (ix3 j l t) = X 0 (ix3 j l t))
    (h1 : ∀ n, (hn : n < 32) → ∀ l t, X (n + 2) (ix3 ⟨n, hn⟩ l t) = (X (n + 1) (ix3 ⟨n, hn⟩ l t) + (w (tok n t) l : EReal) : EReal))
    (h2 : ∀ n, n < 32 → ∀ j : Fin 32, j.val ≠ n → ∀ l t, X (n + 2) (ix3 j l t) = X (n + 1) (ix3 j l t))
    (n : ℕ) (hn : n ≤ 32) (j : Fin 32) (l : Fin 128) (t : Fin 512) :
    X (n + 1) (ix3 j l t) = if j.val < n then (X 0 (ix3 j l t) + (w (tok j t) l : EReal) : EReal) else X 0 (ix3 j l t) := by
  induction n with
  | zero => rw [if_neg (Nat.not_lt_zero _)]; exact h0 j l t
  | succ n ih =>
    have e := ih (by omega)
    by_cases hj : j.val = n
    · rw [if_neg (by omega)] at e
      rw [if_pos (by omega), ← e]
      subst hj
      exact h1 j.val j.isLt l t
    · rw [h2 n (by omega) j hj, e]
      by_cases hl : j.val < n
      · rw [if_pos hl, if_pos (by omega)]
      · rw [if_neg hl, if_neg (by omega)]

theorem dkAt_first (x : Vec Ideal S32x128x512 .f32) :
    dkAt q2 d2 qT K V x 1 = setSlab x 0 (k0_pay20 qT (eeAt q2 d2 K V 0) (slab x 0)) := rfl
theorem dkAt_next (x : Vec Ideal S32x128x512 .f32) (n : ℕ) : dkAt q2 d2 qT K V x (n + 2)
    = setSlab (dkAt q2 d2 qT K V x (n + 1)) n (k0_pay20 qT (eeAt q2 d2 K V (n + 1)) (slab (dkAt q2 d2 qT K V x (n + 1)) n)) := rfl
theorem dvAt_first (x : Vec Ideal S32x128x512 .f32) :
    dvAt q2 dT K x 1 = setSlab x 0 (k0_pay19 dT (slab x 0) (ppAt q2 K 0)) := rfl
theorem dvAt_next (x : Vec Ideal S32x128x512 .f32) (n : ℕ) : dvAt q2 dT K x (n + 2)
    = setSlab (dvAt q2 dT K x (n + 1)) n (k0_pay19 dT (slab (dvAt q2 dT K x (n + 1)) n) (ppAt q2 K (n + 1))) := rfl

include hq hd hqT hK hV in
theorem dkAt_all (x : Vec Ideal S32x128x512 .f32) (j : Fin 32) (l : Fin 128) (t : Fin 512) :
    dkAt q2 d2 qT K V x 33 (ix3 j l t) = (x (ix3 j l t) + ((∑ r, S.q r l * S.e r (tok j t) : ℝ) : EReal) : EReal) := by
  have key := slabs_real (dkAt q2 d2 qT K V x) (fun i l => ∑ r, S.q r l * S.e r i) ?_ ?_ ?_ 32 le_rfl j l t
  · rw [if_pos j.isLt] at key; exact key
  · intro j l t
    rw [dkAt_first]
    by_cases hj : j.val = 0
    · obtain rfl : j = ⟨0, by decide⟩ := Fin.ext hj
      rw [setSlab_same _ 0 (by decide), pay20_apply, slab_apply _ 0 (by decide), Finset.sum_eq_zero, add_zero]
      · rfl
      intro r _
      rw [eeAt_zero, mul_zero]
    · rw [setSlab_other _ 0 (by decide) _ j hj]; rfl
  · intro n hn l t
    rw [dkAt_next, setSlab_same _ n hn, pay20_apply, slab_apply _ n hn, ← coe_sum]
    refine congrArg (_ + ·) (Finset.sum_congr rfl fun r _ => ?_)
    rw [hqT, eeAt_real hq hd hK hV, EReal.coe_mul]
  · intro n hn j hj l t
    rw [dkAt_next, setSlab_other _ n hn _ j hj]

include hq hdT hK in
theorem dvAt_all (x : Vec Ideal S32x128x512 .f32) (j : Fin 32) (l : Fin 128) (t : Fin 512) :
    dvAt q2 dT K x 33 (ix3 j l t) = (x (ix3 j l t) + ((∑ r, S.w r l * S.p r (tok j t) : ℝ) : EReal) : EReal) := by
  have key := slabs_real (dvAt q2 dT K x) (fun i l => ∑ r, S.w r l * S.p r i) ?_ ?_ ?_ 32 le_rfl j l t
  · rw [if_pos j.isLt] at key; exact key
  · intro j l t
    rw [dvAt_first]
    by_cases hj : j.val = 0
    · obtain rfl : j = ⟨0, by decide⟩ := Fin.ext hj
      rw [setSlab_same _ 0 (by decide), pay19_apply, slab_apply _ 0 (by decide), Finset.sum_eq_zero, add_zero]
      · rfl
      intro r _
      rw [ppAt_zero, mul_zero]
    · rw [setSlab_other _ 0 (by decide) _ j hj]; rfl
  · intro n hn l t
    rw [dvAt_next, setSlab_same _ n hn, pay19_apply, slab_apply _ n hn, ← coe_sum]
    refine congrArg (_ + ·) (Finset.sum_congr rfl fun r _ => ?_)
    rw [hdT, ppAt_real hq hK, EReal.coe_mul]
  · intro n hn j hj l t
    rw [dvAt_next, setSlab_other _ n hn _ j hj]

end

end Cert.KernelIdeal.Hand

end
-- ==== Proof.Blocks.lean ====
/-
  The blocks of the five windows, read at their coordinates, and the two results that the kernel copies out itself, row by row.
-/
module

public import proofs.«01_k».proof.Proof.HostValue
public import proofs.«01_k».proof.Proof.PointReal
public import proofs.«01_k».proof.Proof.FrameHand
public import Idealize.ShloMosaic.Lib.Pipeline.ValueKit.Geometry

@[expose] public section

set_option maxRecDepth 16384

noncomputable section

namespace Cert.KernelIdeal.Hand

open Cert.KernelIdeal Cert.KernelIdeal.Gen Cert.Attn
open Idealize.ShloMosaic Idealize.ShloMosaic.TcCoe
open Idealize.ShloMosaic.Pipeline (Dat Cfg Window)

variable {F : FTy → Type} [FloatOps F]
variable (m : (ℓ : Loc nD τ sig) → Buf (Elt F) ℓ) (c : Dev nD)

/-- The block that each window holds at a point of the grid. -/
theorem idx_0 : ∀ t : Fin cfg0.N, win0_0.index t (0 : Fin 3) = t.val / 32 ∧ win0_0.index t (1 : Fin 3) = t.val % 32 ∧ win0_0.index t (2 : Fin 3) = 0 := by
  decide +kernel
theorem idx_1 : ∀ t : Fin cfg0.N, win0_1.index t (0 : Fin 3) = t.val / 32 ∧ win0_1.index t (1 : Fin 3) = 0 ∧ win0_1.index t (2 : Fin 3) = 0 := by
  decide +kernel
theorem idx_2 : ∀ t : Fin cfg0.N, win0_2.index t (0 : Fin 3) = t.val / 32 ∧ win0_2.index t (1 : Fin 3) = 0 ∧ win0_2.index t (2 : Fin 3) = 0 := by
  decide +kernel
theorem idx_3 : ∀ t : Fin cfg0.N, win0_3.index t (0 : Fin 3) = t.val / 32 ∧ win0_3.index t (1 : Fin 3) = t.val % 32 ∧ win0_3.index t (2 : Fin 3) = 0 := by
  decide +kernel
theorem idx_4 : ∀ t : Fin cfg0.N, win0_4.index t (0 : Fin 3) = t.val / 32 ∧ win0_4.index t (1 : Fin 3) = t.val % 32 ∧ win0_4.index t (2 : Fin 3) = 0 := by
  decide +kernel

variable (g : Fin 2) (n : ℕ) (hn : n < 32)

include hn in
theorem pnt_at : (pnt (32 * g.val + n)).val = 32 * g.val + n := by
  have h := g.isLt
  show min (32 * g.val + n) 63 = _
  omega

include hn in
theorem qB_apply (a : Fin 4) (r : Fin 512) (l : Fin 128) :
    qB m c (32 * g.val + n) (ix3 a r l) = V m c main_v42 (ix3 (head g a) (tok n r) l) := by
  obtain ⟨e0, e1, e2⟩ := idx_0 (pnt (32 * g.val + n))
  rw [pnt_at g n hn] at e0 e1
  show V m c main_v42 (((cfg0.win 0).blk (pnt (32 * g.val + n))).view.emb (ix3 a r l)) = _
  refine congrArg (V m c main_v42) (funext fun b => Fin.ext ?_)
  match b with
  | ⟨0, _⟩ => show win0_0.index (pnt (32 * g.val + n)) (0 : Fin 3) * 4 + 1 * a.val = g.val * 4 + a.val; rw [e0]; omega
  | ⟨1, _⟩ => show win0_0.index (pnt (32 * g.val + n)) (1 : Fin 3) * 512 + 1 * r.val = 512 * min n 31 + r.val; rw [e1]; omega
  | ⟨2, _⟩ => show win0_0.index (pnt (32 * g.val + n)) (2 : Fin 3) * 128 + 1 * l.val = l.val; rw [e2]; omega

include hn in
theorem dB_apply (a : Fin 4) (r : Fin 512) (l : Fin 128) :
    dB m c (32 * g.val + n) (ix3 a r l) = V m c main_v54 (ix3 (head g a) (tok n r) l) := by
  obtain ⟨e0, e1, e2⟩ := idx_3 (pnt (32 * g.val + n))
  rw [pnt_at g n hn] at e0 e1
  show V m c main_v54 (((cfg0.win 3).blk (pnt (32 * g.val + n))).view.emb (ix3 a r l)) = _
  refine congrArg (V m c main_v54) (funext fun b => Fin.ext ?_)
  match b with
  | ⟨0, _⟩ => show win0_3.index (pnt (32 * g.val + n)) (0 : Fin 3) * 4 + 1 * a.val = g.val * 4 + a.val; rw [e0]; omega
  | ⟨1, _⟩ => show win0_3.index (pnt (32 * g.val + n)) (1 : Fin 3) * 512 + 1 * r.val = 512 * min n 31 + r.val; rw [e1]; omega
  | ⟨2, _⟩ => show win0_3.index (pnt (32 * g.val + n)) (2 : Fin 3) * 128 + 1 * l.val = l.val; rw [e2]; omega

include hn in
theorem kB_apply (j : Fin 16384) (l : Fin 128) : kB m c (32 * g.val + n) (ix3 0 j l) = V m c main_v57 (ix3 g j l) := by
  obtain ⟨e0, e1, e2⟩ := idx_1 (pnt (32 * g.val + n))
  rw [pnt_at g n hn] at e0
  show V m c main_v57 (((cfg0.win 1).blk (pnt (32 * g.val + n))).view.emb (ix3 0 j l)) = _
  refine congrArg (V m c main_v57) (funext fun b => Fin.ext ?_)
  match b with
  | ⟨0, _⟩ => show win0_1.index (pnt (32 * g.val + n)) (0 : Fin 3) * 1 + 1 * 0 = g.val; rw [e0]; omega
  | ⟨1, _⟩ => show win0_1.index (pnt (32 * g.val + n)) (1 : Fin 3) * 16384 + 1 * j.val = j.val; rw [e1]; omega
  | ⟨2, _⟩ => show win0_1.index (pnt (32 * g.val + n)) (2 : Fin 3) * 128 + 1 * l.val = l.val; rw [e2]; omega

include hn in
theorem vB_apply (j : Fin 16384) (l : Fin 128) : vB m c (32 * g.val + n) (ix3 0 j l) = V m c main_v60 (ix3 g j l) := by
  obtain ⟨e0, e1, e2⟩ := idx_2 (pnt (32 * g.val + n))
  rw [pnt_at g n hn] at e0
  show V m c main_v60 (((cfg0.win 2).blk (pnt (32 * g.val + n))).view.emb (ix3 0 j l)) = _
  refine congrArg (V m c main_v60) (funext fun b => Fin.ext ?_)
  match b with
  | ⟨0, _⟩ => show win0_2.index (pnt (32 * g.val + n)) (0 : Fin 3) * 1 + 1 * 0 = g.val; rw [e0]; omega
  | ⟨1, _⟩ => show win0_2.index (pnt (32 * g.val + n)) (1 : Fin 3) * 16384 + 1 * j.val = j.val; rw [e1]; omega
  | ⟨2, _⟩ => show win0_2.index (pnt (32 * g.val + n)) (2 : Fin 3) * 128 + 1 * l.val = l.val; rw [e2]; omega

/-- The first result after the run, at an index: what the point of its block computed there. -/
theorem arr_4 (a : Fin 4) (r : Fin 512) (l : Fin 128) (hn : n < 32) :
    (dats m 0 c).arrAt 4 cfg0.N (ix3 (head g a) (tok n r) l)
      = dqPt (qB m c (32 * g.val + n)) (dB m c (32 * g.val + n)) (kB m c (32 * g.val + n)) (vB m c (32 * g.val + n)) (ix3 a r l) := by
  refine (dats m 0 c).arrAt_forall_of_covers 4 (fun i v => i = ix3 (head g a) (tok n r) l → v = dqPt (qB m c (32 * g.val + n)) (dB m c (32 * g.val + n))
    (kB m c (32 * g.val + n)) (vB m c (32 * g.val + n)) (ix3 a r l)) (by decide +kernel) (fun t hf y => ?_) _ (Memref.isWhole_whole _) rfl
  intro hy
  obtain ⟨e0, e1, e2⟩ := idx_4 t
  have h0 : win0_4.index t (0 : Fin 3) * 4 + 1 * (y 0).val = g.val * 4 + a.val := congrArg (fun i => (i (0 : Fin 3)).val) hy
  have h1 : win0_4.index t (1 : Fin 3) * 512 + 1 * (y 1).val = 512 * min n 31 + r.val := congrArg (fun i => (i (1 : Fin 3)).val) hy
  have h2 : win0_4.index t (2 : Fin 3) * 128 + 1 * (y 2).val = l.val := congrArg (fun i => (i (2 : Fin 3)).val) hy
  have b0 : (y 0).val < 4 := (y 0).isLt
  have b1 : (y 1).val < 512 := (y 1).isLt
  have ha := a.isLt
  have hr := r.isLt
  have hg := g.isLt
  have ht : t.val = 32 * g.val + n := by rw [e0] at h0; rw [e1] at h1; omega
  have hyy : (cfg0.win 4).xinj (cfg0.grid.coords t) y = ix3 a r l := by
    funext b
    refine Fin.ext ?_
    match b with
    | ⟨0, _⟩ => show (y 0).val = a.val; rw [e0] at h0; omega
    | ⟨1, _⟩ => show (y 1).val = r.val; rw [e1] at h1; omega
    | ⟨2, _⟩ => show (y 2).val = l.val; rw [e2] at h2; omega
  show (dats m 0 c).after 4 t ((cfg0.win 4).xinj (cfg0.grid.coords t) y) = _
  rw [hyy, after_4, ht]

/-! ## The two results in HBM -/

theorem off4_eq : ∀ t : Fin grid0.N, k0_off4 (grid0.coords t) = ![t.val / 32, 0, 0, 0] := by decide +kernel

/-- Where the part of a result that a point copies out lies in it. -/
theorem rowH_emb (M : Memref sig .tc .hbm S2x32x128x512 .f32) (t : Fin grid0.N) (h : k0_cond2 (grid0.coords t) = 1#1) (g : Fin 2)
    (hg : t.val / 32 = g.val) (j : Fin 32) (l : Fin 128) (u : Fin 512) :
    (rowH (grid0.coords t) M h).view.emb (ix3 j l u) = M.view.emb (ix4 g j l u) := by
  have h1 : (rowH (grid0.coords t) M h).view.emb (ix3 j l u)
      = M.view.emb ((Rect.unit (s := S2x32x128x512) (k0_off4 (grid0.coords t)) S1x32x128x512.size (k0_off4_inb (grid0.coords t) h)).emb
        (Shape.reshapeEquiv squeezes_S1x32x128x512_S32x128x512.numel_eq (ix3 j l u))) := rfl
  rw [h1, Shape.reshapeEquiv_cons_one]
  refine congrArg M.view.emb (funext fun b => Fin.ext ?_)
  rw [Rect.emb_apply]
  have e := off4_eq t
  match b with
  | ⟨0, _⟩ => show k0_off4 (grid0.coords t) 0 + 1 * 0 = g.val; rw [e]; exact hg
  | ⟨1, _⟩ => show k0_off4 (grid0.coords t) 1 + 1 * j.val = j.val; rw [e]; show 0 + 1 * j.val = j.val; omega
  | ⟨2, _⟩ => show k0_off4 (grid0.coords t) 2 + 1 * l.val = l.val; rw [e]; show 0 + 1 * l.val = l.val; omega
  | ⟨3, _⟩ => show k0_off4 (grid0.coords t) 3 + 1 * u.val = u.val; rw [e]; show 0 + 1 * u.val = u.val; omega

/-- An element of another head lies outside that part. -/
theorem rowH_off (M : Memref sig .tc .hbm S2x32x128x512 .f32) (t : Fin grid0.N) (h : k0_cond2 (grid0.coords t) = 1#1) (g : Fin 2)
    (hg : t.val / 32 ≠ g.val) (j : Fin 32) (l : Fin 128) (u : Fin 512) :
    M.view.emb (ix4 g j l u) ∉ (rowH (grid0.coords t) M h).view.setOn Finset.univ := by
  intro hm
  obtain ⟨z, -, hz⟩ := Finset.mem_map.mp hm
  obtain ⟨z0, z1, z2, rfl⟩ : ∃ z0 z1 z2, z = ix3 z0 z1 z2 := ⟨_, _, _, eq_ix3 z⟩
  have ht : t.val / 32 < 2 := by have := t.isLt; have e : grid0.N = 64 := N_0; omega
  rw [rowH_emb M t h ⟨t.val / 32, ht⟩ rfl] at hz
  exact hg (congrArg (fun i : S2x32x128x512.Idx => (i 0).val) (M.view.emb.injective hz))

theorem resK_row (j : Fin 32) (l : Fin 128) (u : Fin 512) (n : ℕ) (h0 : 32 * g.val + 32 ≤ n) (h1 : n ≤ 64) :
    resK m c n (ix4 g j l u) = accK m c (32 * g.val + 32) (ix3 j l u) := by
  have hg := g.isLt
  induction n, h0 using Nat.le_induction with
  | base =>
    have hp : (pnt (32 * g.val + 31)).val = 32 * g.val + 31 := pnt_at g 31 (by omega)
    have h2 : k0_cond2 (grid0.coords (pnt (32 * g.val + 31))) = 1#1 := (cond2_iff _).mpr (by omega)
    have e := rowH_emb dkH (pnt (32 * g.val + 31)) h2 g (by omega) j l u
    rw [show 32 * g.val + 32 = 32 * g.val + 31 + 1 from rfl, resK_last m c h2]
    exact (congrArg (fun i => (rowH (grid0.coords (pnt (32 * g.val + 31))) dkH h2).view.write (Elt F) (resK m c (32 * g.val + 31))
      (accK m c (32 * g.val + 31 + 1)) Finset.univ i) e.symm).trans (View.write_emb_of_mem _ _ (Finset.mem_univ _))
  | succ n hn ih =>
    by_cases h2 : k0_cond2 (grid0.coords (pnt n)) = 1#1
    · have hp : (pnt n).val = n := by show min n 63 = n; omega
      have h3 := (cond2_iff _).mp h2
      rw [resK_last m c h2, ← ih (by omega)]
      exact View.write_of_not_mem _ _ _ (rowH_off dkH (pnt n) h2 g (by omega) j l u)
    · rw [resK_keep m c h2]
      exact ih (by omega)

theorem resV_row (j : Fin 32) (l : Fin 128) (u : Fin 512) (n : ℕ) (h0 : 32 * g.val + 32 ≤ n) (h1 : n ≤ 64) :
    resV m c n (ix4 g j l u) = accV m c (32 * g.val + 32) (ix3 j l u) := by
  have hg := g.isLt
  induction n, h0 using Nat.le_induction with
  | base =>
    have hp : (pnt (32 * g.val + 31)).val = 32 * g.val + 31 := pnt_at g 31 (by omega)
    have h2 : k0_cond2 (grid0.coords (pnt (32 * g.val + 31))) = 1#1 := (cond2_iff _).mpr (by omega)
    have e := rowH_emb dvH (pnt (32 * g.val + 31)) h2 g (by omega) j l u
    rw [show 32 * g.val + 32 = 32 * g.val + 31 + 1 from rfl, resV_last m c h2]
    exact (congrArg (fun i => (rowH (grid0.coords (pnt (32 * g.val + 31))) dvH h2).view.write (Elt F) (resV m c (32 * g.val + 31))
      (accV m c (32 * g.val + 31 + 1)) Finset.univ i) e.symm).trans (View.write_emb_of_mem _ _ (Finset.mem_univ _))
  | succ n hn ih =>
    by_cases h2 : k0_cond2 (grid0.coords (pnt n)) = 1#1
    · have hp : (pnt n).val = n := by show min n 63 = n; omega
      have h3 := (cond2_iff _).mp h2
      rw [resV_last m c h2, ← ih (by omega)]
      exact View.write_of_not_mem _ _ _ (rowH_off dvH (pnt n) h2 g (by omega) j l u)
    · rw [resV_keep m c h2]
      exact ih (by omega)

end Cert.KernelIdeal.Hand

end
-- ==== Proof.PointGrad.lean ====
/-
  The kernel's three results over real arguments: each point's part of the gradients, the accumulators after a head's
  points, and the arrays after the run.
-/
module

public import proofs.«01_k».proof.Proof.Blocks

@[expose] public section

set_option maxRecDepth 16384

noncomputable section

namespace Cert.KernelIdeal.Hand

open Cert.KernelIdeal Cert.KernelIdeal.Gen Cert.Attn
open Idealize.ShloMosaic Idealize.ShloMosaic.TcCoe
open scoped BigOperators

variable (A : Args)

/-! ## A point's operands -/

/-- Row `r` of a point: its head in the group, and its place among the point's queries. -/
def rowA (r : Fin 2048) : Fin 4 := ⟨r.val / 512, by omega⟩
def rowI (r : Fin 2048) : Fin 512 := ⟨r.val % 512, by omega⟩
theorem rowOf_row (r : Fin 2048) : rowOf (rowA r) (rowI r) = r := Fin.ext (by show r.val / 512 * 512 + r.val % 512 = r.val; omega)
theorem rowA_of (a : Fin 4) (i : Fin 512) : rowA (rowOf a i) = a := Fin.ext (by show (a.val * 512 + i.val) / 512 = a.val; omega)
theorem rowI_of (a : Fin 4) (i : Fin 512) : rowI (rowOf a i) = i := Fin.ext (by show (a.val * 512 + i.val) % 512 = i.val; omega)

theorem sum_rows (f : Fin 2048 → ℝ) : ∑ r, f r = ∑ a, ∑ i, f (rowOf a i) := by
  rw [← Fintype.sum_prod_type' (fun (a : Fin 4) i => f (rowOf a i)), ← (finProdFinEquiv (m := 4) (n := 512)).sum_comp f]
  refine Finset.sum_congr rfl fun x _ => congrArg f (Fin.ext ?_)
  show x.2.val + 512 * x.1.val = x.1.val * 512 + x.2.val
  omega

/-- The log-sum of a row's scores. -/
def lse (g : Fin 2) (a : Fin 4) (i : Fin 16384) : ℝ := Real.log (∑ j, Real.exp (score A g a i j))

theorem lse_shift (g : Fin 2) (a : Fin 4) (i : Fin 16384) (M : ℝ) : M + Real.log (∑ j, Real.exp (score A g a i j - M)) = lse A g a i := by
  have h0 : 0 < ∑ j, Real.exp (score A g a i j) := Finset.sum_pos (fun _ _ => Real.exp_pos _) Finset.univ_nonempty
  rw [sum_shift, Real.log_div h0.ne' (Real.exp_pos M).ne', Real.log_exp, lse]
  ring

/-- The operands of point `n` of head `g`. -/
def slabs (g : Fin 2) (n : ℕ) : Slabs where
  q r := lanes (fun d => A.q g (rowA r) (tok n (rowI r)) d * (1 / 8)) (-lse A g (rowA r) (tok n (rowI r)))
  w r := lanes (A.w g (rowA r) (tok n (rowI r))) (-del A g (rowA r) (tok n (rowI r)))
  k j := keyLanes (A.k g j)
  v j := keyLanes (A.v g j)

variable (g : Fin 2) (n : ℕ)

theorem slabs_p (r : Fin 2048) (j : Fin 16384) : (slabs A g n).p r j = pr A g (rowA r) (tok n (rowI r)) j := by
  have h : ∑ l, (slabs A g n).q r l * (slabs A g n).k j l = score A g (rowA r) (tok n (rowI r)) j + -lse A g (rowA r) (tok n (rowI r)) := by
    refine (sum_lanes (fun d => A.q g (rowA r) (tok n (rowI r)) d * (1 / 8)) (A.k g j) (-lse A g (rowA r) (tok n (rowI r)))).trans
      (congrArg (· + -lse A g (rowA r) (tok n (rowI r))) ?_)
    rw [score, Finset.sum_mul]
    exact Finset.sum_congr rfl fun d _ => mul_right_comm _ _ _
  rw [Slabs.p, h, ← sub_eq_add_neg, ← lse_shift A g _ _ 0, prob_lse]
  rfl

theorem slabs_e (r : Fin 2048) (j : Fin 16384) : (slabs A g n).e r j = dsc A g (rowA r) (tok n (rowI r)) j := by
  have h : ∑ l, (slabs A g n).w r l * (slabs A g n).v j l = dpr A g (rowA r) (tok n (rowI r)) j + -del A g (rowA r) (tok n (rowI r)) :=
    sum_lanes _ _ _
  rw [Slabs.e, h, slabs_p, ← sub_eq_add_neg]
  rfl

/-- A lane below 64. -/
def lane (d : Fin 64) : Fin 128 := ⟨d.val, by omega⟩
theorem lanes_lane (f : Fin 64 → ℝ) (x : ℝ) (d : Fin 64) : lanes f x (lane d) = f d := by rw [lanes, dif_pos (show (lane d).val < 64 from d.isLt)]; rfl
theorem keyLanes_lane (f : Fin 64 → ℝ) (d : Fin 64) : keyLanes f (lane d) = f d := by rw [keyLanes, dif_pos (show (lane d).val < 64 from d.isLt)]; rfl

theorem slabs_q (a : Fin 4) (i : Fin 512) (d : Fin 64) : (slabs A g n).q (rowOf a i) (lane d) = A.q g a (tok n i) d * (1 / 8) := by
  have e : (slabs A g n).q (rowOf a i) (lane d) = A.q g (rowA (rowOf a i)) (tok n (rowI (rowOf a i))) d * (1 / 8) :=
    lanes_lane (fun d => A.q g (rowA (rowOf a i)) (tok n (rowI (rowOf a i))) d * (1 / 8)) _ d
  rw [e, rowA_of, rowI_of]
theorem slabs_w (a : Fin 4) (i : Fin 512) (d : Fin 64) : (slabs A g n).w (rowOf a i) (lane d) = A.w g a (tok n i) d := by
  have e : (slabs A g n).w (rowOf a i) (lane d) = A.w g (rowA (rowOf a i)) (tok n (rowI (rowOf a i))) d := lanes_lane _ _ d
  rw [e, rowA_of, rowI_of]

/-! ## Over real arguments -/

/-- The four arguments hold reals. -/
structure Reads (Q : FVec Ideal S1x16384x8x64 .f32) (K V : FVec Ideal S1x16384x2x64 .f32) (D : FVec Ideal S1x16384x512 .f32) : Prop where
  q : ∀ (g : Fin 2) (a : Fin 4) i d, Q (ix4 0 i (head g a) d) = (A.q g a i d : EReal)
  k : ∀ (g : Fin 2) j d, K (ix4 0 j g d) = (A.k g j d : EReal)
  v : ∀ (g : Fin 2) j d, V (ix4 0 j g d) = (A.v g j d : EReal)
  w : ∀ (g : Fin 2) (a : Fin 4) i (d : Fin 64), D (ix3 0 i ⟨g.val * 256 + a.val * 64 + d.val, by omega⟩) = (A.w g a i d : EReal)

variable {A} (m : (ℓ : Loc nD τ sig) → Buf (Elt Ideal) ℓ) (c : Dev nD)
  (h : Reads A (m ((c.tc : Thread nD τ).loc main_arg0)) (m ((c.tc : Thread nD τ).loc main_arg1)) (m ((c.tc : Thread nD τ).loc main_arg2))
    (m ((c.tc : Thread nD τ).loc main_arg3)))

section
variable (hn : n < 32)
include h hn

theorem qB_real (r : Fin 2048) (l : Fin 128) : k0_pay77 (qB m c (32 * g.val + n)) (ix2 r l) = ((slabs A g n).q r l : EReal) := by
  have e := pay77_apply (qB m c (32 * g.val + n)) (rowA r) (rowI r) l
  rw [rowOf_row] at e
  rw [e, qB_apply m c g n hn, slab_q]
  obtain ⟨M, hM⟩ := mxT_real h.q h.k g (rowA r) (tok n (rowI r))
  have hl := lseT_real h.q h.k g (rowA r) (tok n (rowI r)) M hM
  rw [lse_shift] at hl
  exact rowSlab_real _ _ _ _ _ _ (qhT_real h.q g (rowA r) (tok n (rowI r))) hl l

theorem dB_real (r : Fin 2048) (l : Fin 128) : k0_pay78 (dB m c (32 * g.val + n)) (ix2 r l) = ((slabs A g n).w r l : EReal) := by
  have e := pay78_apply (dB m c (32 * g.val + n)) (rowA r) (rowI r) l
  rw [rowOf_row] at e
  rw [e, dB_apply m c g n hn, slab_d]
  exact rowSlab_real _ _ _ _ _ _ (dhT_real h.w g (rowA r) (tok n (rowI r))) (delT_real h.q h.k h.v h.w g (rowA r) (tok n (rowI r))) l

theorem kB_real (j : Fin 16384) (l : Fin 128) : kB m c (32 * g.val + n) (ix3 0 j l) = ((slabs A g n).k j l : EReal) := by
  rw [kB_apply m c g n hn, slab_k]
  exact keySlab_real _ _ _ _ (khT_real h.k g j) l

theorem vB_real (j : Fin 16384) (l : Fin 128) : vB m c (32 * g.val + n) (ix3 0 j l) = ((slabs A g n).v j l : EReal) := by
  rw [vB_apply m c g n hn, slab_v]
  exact keySlab_real _ _ _ _ (vhT_real h.v g j) l

theorem dqPt_real (a : Fin 4) (i : Fin 512) (d : Fin 64) :
    dqPt (qB m c (32 * g.val + n)) (dB m c (32 * g.val + n)) (kB m c (32 * g.val + n)) (vB m c (32 * g.val + n)) (ix3 a i (lane d))
      = ((∑ j, dsc A g a (tok n i) j * A.k g j d : ℝ) : EReal) := by
  rw [dqPt, pay2_apply, dqAt_all (S := slabs A g n) (qB_real g n m c h hn) (dB_real g n m c h hn) (kB_real g n m c h hn) (vB_real g n m c h hn)]
  refine congrArg _ (Finset.sum_congr rfl fun j _ => ?_)
  rw [slabs_e, rowA_of, rowI_of]
  exact congrArg _ (keyLanes_lane _ d)

/-- What a point adds to the accumulators. -/
def addK (g : Fin 2) (n : ℕ) (j : Fin 16384) (d : Fin 64) : ℝ := ∑ a, ∑ i, dsc A g a (tok n i) j * (A.q g a (tok n i) d * (1 / 8))
def addV (g : Fin 2) (n : ℕ) (j : Fin 16384) (d : Fin 64) : ℝ := ∑ a, ∑ i, A.w g a (tok n i) d * pr A g a (tok n i) j

theorem dkPt_real (x : Vec Ideal S32x128x512 .f32) (j : Fin 32) (d : Fin 64) (t : Fin 512) :
    dkPt (qB m c (32 * g.val + n)) (dB m c (32 * g.val + n)) (kB m c (32 * g.val + n)) (vB m c (32 * g.val + n)) x (ix3 j (lane d) t)
      = (x (ix3 j (lane d) t) + (addK (A := A) g n (tok j t) d : EReal) : EReal) := by
  have hT : ∀ r l, k0_pay79 (qB m c (32 * g.val + n)) (ix2 l r) = ((slabs A g n).q r l : EReal) := fun r l => by
    rw [pay79_apply]; exact qB_real g n m c h hn r l
  rw [dkPt, dkAt_all (S := slabs A g n) (qB_real g n m c h hn) (dB_real g n m c h hn) hT (kB_real g n m c h hn) (vB_real g n m c h hn), sum_rows]
  refine congrArg (fun y : ℝ => (x (ix3 j (lane d) t) + (y : EReal) : EReal)) (Finset.sum_congr rfl fun a _ => Finset.sum_congr rfl fun i _ => ?_)
  rw [slabs_e, rowA_of, rowI_of, slabs_q, mul_comm]

theorem dvPt_real (x : Vec Ideal S32x128x512 .f32) (j : Fin 32) (d : Fin 64) (t : Fin 512) :
    dvPt (qB m c (32 * g.val + n)) (dB m c (32 * g.val + n)) (kB m c (32 * g.val + n)) x (ix3 j (lane d) t)
      = (x (ix3 j (lane d) t) + (addV (A := A) g n (tok j t) d : EReal) : EReal) := by
  have hT : ∀ r l, k0_pay80 (dB m c (32 * g.val + n)) (ix2 l r) = ((slabs A g n).w r l : EReal) := fun r l => by
    rw [pay80_apply]; exact dB_real g n m c h hn r l
  rw [dvPt, dvAt_all (S := slabs A g n) (qB_real g n m c h hn) hT (kB_real g n m c h hn), sum_rows]
  refine congrArg (fun y : ℝ => (x (ix3 j (lane d) t) + (y : EReal) : EReal)) (Finset.sum_congr rfl fun a _ => Finset.sum_congr rfl fun i _ => ?_)
  rw [slabs_p, rowA_of, rowI_of, slabs_w]
end

include h in
theorem accK_real (j : Fin 32) (d : Fin 64) (t : Fin 512) (n : ℕ) (hn : n < 32) :
    accK m c (32 * g.val + n + 1) (ix3 j (lane d) t) = ((∑ b ∈ Finset.range (n + 1), addK (A := A) g b (tok j t) d : ℝ) : EReal) := by
  induction n with
  | zero =>
    have e := dkPt_real g 0 m c h hn (k0_pay82 (F := Ideal)) j d t
    rw [pay82_apply, zero_add] at e
    rw [Finset.sum_range_one]
    exact (congrFun (accK_first m c (n := 32 * g.val + 0) (by omega)) _).trans e
  | succ n ih =>
    rw [accK_later m c (by omega), dkPt_real g (n + 1) m c h hn, Finset.sum_range_succ, EReal.coe_add]
    exact congrArg (· + _) (ih (by omega))

include h in
theorem accV_real (j : Fin 32) (d : Fin 64) (t : Fin 512) (n : ℕ) (hn : n < 32) :
    accV m c (32 * g.val + n + 1) (ix3 j (lane d) t) = ((∑ b ∈ Finset.range (n + 1), addV (A := A) g b (tok j t) d : ℝ) : EReal) := by
  induction n with
  | zero =>
    have e := dvPt_real g 0 m c h hn (k0_pay83 (F := Ideal)) j d t
    rw [pay83_apply, zero_add] at e
    rw [Finset.sum_range_one]
    exact (congrFun (accV_first m c (n := 32 * g.val + 0) (by omega)) _).trans e
  | succ n ih =>
    rw [accV_later m c (by omega), dvPt_real g (n + 1) m c h hn, Finset.sum_range_succ, EReal.coe_add]
    exact congrArg (· + _) (ih (by omega))

/-! ## The arrays -/

theorem sum_add (f : Fin 4 → Fin 16384 → ℝ) : ∑ b ∈ Finset.range 32, ∑ a, ∑ i, f a (tok b i) = ∑ a, ∑ i, f a i := by
  rw [Finset.sum_comm]
  exact Finset.sum_congr rfl fun a _ => sum_tok (f a)

include h

/-- The array `dk` in HBM after the run. -/
theorem resK_real (j : Fin 32) (d : Fin 64) (t : Fin 512) : resK m c 64 (ix4 g j (lane d) t) = (gk A g (tok j t) d : EReal) := by
  rw [resK_row m c g j (lane d) t 64 (by omega) le_rfl]
  refine (accK_real g m c h j d t 31 (by omega)).trans (congrArg _ ?_)
  exact sum_add fun a i => dsc A g a i (tok j t) * (A.q g a i d * (1 / 8))

/-- The array `dv` in HBM after the run. -/
theorem resV_real (j : Fin 32) (d : Fin 64) (t : Fin 512) : resV m c 64 (ix4 g j (lane d) t) = (gv A g (tok j t) d : EReal) := by
  rw [resV_row m c g j (lane d) t 64 (by omega) le_rfl]
  refine (accV_real g m c h j d t 31 (by omega)).trans (congrArg _ ?_)
  exact sum_add fun a i => A.w g a i d * pr A g a i (tok j t)

/-- The array `dq` after the run, without the scale. -/
theorem arrQ_real (a : Fin 4) (i : Fin 16384) (d : Fin 64) :
    (dats m 0 c).arrAt 4 cfg0.N (ix3 (head g a) i (lane d)) = ((∑ j, dsc A g a i j * A.k g j d : ℝ) : EReal) := by
  have hi : tok (i.val / 512) ⟨i.val % 512, Nat.mod_lt _ (by decide)⟩ = i :=
    Fin.ext (by have := i.isLt; show 512 * min (i.val / 512) 31 + i.val % 512 = i.val; omega)
  have hn : i.val / 512 < 32 := by have := i.isLt; omega
  have e := arr_4 m c g (i.val / 512) a ⟨i.val % 512, Nat.mod_lt _ (by decide)⟩ (lane d) hn
  rw [dqPt_real g _ m c h hn, hi] at e
  exact e

end Cert.KernelIdeal.Hand

end
-- ==== Proof.Result.lean ====
/-
  The host lines after the region, and the kernel's run with its three results at every index over real arguments.
-/
module

public import proofs.«01_k».proof.Proof.PointGrad
public import proofs.«01_k».proof.Proof.Frames

@[expose] public section

set_option maxRecDepth 16384

noncomputable section

namespace Cert.KernelIdeal.Hand

open Cert.KernelIdeal Cert.KernelIdeal.Gen Cert.Attn
open Idealize.ShloMosaic Idealize.ShloMosaic.TcCoe Idealize.SL.Sem
open scoped BigOperators

/-- The result `dq` of the kernel's array, and `dk` or `dv` of its. -/
def outQ (x : FVec Ideal S8x16384x128 .f32) : FVec Ideal S1x16384x8x64 .f32 :=
  broadcastInDim S1x16384x8x64 ![1, 2, 3] bcast_S16384x8x64_S1x16384x8x64_1_2_3 (transpose S16384x8x64 [1, 0, 2]
    (mulf (extractStridedSlice S8x16384x64 ![0, 0, 0] x slices_S8x16384x128_S8x16384x64_0_0_0)
      (broadcastInDim S8x16384x64 ![] bcast_S_S8x16384x64 (constant S_ .f32 0x3E000000#32)))
    transposes_S8x16384x64_S16384x8x64_1_0_2)
def outK (x : FVec Ideal S2x32x128x512 .f32) : FVec Ideal S1x16384x2x64 .f32 :=
  shapeCast S1x16384x2x64 (transpose S32x512x2x64 [1, 3, 0, 2]
    (extractStridedSlice S2x32x64x512 ![0, 0, 0, 0] x slices_S2x32x128x512_S2x32x64x512_0_0_0_0)
    transposes_S2x32x64x512_S32x512x2x64_1_3_0_2) shapeCasts_S32x512x2x64_S1x16384x2x64

theorem outQ_apply (x : FVec Ideal S8x16384x128 .f32) (h : Fin 8) (i : Fin 16384) (d : Fin 64) :
    outQ x (ix4 0 i h d) = (x (ix3 h i (lane d)) * Ideal.ofBits .f32 0x3E000000#32 : EReal) := by
  unfold lane
  pointwise [outQ]
theorem outK_apply (x : FVec Ideal S2x32x128x512 .f32) (j : Fin 16384) (g : Fin 2) (d : Fin 64) :
    outK x (ix4 0 j g d) = x (ix4 g ⟨j.val / 512, by omega⟩ (lane d) ⟨j.val % 512, by omega⟩) := by
  unfold lane
  pointwise [outK]

section
variable (W : Valuation τ sig (Elt Ideal))
theorem after_q : StableHlo.after (List.flatten [hostOps1]) W (Proc.devRef .tc main_v66) = outQ (W (Proc.devRef .tc main_v61_0)) := by
  simp only [List.flatten_cons, List.flatten_nil, List.append_nil]; after_results_simp <;> rfl
theorem after_k : StableHlo.after (List.flatten [hostOps1]) W (Proc.devRef .tc main_v69) = outK (W (Proc.devRef .tc main_v61_1)) := by
  simp only [List.flatten_cons, List.flatten_nil, List.append_nil]; after_results_simp <;> rfl
theorem after_v : StableHlo.after (List.flatten [hostOps1]) W (Proc.devRef .tc main_v72) = outK (W (Proc.devRef .tc main_v61_2)) := by
  simp only [List.flatten_cons, List.flatten_nil, List.append_nil]; after_results_simp <;> rfl
end

variable (m : (ℓ : Loc nD τ sig) → Buf (Elt Ideal) ℓ) (ρ : Dev nD → PrngReg) (c : Dev nD)

theorem end_q : atEnd m c (Proc.devRef .tc main_v61_0) = (dats m 0 c).arrAt 4 cfg0.N :=
  Pipeline.withArrays_arr spec0 launch0.win.arr_inj c _ _ (4 : Fin 5)
theorem end_k : atEnd m c (Proc.devRef .tc main_v61_1) = resK m c 64 := by
  unfold atEnd
  rw [Pipeline.withArrays_of_ne _ c _ _ main_v61_1 (by decide), Pipeline.withR_of_mem _ _ _ _ main_v61_1 (by decide), G0_k]
theorem end_v : atEnd m c (Proc.devRef .tc main_v61_2) = resV m c 64 := by
  unfold atEnd
  rw [Pipeline.withArrays_of_ne _ c _ _ main_v61_2 (by decide), Pipeline.withR_of_mem _ _ _ _ main_v61_2 (by decide), G0_v]

/-- The results as terms of the arrays after the region. -/
abbrev resQ : FVec Ideal S1x16384x8x64 .f32 := outQ ((dats m 0 c).arrAt 4 cfg0.N)
abbrev resKk : FVec Ideal S1x16384x2x64 .f32 := outK (resK m c 64)
abbrev resVv : FVec Ideal S1x16384x2x64 .f32 := outK (resV m c 64)

/-- The kernel's run: the three results, and the arguments as launched. -/
theorem run_results : θ_run defs (onTc (τ := τ) (main (F := Ideal))) ⟨m, fun _ => 0, ρ⟩ (fun r => ∀ c : Dev nD,
      r.2.mem ((c.tc : Thread nD τ).loc main_v66) = resQ m c
      ∧ r.2.mem ((c.tc : Thread nD τ).loc main_v69) = resKk m c
      ∧ r.2.mem ((c.tc : Thread nD τ).loc main_v72) = resVv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).2 main_v66 (Pipeline.mem_restRefs_of main_v66 (by decide) (by decide))).trans ((after_q _).trans (congrArg outQ (end_q m c))),
      ((h.1 c).2 main_v69 (Pipeline.mem_restRefs_of main_v69 (by decide) (by decide))).trans ((after_k _).trans (congrArg outK (end_k m c))),
      ((h.1 c).2 main_v72 (Pipeline.mem_restRefs_of main_v72 (by decide) (by decide))).trans ((after_v _).trans (congrArg outK (end_v m c))),
      args_kept m c (h.1 c).2⟩) (run_main m ρ)

theorem tok_split (j : Fin 16384) : tok (j.val / 512) ⟨j.val % 512, by omega⟩ = j :=
  Fin.ext (by have := j.isLt; show 512 * min (j.val / 512) 31 + j.val % 512 = j.val; omega)

variable {A : Args} (h : Reads A (m ((c.tc : Thread nD τ).loc main_arg0)) (m ((c.tc : Thread nD τ).loc main_arg1)) (m ((c.tc : Thread nD τ).loc main_arg2))
    (m ((c.tc : Thread nD τ).loc main_arg3)))
include h

theorem resQ_real (g : Fin 2) (a : Fin 4) (i : Fin 16384) (d : Fin 64) : resQ m c (ix4 0 i (head g a) d) = (gq A g a i d : EReal) := by
  unfold resQ
  rw [outQ_apply, arrQ_real g m c h, ofBits_eighth, ← EReal.coe_mul, gq]

theorem resK_final (g : Fin 2) (j : Fin 16384) (d : Fin 64) : resKk m c (ix4 0 j g d) = (gk A g j d : EReal) := by
  unfold resKk
  rw [outK_apply, resK_real g m c h]
  exact congrArg (fun j => (gk A g j d : EReal)) (tok_split j)

theorem resV_final (g : Fin 2) (j : Fin 16384) (d : Fin 64) : resVv m c (ix4 0 j g d) = (gv A g j d : EReal) := by
  unfold resVv
  rw [outK_apply, resV_real g m c h]
  exact congrArg (fun j => (gv A g j d : EReal)) (tok_split j)

end Cert.KernelIdeal.Hand

end
-- ==== Proof.RefTerms.lean ====
/-
  The reference's results as named terms of its arguments, each read at an index as a real.
-/
module

public import proofs.«01_k».proof.Proof.Math
public import proofs.«01_k».proof.Proof.Gen.ReferenceIdeal.Run

@[expose] public section

set_option maxRecDepth 16384

noncomputable section

namespace Cert.ReferenceIdeal.Hand

open Cert.ReferenceIdeal Cert.ReferenceIdeal.Gen Cert.Attn
open Idealize.ShloMosaic Idealize.ShloMosaic.TcCoe

/-- An array by query head, with the group's members apart. -/
def byHead (x : FVec Ideal S1x16384x2x4x64 .f32) : FVec Ideal S1x2x4x16384x64 .f32 :=
  transpose S1x2x4x16384x64 [0, 2, 3, 1, 4] x transposes_S1x16384x2x4x64_S1x2x4x16384x64_0_2_3_1_4
/-- An array by key head. -/
def byKey (x : FVec Ideal S1x16384x2x64 .f32) : FVec Ideal S1x2x16384x64 .f32 :=
  transpose S1x2x16384x64 [0, 2, 1, 3] x transposes_S1x16384x2x64_S1x2x16384x64_0_2_1_3
def qT (Q : FVec Ideal S1x16384x8x64 .f32) : FVec Ideal S1x2x4x16384x64 .f32 := byHead (shapeCast _ Q shapeCasts_S1x16384x8x64_S1x16384x2x4x64)
def wT (D : FVec Ideal S1x16384x512 .f32) : FVec Ideal S1x2x4x16384x64 .f32 := byHead (shapeCast _ D shapeCasts_S1x16384x512_S1x16384x2x4x64)

/-- A row's products with the keys. -/
def rowDot (x : FVec Ideal S1x2x4x16384x64 .f32) (y : FVec Ideal S1x2x16384x64 .f32) : FVec Ideal S1x2x4x16384x16384 .f32 :=
  Host.dotGeneral dot_S1x2x4x16384x64_S1x2x16384x64_S1x2x4x16384x16384_4_3_23_2_01_01 none x y
/-- The scale 1/8 everywhere. -/
def eighth : FVec Ideal S1x2x4x16384x16384 .f32 := broadcastInDim S1x2x4x16384x16384 ![] bcast_S_S1x2x4x16384x16384 (constant S_ .f32 0x3E000000#32)
def scoreT (Q : FVec Ideal S1x16384x8x64 .f32) (K : FVec Ideal S1x16384x2x64 .f32) : FVec Ideal S1x2x4x16384x16384 .f32 :=
  mulf (rowDot (qT Q) (byKey K)) eighth
/-- A value of each row, at each of its entries. -/
def spread (x : FVec Ideal S1x2x4x16384x1 .f32) : FVec Ideal S1x2x4x16384x16384 .f32 :=
  broadcastInDim S1x2x4x16384x16384 ![0, 1, 2, 3, 4] bcast_S1x2x4x16384x1_S1x2x4x16384x16384_0_1_2_3_4 x
def column (x : FVec Ideal S1x2x4x16384 .f32) : FVec Ideal S1x2x4x16384x1 .f32 :=
  broadcastInDim S1x2x4x16384x1 ![0, 1, 2, 3] bcast_S1x2x4x16384_S1x2x4x16384x1_0_1_2_3 x
/-- A row's maximum. -/
def rowMax (s : FVec Ideal S1x2x4x16384x16384 .f32) : FVec Ideal S1x2x4x16384 .f32 :=
  maximumf (broadcastInDim S1x2x4x16384 ![] bcast_S_S1x2x4x16384 (constant S_ .f32 0xFF800000#32))
    (Host.reduce FloatOps.maximumf s (constant S_ .f32 0xFF800000#32) reducesTo_S1x2x4x16384x16384_S1x2x4x16384_d4 h_S_)
def rowSum (s : FVec Ideal S1x2x4x16384x16384 .f32) : FVec Ideal S1x2x4x16384 .f32 :=
  Host.reduceAdd s (constant S_ .f32 0x00000000#32) reducesTo_S1x2x4x16384x16384_S1x2x4x16384_d4 h_S_
/-- The exponentials of the scores less their row's maximum. -/
def expT (s : FVec Ideal S1x2x4x16384x16384 .f32) : FVec Ideal S1x2x4x16384x16384 .f32 := Host.exp (subf s (spread (column (rowMax s))))
def sumT (s : FVec Ideal S1x2x4x16384x16384 .f32) : FVec Ideal S1x2x4x16384x1 .f32 := column (rowSum (expT s))
def sumSqT (s : FVec Ideal S1x2x4x16384x16384 .f32) : FVec Ideal S1x2x4x16384x1 .f32 :=
  Host.divf (broadcastInDim S1x2x4x16384x1 ![] bcast_S_S1x2x4x16384x1 (constant S_ .f32 0x3F800000#32)) (mulf (sumT s) (sumT s))
/-- The row sums that the derivative of the softmax's quotient takes. -/
def meanT (s dp : FVec Ideal S1x2x4x16384x16384 .f32) : FVec Ideal S1x2x4x16384 .f32 :=
  rowSum (mulf (mulf dp (spread (sumSqT s))) (expT s))
/-- Minus a value of each row, its unit axes summed away. -/
def backT (x : FVec Ideal S1x2x4x16384 .f32) : FVec Ideal S2x4x16384 .f32 :=
  Host.reduceAdd (Host.negf (shapeCast _ x shapeCasts_S1x2x4x16384_S1x2x4x16384x1))
    (constant S_ .f32 0x00000000#32) reducesTo_S1x2x4x16384x1_S2x4x16384_d0_4 h_S_
def spreadT (x : FVec Ideal S2x4x16384 .f32) : FVec Ideal S1x2x4x16384x16384 .f32 :=
  broadcastInDim S1x2x4x16384x16384 ![0, 1, 2, 3] bcast_S1x2x4x16384_S1x2x4x16384x16384_0_1_2_3
    (broadcastInDim S1x2x4x16384 ![1, 2, 3] bcast_S2x4x16384_S1x2x4x16384_1_2_3 x)
/-- The softmax's gradient, of the scores and the gradient of the probabilities. -/
def softT (s dp : FVec Ideal S1x2x4x16384x16384 .f32) : FVec Ideal S1x2x4x16384x16384 .f32 :=
  mulf (addf (Host.divf dp (spread (sumT s))) (spreadT (backT (meanT s dp)))) (expT s)

variable (Q : FVec Ideal S1x16384x8x64 .f32) (K V : FVec Ideal S1x16384x2x64 .f32) (D : FVec Ideal S1x16384x512 .f32)

def gradT : FVec Ideal S1x2x4x16384x16384 .f32 := mulf (softT (scoreT Q K) (rowDot (wT D) (byKey V))) eighth
/-- The three results. -/
def dqT : FVec Ideal S1x16384x8x64 .f32 :=
  shapeCast _ (transpose S1x16384x2x4x64 [0, 3, 1, 2, 4]
    (Host.dotGeneral dot_S1x2x4x16384x16384_S1x2x16384x64_S1x2x4x16384x64_4_2_23_3_01_01 none (gradT Q K V D) (byKey K) : FVec Ideal S1x2x4x16384x64 .f32)
    transposes_S1x2x4x16384x64_S1x16384x2x4x64_0_3_1_2_4) shapeCasts_S1x16384x2x4x64_S1x16384x8x64
def dkT : FVec Ideal S1x16384x2x64 .f32 :=
  transpose S1x16384x2x64 [0, 2, 1, 3]
    (Host.dotGeneral dot_S1x2x4x16384x16384_S1x2x4x16384x64_S1x2x16384x64_23_23_4_4_01_01 none (gradT Q K V D) (qT Q) : FVec Ideal S1x2x16384x64 .f32)
    transposes_S1x2x16384x64_S1x16384x2x64_0_2_1_3
def dvT : FVec Ideal S1x16384x2x64 .f32 :=
  transpose S1x16384x2x64 [0, 2, 1, 3] (transpose S1x2x16384x64 [0, 1, 3, 2]
    (Host.dotGeneral dot_S1x2x4x16384x64_S1x2x4x16384x16384_S1x2x64x16384_23_23_4_4_01_01 none (wT D)
      (Host.divf (expT (scoreT Q K)) (spread (sumT (scoreT Q K)))) : FVec Ideal S1x2x64x16384 .f32)
    transposes_S1x2x64x16384_S1x2x16384x64_0_1_3_2) transposes_S1x2x16384x64_S1x16384x2x64_0_2_1_3

end Cert.ReferenceIdeal.Hand

end
-- ==== Proof.RefValue.lean ====
/-
  The reference's terms at an index, over real arguments.
-/
module

public import proofs.«01_k».proof.Proof.RefTerms

@[expose] public section

set_option maxRecDepth 16384

noncomputable section

namespace Cert.ReferenceIdeal.Hand

open Cert.ReferenceIdeal Cert.ReferenceIdeal.Gen Cert.Attn
open Idealize.ShloMosaic Idealize.ShloMosaic.TcCoe

theorem rowDot_apply (x : FVec Ideal S1x2x4x16384x64 .f32) (y : FVec Ideal S1x2x16384x64 .f32) (g : Fin 2) (a : Fin 4) (i j : Fin 16384) :
    rowDot x y (ix5 0 g a i j) = ∑ d : Fin 64, x (ix5 0 g a i d) * y (ix4 0 g j d) := by
  pointwise [rowDot]
theorem qT_apply (Q : FVec Ideal S1x16384x8x64 .f32) (g : Fin 2) (a : Fin 4) (i : Fin 16384) (d : Fin 64) :
    qT Q (ix5 0 g a i d) = Q (ix4 0 i ⟨g.val * 4 + a.val, by omega⟩ d) := by
  pointwise [qT, byHead]
theorem wT_apply (D : FVec Ideal S1x16384x512 .f32) (g : Fin 2) (a : Fin 4) (i : Fin 16384) (d : Fin 64) :
    wT D (ix5 0 g a i d) = D (ix3 0 i ⟨g.val * 256 + a.val * 64 + d.val, by omega⟩) := by
  pointwise [wT, byHead]
theorem byKey_apply (K : FVec Ideal S1x16384x2x64 .f32) (g : Fin 2) (j : Fin 16384) (d : Fin 64) :
    byKey K (ix4 0 g j d) = K (ix4 0 j g d) := by
  pointwise [byKey]
theorem rowSum_apply (s : FVec Ideal S1x2x4x16384x16384 .f32) (g : Fin 2) (a : Fin 4) (i : Fin 16384) :
    rowSum s (ix4 0 g a i) = ∑ j : Fin 16384, s (ix5 0 g a i j) := by
  pointwise [rowSum]
theorem spread_apply (x : FVec Ideal S1x2x4x16384x1 .f32) (g : Fin 2) (a : Fin 4) (i j : Fin 16384) :
    spread x (ix5 0 g a i j) = x (ix5 0 g a i 0) := by
  pointwise [spread]
theorem column_apply (x : FVec Ideal S1x2x4x16384 .f32) (g : Fin 2) (a : Fin 4) (i : Fin 16384) :
    column x (ix5 0 g a i 0) = x (ix4 0 g a i) := by
  pointwise [column]
theorem spreadT_apply (x : FVec Ideal S2x4x16384 .f32) (g : Fin 2) (a : Fin 4) (i j : Fin 16384) :
    spreadT x (ix5 0 g a i j) = x (ix3 g a i) := by
  pointwise [spreadT]

theorem backT_apply (x : FVec Ideal S1x2x4x16384 .f32) (g : Fin 2) (a : Fin 4) (i : Fin 16384) :
    backT x (ix3 g a i) = -x (ix4 0 g a i) := by
  have e : backT x (ix3 g a i) = Ideal.hostReduceAdd reducesTo_S1x2x4x16384x1_S2x4x16384_d0_4
      (Host.negf (shapeCast S1x2x4x16384x1 x shapeCasts_S1x2x4x16384_S1x2x4x16384x1) : FVec Ideal S1x2x4x16384x1 .f32)
      (Ideal.ofBits .f32 0x00000000#32) (ix3 g a i) := rfl
  have f : (Finset.univ.filter fun n : S1x2x4x16384x1.Idx => reducesTo_S1x2x4x16384x1_S2x4x16384_d0_4.drop n = ix3 g a i) = {ix5 0 g a i 0} := by
    ext n
    simp only [Finset.mem_filter, Finset.mem_univ, true_and, Finset.mem_singleton]
    obtain ⟨n0, n1, n2, n3, n4, rfl⟩ : ∃ n0 n1 n2 n3 n4, n = ix5 n0 n1 n2 n3 n4 := ⟨_, _, _, _, _, eq_ix5 n⟩
    have d : reducesTo_S1x2x4x16384x1_S2x4x16384_d0_4.drop (ix5 n0 n1 n2 n3 n4) = ix3 n1 n2 n3 := by
      funext b
      fin_cases b <;> rfl
    rw [d]
    constructor
    · intro h
      have h0 := congrFun h 0
      have h1 := congrFun h 1
      have h2 := congrFun h 2
      have e1 : n1 = g := h0
      have e2 : n2 = a := h1
      have e3 : n3 = i := h2
      rw [e1, e2, e3, Subsingleton.elim n0 0, Subsingleton.elim n4 0]
    · intro h
      have e1 : n1 = g := congrFun h 1
      have e2 : n2 = a := congrFun h 2
      have e3 : n3 = i := congrFun h 3
      rw [e1, e2, e3]
  have p : (Host.negf (shapeCast S1x2x4x16384x1 x shapeCasts_S1x2x4x16384_S1x2x4x16384x1) : FVec Ideal S1x2x4x16384x1 .f32) (ix5 0 g a i 0)
      = -x (ix4 0 g a i) := by
    pointwise
  rw [e, Ideal.hostReduceAdd, f, Finset.sum_singleton, p, Ideal.ofBits_zero_f32, zero_add]

/-! ## Over the reals -/

theorem rowMax_real (s : FVec Ideal S1x2x4x16384x16384 .f32) (hs : ∀ n, ∃ r : ℝ, s n = (r : EReal)) (g : Fin 2) (a : Fin 4) (i : Fin 16384) :
    ∃ M : ℝ, rowMax s (ix4 0 g a i) = (M : EReal) := by
  obtain ⟨M, hM⟩ := reduce_max_real s (constant S_ .f32 0xFF800000#32) reducesTo_S1x2x4x16384x16384_S1x2x4x16384_d4 h_S_ (ix4 0 g a i)
    ofBits_neg_inf hs ⟨ix5 0 g a i 0, by funext b; fin_cases b <;> rfl⟩
  refine ⟨M, ?_⟩
  exact maximumf_bot _ _ _ M ofBits_neg_inf hM

variable (s dp : FVec Ideal S1x2x4x16384x16384 .f32) (S P : Fin 2 → Fin 4 → Fin 16384 → Fin 16384 → ℝ)
  (hs : ∀ g a i j, s (ix5 0 g a i j) = ((S g a i j : ℝ) : EReal)) (hp : ∀ g a i j, dp (ix5 0 g a i j) = ((P g a i j : ℝ) : EReal))
  (g : Fin 2) (a : Fin 4) (i : Fin 16384)

include hs in
theorem max_of : ∃ M : ℝ, rowMax s (ix4 0 g a i) = (M : EReal) :=
  rowMax_real s (fun n => by
    obtain ⟨n0, n1, n2, n3, n4, rfl⟩ : ∃ n0 n1 n2 n3 n4, n = ix5 n0 n1 n2 n3 n4 := ⟨_, _, _, _, _, eq_ix5 n⟩
    obtain rfl : n0 = 0 := Subsingleton.elim _ _
    exact ⟨_, hs n1 n2 n3 n4⟩) g a i

include hs in
theorem expT_real (M : ℝ) (hM : rowMax s (ix4 0 g a i) = (M : EReal)) (j : Fin 16384) :
    expT s (ix5 0 g a i j) = ((Real.exp (S g a i j - M) : ℝ) : EReal) := by
  rw [expT, hostExp_apply, ValueIdx.subf_apply, spread_apply, column_apply, hM, hs, ← EReal.coe_sub, Ideal.exp_coe]

include hs in
theorem sumT_real (M : ℝ) (hM : rowMax s (ix4 0 g a i) = (M : EReal)) :
    sumT s (ix5 0 g a i 0) = ((∑ j, Real.exp (S g a i j - M) : ℝ) : EReal) := by
  rw [sumT, column_apply, rowSum_apply, ← coe_sum]
  exact Finset.sum_congr rfl fun j _ => expT_real s S hs g a i M hM j

include hs in
theorem prT_real (j : Fin 16384) :
    (Host.divf (expT s) (spread (sumT s)) : FVec Ideal S1x2x4x16384x16384 .f32) (ix5 0 g a i j) = ((prob (S g a i) j : ℝ) : EReal) := by
  obtain ⟨M, hM⟩ := max_of s S hs g a i
  rw [ValueIdx.hostDivf_apply, spread_apply, expT_real s S hs g a i M hM, sumT_real s S hs g a i M hM, div_real (sum_exp_pos (S g a i) M).ne', prob_shift]

include hs hp in
theorem softT_real (j : Fin 16384) :
    softT s dp (ix5 0 g a i j) = ((prob (S g a i) j * (P g a i j - ∑ j', prob (S g a i) j' * P g a i j') : ℝ) : EReal) := by
  obtain ⟨M, hM⟩ := max_of s S hs g a i
  have hl := (sum_exp_pos (S g a i) M).ne'
  have hx := expT_real s S hs g a i M hM
  have hu := sumT_real s S hs g a i M hM
  have hq : sumSqT s (ix5 0 g a i 0) = ((1 / ((∑ j, Real.exp (S g a i j - M)) * ∑ j, Real.exp (S g a i j - M)) : ℝ) : EReal) := by
    have e : sumSqT s (ix5 0 g a i 0) = Ideal.div ((1 : ℝ) : EReal) (sumT s (ix5 0 g a i 0) * sumT s (ix5 0 g a i 0)) := by
      pointwise [sumSqT]
      rfl
    rw [e, hu, ← EReal.coe_mul, div_real (mul_ne_zero hl hl)]
  have hm : meanT s dp (ix4 0 g a i) = ((∑ j', P g a i j' * (1 / ((∑ j'', Real.exp (S g a i j'' - M)) * ∑ j'', Real.exp (S g a i j'' - M)))
      * Real.exp (S g a i j' - M) : ℝ) : EReal) := by
    rw [meanT, rowSum_apply, ← coe_sum]
    refine Finset.sum_congr rfl fun j' _ => ?_
    rw [ValueIdx.mulf_apply, ValueIdx.mulf_apply, spread_apply, hq, hx, hp, ← EReal.coe_mul, ← EReal.coe_mul]
  rw [softT, ValueIdx.mulf_apply, ValueIdx.addf_apply, ValueIdx.hostDivf_apply, spread_apply, spreadT_apply, backT_apply, hm, hu, hx, hp, div_real hl, ← EReal.coe_neg, ← EReal.coe_add, ← EReal.coe_mul, soft_grad]

/-! ## The results -/

/-- The arguments of the layer as reals. -/
structure Reals (A : Args) (Q : FVec Ideal S1x16384x8x64 .f32) (K V : FVec Ideal S1x16384x2x64 .f32) (D : FVec Ideal S1x16384x512 .f32) : Prop where
  q : ∀ (g : Fin 2) (a : Fin 4) i d, Q (ix4 0 i ⟨g.val * 4 + a.val, by omega⟩ d) = (A.q g a i d : EReal)
  k : ∀ (g : Fin 2) j d, K (ix4 0 j g d) = (A.k g j d : EReal)
  v : ∀ (g : Fin 2) j d, V (ix4 0 j g d) = (A.v g j d : EReal)
  w : ∀ (g : Fin 2) (a : Fin 4) i (d : Fin 64), D (ix3 0 i ⟨g.val * 256 + a.val * 64 + d.val, by omega⟩) = (A.w g a i d : EReal)

variable {A : Args} {Q : FVec Ideal S1x16384x8x64 .f32} {K V : FVec Ideal S1x16384x2x64 .f32} {D : FVec Ideal S1x16384x512 .f32} (h : Reals A Q K V D)

theorem eighth_apply (j : Fin 16384) : eighth (ix5 0 g a i j) = ((1 / 8 : ℝ) : EReal) := by
  exact ofBits_eighth

include h in
theorem scoreT_real (j : Fin 16384) : scoreT Q K (ix5 0 g a i j) = ((score A g a i j : ℝ) : EReal) := by
  rw [scoreT, ValueIdx.mulf_apply, rowDot_apply, eighth_apply, score, EReal.coe_mul, ← coe_sum]
  congr 1
  refine Finset.sum_congr rfl fun d _ => ?_
  rw [qT_apply, byKey_apply, h.q, h.k, EReal.coe_mul]

include h in
theorem dprT_real (j : Fin 16384) : rowDot (wT D) (byKey V) (ix5 0 g a i j) = ((dpr A g a i j : ℝ) : EReal) := by
  rw [rowDot_apply, dpr, ← coe_sum]
  refine Finset.sum_congr rfl fun d _ => ?_
  rw [wT_apply, byKey_apply, h.w, h.v, EReal.coe_mul]

include h in
theorem gradT_real (j : Fin 16384) : gradT Q K V D (ix5 0 g a i j) = ((dsc A g a i j * (1 / 8) : ℝ) : EReal) := by
  rw [gradT, ValueIdx.mulf_apply, softT_real _ _ (score A) (dpr A) (fun g a i j => scoreT_real g a i h j) (fun g a i j => dprT_real g a i h j), eighth_apply, ← EReal.coe_mul]
  rfl

end Cert.ReferenceIdeal.Hand

end
-- ==== Proof.RefResults.lean ====
/-
  The reference's three results are the gradients.
-/
module

public import proofs.«01_k».proof.Proof.RefValue

@[expose] public section

set_option maxRecDepth 16384

noncomputable section

namespace Cert.ReferenceIdeal.Hand

open Cert.ReferenceIdeal Cert.ReferenceIdeal.Gen Cert.Attn
open Idealize.ShloMosaic Idealize.ShloMosaic.TcCoe

variable (E : FVec Ideal S1x2x4x16384x16384 .f32) (x : FVec Ideal S1x2x4x16384x64 .f32) (y : FVec Ideal S1x2x16384x64 .f32)

/-- Each row's products with the columns of an array, by query head. -/
def toRows : FVec Ideal S1x16384x8x64 .f32 :=
  shapeCast _ (transpose S1x16384x2x4x64 [0, 3, 1, 2, 4]
    (Host.dotGeneral dot_S1x2x4x16384x16384_S1x2x16384x64_S1x2x4x16384x64_4_2_23_3_01_01 none E y : FVec Ideal S1x2x4x16384x64 .f32)
    transposes_S1x2x4x16384x64_S1x16384x2x4x64_0_3_1_2_4) shapeCasts_S1x16384x2x4x64_S1x16384x8x64
theorem toRows_apply (g : Fin 2) (a : Fin 4) (i : Fin 16384) (d : Fin 64) :
    toRows E y (ix4 0 i ⟨g.val * 4 + a.val, by omega⟩ d) = ∑ j : Fin 16384, E (ix5 0 g a i j) * y (ix4 0 g j d) := by
  pointwise [toRows]

/-- The columns' products with the rows of an array, over the members of a group. -/
def toColumns : FVec Ideal S1x16384x2x64 .f32 :=
  transpose S1x16384x2x64 [0, 2, 1, 3]
    (Host.dotGeneral dot_S1x2x4x16384x16384_S1x2x4x16384x64_S1x2x16384x64_23_23_4_4_01_01 none E x : FVec Ideal S1x2x16384x64 .f32)
    transposes_S1x2x16384x64_S1x16384x2x64_0_2_1_3
theorem toColumns_apply (g : Fin 2) (j : Fin 16384) (d : Fin 64) :
    toColumns E x (ix4 0 j g d) = ∑ a : Fin 4, ∑ i : Fin 16384, E (ix5 0 g a i j) * x (ix5 0 g a i d) := by
  pointwise [toColumns]

def toColumns' : FVec Ideal S1x16384x2x64 .f32 :=
  transpose S1x16384x2x64 [0, 2, 1, 3] (transpose S1x2x16384x64 [0, 1, 3, 2]
    (Host.dotGeneral dot_S1x2x4x16384x64_S1x2x4x16384x16384_S1x2x64x16384_23_23_4_4_01_01 none x E : FVec Ideal S1x2x64x16384 .f32)
    transposes_S1x2x64x16384_S1x2x16384x64_0_1_3_2) transposes_S1x2x16384x64_S1x16384x2x64_0_2_1_3
theorem toColumns'_apply (g : Fin 2) (j : Fin 16384) (d : Fin 64) :
    toColumns' E x (ix4 0 j g d) = ∑ a : Fin 4, ∑ i : Fin 16384, x (ix5 0 g a i d) * E (ix5 0 g a i j) := by
  pointwise [toColumns']

variable {A : Args} {Q : FVec Ideal S1x16384x8x64 .f32} {K V : FVec Ideal S1x16384x2x64 .f32} {D : FVec Ideal S1x16384x512 .f32} (h : Reals A Q K V D)
include h

theorem dqT_real (g : Fin 2) (a : Fin 4) (i : Fin 16384) (d : Fin 64) :
    dqT Q K V D (ix4 0 i ⟨g.val * 4 + a.val, by omega⟩ d) = ((gq A g a i d : ℝ) : EReal) := by
  have e := toRows_apply (gradT Q K V D) (byKey K) g a i d
  refine Eq.trans e ?_
  rw [gq, Finset.sum_mul, ← coe_sum]
  refine Finset.sum_congr rfl fun j _ => ?_
  rw [gradT_real g a i h, byKey_apply, h.k, ← EReal.coe_mul, mul_right_comm]

theorem dkT_real (g : Fin 2) (j : Fin 16384) (d : Fin 64) : dkT Q K V D (ix4 0 j g d) = ((gk A g j d : ℝ) : EReal) := by
  have e := toColumns_apply (gradT Q K V D) (qT Q) g j d
  refine Eq.trans e ?_
  rw [gk, ← coe_sum]
  refine Finset.sum_congr rfl fun a _ => ?_
  rw [← coe_sum]
  refine Finset.sum_congr rfl fun i _ => ?_
  rw [gradT_real g a i h, qT_apply, h.q, ← EReal.coe_mul, mul_assoc, mul_comm (1 / 8 : ℝ)]

theorem dvT_real (g : Fin 2) (j : Fin 16384) (d : Fin 64) : dvT Q K D (ix4 0 j g d) = ((gv A g j d : ℝ) : EReal) := by
  have e := toColumns'_apply (Host.divf (expT (scoreT Q K)) (spread (sumT (scoreT Q K)))) (wT D) g j d
  refine Eq.trans e ?_
  rw [gv, ← coe_sum]
  refine Finset.sum_congr rfl fun a _ => ?_
  rw [← coe_sum]
  refine Finset.sum_congr rfl fun i _ => ?_
  rw [prT_real _ (score A) (fun g a i j => scoreT_real g a i h j), wT_apply, h.w, ← EReal.coe_mul]
  rfl

end Cert.ReferenceIdeal.Hand

end
-- ==== Proof.RefRun.lean ====
/-
  The reference's run, its results by the named terms.
-/
module

public import proofs.«01_k».proof.Proof.RefTerms

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (c : Dev nD)

theorem res_q : res_main_v63 m c = dqT (m ((c.tc : Thread nD τ).loc main_arg0)) (m ((c.tc : Thread nD τ).loc main_arg1))
    (m ((c.tc : Thread nD τ).loc main_arg2)) (m ((c.tc : Thread nD τ).loc main_arg3)) := by
  unfold res_main_v63; rfl
theorem res_k : res_main_v61 m c = dkT (m ((c.tc : Thread nD τ).loc main_arg0)) (m ((c.tc : Thread nD τ).loc main_arg1))
    (m ((c.tc : Thread nD τ).loc main_arg2)) (m ((c.tc : Thread nD τ).loc main_arg3)) := by
  unfold res_main_v61; rfl

/-- The run's results are the three terms, the arguments as launched. -/
theorem run_terms (ρ : Dev nD → PrngReg) : θ_run defs (onTc (τ := τ) (main (F := Ideal))) ⟨m, fun _ => 0, ρ⟩ fun r => ∀ c : Dev nD,
      (r.2.mem ((c.tc : Thread nD τ).loc main_v63) = dqT (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v61) = dkT (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v60) = dvT (m ((c.tc : Thread nD τ).loc main_arg0)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨⟨(h c).1.trans (res_q m c), (h c).2.1.trans (res_k m c), (h c).2.2.1.trans rfl⟩, (h c).2.2.2⟩) (run m ρ)

end Cert.ReferenceIdeal.Hand

end
-- ==== Proof.FlashValue.lean ====
/-
  The value: over finite arguments the kernel and the reference end with the same three gradients.
-/
module

public import proofs.«01_k».proof.Proof.Result
public import proofs.«01_k».proof.Proof.RefResults
public import proofs.«01_k».proof.Proof.RefRun
public import proofs.«01_k».proof.Proof.Frames
public import proofs.«01_k».proof.Defs

@[expose] public section

set_option maxRecDepth 16384

noncomputable section

namespace Cert.Attn

open Idealize.ShloMosaic Idealize.ShloMosaic.TcCoe Idealize.SL.Sem
open Cert.KernelIdeal (S1x16384x8x64 S1x16384x2x64 S1x16384x512)

theorem pre_facts : Cert.Pre_finite.Facts := ⟨by decide, by decide, by decide⟩

/-- The arguments as reals. -/
def argsOf (Q : FVec Ideal S1x16384x8x64 .f32) (K V : FVec Ideal S1x16384x2x64 .f32) (D : FVec Ideal S1x16384x512 .f32) : Args where
  q g a i d := EReal.toReal (Q (ix4 0 i ⟨g.val * 4 + a.val, by omega⟩ d))
  k g j d := EReal.toReal (K (ix4 0 j g d))
  v g j d := EReal.toReal (V (ix4 0 j g d))
  w g a i d := EReal.toReal (D (ix3 0 i ⟨g.val * 256 + a.val * 64 + d.val, by omega⟩))

/-- Arrays of the two shapes of a result that agree at every coordinate are equal. -/
theorem ext_q (x y : FVec Ideal S1x16384x8x64 .f32)
    (h : ∀ (g : Fin 2) (a : Fin 4) i d, x (ix4 0 i ⟨g.val * 4 + a.val, by omega⟩ d) = y (ix4 0 i ⟨g.val * 4 + a.val, by omega⟩ d)) : x = y := by
  funext n
  obtain ⟨n0, i, r, d, rfl⟩ : ∃ n0 n1 n2 n3, n = ix4 n0 n1 n2 n3 := ⟨_, _, _, _, eq_ix4 n⟩
  obtain rfl : n0 = 0 := Subsingleton.elim _ _
  have e := h ⟨r.val / 4, by omega⟩ ⟨r.val % 4, by omega⟩ i d
  have hr : (⟨r.val / 4 * 4 + r.val % 4, by omega⟩ : Fin 8) = r := Fin.ext (by show r.val / 4 * 4 + r.val % 4 = r.val; omega)
  rw [hr] at e
  exact e
theorem ext_k (x y : FVec Ideal S1x16384x2x64 .f32) (h : ∀ g j d, x (ix4 0 j g d) = y (ix4 0 j g d)) : x = y := by
  funext n
  obtain ⟨n0, j, g, d, rfl⟩ : ∃ n0 n1 n2 n3, n = ix4 n0 n1 n2 n3 := ⟨_, _, _, _, eq_ix4 n⟩
  obtain rfl : n0 = 0 := Subsingleton.elim _ _
  exact h g j d

section
variable (m : (ℓ : Loc Cert.KernelIdeal.nD Cert.KernelIdeal.τ Cert.KernelIdeal.sig) → Buf (Elt Ideal) ℓ)
variable (hp : Cert.Pre_KernelIdeal_finite (hPre_finite := pre_facts) m) (c : Dev Cert.KernelIdeal.nD)

/-- The arguments of the launch as reals. -/
abbrev argsAt : Args := argsOf (m ((c.tc : Thread Cert.KernelIdeal.nD Cert.KernelIdeal.τ).loc Cert.KernelIdeal.main_arg0))
  (m ((c.tc : Thread Cert.KernelIdeal.nD Cert.KernelIdeal.τ).loc Cert.KernelIdeal.main_arg1))
  (m ((c.tc : Thread Cert.KernelIdeal.nD Cert.KernelIdeal.τ).loc Cert.KernelIdeal.main_arg2))
  (m ((c.tc : Thread Cert.KernelIdeal.nD Cert.KernelIdeal.τ).loc Cert.KernelIdeal.main_arg3))

include hp in
/-- Finite arguments are real. -/
theorem reads_at : Cert.KernelIdeal.Hand.Reads (argsAt m c) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) where
  q g a i d := (real_of_pre _ _ (fun _ => ofBits_pos_inf) (hp c).1 _).symm
  k g j d := (real_of_pre _ _ (fun _ => ofBits_pos_inf) (hp c).2.1 _).symm
  v g j d := (real_of_pre _ _ (fun _ => ofBits_pos_inf) (hp c).2.2.1 _).symm
  w g a i d := (real_of_pre _ _ (fun _ => ofBits_pos_inf) (hp c).2.2.2 _).symm
end

theorem value : Cert.algebraic_KernelIdeal_ReferenceIdeal_pre_finite (hPre_finite := pre_facts) := by
  intro m g m' g' hp hagree
  refine ⟨fun c => Cert.KernelIdeal.Hand.resQ m c, fun c => Cert.KernelIdeal.Hand.resKk m c, fun c => Cert.KernelIdeal.Hand.resVv m c, ?_, ?_⟩
  · exact Cert.KernelIdeal.Hand.run_results m g
  · refine (θ_run _ _ _).mono (fun r h c => ?_) (Cert.ReferenceIdeal.Hand.run_terms m' g')
    obtain ⟨⟨e0, e1, e2⟩, f0, f1, f2, f3⟩ := h c
    obtain ⟨a0, a1, a2, a3⟩ := hagree c
    have hr := reads_at m hp c
    have hR : Cert.ReferenceIdeal.Hand.Reals (argsAt m c) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) := by
      rw [a0, a1, a2, a3]
      exact ⟨hr.q, hr.k, hr.v, hr.w⟩
    refine ⟨e0.trans (ext_q _ _ fun g a i d => ?_), e1.trans (ext_k _ _ fun g j d => ?_), e2.trans (ext_k _ _ fun g j d => ?_), f0, f1, f2, f3⟩
    · exact (Cert.ReferenceIdeal.Hand.dqT_real hR g a i d).trans (Cert.KernelIdeal.Hand.resQ_real m c hr g a i d).symm
    · exact (Cert.ReferenceIdeal.Hand.dkT_real hR g j d).trans (Cert.KernelIdeal.Hand.resK_final m c hr g j d).symm
    · exact (Cert.ReferenceIdeal.Hand.dvT_real hR g j d).trans (Cert.KernelIdeal.Hand.resV_final m c hr g j d).symm

end Cert.Attn

end
-- ==== Proof.InFrames.lean ====
/-
  The second kernel's frames over bits and over extended reals: one run, over any float values.
-/
module

public import proofs.«01_k».proof.Proof.Gen.Kernel2Ideal.Frame
public import proofs.«01_k».proof.Proof.Gen.Kernel2
public import proofs.«01_k».proof.Defs

@[expose] public section

set_option maxRecDepth 16384

noncomputable section

namespace Cert.HeadNorm

open Cert.Kernel2Ideal Cert.Kernel2Ideal.Gen
open Idealize.ShloMosaic Idealize.ShloMosaic.TcCoe Idealize.SL.Sem

theorem frame_ideal : Cert.quiescent_Kernel2Ideal := fun m ρ _ => Cert.Kernel2Ideal.Gen.frame m ρ

/-- The frame over bits, of the ideal program's text. -/
def FrameBits : Prop :=
  ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

/-- The two programs have the same text. -/
theorem same_text : Cert.quiescent_Kernel2 = FrameBits := by sl_kernel_rfl

theorem frame_kernel : Cert.quiescent_Kernel2 := same_text.mpr fun m ρ _ => Cert.Kernel2Ideal.Gen.frame (F := Bits) m ρ

end Cert.HeadNorm

end
-- ==== Proof.InPay.lean ====
/-
  The gradient of the head scales in one block of rows: what the body adds to its two accumulators, at an index.
-/
module

public import proofs.«01_k».proof.Proof.Gen.Kernel2Ideal.Skeleton
public import Idealize.ShloMosaic.Lib.Pointwise
public import Idealize.ShloMosaic.Lib.ValueIdx

@[expose] public section

set_option maxRecDepth 16384

noncomputable section

namespace Cert.HeadNorm

open Cert.Kernel2Ideal Cert.Kernel2Ideal.Gen
open Idealize.ShloMosaic Idealize.ShloMosaic.TcCoe
open scoped BigOperators

/-- The lane of the other half of a rotated pair: sixteen lanes further in the low half, sixteen back in the high half. -/
def sw (l : Fin 128) : Fin 128 := ⟨if l.val / 16 % 2 = 0 then l.val + 16 else l.val - 16, by split_ifs <;> omega⟩

theorem lane_bit : ∀ l : Fin 128, IntOp.cmpi .eq (IntOp.andi (BitVec.ofNat 32 l.val) 16#32) 0#32 = if l.val / 16 % 2 = 0 then 1#1 else 0#1 := by
  decide +kernel
theorem lane_low : ∀ l : Fin 128, IntOp.cmpi .slt (BitVec.ofNat 32 l.val) 64#32 = if l.val < 64 then 1#1 else 0#1 := by decide +kernel

theorem select_ite {α : Type} (p : Prop) [Decidable p] (a b : α) : Scalar.select (if p then 1#1 else 0#1) a b = if p then a else b := by
  split_ifs <;> rfl

/-- A block of 128 lanes with the halves of every rotated pair exchanged. -/
theorem swap_apply (x : FVec Ideal S256x128 .f32) (r : Fin 256) (l : Fin 128) :
    select (cmpi .eq (andi (iota .tc S256x128 32 [1] iota_S256x128_d1_w32) (broadcast S256x128 16#32)) (broadcast S256x128 0#32))
      (dynamicRotate 1 112#32 none x rotates_S256x128_d1) (dynamicRotate 1 16#32 none x rotates_S256x128_d1) (ix2 r l) = x (ix2 r (sw l)) := by
  pointwise
  rw [lane_bit, select_ite]
  split_ifs with h
  · exact congrArg (fun n => x (ix2 r n)) (Fin.ext (by show (l.val + 128 - 112) % 128 = if _ then _ else _; rw [if_pos h]; omega))
  · exact congrArg (fun n => x (ix2 r n)) (Fin.ext (by show (l.val + 128 - 16) % 128 = if _ then _ else _; rw [if_neg h]; omega))

/-- Four blocks of 128 lanes side by side. -/
theorem cat4_apply (x : Fin 4 → FVec Ideal S256x128 .f32) (r : Fin 256) (c : Fin 512) :
    concatenate S256x512 1 [⟨S256x128, x 0⟩, ⟨S256x128, x 1⟩, ⟨S256x128, x 2⟩, ⟨S256x128, x 3⟩] concatenates_S256x128_S256x128_S256x128_S256x128_S256x512_d1 (ix2 r c)
      = x ⟨c.val / 128, by omega⟩ (ix2 r ⟨c.val % 128, by omega⟩) := by
  pointwise
  have same : ∀ (a b : Fin 4) (l l' : Fin 128), a.val = b.val → l.val = l'.val → x a (ix2 r l) = x b (ix2 r l') := by
    intro a b l l' h h'; rw [Fin.ext h, Fin.ext h']
  by_cases h0 : c.val < 128
  · rw [dif_pos h0]
    exact same _ _ _ _ (by show 0 = c.val / 128; omega) (by show c.val = c.val % 128; omega)
  rw [dif_neg h0]
  by_cases h1 : c.val - 128 < 128
  · rw [dif_pos h1]
    exact same _ _ _ _ (by show 1 = c.val / 128; omega) (by show c.val - 128 = c.val % 128; omega)
  rw [dif_neg h1]
  by_cases h2 : c.val - 128 - 128 < 128
  · rw [dif_pos h2]
    exact same _ _ _ _ (by show 2 = c.val / 128; omega) (by show c.val - 128 - 128 = c.val % 128; omega)
  rw [dif_neg h2]
  exact same _ _ _ _ (by show 3 = c.val / 128; omega) (by show c.val - 128 - 128 - 128 = c.val % 128; omega)

/-- Two blocks of 64 lanes put side by side, the second by a rotation. -/
theorem pair_apply (x y : FVec Ideal S1x256x128 .f32) (r : Fin 256) (l : Fin 128) :
    k0_pay11 x y (ix2 r l) = if l.val < 64 then x (ix3 0 r l) else y (ix3 0 r ⟨l.val % 64, by omega⟩) := by
  pointwise [k0_pay11]
  rw [lane_low, select_ite]
  split_ifs with h
  · rfl
  · exact congrArg (fun n => y (ix3 0 r n)) (Fin.ext (by show (l.val + 128 - 64) % 128 = l.val % 64; omega))

/-- The gradients of the eight rotated heads side by side, from their slabs, times an eighth. -/
theorem heads_apply (s : Fin 8 → FVec Ideal S1x256x128 .f32) (r : Fin 256) (c : Fin 512) :
    k0_pay14 (k0_pay11 (s 0) (s 1)) (k0_pay12 (s 2) (s 3)) (k0_pay13 (s 4)) (s 5) (s 6) (s 7) (ix2 r c)
      = (s ⟨c.val / 64, by omega⟩ (ix3 0 r ⟨c.val % 64, by omega⟩) * Ideal.ofBits .f32 0x3E000000#32 : EReal) := by
  have e : k0_pay14 (k0_pay11 (s 0) (s 1)) (k0_pay12 (s 2) (s 3)) (k0_pay13 (s 4)) (s 5) (s 6) (s 7) (ix2 r c)
      = ((concatenate S256x512 1 [⟨S256x128, k0_pay11 (s 0) (s 1)⟩, ⟨S256x128, k0_pay11 (s 2) (s 3)⟩, ⟨S256x128, k0_pay11 (s 4) (s 5)⟩,
          ⟨S256x128, k0_pay11 (s 6) (s 7)⟩] concatenates_S256x128_S256x128_S256x128_S256x128_S256x512_d1 : FVec Ideal S256x512 .f32) (ix2 r c)
          * Ideal.ofBits .f32 0x3E000000#32 : EReal) := rfl
  have same : ∀ (a b : Fin 8) (l l' : Fin 128), a.val = b.val → l.val = l'.val → s a (ix3 0 r l) = s b (ix3 0 r l') := by
    intro a b l l' h h'; rw [Fin.ext h, Fin.ext h']
  rw [e]
  refine congrArg (fun a : EReal => a * Ideal.ofBits .f32 0x3E000000#32) ?_
  refine (cat4_apply (fun a => k0_pay11 (s ⟨2 * a.val, by omega⟩) (s ⟨2 * a.val + 1, by omega⟩)) r c).trans ?_
  rw [pair_apply]
  split_ifs with h
  · exact same _ _ _ _ (by show 2 * (c.val / 128) = c.val / 64; have := show c.val % 128 < 64 from h; omega) (by show c.val % 128 = c.val % 64; have := show c.val % 128 < 64 from h; omega)
  · exact same _ _ _ _ (by show 2 * (c.val / 128) + 1 = c.val / 64; have := show ¬ c.val % 128 < 64 from h; omega) (by show c.val % 128 % 64 = c.val % 64; omega)

/-- The partner of a column among the 512 query columns. -/
def swq (c : Fin 512) : Fin 512 := ⟨if c.val / 16 % 2 = 0 then c.val + 16 else c.val - 16, by split_ifs <;> omega⟩

/-- The gradient of the normalised queries: the rotation undone. -/
theorem unrot_apply (d cs sn : FVec Ideal S256x512 .f32) (r : Fin 256) (c : Fin 512) :
    k0_pay22 (mulf d cs) (mulf d sn)
        (select (cmpi .eq (andi (iota .tc S256x128 32 [1] iota_S256x128_d1_w32) (broadcast S256x128 16#32)) (broadcast S256x128 0#32))
          (dynamicRotate 1 112#32 none (extractStridedSlice S256x128 ![0, 0] (mulf d sn) slices_S256x512_o0_0_S256x128) rotates_S256x128_d1)
          (dynamicRotate 1 16#32 none (extractStridedSlice S256x128 ![0, 0] (mulf d sn) slices_S256x512_o0_0_S256x128) rotates_S256x128_d1))
        (extractStridedSlice S256x128 ![0, 128] (mulf d sn) slices_S256x512_o0_128_S256x128)
        (iota .tc S256x128 32 [1] iota_S256x128_d1_w32) 16#32 (ix2 r c)
      = (d (ix2 r c) * cs (ix2 r c) + d (ix2 r (swq c)) * sn (ix2 r (swq c)) : EReal) := by
  let b : Fin 4 → FVec Ideal S256x128 .f32 := ![extractStridedSlice S256x128 ![0, 0] (mulf d sn) slices_S256x512_o0_0_S256x128,
    extractStridedSlice S256x128 ![0, 128] (mulf d sn) slices_S256x512_o0_128_S256x128,
    extractStridedSlice S256x128 ![0, 256] (mulf d sn) slices_S256x512_o0_256_S256x128,
    extractStridedSlice S256x128 ![0, 384] (mulf d sn) slices_S256x512_o0_384_S256x128]
  have hb : ∀ (a : Fin 4) (l : Fin 128), b a (ix2 r l) = mulf d sn (ix2 r ⟨128 * a.val + l.val, by omega⟩) := by
    intro a l
    fin_cases a
    all_goals
      simp only [b]
      pointwise
  let t : Fin 4 → FVec Ideal S256x128 .f32 := fun a =>
    select (cmpi .eq (andi (iota .tc S256x128 32 [1] iota_S256x128_d1_w32) (broadcast S256x128 16#32)) (broadcast S256x128 0#32))
      (dynamicRotate 1 112#32 none (b a) rotates_S256x128_d1) (dynamicRotate 1 16#32 none (b a) rotates_S256x128_d1)
  show (d (ix2 r c) * cs (ix2 r c) + (concatenate S256x512 1 [⟨S256x128, t 0⟩, ⟨S256x128, t 1⟩, ⟨S256x128, t 2⟩, ⟨S256x128, t 3⟩]
    concatenates_S256x128_S256x128_S256x128_S256x128_S256x512_d1 : FVec Ideal S256x512 .f32) (ix2 r c) : EReal) = _
  refine congrArg (fun a : EReal => d (ix2 r c) * cs (ix2 r c) + a) ?_
  refine ((cat4_apply t r c).trans (swap_apply _ r _)).trans ((hb _ _).trans ?_)
  show mulf d sn _ = mulf d sn (ix2 r (swq c))
  refine congrArg (fun n => mulf d sn (ix2 r n)) (Fin.ext ?_)
  show 128 * (c.val / 128) + (if (c.val % 128) / 16 % 2 = 0 then c.val % 128 + 16 else c.val % 128 - 16) = if c.val / 16 % 2 = 0 then c.val + 16 else c.val - 16
  split_ifs <;> omega

/-- The same of the two key heads. -/
theorem unrotK_apply (d cs sn : FVec Ideal S256x128 .f32) (r : Fin 256) (l : Fin 128) :
    k0_pay38 (mulf d cs) k0_pay35 (dynamicRotate 1 112#32 none (mulf d sn) rotates_S256x128_d1) (dynamicRotate 1 16#32 none (mulf d sn) rotates_S256x128_d1) (ix2 r l)
      = (d (ix2 r l) * cs (ix2 r l) + d (ix2 r (sw l)) * sn (ix2 r (sw l)) : EReal) :=
  congrArg (fun a : EReal => d (ix2 r l) * cs (ix2 r l) + a) (swap_apply (mulf d sn) r l)

/-- The key heads' gradients side by side, from their transposed slabs. -/
theorem keys_apply (s : Fin 2 → FVec Ideal S1x1x64x256 .f32) (r : Fin 256) (l : Fin 128) :
    k0_pay29 (s 0) (s 1) (ix2 r l) = s ⟨l.val / 64, by omega⟩ (ix4 0 0 ⟨l.val % 64, by omega⟩ r) := by
  pointwise [k0_pay29]
  have same : ∀ (a b : Fin 2) (j j' : Fin 64), a.val = b.val → j.val = j'.val → s a (ix4 0 0 j r) = s b (ix4 0 0 j' r) := by
    intro a b l l' h h'; rw [Fin.ext h, Fin.ext h']
  by_cases h : l.val < 64
  · rw [dif_pos h]
    exact same _ _ _ _ (by show 0 = l.val / 64; omega) (by show l.val = l.val % 64; omega)
  · rw [dif_neg h]
    exact same _ _ _ _ (by show 1 = l.val / 64; omega) (by show l.val - 64 = l.val % 64; omega)

/-- The four-fold tables. -/
theorem cosq_apply (x : FVec Ideal S256x128 .f32) (r : Fin 256) (c : Fin 512) : k0_pay9 x (ix2 r c) = x (ix2 r ⟨c.val % 128, by omega⟩) := by
  refine (cat4_apply (fun _ => k0_pay7 x) r c).trans ?_
  pointwise [k0_pay7]
theorem sinq_apply (x : FVec Ideal S256x128 .f32) (r : Fin 256) (c : Fin 512) : k0_pay10 x (ix2 r c) = x (ix2 r ⟨c.val % 128, by omega⟩) := by
  refine (cat4_apply (fun _ => k0_pay8 x) r c).trans ?_
  pointwise [k0_pay8]

/-- The reciprocal root of the head's mean square, as the body forms it: one product with the table of ones over 64 for the
    leading part of the square and one for the rest. -/
theorem scaleq_apply (z : FVec Ideal S256x512 .f32) (b : FVec Ideal S512x512 .bf16) (r : Fin 256) (c : Fin 512) :
    k0_pay23 z b (ix2 r c)
      = Ideal.rsqrt (((∑ k : Fin 512, z (ix2 r k) * z (ix2 r k) * b (ix2 k c)) + ∑ k : Fin 512, (z (ix2 r k) * z (ix2 r k) - z (ix2 r k) * z (ix2 r k)) * b (ix2 k c))
          + Ideal.ofBits .f32 0x358637BD#32 : EReal) := by
  pointwise [k0_pay23]
theorem scalek_apply (z : FVec Ideal S256x128 .f32) (b : FVec Ideal S128x128 .bf16) (r : Fin 256) (c : Fin 128) :
    k0_pay39 z b (ix2 r c)
      = Ideal.rsqrt (((∑ k : Fin 128, z (ix2 r k) * z (ix2 r k) * b (ix2 k c)) + ∑ k : Fin 128, (z (ix2 r k) * z (ix2 r k) - z (ix2 r k) * z (ix2 r k)) * b (ix2 k c))
          + Ideal.ofBits .f32 0x358637BD#32 : EReal) := by
  pointwise [k0_pay39]

/-- What a block of rows adds to the query scales' accumulator, and to the key scales'. -/
theorem accq_apply (a : FVec Ideal S1x512 .f32) (x : FVec Ideal S256x512 .f32) (c : Fin 512) :
    k0_pay27 (k0_pay25 a) x (ix2 0 c) = (a (ix2 0 c) + ∑ r : Fin 256, x (ix2 r c) : EReal) := by
  pointwise [k0_pay27, k0_pay25]
theorem acck_apply (z : FVec Ideal S256x128 .f32) (b : FVec Ideal S128x128 .bf16) (d : FVec Ideal S256x128 .f32) (p : IVec S256x128 1)
    (e f : FVec Ideal S256x128 .f32) (a : FVec Ideal S1x128 .f32) (c : Fin 128) :
    k0_pay40 z b d p e f a (ix2 0 c)
      = (a (ix2 0 c) + ∑ r : Fin 256, k0_pay38 d p e f (ix2 r c) * z (ix2 r c) * k0_pay39 z b (ix2 r c) : EReal) := by
  pointwise [k0_pay40]

/-- A row of the normalised input. -/
theorem hrow_apply (x : FVec Ideal S256x1024 .f32) (g : FVec Ideal S1x1024 .f32) (r : Fin 256) (c : Fin 1024) :
    (k0_pay73 x g : FVec Ideal S256x1024 .bf16) (ix2 r c)
      = (x (ix2 r c) * Ideal.rsqrt (Ideal.div (∑ k : Fin 1024, x (ix2 r k) * x (ix2 r k)) (Ideal.ofBits .f32 0x44800000#32) + Ideal.ofBits .f32 0x358637BD#32)
          * g (ix2 0 c) : EReal) := by
  pointwise [k0_pay73, k0_pay70, k0_pay71, k0_pay72]

end Cert.HeadNorm

end
-- ==== Proof.InStep.lean ====
/-
  What one point adds to the two gradients, and the rows it writes, at a lane.
-/
module

public import proofs.«01_k».proof.Proof.InPay

@[expose] public section

set_option maxRecDepth 16384

noncomputable section

namespace Cert.HeadNorm

open Cert.Kernel2Ideal Cert.Kernel2Ideal.Gen
open Idealize.ShloMosaic Idealize.ShloMosaic.TcCoe
open scoped BigOperators

/-- The eight query slabs of a block, and the two key slabs. -/
def slabs (X : Vec Ideal S8x256x128 .f32) : Fin 8 → FVec Ideal S1x256x128 .f32 :=
  ![View.ld X (Rect.unit ![0, 0, 0] ![1, 256, 128] inb_S8x256x128_S1x256x128_0_0_0), View.ld X (Rect.unit ![1, 0, 0] ![1, 256, 128] inb_S8x256x128_S1x256x128_1_0_0),
    View.ld X (Rect.unit ![2, 0, 0] ![1, 256, 128] inb_S8x256x128_S1x256x128_2_0_0), View.ld X (Rect.unit ![3, 0, 0] ![1, 256, 128] inb_S8x256x128_S1x256x128_3_0_0),
    View.ld X (Rect.unit ![4, 0, 0] ![1, 256, 128] inb_S8x256x128_S1x256x128_4_0_0), View.ld X (Rect.unit ![5, 0, 0] ![1, 256, 128] inb_S8x256x128_S1x256x128_5_0_0),
    View.ld X (Rect.unit ![6, 0, 0] ![1, 256, 128] inb_S8x256x128_S1x256x128_6_0_0), View.ld X (Rect.unit ![7, 0, 0] ![1, 256, 128] inb_S8x256x128_S1x256x128_7_0_0)]
def kslabs (X : Vec Ideal S2x1x128x256 .f32) : Fin 2 → FVec Ideal S1x1x64x256 .f32 :=
  ![View.ld X (Rect.unit ![0, 0, 0, 0] ![1, 1, 64, 256] inb_S2x1x128x256_S1x1x64x256_0_0_0_0), View.ld X (Rect.unit ![1, 0, 0, 0] ![1, 1, 64, 256] inb_S2x1x128x256_S1x1x64x256_1_0_0_0)]
/-- The corner of the table of ones over 64 that the two key heads use. -/
def corner (b : Vec Ideal S512x512 .bf16) : FVec Ideal S128x128 .bf16 := View.ld b (Rect.unit ![0, 0] ![128, 128] inb_S512x512_S128x128_0_0)

theorem slabs_apply (X : Vec Ideal S8x256x128 .f32) (k : Fin 8) (r : Fin 256) (l : Fin 128) : slabs X k (ix3 0 r l) = X (ix3 k r l) := by
  fin_cases k <;> exact congrArg X (funext fun b => Fin.ext (by
    match b with
    | ⟨0, _⟩ => rfl
    | ⟨1, _⟩ => show 0 + 1 * r.val = r.val; omega
    | ⟨2, _⟩ => show 0 + 1 * l.val = l.val; omega))
theorem kslabs_apply (X : Vec Ideal S2x1x128x256 .f32) (k : Fin 2) (l : Fin 64) (r : Fin 256) : kslabs X k (ix4 0 0 l r) = X (ix4 k 0 ⟨l.val, by omega⟩ r) := by
  fin_cases k <;> exact congrArg X (funext fun b => Fin.ext (by
    match b with
    | ⟨0, _⟩ => rfl
    | ⟨1, _⟩ => rfl
    | ⟨2, _⟩ => show 0 + 1 * l.val = l.val; omega
    | ⟨3, _⟩ => show 0 + 1 * r.val = r.val; omega))
theorem corner_apply (b : Vec Ideal S512x512 .bf16) (k c : Fin 128) : corner b (ix2 k c) = b (ix2 ⟨k.val, by omega⟩ ⟨c.val, by omega⟩) :=
  congrArg b (funext fun a => Fin.ext (by
    match a with
    | ⟨0, _⟩ => show 0 + 1 * k.val = k.val; omega
    | ⟨1, _⟩ => show 0 + 1 * c.val = c.val; omega))

/-- The queries' gradients of a block, the heads side by side. -/
def heads (X : Vec Ideal S8x256x128 .f32) : FVec Ideal S256x512 .f32 :=
  k0_pay14 (k0_pay11 (slabs X 0) (slabs X 1)) (k0_pay12 (slabs X 2) (slabs X 3)) (k0_pay13 (slabs X 4)) (slabs X 5) (slabs X 6) (slabs X 7)
/-- The query scale's gradient after a block, and the key scale's. -/
def qStep (P : Vec Ideal S256x2816 .f32) (X : Vec Ideal S8x256x128 .f32) (b : Vec Ideal S512x512 .bf16) (cs sn : Vec Ideal S256x128 .f32) (a : Vec Ideal S1x512 .f32) :
    Vec Ideal S1x512 .f32 :=
  k0_pay27 (k0_pay25 a) (k0_pay26 (k0_pay15 (k0_pay6 P)) (k0_pay16 b)
    (k0_pay18 (k0_pay9 cs) (k0_pay11 (slabs X 0) (slabs X 1)) (k0_pay12 (slabs X 2) (slabs X 3)) (k0_pay13 (slabs X 4)) (slabs X 5) (slabs X 6) (slabs X 7))
    (k0_pay19 (k0_pay10 sn) (k0_pay11 (slabs X 0) (slabs X 1)) (k0_pay12 (slabs X 2) (slabs X 3)) (k0_pay13 (slabs X 4)) (slabs X 5) (slabs X 6) (slabs X 7))
    (k0_pay20 (k0_pay10 sn) (k0_pay11 (slabs X 0) (slabs X 1)) (k0_pay12 (slabs X 2) (slabs X 3)) (k0_pay13 (slabs X 4)) (slabs X 5) (slabs X 6) (slabs X 7))
    (k0_pay21 (k0_pay10 sn) (k0_pay11 (slabs X 0) (slabs X 1)) (k0_pay12 (slabs X 2) (slabs X 3)) (k0_pay13 (slabs X 4)) (slabs X 5) (slabs X 6) (slabs X 7))
    (iota Kind.tc S256x128 32 [1] iota_S256x128_d1_w32) 16#32)
def kStep (P : Vec Ideal S256x2816 .f32) (X : Vec Ideal S2x1x128x256 .f32) (b : Vec Ideal S512x512 .bf16) (cs sn : Vec Ideal S256x128 .f32) (a : Vec Ideal S1x128 .f32) :
    Vec Ideal S1x128 .f32 :=
  k0_pay40 (k0_pay30 (k0_pay6 P)) (k0_pay31 (corner b)) (k0_pay33 (k0_pay7 cs) (kslabs X 0) (kslabs X 1)) k0_pay35
    (k0_pay36 (k0_pay8 sn) (kslabs X 0) (kslabs X 1)) (k0_pay37 (k0_pay8 sn) (kslabs X 0) (kslabs X 1)) a

theorem heads_lane (X : Vec Ideal S8x256x128 .f32) (r : Fin 256) (c : Fin 512) :
    heads X (ix2 r c) = (X (ix3 ⟨c.val / 64, by omega⟩ r ⟨c.val % 64, by omega⟩) * Ideal.ofBits .f32 0x3E000000#32 : EReal) :=
  (heads_apply (slabs X) r c).trans (congrArg (fun e : EReal => e * Ideal.ofBits .f32 0x3E000000#32) (slabs_apply X _ r _))

theorem qStep_apply (P : Vec Ideal S256x2816 .f32) (X : Vec Ideal S8x256x128 .f32) (b : Vec Ideal S512x512 .bf16) (cs sn : Vec Ideal S256x128 .f32)
    (a : Vec Ideal S1x512 .f32) (c : Fin 512) :
    qStep P X b cs sn a (ix2 0 c) = (a (ix2 0 c) + ∑ r : Fin 256,
      (heads X (ix2 r c) * cs (ix2 r ⟨c.val % 128, by omega⟩) + heads X (ix2 r (swq c)) * sn (ix2 r ⟨(swq c).val % 128, by omega⟩))
        * P (ix2 r ⟨c.val, by omega⟩)
        * Ideal.rsqrt (((∑ k : Fin 512, P (ix2 r ⟨k.val, by omega⟩) * P (ix2 r ⟨k.val, by omega⟩) * b (ix2 k c))
            + ∑ k : Fin 512, (P (ix2 r ⟨k.val, by omega⟩) * P (ix2 r ⟨k.val, by omega⟩) - P (ix2 r ⟨k.val, by omega⟩) * P (ix2 r ⟨k.val, by omega⟩)) * b (ix2 k c))
          + Ideal.ofBits .f32 0x358637BD#32) : EReal) := by
  have hz : ∀ r k, k0_pay15 (k0_pay6 P) (ix2 r k) = P (ix2 r ⟨k.val, by omega⟩) := fun r k => by pointwise [k0_pay15, k0_pay6]
  have hb : k0_pay16 b = b := by unfold k0_pay16; exact shapeCast_self _ _
  refine (accq_apply a _ c).trans (congrArg (fun e : EReal => a (ix2 0 c) + e) (Finset.sum_congr rfl fun r _ => ?_))
  have h1 := unrot_apply (heads X) (k0_pay9 cs) (k0_pay10 sn) r c
  have h2 := scaleq_apply (k0_pay15 (k0_pay6 P)) (k0_pay16 b) r c
  rw [cosq_apply, sinq_apply] at h1
  rw [hb] at h2; simp only [hz] at h2
  refine congr (congrArg (fun x y : EReal => x * y) (congr (congrArg (fun x y : EReal => x * y) h1) (hz r c))) ?_
  rw [hb]; exact h2

theorem kStep_apply (P : Vec Ideal S256x2816 .f32) (X : Vec Ideal S2x1x128x256 .f32) (b : Vec Ideal S512x512 .bf16) (cs sn : Vec Ideal S256x128 .f32)
    (a : Vec Ideal S1x128 .f32) (c : Fin 128) :
    kStep P X b cs sn a (ix2 0 c) = (a (ix2 0 c) + ∑ r : Fin 256,
      (X (ix4 ⟨c.val / 64, by omega⟩ 0 ⟨c.val % 64, by omega⟩ r) * cs (ix2 r c) + X (ix4 ⟨(sw c).val / 64, by omega⟩ 0 ⟨(sw c).val % 64, by omega⟩ r) * sn (ix2 r (sw c)))
        * P (ix2 r ⟨512 + c.val, by omega⟩)
        * Ideal.rsqrt (((∑ k : Fin 128, P (ix2 r ⟨512 + k.val, by omega⟩) * P (ix2 r ⟨512 + k.val, by omega⟩) * b (ix2 ⟨k.val, by omega⟩ ⟨c.val, by omega⟩))
            + ∑ k : Fin 128, (P (ix2 r ⟨512 + k.val, by omega⟩) * P (ix2 r ⟨512 + k.val, by omega⟩) - P (ix2 r ⟨512 + k.val, by omega⟩) * P (ix2 r ⟨512 + k.val, by omega⟩))
                * b (ix2 ⟨k.val, by omega⟩ ⟨c.val, by omega⟩))
          + Ideal.ofBits .f32 0x358637BD#32) : EReal) := by
  have hz : ∀ r k, k0_pay30 (k0_pay6 P) (ix2 r k) = P (ix2 r ⟨512 + k.val, by omega⟩) := fun r k => by pointwise [k0_pay30, k0_pay6]
  have hb0 : k0_pay31 (corner b) = corner b := by unfold k0_pay31; exact shapeCast_self _ _
  have hb : ∀ k l, corner b (ix2 k l) = b (ix2 ⟨k.val, by omega⟩ ⟨l.val, by omega⟩) := corner_apply b
  have hk : ∀ (r : Fin 256) (l : Fin 128), (k0_pay29 (kslabs X 0) (kslabs X 1) : FVec Ideal S256x128 .f32) (ix2 r l) = X (ix4 ⟨l.val / 64, by omega⟩ 0 ⟨l.val % 64, by omega⟩ r) := fun r l => by
    exact (keys_apply (kslabs X) r l).trans (kslabs_apply X _ _ r)
  have hc : k0_pay7 cs = cs := by unfold k0_pay7; exact shapeCast_self _ _
  have hs : k0_pay8 sn = sn := by unfold k0_pay8; exact shapeCast_self _ _
  refine (acck_apply _ _ _ _ _ _ a c).trans (congrArg (fun e : EReal => a (ix2 0 c) + e) (Finset.sum_congr rfl fun r _ => ?_))
  have h1 := unrotK_apply (k0_pay29 (kslabs X 0) (kslabs X 1)) (k0_pay7 cs) (k0_pay8 sn) r c
  have h2 := scalek_apply (k0_pay30 (k0_pay6 P)) (k0_pay31 (corner b)) r c
  rw [hk, hk, hc, hs] at h1
  rw [hb0] at h2; simp only [hz, hb] at h2
  refine congr (congrArg (fun x y : EReal => x * y) (congr (congrArg (fun x y : EReal => x * y) ?_) (hz r c))) ?_
  · rw [hc, hs]; exact h1
  · rw [hb0]; exact h2

end Cert.HeadNorm

end
-- ==== Proof.InPoint.lean ====
/-
  What a point of the second kernel's grid computes.
-/
module

public import proofs.«01_k».proof.Proof.Gen.Kernel2Ideal.Value
public import proofs.«01_k».proof.Proof.InStep

@[expose] public section

set_option maxRecDepth 16384

noncomputable section

namespace Cert.HeadNorm

open Cert.Kernel2Ideal Cert.Kernel2Ideal.Gen
open Idealize.ShloMosaic Idealize.ShloMosaic.TcCoe

variable (m : (ℓ : Loc nD τ sig) → Buf (Elt Ideal) ℓ) (c : Dev nD)

theorem zero2 : (![0, 0] : Fin 2 → Nat) = fun _ => 0 := by funext i; fin_cases i <;> rfl
/-- Loads of whole blocks. -/
theorem ld_P (X : Vec Ideal S256x2816 .f32) : View.ld X (Rect.unit ![0, 0] ![256, 2816] inb_S256x2816_S256x2816_0_0) = X := View.ld_unit_zero (S := S256x2816) zero2 _ X
theorem ld_b (X : Vec Ideal S512x512 .bf16) : View.ld X (Rect.unit ![0, 0] ![512, 512] inb_S512x512_S512x512_0_0) = X := View.ld_unit_zero (S := S512x512) zero2 _ X
theorem ld_cs (X : Vec Ideal S256x128 .f32) : View.ld X (Rect.unit ![0, 0] ![256, 128] inb_S256x128_S256x128_0_0) = X := View.ld_unit_zero (S := S256x128) zero2 _ X
theorem ld_x (X : Vec Ideal S256x1024 .f32) : View.ld X (Rect.unit ![0, 0] ![256, 1024] inb_S256x1024_S256x1024_0_0) = X := View.ld_unit_zero (S := S256x1024) zero2 _ X
theorem ld_g (X : Vec Ideal S1x1024 .f32) : View.ld X (Rect.unit ![0, 0] ![1, 1024] inb_S1x1024_S1x1024_0_0) = X := View.ld_unit_zero (S := S1x1024) zero2 _ X
theorem ld_gq (X : Vec Ideal S1x512 .f32) : View.ld X (Rect.unit ![0, 0] ![1, 512] inb_S1x512_S1x512_0_0) = X := View.ld_unit_zero (S := S1x512) zero2 _ X
theorem ld_gk (X : Vec Ideal S1x128 .f32) : View.ld X (Rect.unit ![0, 0] ![1, 128] inb_S1x128_S1x128_0_0) = X := View.ld_unit_zero (S := S1x128) zero2 _ X

set_option maxHeartbeats 800000 in
theorem q_A (t : Fin cfg0.N) (h0 : t.val % 64 = 0) : (outsAt0 m c t.val t.isLt).2.2.2.2.1 = qStep (iblk m c 2 t) (iblk m c 3 t) (iblk m c 13 t) (iblk m c 16 t) (iblk m c 17 t) (k0_pay4 (F := Ideal)) := by
  simp only [outsAt0_A m c t h0]
  unfold out0_A_22
  rw [View.read_writes_eq_canon _ _ _ (fun y => by exact cover0_A_22 (y := y) ..)]
  unfold kernelRun0_A
  dsimp only
  sl_unfold_words
  simp only [View.readAt_eq_ld, (hs0_2 t).read_unread, (hs0_3 t).read_unread, (hs0_13 t).read_unread, (hs0_16 t).read_unread, (hs0_17 t).read_unread, (hs0_22 t).read_unread]
  refine (View.canon_cons_unit_zero (S := S1x512) zero2 inb_S1x512_S1x512_0_0 _ _).trans ?_
  rw [View.readCov_unit_zero (S := S1x512) _ zero2 inb_S1x512_S1x512_0_0]
  rw [ld_P (iblk m c 2 t), ld_b (iblk m c 13 t), ld_cs (iblk m c 16 t), ld_cs (iblk m c 17 t)]
  unfold qStep slabs
  dsimp only [Matrix.cons_val]
set_option maxHeartbeats 800000 in
theorem q_B (t : Fin cfg0.N) (h0 : ¬t.val % 64 = 0) : (outsAt0 m c t.val t.isLt).2.2.2.2.1 = qStep (iblk m c 2 t) (iblk m c 3 t) (iblk m c 13 t) (iblk m c 16 t) (iblk m c 17 t) (outsAt0 m c (t.val - 1) (by omega)).2.2.2.2.1 := by
  simp only [outsAt0_B m c t h0]
  unfold out0_B_22
  rw [View.read_writes_eq_canon _ _ _ (fun y => by exact cover0_B_22 (y := y) ..)]
  unfold kernelRun0_B
  dsimp only
  sl_unfold_words
  simp only [View.readAt_eq_ld, (hs0_2 t).read_unread, (hs0_3 t).read_unread, (hs0_13 t).read_unread, (hs0_16 t).read_unread, (hs0_17 t).read_unread, (hs0_22 t).read_unread]
  refine (View.canon_cons_unit_zero (S := S1x512) zero2 inb_S1x512_S1x512_0_0 _ _).trans ?_
  rw [ld_P (iblk m c 2 t), ld_b (iblk m c 13 t), ld_cs (iblk m c 16 t), ld_cs (iblk m c 17 t), ld_gq]
  unfold qStep slabs
  dsimp only [Matrix.cons_val]
set_option maxHeartbeats 800000 in
theorem k_A (t : Fin cfg0.N) (h0 : t.val % 64 = 0) : (outsAt0 m c t.val t.isLt).2.2.2.2.2 = kStep (iblk m c 2 t) (iblk m c 4 t) (iblk m c 13 t) (iblk m c 16 t) (iblk m c 17 t) (k0_pay5 (F := Ideal)) := by
  simp only [outsAt0_A m c t h0]
  unfold out0_A_23
  rw [View.read_writes_eq_canon _ _ _ (fun y => by exact cover0_A_23 (y := y) ..)]
  unfold kernelRun0_A
  dsimp only
  sl_unfold_words
  simp only [View.readAt_eq_ld, (hs0_2 t).read_unread, (hs0_4 t).read_unread, (hs0_13 t).read_unread, (hs0_16 t).read_unread, (hs0_17 t).read_unread, (hs0_23 t).read_unread]
  refine (View.canon_cons_unit_zero (S := S1x128) zero2 inb_S1x128_S1x128_0_0 _ _).trans ?_
  rw [View.readCov_unit_zero (S := S1x128) _ zero2 inb_S1x128_S1x128_0_0]
  rw [ld_P (iblk m c 2 t), ld_cs (iblk m c 16 t), ld_cs (iblk m c 17 t)]
  rfl
set_option maxHeartbeats 800000 in
theorem k_B (t : Fin cfg0.N) (h0 : ¬t.val % 64 = 0) : (outsAt0 m c t.val t.isLt).2.2.2.2.2 = kStep (iblk m c 2 t) (iblk m c 4 t) (iblk m c 13 t) (iblk m c 16 t) (iblk m c 17 t) (outsAt0 m c (t.val - 1) (by omega)).2.2.2.2.2 := by
  simp only [outsAt0_B m c t h0]
  unfold out0_B_23
  rw [View.read_writes_eq_canon _ _ _ (fun y => by exact cover0_B_23 (y := y) ..)]
  unfold kernelRun0_B
  dsimp only
  sl_unfold_words
  simp only [View.readAt_eq_ld, (hs0_2 t).read_unread, (hs0_4 t).read_unread, (hs0_13 t).read_unread, (hs0_16 t).read_unread, (hs0_17 t).read_unread, (hs0_23 t).read_unread]
  refine (View.canon_cons_unit_zero (S := S1x128) zero2 inb_S1x128_S1x128_0_0 _ _).trans ?_
  rw [ld_P (iblk m c 2 t), ld_cs (iblk m c 16 t), ld_cs (iblk m c 17 t), ld_gk]
  rfl
set_option maxHeartbeats 800000 in
theorem h_A (t : Fin cfg0.N) (h0 : t.val % 64 = 0) : (outsAt0 m c t.val t.isLt).2.2.1 = k0_pay73 (iblk m c 1 t) (iblk m c 11 t) := by
  simp only [outsAt0_A m c t h0]
  unfold out0_A_20
  rw [View.read_writes_eq_canon _ _ _ (fun y => by exact cover0_A_20 (y := y) ..)]
  unfold kernelRun0_A
  dsimp only
  sl_unfold_words
  simp only [View.readAt_eq_ld, (hs0_1 t).read_unread, (hs0_11 t).read_unread, (hs0_20 t).read_unread]
  refine (View.canon_cons_unit_zero (S := S256x1024) zero2 inb_S256x1024_S256x1024_0_0 _ _).trans ?_
  rw [ld_x (iblk m c 1 t), ld_g (iblk m c 11 t)]
set_option maxHeartbeats 800000 in
theorem h_B (t : Fin cfg0.N) (h0 : ¬t.val % 64 = 0) : (outsAt0 m c t.val t.isLt).2.2.1 = k0_pay73 (iblk m c 1 t) (iblk m c 11 t) := by
  simp only [outsAt0_B m c t h0]
  unfold out0_B_20
  rw [View.read_writes_eq_canon _ _ _ (fun y => by exact cover0_B_20 (y := y) ..)]
  unfold kernelRun0_B
  dsimp only
  sl_unfold_words
  simp only [View.readAt_eq_ld, (hs0_1 t).read_unread, (hs0_11 t).read_unread, (hs0_20 t).read_unread]
  refine (View.canon_cons_unit_zero (S := S256x1024) zero2 inb_S256x1024_S256x1024_0_0 _ _).trans ?_
  rw [ld_x (iblk m c 1 t), ld_g (iblk m c 11 t)]

end Cert.HeadNorm

end
-- ==== Proof.InHost.lean ====
/-
  What the second kernel's host lines hand to its call, as terms of the arguments.
-/
module

public import proofs.«01_k».proof.Proof.Gen.Kernel2Ideal.Frame.Runs
public import Idealize.ShloMosaic.Lib.StableHlo.Run
public import Idealize.ShloMosaic.Lib.Pointwise
public import Idealize.ShloMosaic.Lib.ValueIdx

@[expose] public section

set_option maxRecDepth 16384

noncomputable section

namespace Cert.HeadNorm

open Cert.Kernel2Ideal Cert.Kernel2Ideal.Gen
open Idealize.ShloMosaic Idealize.ShloMosaic.TcCoe Idealize.ShloMosaic.StableHlo
open scoped BigOperators

/-- A number for every token. -/
def tokens : IVec S16384 32 := iotaInDim S16384 32 0
abbrev allTok {w : ℕ} (x : IVec S_ w) : IVec S16384 w := broadcastInDim S16384 ![] bcast_S_S16384 x
/-- The row of every token: its number divided by 64, rounded down. -/
def rowT : IVec S16384 32 :=
  let d := Host.divsi tokens (allTok (constantI S_ 32 64#32))
  select (andi (cmpi .ne (signi tokens) (allTok (signi (constantI S_ 32 64#32))))
    (cmpi .ne (Host.remsi tokens (allTok (constantI S_ 32 64#32))) (allTok (constantI S_ 32 0#32))))
    (subi d (allTok (constantI S_ 32 1#32))) d
/-- The column of every token: its number modulo 64. -/
def colT : IVec S16384 32 :=
  let n : IVec S_ 32 := select (cmpi .eq (constantI S_ 32 64#32) (constantI S_ 32 0#32)) (constantI S_ 32 1#32) (constantI S_ 32 64#32)
  let r := Host.remsi tokens (allTok n)
  select (andi (cmpi .ne (cmpi .slt r (allTok (constantI S_ 32 0#32))) (allTok (cmpi .slt n (constantI S_ 32 0#32))))
    (cmpi .ne r (allTok (constantI S_ 32 0#32)))) (addi r (allTok n)) r
/-- The sixteen frequencies. -/
def freqT : FVec Ideal S16 .f32 :=
  Host.powf (broadcastInDim S16 ![] bcast_S_S16 (constant (F := Ideal) S_ .f32 0x461C4000#32))
    (Host.divf (Host.negf (sitofp .f32 (iotaInDim S16 32 0) : FVec Ideal S16 .f32)) (broadcastInDim S16 ![] bcast_S_S16 (constant (F := Ideal) S_ .f32 0x41800000#32)))
/-- The angles at the positions `p`. -/
def angT (p : IVec S16384 32) : FVec Ideal S16384x16 .f32 :=
  mulf (broadcastInDim S16384x16 ![0, 1] bcast_S16384x1_S16384x16_0_1 (broadcastInDim S16384x1 ![0] bcast_S16384_S16384x1_0 (sitofp .f32 p : FVec Ideal S16384 .f32)))
    (broadcastInDim S16384x16 ![0, 1] bcast_S1x16_S16384x16_0_1 (broadcastInDim S1x16 ![1] bcast_S16_S1x16_1 freqT))
/-- A table over the 64 lanes of a head, and the same twice side by side. -/
def tabT (a b x y : FVec Ideal S16384x16 .f32) : FVec Ideal S16384x64 .f32 :=
  concatenate S16384x64 1 [⟨S16384x16, a⟩, ⟨S16384x16, b⟩, ⟨S16384x16, x⟩, ⟨S16384x16, y⟩] concatenates_S16384x16_S16384x16_S16384x16_S16384x16_S16384x64_d1
def twiceT (x : FVec Ideal S16384x64 .f32) : FVec Ideal S16384x128 .f32 :=
  shapeCast S16384x128 (broadcastInDim S1x16384x2x64 ![0, 1, 2, 3] bcast_S1x16384x1x64_S1x16384x2x64_0_1_2_3
    (shapeCast S1x16384x1x64 x shapeCasts_S16384x64_S1x16384x1x64)) shapeCasts_S1x16384x2x64_S16384x128
def cosT : FVec Ideal S16384x128 .f32 := twiceT (tabT (Host.cos (angT rowT)) (Host.cos (angT rowT)) (Host.cos (angT colT)) (Host.cos (angT colT)))
def sinT : FVec Ideal S16384x128 .f32 :=
  twiceT (tabT (Host.negf (Host.sin (angT rowT))) (Host.sin (angT rowT)) (Host.negf (Host.sin (angT colT))) (Host.sin (angT colT)))
/-- The table of ones over 64 on the eight heads' blocks. -/
def bdT : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)) : FVec Ideal S8x8 .f32)))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant (F := Ideal) S_ .f32 0x3C800000#32)))))
    shapeCasts_S8x64x8x64_S512x512 : FVec Ideal S512x512 .f32) bitsLt_bf16_f32
/-- The normalised input and its projection. -/
def rowsT (x : FVec Ideal S1x16384x1024 .f32) : FVec Ideal S16384x1024 .f32 := shapeCast _ x shapeCasts_S1x16384x1024_S16384x1024
def rmsT (x : FVec Ideal S16384x1024 .f32) : FVec Ideal S16384x1 .f32 :=
  Host.rsqrt (addf (Host.divf (broadcastInDim S16384x1 ![0] bcast_S16384_S16384x1_0
    (Host.reduceAdd (mulf x x) (constant (F := Ideal) S_ .f32 0x00000000#32) reducesTo_S16384x1024_S16384_d1 h_S_))
    (broadcastInDim S16384x1 ![] bcast_S_S16384x1 (constant (F := Ideal) S_ .f32 0x44800000#32)))
    (broadcastInDim S16384x1 ![] bcast_S_S16384x1 (constant (F := Ideal) S_ .f32 0x358637BD#32)))
def hT (x : FVec Ideal S16384x1024 .f32) (g : FVec Ideal S1024 .f32) : FVec Ideal S16384x1024 .f32 :=
  mulf (mulf x (broadcastInDim S16384x1024 ![0, 1] bcast_S16384x1_S16384x1024_0_1 (rmsT x)))
    (broadcastInDim S16384x1024 ![0, 1] bcast_S1x1024_S16384x1024_0_1 (broadcastInDim S1x1024 ![1] bcast_S1024_S1x1024_1 g))
def projT (x : FVec Ideal S1x16384x1024 .f32) (g : FVec Ideal S1024 .f32) (w : FVec Ideal S1024x2816 .f32) : FVec Ideal S16384x2816 .f32 :=
  Host.dotGeneral dot_S16384x1024_S1024x2816_S16384x2816_1_0_0_1_n_n none (hT (rowsT x) g) w
/-- The slabs of the gradients of the rotated queries, and of the rotated keys. -/
def dqT (x : FVec Ideal S1x16384x8x64 .f32) : FVec Ideal S8x16384x128 .f32 :=
  mulf (pad S8x16384x128 ![0, 0, 0] ![0, 0, 64] ![0, 0, 0] (transpose S8x16384x64 [1, 0, 2] (shapeCast S16384x8x64 x shapeCasts_S1x16384x8x64_S16384x8x64)
      transposes_S16384x8x64_S8x16384x64_1_0_2) (sitofp .f32 (constantI S_ 32 0#32) : FVec Ideal S_ .f32) pads_S8x16384x64_S8x16384x128_000_000_0640 h_S_)
    (broadcastInDim S8x16384x128 ![] bcast_S_S8x16384x128 (constant (F := Ideal) S_ .f32 0x41000000#32))
def dkT (x : FVec Ideal S1x16384x2x64 .f32) : FVec Ideal S2x32x128x512 .f32 :=
  pad S2x32x128x512 ![0, 0, 0, 0] ![0, 0, 64, 0] ![0, 0, 0, 0] (transpose S2x32x64x512 [2, 0, 3, 1]
    (shapeCast S32x512x2x64 (shapeCast S16384x2x64 x shapeCasts_S1x16384x2x64_S16384x2x64) shapeCasts_S16384x2x64_S32x512x2x64)
      transposes_S32x512x2x64_S2x32x64x512_2_0_3_1) (sitofp .f32 (constantI S_ 32 0#32) : FVec Ideal S_ .f32) pads_S2x32x64x512_S2x32x128x512_000_000_0640_000 h_S_

theorem pieces4 {a a' b b' x x' y y' : FVec Ideal S16384x16 .f32} (ha : a = a') (hb : b = b') (hx : x = x') (hy : y = y') :
    twiceT (tabT a b x y) = twiceT (tabT a' b' x' y') := by
  subst ha hb hx hy; rfl

variable (m : (ℓ : Loc nD τ sig) → Buf (Elt Ideal) ℓ) (c : Dev nD)

set_option maxHeartbeats 1000000 in
theorem V_x : V m c main_v82 = rowsT (m ((c.tc : Thread nD τ).loc main_arg0)) := by
  unfold V; simp only [List.flatten_cons, List.flatten_nil, List.append_nil, StableHlo.after_append]; after_results_simp <;> rfl
set_option maxHeartbeats 1000000 in
theorem V_proj : V m c main_v73 = projT (m ((c.tc : Thread nD τ).loc main_arg0)) (m ((c.tc : Thread nD τ).loc main_arg1)) (m ((c.tc : Thread nD τ).loc main_arg2)) := by
  unfold V; simp only [List.flatten_cons, List.flatten_nil, List.append_nil, StableHlo.after_append]; after_results_simp <;> rfl
set_option maxHeartbeats 1000000 in
theorem V_dq : V m c main_v78 = dqT (m ((c.tc : Thread nD τ).loc main_arg7)) := by
  unfold V; simp only [List.flatten_cons, List.flatten_nil, List.append_nil, StableHlo.after_append]; after_results_simp <;> rfl
set_option maxHeartbeats 1000000 in
theorem V_dk : V m c main_v86 = dkT (m ((c.tc : Thread nD τ).loc main_arg8)) := by
  unfold V; simp only [List.flatten_cons, List.flatten_nil, List.append_nil, StableHlo.after_append]; after_results_simp <;> rfl
set_option maxHeartbeats 1000000 in
theorem V_g : V m c main_v92 = broadcastInDim S1x1024 ![1] bcast_S1024_S1x1024_1 (m ((c.tc : Thread nD τ).loc main_arg1)) := by
  unfold V; simp only [List.flatten_cons, List.flatten_nil, List.append_nil, StableHlo.after_append]; after_results_simp <;> rfl
set_option maxHeartbeats 1000000 in
theorem V_bd : V m c main_v47 = bdT := by
  unfold V; simp only [List.flatten_cons, List.flatten_nil, List.append_nil, StableHlo.after_append]; after_results_simp <;> rfl
set_option maxHeartbeats 1000000 in
theorem V_cos : V m c main_v35 = cosT := by
  unfold V; simp only [List.flatten_cons, List.flatten_nil, List.append_nil, StableHlo.after_append]; after_results_simp
  refine pieces4 ?_ ?_ ?_ ?_ <;> dsimp only [Matrix.cons_val] <;> after_results_simp <;> rfl
set_option maxHeartbeats 1000000 in
theorem V_sin : V m c main_v38 = sinT := by
  unfold V; simp only [List.flatten_cons, List.flatten_nil, List.append_nil, StableHlo.after_append]; after_results_simp
  refine pieces4 ?_ ?_ ?_ ?_ <;> dsimp only [Matrix.cons_val] <;> after_results_simp <;> rfl

end Cert.HeadNorm

end
-- ==== Proof.InWord.lean ====
/-
  Quotient and remainder of a token's number, as the host lines compute them on words.
-/
module

public import Idealize.ShloMosaic.Lib.Pointwise

@[expose] public section

set_option maxRecDepth 16384

namespace Cert.HeadNorm

open Idealize.ShloMosaic

/-- On a token's number the rounded-down quotient and the remainder are those of the naturals. -/
theorem row_word : ∀ a b : Fin 128, (let n := BitVec.ofNat 32 (a.val * 128 + b.val)
    Scalar.select (IntOp.andi
        (IntOp.cmpi CmpIPredicate.ne (if n = 0 then (0 : BitVec 32) else if n.msb = true then -1 else 1) (if 64#32 = 0 then (0 : BitVec 32) else if (64#32).msb = true then -1 else 1))
        (IntOp.cmpi CmpIPredicate.ne (IntOp.remsi ArithUnit.host n 64#32) 0#32))
      (IntOp.subi (IntOp.divsi ArithUnit.host n 64#32) 1#32) (IntOp.divsi ArithUnit.host n 64#32))
    = BitVec.ofNat 32 ((a.val * 128 + b.val) / 64) := by decide +kernel
theorem col_word : ∀ a b : Fin 128, (let n := BitVec.ofNat 32 (a.val * 128 + b.val)
    let s := Scalar.select (IntOp.cmpi CmpIPredicate.eq 64#32 0#32) 1#32 64#32
    let r := IntOp.remsi ArithUnit.host n s
    Scalar.select (IntOp.andi (IntOp.cmpi CmpIPredicate.ne (IntOp.cmpi CmpIPredicate.slt r 0#32) (IntOp.cmpi CmpIPredicate.slt s 0#32))
        (IntOp.cmpi CmpIPredicate.ne r 0#32)) (IntOp.addi r s) r)
    = BitVec.ofNat 32 ((a.val * 128 + b.val) % 64) := by decide +kernel

end Cert.HeadNorm
-- ==== Proof.InTab.lean ====
/-
  The second kernel's host operands at an index.
-/
module

public import proofs.«01_k».proof.Proof.InHost
public import proofs.«01_k».proof.Proof.InWord

@[expose] public section

set_option maxRecDepth 16384

noncomputable section

namespace Cert.HeadNorm

open Cert.Kernel2Ideal Cert.Kernel2Ideal.Gen
open Idealize.ShloMosaic Idealize.ShloMosaic.TcCoe Idealize.ShloMosaic.StableHlo
open scoped BigOperators

theorem rowT_apply (t : Fin 16384) : rowT (ix1 t) = BitVec.ofNat 32 (t.val / 64) := by
  unfold rowT tokens
  pointwise []
  obtain ⟨a, b, rfl⟩ : ∃ a b : Fin 128, t = ⟨a.val * 128 + b.val, by omega⟩ :=
    ⟨⟨t.val / 128, by omega⟩, ⟨t.val % 128, by omega⟩, Fin.ext (by show t.val = t.val / 128 * 128 + t.val % 128; omega)⟩
  exact row_word a b
theorem colT_apply (t : Fin 16384) : colT (ix1 t) = BitVec.ofNat 32 (t.val % 64) := by
  unfold colT tokens
  pointwise []
  obtain ⟨a, b, rfl⟩ : ∃ a b : Fin 128, t = ⟨a.val * 128 + b.val, by omega⟩ :=
    ⟨⟨t.val / 128, by omega⟩, ⟨t.val % 128, by omega⟩, Fin.ext (by show t.val = t.val / 128 * 128 + t.val % 128; omega)⟩
  exact col_word a b
theorem freqT_apply (j : Fin 16) : freqT (ix1 j) = Ideal.pow (Ideal.ofBits .f32 0x461C4000#32) (Ideal.div (-FloatOps.sitofp (F := Ideal) .f32 (BitVec.ofNat 32 j.val)) (Ideal.ofBits .f32 0x41800000#32)) := by
  unfold freqT
  pointwise []
theorem angT_apply (p : IVec S16384 32) (t : Fin 16384) (j : Fin 16) :
    angT p (ix2 t j) = FloatOps.sitofp (F := Ideal) .f32 (p (ix1 t)) * freqT (ix1 j) := by
  unfold angT
  pointwise []
theorem twiceT_apply (x : FVec Ideal S16384x64 .f32) (t : Fin 16384) (l : Fin 128) :
    twiceT x (ix2 t l) = x (ix2 t ⟨l.val % 64, by omega⟩) := by
  unfold twiceT
  pointwise []
theorem tabT_apply (a b x y : FVec Ideal S16384x16 .f32) (t : Fin 16384) (q : Fin 64) :
    tabT a b x y (ix2 t q) = (if q.val / 32 = 0 then (if q.val / 16 % 2 = 0 then a else b) else (if q.val / 16 % 2 = 0 then x else y)) (ix2 t ⟨q.val % 16, by omega⟩) := by
  unfold tabT
  pointwise []
  by_cases h1 : q.val < 16
  · rw [dif_pos h1]
    have key : (if q.val / 32 = 0 then (if q.val / 16 % 2 = 0 then a else b) else (if q.val / 16 % 2 = 0 then x else y)) = a :=
      (if_pos (by omega)).trans (if_pos (by omega))
    exact (congrArg a (by congr 1; exact Fin.ext (by show q.val = q.val % 16; omega))).trans (congrFun key _).symm
  rw [dif_neg h1]
  by_cases h2 : q.val - 16 < 16
  · rw [dif_pos h2]
    have key : (if q.val / 32 = 0 then (if q.val / 16 % 2 = 0 then a else b) else (if q.val / 16 % 2 = 0 then x else y)) = b :=
      (if_pos (by omega)).trans (if_neg (by omega))
    exact (congrArg b (by congr 1; exact Fin.ext (by show q.val - 16 = q.val % 16; omega))).trans (congrFun key _).symm
  rw [dif_neg h2]
  by_cases h3 : q.val - 16 - 16 < 16
  · rw [dif_pos h3]
    have key : (if q.val / 32 = 0 then (if q.val / 16 % 2 = 0 then a else b) else (if q.val / 16 % 2 = 0 then x else y)) = x :=
      (if_neg (by omega)).trans (if_pos (by omega))
    exact (congrArg x (by congr 1; exact Fin.ext (by show q.val - 16 - 16 = q.val % 16; omega))).trans (congrFun key _).symm
  · rw [dif_neg h3]
    have key : (if q.val / 32 = 0 then (if q.val / 16 % 2 = 0 then a else b) else (if q.val / 16 % 2 = 0 then x else y)) = y :=
      (if_neg (by omega)).trans (if_neg (by omega))
    exact (congrArg y (by congr 1; exact Fin.ext (by show q.val - 16 - 16 - 16 = q.val % 16; omega))).trans (congrFun key _).symm
theorem bdT_apply (k c : Fin 512) : bdT (ix2 k c) = FloatOps.uitofp (F := Ideal) .f32 (IntOp.cmpi .eq (IntOp.addi (BitVec.ofNat 32 (k.val / 64)) 0#32) (BitVec.ofNat 32 (c.val / 64))) * Ideal.ofBits .f32 0x3C800000#32 := by
  unfold bdT
  pointwise []
theorem projT_apply (x : FVec Ideal S1x16384x1024 .f32) (g : FVec Ideal S1024 .f32) (w : FVec Ideal S1024x2816 .f32) (t : Fin 16384) (c : Fin 2816) :
    projT x g w (ix2 t c) =
      ∑ k, x (ix3 0 t k) * Ideal.rsqrt (Ideal.div (∑ k', x (ix3 0 t k') * x (ix3 0 t k')) (Ideal.ofBits .f32 0x44800000#32) + Ideal.ofBits .f32 0x358637BD#32)
        * g (ix1 k) * w (ix2 k c) := by
  unfold projT hT rmsT rowsT
  pointwise []
theorem dqT_apply (x : FVec Ideal S1x16384x8x64 .f32) (s : Fin 8) (t : Fin 16384) (l : Fin 64) :
    dqT x (ix3 s t ⟨l.val, by omega⟩) = x (ix4 0 t s l) * Ideal.ofBits .f32 0x41000000#32 := by
  unfold dqT
  pointwise []
theorem dkT_apply (x : FVec Ideal S1x16384x2x64 .f32) (s : Fin 2) (b : Fin 32) (l : Fin 64) (r : Fin 512) :
    dkT x (ix4 s b ⟨l.val, by omega⟩ r) = x (ix4 0 ⟨b.val * 512 + r.val, by omega⟩ s l) := by
  unfold dkT
  pointwise []

end Cert.HeadNorm

end
-- ==== Proof.InBlocks.lean ====
/-
  The blocks of the windows that the two scales' gradients and the normalised rows use, read at their coordinates.
-/
module

public import proofs.«01_k».proof.Proof.InHost
public import Idealize.ShloMosaic.Lib.Pipeline.ValueKit.Geometry

@[expose] public section

set_option maxRecDepth 16384

noncomputable section

namespace Cert.HeadNorm

open Cert.Kernel2Ideal Cert.Kernel2Ideal.Gen
open Idealize.ShloMosaic Idealize.ShloMosaic.TcCoe
open Idealize.ShloMosaic.Pipeline (Dat Cfg Window)

variable (m : (ℓ : Loc nD τ sig) → Buf (Elt Ideal) ℓ) (c : Dev nD)

/-- The block that each window holds at a point of the grid. -/
theorem at_1 : ∀ t : Fin cfg0.N, win0_1.index t (0 : Fin 2) = t.val ∧ win0_1.index t (1 : Fin 2) = 0 := by decide +kernel
theorem at_2 : ∀ t : Fin cfg0.N, win0_2.index t (0 : Fin 2) = t.val ∧ win0_2.index t (1 : Fin 2) = 0 := by decide +kernel
theorem at_3 : ∀ t : Fin cfg0.N, win0_3.index t (0 : Fin 3) = 0 ∧ win0_3.index t (1 : Fin 3) = t.val ∧ win0_3.index t (2 : Fin 3) = 0 := by decide +kernel
theorem at_4 : ∀ t : Fin cfg0.N, win0_4.index t (0 : Fin 4) = 0 ∧ win0_4.index t (1 : Fin 4) = t.val / 2 ∧ win0_4.index t (2 : Fin 4) = 0
    ∧ win0_4.index t (3 : Fin 4) = t.val % 2 := by decide +kernel
theorem at_11 : ∀ t : Fin cfg0.N, win0_11.index t (0 : Fin 2) = 0 ∧ win0_11.index t (1 : Fin 2) = 0 := by decide +kernel
theorem at_13 : ∀ t : Fin cfg0.N, win0_13.index t (0 : Fin 2) = 0 ∧ win0_13.index t (1 : Fin 2) = 0 := by decide +kernel
theorem at_16 : ∀ t : Fin cfg0.N, win0_16.index t (0 : Fin 2) = t.val ∧ win0_16.index t (1 : Fin 2) = 0 := by decide +kernel
theorem at_17 : ∀ t : Fin cfg0.N, win0_17.index t (0 : Fin 2) = t.val ∧ win0_17.index t (1 : Fin 2) = 0 := by decide +kernel
theorem at_20 : ∀ t : Fin cfg0.N, win0_20.index t (0 : Fin 2) = t.val ∧ win0_20.index t (1 : Fin 2) = 0 := by decide +kernel
theorem at_22 : ∀ t : Fin cfg0.N, win0_22.index t (0 : Fin 2) = 0 ∧ win0_22.index t (1 : Fin 2) = 0 := by decide +kernel
theorem at_23 : ∀ t : Fin cfg0.N, win0_23.index t (0 : Fin 2) = 0 ∧ win0_23.index t (1 : Fin 2) = 0 := by decide +kernel

theorem lt64 (t : Fin cfg0.N) : t.val < 64 := lt_of_lt_of_eq t.isLt (show cfg0.N = 64 from N_0)
/-- The token of a row of a point's block. -/
def tok (t : Fin cfg0.N) (r : Fin 256) : Fin 16384 := ⟨t.val * 256 + r.val, by have := lt64 t; omega⟩

variable (t : Fin cfg0.N)

theorem B_x (r : Fin 256) (k : Fin 1024) : iblk m c 1 t (ix2 r k) = rowsT (m ((c.tc : Thread nD τ).loc main_arg0)) (ix2 (tok t r) k) := by
  obtain ⟨e0, e1⟩ := at_1 t
  rw [← V_x m c]
  show V m c main_v82 (((cfg0.win 1).blk t).view.emb (ix2 r k)) = _
  refine congrArg (V m c main_v82) (funext fun b => Fin.ext ?_)
  match b with
  | ⟨0, _⟩ => show win0_1.index t (0 : Fin 2) * 256 + 1 * r.val = t.val * 256 + r.val; rw [e0]; omega
  | ⟨1, _⟩ => show win0_1.index t (1 : Fin 2) * 1024 + 1 * k.val = k.val; rw [e1]; omega

theorem B_proj (r : Fin 256) (k : Fin 2816) : iblk m c 2 t (ix2 r k)
    = projT (m ((c.tc : Thread nD τ).loc main_arg0)) (m ((c.tc : Thread nD τ).loc main_arg1)) (m ((c.tc : Thread nD τ).loc main_arg2)) (ix2 (tok t r) k) := by
  obtain ⟨e0, e1⟩ := at_2 t
  rw [← V_proj m c]
  show V m c main_v73 (((cfg0.win 2).blk t).view.emb (ix2 r k)) = _
  refine congrArg (V m c main_v73) (funext fun b => Fin.ext ?_)
  match b with
  | ⟨0, _⟩ => show win0_2.index t (0 : Fin 2) * 256 + 1 * r.val = t.val * 256 + r.val; rw [e0]; omega
  | ⟨1, _⟩ => show win0_2.index t (1 : Fin 2) * 2816 + 1 * k.val = k.val; rw [e1]; omega

theorem B_dq (s : Fin 8) (r : Fin 256) (l : Fin 128) : iblk m c 3 t (ix3 s r l) = dqT (m ((c.tc : Thread nD τ).loc main_arg7)) (ix3 s (tok t r) l) := by
  obtain ⟨e0, e1, e2⟩ := at_3 t
  rw [← V_dq m c]
  show V m c main_v78 (((cfg0.win 3).blk t).view.emb (ix3 s r l)) = _
  refine congrArg (V m c main_v78) (funext fun b => Fin.ext ?_)
  match b with
  | ⟨0, _⟩ => show win0_3.index t (0 : Fin 3) * 8 + 1 * s.val = s.val; rw [e0]; omega
  | ⟨1, _⟩ => show win0_3.index t (1 : Fin 3) * 256 + 1 * r.val = t.val * 256 + r.val; rw [e1]; omega
  | ⟨2, _⟩ => show win0_3.index t (2 : Fin 3) * 128 + 1 * l.val = l.val; rw [e2]; omega

theorem B_dk (s : Fin 2) (l : Fin 128) (r : Fin 256) : iblk m c 4 t (ix4 s 0 l r)
    = dkT (m ((c.tc : Thread nD τ).loc main_arg8)) (ix4 s ⟨t.val / 2, by have := lt64 t; omega⟩ l ⟨t.val % 2 * 256 + r.val, by omega⟩) := by
  obtain ⟨e0, e1, e2, e3⟩ := at_4 t
  rw [← V_dk m c]
  show V m c main_v86 (((cfg0.win 4).blk t).view.emb (ix4 s 0 l r)) = _
  refine congrArg (V m c main_v86) (funext fun b => Fin.ext ?_)
  match b with
  | ⟨0, _⟩ => show win0_4.index t (0 : Fin 4) * 2 + 1 * s.val = s.val; rw [e0]; omega
  | ⟨1, _⟩ => show win0_4.index t (1 : Fin 4) * 1 + 1 * 0 = t.val / 2; rw [e1]; omega
  | ⟨2, _⟩ => show win0_4.index t (2 : Fin 4) * 128 + 1 * l.val = l.val; rw [e2]; omega
  | ⟨3, _⟩ => show win0_4.index t (3 : Fin 4) * 256 + 1 * r.val = t.val % 2 * 256 + r.val; rw [e3]; omega

theorem B_g (k : Fin 1024) : iblk m c 11 t (ix2 0 k)
    = (broadcastInDim S1x1024 ![1] bcast_S1024_S1x1024_1 (m ((c.tc : Thread nD τ).loc main_arg1)) : FVec Ideal S1x1024 .f32) (ix2 0 k) := by
  obtain ⟨e0, e1⟩ := at_11 t
  rw [← V_g m c]
  show V m c main_v92 (((cfg0.win 11).blk t).view.emb (ix2 0 k)) = _
  refine congrArg (V m c main_v92) (funext fun b => Fin.ext ?_)
  match b with
  | ⟨0, _⟩ => show win0_11.index t (0 : Fin 2) * 1 + 1 * 0 = 0; rw [e0]
  | ⟨1, _⟩ => show win0_11.index t (1 : Fin 2) * 1024 + 1 * k.val = k.val; rw [e1]; omega

theorem B_bd (k l : Fin 512) : iblk m c 13 t (ix2 k l) = bdT (ix2 k l) := by
  obtain ⟨e0, e1⟩ := at_13 t
  rw [← V_bd m c]
  show V m c main_v47 (((cfg0.win 13).blk t).view.emb (ix2 k l)) = _
  refine congrArg (V m c main_v47) (funext fun b => Fin.ext ?_)
  match b with
  | ⟨0, _⟩ => show win0_13.index t (0 : Fin 2) * 512 + 1 * k.val = k.val; rw [e0]; omega
  | ⟨1, _⟩ => show win0_13.index t (1 : Fin 2) * 512 + 1 * l.val = l.val; rw [e1]; omega

theorem B_cos (r : Fin 256) (l : Fin 128) : iblk m c 16 t (ix2 r l) = cosT (ix2 (tok t r) l) := by
  obtain ⟨e0, e1⟩ := at_16 t
  rw [← V_cos m c]
  show V m c main_v35 (((cfg0.win 16).blk t).view.emb (ix2 r l)) = _
  refine congrArg (V m c main_v35) (funext fun b => Fin.ext ?_)
  match b with
  | ⟨0, _⟩ => show win0_16.index t (0 : Fin 2) * 256 + 1 * r.val = t.val * 256 + r.val; rw [e0]; omega
  | ⟨1, _⟩ => show win0_16.index t (1 : Fin 2) * 128 + 1 * l.val = l.val; rw [e1]; omega

theorem B_sin (r : Fin 256) (l : Fin 128) : iblk m c 17 t (ix2 r l) = sinT (ix2 (tok t r) l) := by
  obtain ⟨e0, e1⟩ := at_17 t
  rw [← V_sin m c]
  show V m c main_v38 (((cfg0.win 17).blk t).view.emb (ix2 r l)) = _
  refine congrArg (V m c main_v38) (funext fun b => Fin.ext ?_)
  match b with
  | ⟨0, _⟩ => show win0_17.index t (0 : Fin 2) * 256 + 1 * r.val = t.val * 256 + r.val; rw [e0]; omega
  | ⟨1, _⟩ => show win0_17.index t (1 : Fin 2) * 128 + 1 * l.val = l.val; rw [e1]; omega

end Cert.HeadNorm

end
-- ==== Proof.InSpec.lean ====
/-
  The gradients of the two per-head scales, at a lane, as plain sums.
-/
module

public import Idealize.ShloMosaic.Lib.Pointwise

@[expose] public section

noncomputable section

namespace Cert.HeadNorm

open Idealize.ShloMosaic
open scoped BigOperators

/-- The frequency `j`. -/
def fr (j : ℕ) : EReal := Ideal.pow (Ideal.ofBits .f32 0x461C4000#32) (Ideal.div (-FloatOps.sitofp (F := Ideal) .f32 (BitVec.ofNat 32 j)) (Ideal.ofBits .f32 0x41800000#32))
/-- The angle at position `n` and frequency `j`. -/
def ang (n j : ℕ) : EReal := FloatOps.sitofp (F := Ideal) .f32 (BitVec.ofNat 32 n) * fr j
/-- The projection at token `t` and column `c`. -/
def proj (x : Fin 16384 → Fin 1024 → EReal) (g : Fin 1024 → EReal) (w : Fin 1024 → Fin 2816 → EReal) (t : Fin 16384) (c : Fin 2816) : EReal :=
  ∑ k, x t k * Ideal.rsqrt (Ideal.div (∑ k', x t k' * x t k') (Ideal.ofBits .f32 0x44800000#32) + Ideal.ofBits .f32 0x358637BD#32) * g k * w k c

/-- The position that a lane of a head turns by: the row for the first half of the lanes, the column for the second. -/
def place (t q : ℕ) : ℕ := if q / 32 = 0 then t / 64 else t % 64
/-- A lane's partner in the rotation. -/
def mate (q : Fin 64) : Fin 64 := if h : q.val / 16 % 2 = 0 then ⟨q.val + 16, by omega⟩ else ⟨q.val - 16, by omega⟩
/-- The sign with which the partner's sine enters. -/
def flip (q : ℕ) (a : EReal) : EReal := if q / 16 % 2 = 0 then a else -a
/-- A head's cotangent turned back by the angles of token `t`, at a lane. -/
def turn (d : Fin 64 → EReal) (t : ℕ) (q : Fin 64) : EReal :=
  d q * Ideal.cos (ang (place t q) (q.val % 16)) + d (mate q) * flip q (Ideal.sin (ang (place t q) (q.val % 16)))
/-- A head scaled to unit mean square, at a lane. -/
def unit (z : Fin 64 → EReal) (q : Fin 64) : EReal :=
  z q * Ideal.rsqrt (Ideal.div (∑ k, z k * z k) (Ideal.ofBits .f32 0x42800000#32) + Ideal.ofBits .f32 0x358637BD#32)
/-- A token's part of the gradient of a head's scale, at a lane. -/
def part (z d : Fin 64 → EReal) (t : ℕ) (q : Fin 64) : EReal := unit z q * turn d t q
/-- The normalised input at a token and a feature. -/
def hrow (x : Fin 1024 → EReal) (g : Fin 1024 → EReal) (k : Fin 1024) : EReal :=
  x k * Ideal.rsqrt (Ideal.div (∑ k', x k' * x k') (Ideal.ofBits .f32 0x44800000#32) + Ideal.ofBits .f32 0x358637BD#32) * g k

end Cert.HeadNorm

end
-- ==== Proof.InMath.lean ====
/-
  The mathematics of the two scales' gradients: a head's mean square taken by a table of ones over 64, a gradient scaled up and down again,
  and the projection of finite arguments being finite.
-/
module

public import proofs.«01_k».proof.Proof.InSpec
public import proofs.«01_k».proof.Proof.Math

@[expose] public section

noncomputable section

namespace Cert.HeadNorm

open Idealize.ShloMosaic Cert.Attn
open scoped BigOperators

theorem ofBits_8 : Ideal.ofBits .f32 0x41000000#32 = ((8 : ℝ) : EReal) := by
  simp [Ideal.ofBits, Ideal.ieee]; rw [← EReal.coe_mul]; norm_num
theorem ofBits_64 : Ideal.ofBits .f32 0x42800000#32 = ((64 : ℝ) : EReal) := by
  simp [Ideal.ofBits, Ideal.ieee]; rw [← EReal.coe_mul]; norm_num
theorem ofBits_64th : Ideal.ofBits .f32 0x3C800000#32 = ((1 / 64 : ℝ) : EReal) := by
  simp [Ideal.ofBits, Ideal.ieee]; rw [← EReal.coe_mul]; norm_num
theorem ofBits_1024 : Ideal.ofBits .f32 0x44800000#32 = ((1024 : ℝ) : EReal) := by
  simp [Ideal.ofBits, Ideal.ieee]; rw [← EReal.coe_mul]; norm_num
theorem ofBits_eps : ∃ e : ℝ, 0 < e ∧ Ideal.ofBits .f32 0x358637BD#32 = (e : EReal) := by
  refine ⟨_, ?_, by simp [Ideal.ofBits, Ideal.ieee]; rw [← EReal.coe_mul]⟩
  norm_num

/-- A gradient times 8 and then times 1/8. -/
theorem up_down (d : EReal) : d * Ideal.ofBits .f32 0x41000000#32 * Ideal.ofBits .f32 0x3E000000#32 = d := by
  rw [ofBits_8, ofBits_eighth, mul_assoc, ← EReal.coe_mul]
  norm_num

/-- The entry of the table: 1/64 where both lanes are of one head, else 0. -/
theorem entry (a b : ℕ) (ha : a < 8) (hb : b < 8) :
    FloatOps.uitofp (F := Ideal) .f32 (IntOp.cmpi .eq (IntOp.addi (BitVec.ofNat 32 a) 0#32) (BitVec.ofNat 32 b)) * Ideal.ofBits .f32 0x3C800000#32
      = (((if a = b then 1 / 64 else 0 : ℝ)) : EReal) := by
  have e : IntOp.cmpi .eq (IntOp.addi (BitVec.ofNat 32 a) 0#32) (BitVec.ofNat 32 b) = if a = b then 1#1 else 0#1 := by
    have key : ∀ a b : Fin 8, IntOp.cmpi .eq (IntOp.addi (BitVec.ofNat 32 a.val) 0#32) (BitVec.ofNat 32 b.val) = if a.val = b.val then 1#1 else 0#1 := by
      decide +kernel
    exact key ⟨a, ha⟩ ⟨b, hb⟩
  rw [e, ofBits_64th]
  split_ifs with h
  · show (((1 : ℕ) : ℝ) : EReal) * _ = _
    rw [← EReal.coe_mul]; norm_num
  · show (((0 : ℕ) : ℝ) : EReal) * _ = _
    rw [← EReal.coe_mul]; norm_num

/-- A sum over all lanes that only a head's lanes enter. -/
theorem sum_head {n : ℕ} (hn : 64 ∣ n) (f : Fin n → ℝ) (c : Fin n) :
    ∑ k : Fin n, f k * (if k.val / 64 = c.val / 64 then 1 / 64 else 0)
      = (∑ q : Fin 64, f ⟨c.val / 64 * 64 + q.val, by omega⟩) / 64 := by
  have e : ∀ k : Fin n, f k * (if k.val / 64 = c.val / 64 then 1 / 64 else 0 : ℝ) = if k.val / 64 = c.val / 64 then f k / 64 else 0 := by
    intro k; split_ifs <;> ring
  rw [Finset.sum_congr rfl fun k _ => e k, ← Finset.sum_filter, Finset.sum_div]
  refine Finset.sum_nbij' (fun k => (⟨k.val % 64, by omega⟩ : Fin 64)) (fun q => ⟨c.val / 64 * 64 + q.val, by omega⟩) ?_ ?_ ?_ ?_ ?_
  · intro k _; exact Finset.mem_univ _
  · intro q _
    rw [Finset.mem_filter]
    exact ⟨Finset.mem_univ _, by show (c.val / 64 * 64 + q.val) / 64 = c.val / 64; omega⟩
  · intro k hk
    have h := (Finset.mem_filter.mp hk).2
    exact Fin.ext (by show c.val / 64 * 64 + k.val % 64 = k.val; omega)
  · intro q _; exact Fin.ext (by show (c.val / 64 * 64 + q.val) % 64 = q.val; omega)
  · intro k hk
    have h := (Finset.mem_filter.mp hk).2
    have : (⟨c.val / 64 * 64 + k.val % 64, by omega⟩ : Fin n) = k := Fin.ext (by show c.val / 64 * 64 + k.val % 64 = k.val; omega)
    rw [this]

/-- A head's mean square by the table, and by its own lanes. The second sum is of what the cast to half the width loses: nothing. -/
theorem mean_block {n : ℕ} (hn : 64 ∣ n) (z β : Fin n → EReal) (c : Fin n) (hz : ∀ k, ∃ r : ℝ, z k = (r : EReal))
    (hβ : ∀ k, β k = ((if k.val / 64 = c.val / 64 then 1 / 64 else 0 : ℝ) : EReal)) :
    (∑ k, z k * z k * β k) + ∑ k, (z k * z k - z k * z k) * β k
      = Ideal.div (∑ q : Fin 64, z ⟨c.val / 64 * 64 + q.val, by omega⟩ * z ⟨c.val / 64 * 64 + q.val, by omega⟩) (Ideal.ofBits .f32 0x42800000#32) := by
  choose r hr using hz
  simp only [hr, hβ, ofBits_64, ← EReal.coe_mul, ← EReal.coe_sub, coe_sum, ← EReal.coe_add, sub_self, zero_mul, Finset.sum_const_zero, add_zero]
  rw [div_real (by norm_num), sum_head hn (fun k => r k * r k) c]

/-- The projection of finite arguments is finite. -/
theorem proj_real (x : Fin 16384 → Fin 1024 → EReal) (g : Fin 1024 → EReal) (w : Fin 1024 → Fin 2816 → EReal) (hx : ∀ t k, ∃ r : ℝ, x t k = (r : EReal))
    (hg : ∀ k, ∃ r : ℝ, g k = (r : EReal)) (hw : ∀ k c, ∃ r : ℝ, w k c = (r : EReal)) (t : Fin 16384) (c : Fin 2816) :
    ∃ r : ℝ, proj x g w t c = (r : EReal) := by
  choose X hX using hx
  choose G hG using hg
  choose W hW using hw
  obtain ⟨e, he, hE⟩ := ofBits_eps
  have hp : 0 < (∑ k, X t k * X t k) / 1024 + e := by
    have : 0 ≤ ∑ k, X t k * X t k := Finset.sum_nonneg fun k _ => mul_self_nonneg _
    positivity
  unfold proj
  simp only [hX, hG, hW, hE, ofBits_1024, ← EReal.coe_mul, coe_sum]
  rw [div_real (by norm_num), ← EReal.coe_add, Ideal.rsqrt_coe, if_neg (not_lt.mpr hp.le), if_neg hp.ne']
  simp only [← EReal.coe_mul, coe_sum]
  exact ⟨_, rfl⟩

end Cert.HeadNorm

end
-- ==== Proof.InJoin.lean ====
/-
  What one point adds to the two scales' gradients, in the arguments: the parts of its 256 tokens.
-/
module

public import proofs.«01_k».proof.Proof.InStep
public import proofs.«01_k».proof.Proof.InTab
public import proofs.«01_k».proof.Proof.InBlocks
public import proofs.«01_k».proof.Proof.InMath

@[expose] public section

set_option maxRecDepth 16384

noncomputable section

namespace Cert.HeadNorm

open Cert.Kernel2Ideal Cert.Kernel2Ideal.Gen
open Idealize.ShloMosaic Idealize.ShloMosaic.TcCoe
open scoped BigOperators

theorem hostCos_apply {s : Shape} (x : FVec Ideal s .f32) (i : s.Idx) : Host.cos x i = Ideal.cos (x i) := rfl
theorem hostSin_apply {s : Shape} (x : FVec Ideal s .f32) (i : s.Idx) : Host.sin x i = Ideal.sin (x i) := rfl
theorem hostNeg_apply {s : Shape} (x : FVec Ideal s .f32) (i : s.Idx) : Host.negf x i = (-(x i : EReal) : EReal) := rfl

theorem angR_apply (t : Fin 16384) (j : Fin 16) : angT rowT (ix2 t j) = ang (t.val / 64) j.val := by
  rw [angT_apply, rowT_apply, freqT_apply]; rfl
theorem angC_apply (t : Fin 16384) (j : Fin 16) : angT colT (ix2 t j) = ang (t.val % 64) j.val := by
  rw [angT_apply, colT_apply, freqT_apply]; rfl

/-- The cosine and the signed sine that the tables hold for a lane. -/
theorem cosT_apply (t : Fin 16384) (l : Fin 128) (q : Fin 64) (hq : l.val % 64 = q.val) :
    cosT (ix2 t l) = Ideal.cos (ang (place t.val q.val) (q.val % 16)) := by
  have hl : (⟨l.val % 64, by omega⟩ : Fin 64) = q := Fin.ext hq
  unfold cosT
  rw [twiceT_apply, hl, tabT_apply]
  unfold place
  split_ifs <;> rw [hostCos_apply] <;> first | rw [angR_apply] | rw [angC_apply]
theorem sinT_apply (t : Fin 16384) (l : Fin 128) (q : Fin 64) (hq : l.val % 64 = (mate q).val) :
    sinT (ix2 t l) = flip q.val (Ideal.sin (ang (place t.val q.val) (q.val % 16))) := by
  have hm : (mate q).val = if q.val / 16 % 2 = 0 then q.val + 16 else q.val - 16 := by unfold mate; split_ifs <;> rfl
  have h0 : (mate q).val / 32 = q.val / 32 := by rw [hm]; split_ifs <;> omega
  have h1 : (mate q).val / 16 % 2 = 1 - q.val / 16 % 2 := by rw [hm]; split_ifs <;> omega
  have h2 : (mate q).val % 16 = q.val % 16 := by rw [hm]; split_ifs <;> omega
  have hl : (⟨l.val % 64, by omega⟩ : Fin 64) = mate q := Fin.ext hq
  have hj : (⟨(mate q).val % 16, by omega⟩ : Fin 16) = ⟨q.val % 16, by omega⟩ := Fin.ext h2
  unfold sinT
  rw [twiceT_apply, hl, tabT_apply, h0, h1, hj]
  unfold place flip
  by_cases a : q.val / 32 = 0 <;> by_cases b : q.val / 16 % 2 = 0
  · rw [if_pos a, if_pos a, if_pos b, if_neg (by omega), hostSin_apply, angR_apply]
  · rw [if_pos a, if_pos a, if_neg b, if_pos (by omega), hostNeg_apply, hostSin_apply, angR_apply]
  · rw [if_neg a, if_neg a, if_pos b, if_neg (by omega), hostSin_apply, angC_apply]
  · rw [if_neg a, if_neg a, if_neg b, if_pos (by omega), hostNeg_apply, hostSin_apply, angC_apply]

/-- The partner of a lane among all heads' lanes. -/
theorem swq_head (c : Fin 512) : (swq c).val / 64 = c.val / 64 ∧ (swq c).val % 64 = (mate ⟨c.val % 64, by omega⟩).val := by
  unfold swq mate
  by_cases h : c.val / 16 % 2 = 0
  · have h' : c.val % 64 / 16 % 2 = 0 := by omega
    simp only [if_pos h, dif_pos h']
    constructor <;> omega
  · have h' : ¬c.val % 64 / 16 % 2 = 0 := by omega
    simp only [if_neg h, dif_neg h']
    constructor <;> omega
theorem sw_head (c : Fin 128) : (sw c).val / 64 = c.val / 64 ∧ (sw c).val % 64 = (mate ⟨c.val % 64, by omega⟩).val := by
  unfold sw mate
  by_cases h : c.val / 16 % 2 = 0
  · have h' : c.val % 64 / 16 % 2 = 0 := by omega
    simp only [if_pos h, dif_pos h']
    constructor <;> omega
  · have h' : ¬c.val % 64 / 16 % 2 = 0 := by omega
    simp only [if_neg h, dif_neg h']
    constructor <;> omega

variable (m : (ℓ : Loc nD τ sig) → Buf (Elt Ideal) ℓ) (c : Dev nD)

/-- The arguments: the input, its norm's scale, the projection, and the two cotangents. -/
abbrev aX : Fin 16384 → Fin 1024 → EReal := fun t k => (m ((c.tc : Thread nD τ).loc main_arg0) : FVec Ideal S1x16384x1024 .f32) (ix3 0 t k)
abbrev aG : Fin 1024 → EReal := fun k => (m ((c.tc : Thread nD τ).loc main_arg1) : FVec Ideal S1024 .f32) (ix1 k)
abbrev aW : Fin 1024 → Fin 2816 → EReal := fun k j => (m ((c.tc : Thread nD τ).loc main_arg2) : FVec Ideal S1024x2816 .f32) (ix2 k j)
abbrev aQ : FVec Ideal S1x16384x8x64 .f32 := m ((c.tc : Thread nD τ).loc main_arg7)
abbrev aK : FVec Ideal S1x16384x2x64 .f32 := m ((c.tc : Thread nD τ).loc main_arg8)

/-- A token's part of the two gradients. -/
def qPart (l : Fin 512) (t : Fin 16384) : EReal :=
  part (fun q => proj (aX m c) (aG m c) (aW m c) t ⟨l.val / 64 * 64 + q.val, by omega⟩) (fun q => aQ m c (ix4 0 t ⟨l.val / 64, by omega⟩ q)) t.val ⟨l.val % 64, by omega⟩
def kPart (l : Fin 128) (t : Fin 16384) : EReal :=
  part (fun q => proj (aX m c) (aG m c) (aW m c) t ⟨512 + (l.val / 64 * 64 + q.val), by omega⟩) (fun q => aK m c (ix4 0 t ⟨l.val / 64, by omega⟩ q)) t.val ⟨l.val % 64, by omega⟩

variable (hz : ∀ t j, ∃ r : ℝ, proj (aX m c) (aG m c) (aW m c) t j = (r : EReal)) (t : Fin cfg0.N)

theorem B_z (r : Fin 256) (k : Fin 2816) : iblk m c 2 t (ix2 r k) = proj (aX m c) (aG m c) (aW m c) (tok t r) k :=
  (B_proj m c t r k).trans (projT_apply _ _ _ _ _)
theorem B_b (k l : Fin 512) : iblk m c 13 t (ix2 k l) = ((if k.val / 64 = l.val / 64 then 1 / 64 else 0 : ℝ) : EReal) :=
  (B_bd m c t k l).trans ((bdT_apply k l).trans (entry _ _ (by omega) (by omega)))
theorem B_d (r : Fin 256) (l : Fin 512) : heads (iblk m c 3 t) (ix2 r l) = aQ m c (ix4 0 (tok t r) ⟨l.val / 64, by omega⟩ ⟨l.val % 64, by omega⟩) := by
  rw [heads_lane, B_dq]
  exact (congrArg (fun e : EReal => e * Ideal.ofBits .f32 0x3E000000#32) (dqT_apply _ ⟨l.val / 64, by omega⟩ (tok t r) ⟨l.val % 64, by omega⟩)).trans (up_down _)
theorem B_e (s : Fin 2) (l : Fin 64) (r : Fin 256) : iblk m c 4 t (ix4 s 0 ⟨l.val, by omega⟩ r) = aK m c (ix4 0 (tok t r) s l) := by
  rw [B_dk, dkT_apply _ s ⟨t.val / 2, by have := lt64 t; omega⟩ l ⟨t.val % 2 * 256 + r.val, by omega⟩]
  refine congrArg (aK m c) (congrArg (fun n => ix4 0 n s l) (Fin.ext ?_))
  show t.val / 2 * 512 + (t.val % 2 * 256 + r.val) = t.val * 256 + r.val
  omega

section
variable (P : Vec Ideal S256x2816 .f32) (b : Vec Ideal S512x512 .bf16) (cs sn : Vec Ideal S256x128 .f32)
variable (hP : ∀ r k, P (ix2 r k) = (proj (aX m c) (aG m c) (aW m c) (tok t r) k : EReal))
variable (hb : ∀ k l, b (ix2 k l) = ((if k.val / 64 = l.val / 64 then 1 / 64 else 0 : ℝ) : EReal))
variable (hcs : ∀ r l, cs (ix2 r l) = cosT (ix2 (tok t r) l)) (hsn : ∀ r l, sn (ix2 r l) = sinT (ix2 (tok t r) l))

include hz hP hb hcs hsn in
/-- What a block adds to the query scale's gradient. -/
theorem q_step (X : Vec Ideal S8x256x128 .f32)
    (hX : ∀ r (l : Fin 512), heads X (ix2 r l) = aQ m c (ix4 0 (tok t r) ⟨l.val / 64, by omega⟩ ⟨l.val % 64, by omega⟩)) (a : Vec Ideal S1x512 .f32) (l : Fin 512) :
    qStep P X b cs sn a (ix2 0 l) = (a (ix2 0 l) + ∑ r, qPart m c l (tok t r) : EReal) := by
  refine (qStep_apply _ _ _ _ _ a l).trans (congrArg (fun e : EReal => a (ix2 0 l) + e) (Finset.sum_congr rfl fun r _ => ?_))
  obtain ⟨s1, s2⟩ := swq_head l
  rw [mean_block (by norm_num) (fun k : Fin 512 => P (ix2 r ⟨k.val, by omega⟩)) (fun k => b (ix2 k l)) l
    (fun k => by obtain ⟨z, e⟩ := hz (tok t r) ⟨k.val, by omega⟩; exact ⟨z, (hP r _).trans e⟩) (fun k => hb k l)]
  simp only [hP, hcs, hsn, hX]
  rw [cosT_apply (tok t r) ⟨l.val % 128, by omega⟩ ⟨l.val % 64, by omega⟩ (by show l.val % 128 % 64 = l.val % 64; omega),
    sinT_apply (tok t r) ⟨(swq l).val % 128, by omega⟩ ⟨l.val % 64, by omega⟩ (by rw [← s2]; show (swq l).val % 128 % 64 = (swq l).val % 64; omega)]
  have hd : (ix4 0 (tok t r) ⟨(swq l).val / 64, by omega⟩ ⟨(swq l).val % 64, by omega⟩ : S1x16384x8x64.Idx)
      = ix4 0 (tok t r) ⟨l.val / 64, by omega⟩ (mate ⟨l.val % 64, by omega⟩) :=
    congr (congrArg (fun a b => (ix4 0 (tok t r) a b : S1x16384x8x64.Idx)) (Fin.ext s1)) (Fin.ext s2)
  have hl : (⟨l.val, by omega⟩ : Fin 2816) = ⟨l.val / 64 * 64 + (⟨l.val % 64, by omega⟩ : Fin 64).val, by show l.val / 64 * 64 + l.val % 64 < 2816; omega⟩ :=
    Fin.ext (by show l.val = l.val / 64 * 64 + l.val % 64; omega)
  rw [hd, mul_assoc, mul_comm, hl]
  rfl

include hz hP hb hcs hsn in
/-- What a block adds to the key scale's gradient. -/
theorem k_step (X : Vec Ideal S2x1x128x256 .f32) (hX : ∀ s (l : Fin 64) r, X (ix4 s 0 ⟨l.val, by omega⟩ r) = aK m c (ix4 0 (tok t r) s l)) (a : Vec Ideal S1x128 .f32)
    (l : Fin 128) : kStep P X b cs sn a (ix2 0 l) = (a (ix2 0 l) + ∑ r, kPart m c l (tok t r) : EReal) := by
  refine (kStep_apply _ _ _ _ _ a l).trans (congrArg (fun e : EReal => a (ix2 0 l) + e) (Finset.sum_congr rfl fun r _ => ?_))
  obtain ⟨s1, s2⟩ := sw_head l
  rw [mean_block (by norm_num) (fun k : Fin 128 => P (ix2 r ⟨512 + k.val, by omega⟩)) (fun k => b (ix2 ⟨k.val, by omega⟩ ⟨l.val, by omega⟩)) l
    (fun k => by obtain ⟨z, e⟩ := hz (tok t r) ⟨512 + k.val, by omega⟩; exact ⟨z, (hP r _).trans e⟩) (fun k => hb ⟨k.val, by omega⟩ ⟨l.val, by omega⟩)]
  rw [hX ⟨l.val / 64, by omega⟩ ⟨l.val % 64, by omega⟩ r, hX ⟨(sw l).val / 64, by omega⟩ ⟨(sw l).val % 64, by omega⟩ r]
  simp only [hP, hcs, hsn]
  rw [cosT_apply (tok t r) l ⟨l.val % 64, by omega⟩ rfl, sinT_apply (tok t r) (sw l) ⟨l.val % 64, by omega⟩ s2]
  have hd : (ix4 0 (tok t r) ⟨(sw l).val / 64, by omega⟩ ⟨(sw l).val % 64, by omega⟩ : S1x16384x2x64.Idx)
      = ix4 0 (tok t r) ⟨l.val / 64, by omega⟩ (mate ⟨l.val % 64, by omega⟩) :=
    congr (congrArg (fun a b => (ix4 0 (tok t r) a b : S1x16384x2x64.Idx)) (Fin.ext s1)) (Fin.ext s2)
  have hl : (⟨512 + l.val, by omega⟩ : Fin 2816) = ⟨512 + (l.val / 64 * 64 + (⟨l.val % 64, by omega⟩ : Fin 64).val), by show 512 + (l.val / 64 * 64 + l.val % 64) < 2816; omega⟩ :=
    Fin.ext (by show 512 + l.val = 512 + (l.val / 64 * 64 + l.val % 64); omega)
  rw [hd, mul_assoc, mul_comm, hl]
  rfl
end

include hz in
/-- What a point adds. -/
theorem q_add (a : Vec Ideal S1x512 .f32) (l : Fin 512) :
    qStep (iblk m c 2 t) (iblk m c 3 t) (iblk m c 13 t) (iblk m c 16 t) (iblk m c 17 t) a (ix2 0 l) = (a (ix2 0 l) + ∑ r, qPart m c l (tok t r) : EReal) :=
  q_step m c hz t _ _ _ _ (B_z m c t) (B_b m c t) (B_cos m c t) (B_sin m c t) _ (B_d m c t) a l
include hz in
theorem k_add (a : Vec Ideal S1x128 .f32) (l : Fin 128) :
    kStep (iblk m c 2 t) (iblk m c 4 t) (iblk m c 13 t) (iblk m c 16 t) (iblk m c 17 t) a (ix2 0 l) = (a (ix2 0 l) + ∑ r, kPart m c l (tok t r) : EReal) :=
  k_step m c hz t _ _ _ _ (B_z m c t) (B_b m c t) (B_cos m c t) (B_sin m c t) _ (B_e m c t) a l

end Cert.HeadNorm

end
-- ==== Proof.InSum.lean ====
/-
  The second kernel's results after the run: the two gradients summed over all tokens, and the normalised rows.
-/
module

public import proofs.«01_k».proof.Proof.InPoint
public import proofs.«01_k».proof.Proof.InJoin

@[expose] public section

set_option maxRecDepth 16384

noncomputable section

namespace Cert.HeadNorm

open Cert.Kernel2Ideal Cert.Kernel2Ideal.Gen
open Idealize.ShloMosaic Idealize.ShloMosaic.TcCoe
open Idealize.ShloMosaic.Pipeline (Dat Cfg Window)
open scoped BigOperators

/-- A sum over the tokens before those of a point, and one with them. -/
def upTo (f : Fin 16384 → EReal) (n : ℕ) : EReal := ∑ i ∈ Finset.range n, if h : i < 16384 then f ⟨i, h⟩ else 0
theorem upTo_add (f : Fin 16384 → EReal) (t : Fin cfg0.N) : upTo f ((t.val + 1) * 256) = upTo f (t.val * 256) + ∑ r, f (tok t r) := by
  have ht := lt64 t
  unfold upTo
  rw [show (t.val + 1) * 256 = t.val * 256 + 256 by omega, Finset.sum_range_add, Finset.sum_range (n := 256)]
  refine congrArg _ (Finset.sum_congr rfl fun r _ => ?_)
  have : t.val * 256 + r.val < 16384 := by omega
  rw [dif_pos this]
  rfl
theorem upTo_all (f : Fin 16384 → EReal) : upTo f 16384 = ∑ t, f t := by
  unfold upTo
  rw [Finset.sum_range]
  exact Finset.sum_congr rfl fun t _ => dif_pos t.isLt

variable (m : (ℓ : Loc nD τ sig) → Buf (Elt Ideal) ℓ) (c : Dev nD)
variable (hz : ∀ t j, ∃ r : ℝ, proj (aX m c) (aG m c) (aW m c) t j = (r : EReal))

theorem zero_q (l : Fin 512) : (k0_pay4 (F := Ideal)) (ix2 0 l) = (0 : EReal) := by
  pointwise [k0_pay4]
theorem zero_k (l : Fin 128) : (k0_pay5 (F := Ideal)) (ix2 0 l) = (0 : EReal) := by
  pointwise [k0_pay5]

include hz in
/-- The accumulated gradients after a point. -/
theorem q_after (l : Fin 512) : ∀ (n : ℕ) (hn : n < cfg0.N), (outsAt0 m c n hn).2.2.2.2.1 (ix2 0 l) = (upTo (qPart m c l) ((n + 1) * 256) : EReal) := by
  intro n
  induction n with
  | zero =>
    intro hn
    refine (congrFun (q_A m c ⟨0, hn⟩ rfl) (ix2 0 l)).trans ((q_add m c hz ⟨0, hn⟩ _ l).trans ?_)
    rw [zero_q, zero_add, upTo_add _ (⟨0, hn⟩ : Fin cfg0.N)]
    exact ((congrArg (fun e : EReal => e + ∑ r, qPart m c l (tok ⟨0, hn⟩ r)) (Finset.sum_range_zero _)).trans (zero_add _)).symm
  | succ n ih =>
    intro hn
    have h64 := lt64 ⟨n + 1, hn⟩
    have h0 : ¬(⟨n + 1, hn⟩ : Fin cfg0.N).val % 64 = 0 := by show ¬(n + 1) % 64 = 0; change n + 1 < 64 at h64; omega
    refine (congrFun (q_B m c ⟨n + 1, hn⟩ h0) (ix2 0 l)).trans ((q_add m c hz ⟨n + 1, hn⟩ _ l).trans ?_)
    rw [upTo_add _ (⟨n + 1, hn⟩ : Fin cfg0.N)]
    exact congrArg (fun e : EReal => e + ∑ r, qPart m c l (tok ⟨n + 1, hn⟩ r)) (ih (by omega))
include hz in
theorem k_after (l : Fin 128) : ∀ (n : ℕ) (hn : n < cfg0.N), (outsAt0 m c n hn).2.2.2.2.2 (ix2 0 l) = (upTo (kPart m c l) ((n + 1) * 256) : EReal) := by
  intro n
  induction n with
  | zero =>
    intro hn
    refine (congrFun (k_A m c ⟨0, hn⟩ rfl) (ix2 0 l)).trans ((k_add m c hz ⟨0, hn⟩ _ l).trans ?_)
    rw [zero_k, zero_add, upTo_add _ (⟨0, hn⟩ : Fin cfg0.N)]
    exact ((congrArg (fun e : EReal => e + ∑ r, kPart m c l (tok ⟨0, hn⟩ r)) (Finset.sum_range_zero _)).trans (zero_add _)).symm
  | succ n ih =>
    intro hn
    have h64 := lt64 ⟨n + 1, hn⟩
    have h0 : ¬(⟨n + 1, hn⟩ : Fin cfg0.N).val % 64 = 0 := by show ¬(n + 1) % 64 = 0; change n + 1 < 64 at h64; omega
    refine (congrFun (k_B m c ⟨n + 1, hn⟩ h0) (ix2 0 l)).trans ((k_add m c hz ⟨n + 1, hn⟩ _ l).trans ?_)
    rw [upTo_add _ (⟨n + 1, hn⟩ : Fin cfg0.N)]
    exact congrArg (fun e : EReal => e + ∑ r, kPart m c l (tok ⟨n + 1, hn⟩ r)) (ih (by omega))

include hz in
/-- The query scale's gradient after the run. -/
theorem arr_q (l : Fin 512) : (dats m 0 c).arrAt 22 cfg0.N (ix2 0 l) = (∑ t, qPart m c l t : EReal) := by
  refine (dats m 0 c).arrAt_forall_of_covers 22 (fun i v => i = ix2 0 l → v = (∑ t, qPart m c l t : EReal)) (by decide +kernel) (fun t hf y => ?_)
    _ (Memref.isWhole_whole _) rfl
  intro hy
  have ht := (flush0_22 t).mp hf
  have h64 := lt64 t
  obtain ⟨e0, e1⟩ := at_22 t
  have h1 : win0_22.index t (1 : Fin 2) * 512 + 1 * (y 1).val = l.val := congrArg (fun i => (i (1 : Fin 2)).val) hy
  have b0 : (y 0).val < 1 := (y 0).isLt
  have hyy : (cfg0.win 22).xinj (cfg0.grid.coords t) y = ix2 0 l := by
    funext b
    refine Fin.ext ?_
    match b with
    | ⟨0, _⟩ => show (y 0).val = 0; omega
    | ⟨1, _⟩ => show (y 1).val = l.val; rw [e1] at h1; omega
  show (dats m 0 c).after 22 t ((cfg0.win 22).xinj (cfg0.grid.coords t) y) = _
  rw [hyy, after0_22]
  refine (q_after m c hz l t.val t.isLt).trans ?_
  rw [← upTo_all]
  exact congrArg (upTo (qPart m c l)) (by omega)
include hz in
/-- The key scale's gradient after the run. -/
theorem arr_k (l : Fin 128) : (dats m 0 c).arrAt 23 cfg0.N (ix2 0 l) = (∑ t, kPart m c l t : EReal) := by
  refine (dats m 0 c).arrAt_forall_of_covers 23 (fun i v => i = ix2 0 l → v = (∑ t, kPart m c l t : EReal)) (by decide +kernel) (fun t hf y => ?_)
    _ (Memref.isWhole_whole _) rfl
  intro hy
  have ht := (flush0_23 t).mp hf
  have h64 := lt64 t
  obtain ⟨e0, e1⟩ := at_23 t
  have h1 : win0_23.index t (1 : Fin 2) * 128 + 1 * (y 1).val = l.val := congrArg (fun i => (i (1 : Fin 2)).val) hy
  have b0 : (y 0).val < 1 := (y 0).isLt
  have hyy : (cfg0.win 23).xinj (cfg0.grid.coords t) y = ix2 0 l := by
    funext b
    refine Fin.ext ?_
    match b with
    | ⟨0, _⟩ => show (y 0).val = 0; omega
    | ⟨1, _⟩ => show (y 1).val = l.val; rw [e1] at h1; omega
  show (dats m 0 c).after 23 t ((cfg0.win 23).xinj (cfg0.grid.coords t) y) = _
  rw [hyy, after0_23]
  refine (k_after m c hz l t.val t.isLt).trans ?_
  rw [← upTo_all]
  exact congrArg (upTo (kPart m c l)) (by omega)

/-- The rows of the normalised input that a point writes. -/
theorem h_after (t : Fin cfg0.N) : (outsAt0 m c t.val t.isLt).2.2.1 = k0_pay73 (iblk m c 1 t) (iblk m c 11 t) := by
  by_cases h0 : t.val % 64 = 0
  · exact h_A m c t h0
  · exact h_B m c t h0
theorem h_rows (x : Vec Ideal S256x1024 .f32) (g : Vec Ideal S1x1024 .f32) (t : Fin cfg0.N) (hx : ∀ r k, x (ix2 r k) = (aX m c (tok t r) k : EReal))
    (hg : ∀ k, g (ix2 0 k) = (aG m c k : EReal)) (r : Fin 256) (k : Fin 1024) :
    (k0_pay73 x g : FVec Ideal S256x1024 .bf16) (ix2 r k) = hrow (aX m c (tok t r)) (aG m c) k := by
  rw [hrow_apply]
  simp only [hx, hg]
  rfl
theorem rows_apply (x : FVec Ideal S1x16384x1024 .f32) (t : Fin 16384) (k : Fin 1024) : rowsT x (ix2 t k) = x (ix3 0 t k) := by
  unfold rowsT; pointwise []
theorem scale_apply (g : FVec Ideal S1024 .f32) (k : Fin 1024) :
    (broadcastInDim S1x1024 ![1] bcast_S1024_S1x1024_1 g : FVec Ideal S1x1024 .f32) (ix2 0 k) = g (ix1 k) := by
  pointwise []
theorem h_at (t : Fin cfg0.N) (r : Fin 256) (k : Fin 1024) :
    (k0_pay73 (iblk m c 1 t) (iblk m c 11 t) : FVec Ideal S256x1024 .bf16) (ix2 r k) = hrow (aX m c (tok t r)) (aG m c) k :=
  h_rows m c _ _ t (fun r k => (B_x m c t r k).trans (rows_apply _ _ _)) (fun k => (B_g m c t k).trans (scale_apply _ _)) r k

/-- The normalised input after the run. -/
theorem arr_h (n : Fin 16384) (k : Fin 1024) : (dats m 0 c).arrAt 20 cfg0.N (ix2 n k) = (hrow (aX m c n) (aG m c) k : EReal) := by
  refine (dats m 0 c).arrAt_forall_of_covers 20 (fun i v => i = ix2 n k → v = (hrow (aX m c n) (aG m c) k : EReal)) (by decide +kernel) (fun t hf y => ?_)
    _ (Memref.isWhole_whole _) rfl
  intro hy
  obtain ⟨e0, e1⟩ := at_20 t
  have h0 : win0_20.index t (0 : Fin 2) * 256 + 1 * (y 0).val = n.val := congrArg (fun i => (i (0 : Fin 2)).val) hy
  have h1 : win0_20.index t (1 : Fin 2) * 1024 + 1 * (y 1).val = k.val := congrArg (fun i => (i (1 : Fin 2)).val) hy
  have b0 : (y 0).val < 256 := (y 0).isLt
  have hyy : (cfg0.win 20).xinj (cfg0.grid.coords t) y = ix2 ⟨(y 0).val, b0⟩ k := by
    funext b
    refine Fin.ext ?_
    match b with
    | ⟨0, _⟩ => rfl
    | ⟨1, _⟩ => show (y 1).val = k.val; rw [e1] at h1; omega
  show (dats m 0 c).after 20 t ((cfg0.win 20).xinj (cfg0.grid.coords t) y) = _
  rw [hyy, after0_20, h_after]
  refine (h_at m c t ⟨(y 0).val, b0⟩ k).trans ?_
  have : tok t ⟨(y 0).val, b0⟩ = n := Fin.ext (by show t.val * 256 + (y 0).val = n.val; rw [e0] at h0; omega)
  rw [this]

end Cert.HeadNorm

end
-- ==== Proof.InRef.lean ====
/-
  The second reference at an index.
-/
module

public import proofs.«01_k».proof.Proof.Gen.Reference2Ideal.Read
public import proofs.«01_k».proof.Proof.InSpec
public import Idealize.ShloMosaic.Lib.Pointwise

@[expose] public section

set_option maxRecDepth 16384

noncomputable section

namespace Cert.HeadNorm.Ref

open Cert.Reference2Ideal Cert.Reference2Ideal.Gen Cert.Reference2Ideal.Read
open Idealize.ShloMosaic Idealize.ShloMosaic.TcCoe Idealize.ShloMosaic.StableHlo
open scoped BigOperators

theorem row_apply (t : Fin 16384) : val_main_v24 (F := Ideal) (ix1 t) = BitVec.ofNat 32 (t.val / 64) := by
  pointwise [val_main_v24, val_main_v23, val_main_v22]
theorem col_apply (t : Fin 16384) : val_main_v29 (F := Ideal) (ix1 t) = BitVec.ofNat 32 (t.val % 64) := by
  pointwise [val_main_v29, val_main_v28, val_main_v27, val_main_v26]
theorem angr_apply (t : Fin 16384) (j : Fin 16) : val_main_v58 (F := Ideal) (ix2 t j) = ang (t.val / 64) j.val := by
  pointwise [val_main_v58, val_main_v57, val_main_v56, val_main_v55, val_main_v54, val_main_v53, val_main_v52, val_main_v51, val_main_v50, val_main_v49,
    val_main_v48, val_main_v25, val_main_cst_5, val_main_cst_6]
  exact congrArg (fun w => FloatOps.sitofp (F := Ideal) .f32 w * fr j.val) (row_apply t)
theorem angc_apply (t : Fin 16384) (j : Fin 16) : val_main_v91 (F := Ideal) (ix2 t j) = ang (t.val % 64) j.val := by
  pointwise [val_main_v91, val_main_v90, val_main_v89, val_main_v88, val_main_v87, val_main_v86, val_main_v85, val_main_v84, val_main_v83, val_main_v82,
    val_main_v81, val_main_v30, val_main_cst_7, val_main_cst_8]
  exact congrArg (fun w => FloatOps.sitofp (F := Ideal) .f32 w * fr j.val) (col_apply t)
theorem angr_k_apply (t : Fin 16384) (j : Fin 16) : val_main_v139 (F := Ideal) (ix2 t j) = ang (t.val / 64) j.val := by
  pointwise [val_main_v139, val_main_v138, val_main_v137, val_main_v136, val_main_v135, val_main_v134, val_main_v133, val_main_v132, val_main_v131, val_main_v130,
    val_main_v129, val_main_v25, val_main_cst_12, val_main_cst_13]
  exact congrArg (fun w => FloatOps.sitofp (F := Ideal) .f32 w * fr j.val) (row_apply t)
theorem angc_k_apply (t : Fin 16384) (j : Fin 16) : val_main_v172 (F := Ideal) (ix2 t j) = ang (t.val % 64) j.val := by
  pointwise [val_main_v172, val_main_v171, val_main_v170, val_main_v169, val_main_v168, val_main_v167, val_main_v166, val_main_v165, val_main_v164, val_main_v163,
    val_main_v162, val_main_v30, val_main_cst_14, val_main_cst_15]
  exact congrArg (fun w => FloatOps.sitofp (F := Ideal) .f32 w * fr j.val) (col_apply t)
/-- The rotated lane read off its own pair: an odd quarter, and an even one. -/
theorem turn_odd (d : Fin 64 → EReal) (t : ℕ) (q i k : Fin 64) (n m : ℕ) (hi : i = q) (hk : k = mate q) (hn : n = place t q) (hm : m = q.val % 16)
    (h : ¬ q.val / 16 % 2 = 0) : d i * Ideal.cos (ang n m) + -d k * Ideal.sin (ang n m) = turn d t q := by
  rw [hi, hk, hn, hm]; unfold turn flip; rw [if_neg h, mul_neg, neg_mul]
theorem turn_even (d : Fin 64 → EReal) (t : ℕ) (q i k : Fin 64) (n m : ℕ) (hi : i = q) (hk : k = mate q) (hn : n = place t q) (hm : m = q.val % 16)
    (h : q.val / 16 % 2 = 0) : d k * Ideal.sin (ang n m) + d i * Ideal.cos (ang n m) = turn d t q := by
  rw [hi, hk, hn, hm]; unfold turn flip; rw [if_pos h, add_comm]
/-- The four quarters of a head put together. -/
theorem quarters (d : Fin 64 → EReal) (t : Fin 16384) (q : Fin 64) :
    ((if h_1 : 32 ≤ q.val ∧ q.val - 32 < 32 then
        (if h_2 : 16 ≤ q.val - 32 ∧ q.val - 32 - 16 < 16 then
            d ⟨32 + (16 + (q.val - 32 - 16)), by omega⟩ * Ideal.cos (ang (t.val % 64) (q.val - 32 - 16)) +
              -d ⟨32 + (q.val - 32 - 16), by omega⟩ * Ideal.sin (ang (t.val % 64) (q.val - 32 - 16))
          else 0) +
          if h_2 : q.val - 32 < 16 then
            d ⟨32 + (16 + (q.val - 32)), by omega⟩ * Ideal.sin (ang (t.val % 64) (q.val - 32)) +
              d ⟨32 + (q.val - 32), by omega⟩ * Ideal.cos (ang (t.val % 64) (q.val - 32))
          else 0
      else 0) +
      if h_1 : q.val < 32 then
        (if h_2 : 16 ≤ q.val ∧ q.val - 16 < 16 then
            d ⟨16 + (q.val - 16), by omega⟩ * Ideal.cos (ang (t.val / 64) (q.val - 16)) +
              -d ⟨q.val - 16, by omega⟩ * Ideal.sin (ang (t.val / 64) (q.val - 16))
          else 0) +
          if h_2 : q.val < 16 then
            d ⟨16 + q.val, by omega⟩ * Ideal.sin (ang (t.val / 64) q.val) + d q * Ideal.cos (ang (t.val / 64) q.val)
          else 0
      else 0) = turn d t.val q := by
  by_cases h1 : 32 ≤ q.val
  · rw [dif_pos (show 32 ≤ q.val ∧ q.val - 32 < 32 by omega), dif_neg (show ¬ q.val < 32 by omega), add_zero]
    have hn : t.val % 64 = place t.val q.val := by unfold place; rw [if_neg (by omega)]
    by_cases h2 : q.val - 32 < 16
    · rw [dif_neg (show ¬ (16 ≤ q.val - 32 ∧ q.val - 32 - 16 < 16) by omega), dif_pos h2, zero_add]
      have e : q.val / 16 % 2 = 0 := by omega
      exact turn_even d t.val q _ _ _ _ (Fin.ext (by show 32 + (q.val - 32) = q.val; omega))
        (by unfold mate; rw [dif_pos e]; exact Fin.ext (by show 32 + (16 + (q.val - 32)) = q.val + 16; omega)) hn (by omega) e
    · rw [dif_pos (show 16 ≤ q.val - 32 ∧ q.val - 32 - 16 < 16 by omega), dif_neg h2, add_zero]
      have e : ¬ q.val / 16 % 2 = 0 := by omega
      exact turn_odd d t.val q _ _ _ _ (Fin.ext (by show 32 + (16 + (q.val - 32 - 16)) = q.val; omega))
        (by unfold mate; rw [dif_neg e]; exact Fin.ext (by show 32 + (q.val - 32 - 16) = q.val - 16; omega)) hn (by omega) e
  · rw [dif_neg (show ¬ (32 ≤ q.val ∧ q.val - 32 < 32) by omega), dif_pos (show q.val < 32 by omega), zero_add]
    have hn : t.val / 64 = place t.val q.val := by unfold place; rw [if_pos (by omega)]
    by_cases h2 : q.val < 16
    · rw [dif_neg (show ¬ (16 ≤ q.val ∧ q.val - 16 < 16) by omega), dif_pos h2, zero_add]
      have e : q.val / 16 % 2 = 0 := by omega
      exact turn_even d t.val q _ _ _ _ rfl (by unfold mate; rw [dif_pos e]; exact Fin.ext (by show 16 + q.val = q.val + 16; omega)) hn (by omega) e
    · rw [dif_pos (show 16 ≤ q.val ∧ q.val - 16 < 16 by omega), dif_neg h2, add_zero]
      have e : ¬ q.val / 16 % 2 = 0 := by omega
      exact turn_odd d t.val q _ _ _ _ (Fin.ext (by show 16 + (q.val - 16) = q.val; omega))
        (by unfold mate; rw [dif_neg e]) hn (by omega) e
/-- The rotation's transpose at a lane. -/
theorem turn_apply (d : FVec Ideal S1x16384x8x64 .f32) (t : Fin 16384) (h : Fin 8) (q : Fin 64) :
    val_main_v272 (F := Ideal) d (ix4 0 t h q) = turn (fun q => d (ix4 0 t h q)) t.val q := by
  pointwise [val_main_v272, val_main_v254, val_main_v253, val_main_v252, val_main_v251, val_main_v250, val_main_v249, val_main_v248, val_main_v247, val_main_v246,
    val_main_v245, val_main_v244, val_main_v243, val_main_v242, val_main_v241, val_main_v240, val_main_v239, val_main_v238, val_main_v237, val_main_v271,
    val_main_v270, val_main_v269, val_main_v268, val_main_v267, val_main_v266, val_main_v265, val_main_v264, val_main_v263, val_main_v262, val_main_v261,
    val_main_v260, val_main_v259, val_main_v258, val_main_v257, val_main_v256, val_main_v255, val_main_v236, val_main_v108, val_main_v105, val_main_v101,
    val_main_v98, val_main_v95, val_main_v94, val_main_v93, val_main_v92, val_main_v75, val_main_v72, val_main_v68, val_main_v65, val_main_v62,
    val_main_v61, val_main_v60, val_main_v59, val_main_cst_24, val_main_cst_25, val_main_cst_26, val_main_cst_27, val_main_cst_28, val_main_cst_29]
  simp only [angr_apply, angc_apply]
  exact quarters (fun q => d (ix4 0 t h q)) t q
/-- The rotation's transpose at a lane. -/
theorem turn_k_apply (d : FVec Ideal S1x16384x2x64 .f32) (t : Fin 16384) (h : Fin 2) (q : Fin 64) :
    val_main_v231 (F := Ideal) d (ix4 0 t h q) = turn (fun q => d (ix4 0 t h q)) t.val q := by
  pointwise [val_main_v231, val_main_v195, val_main_v196, val_main_v197, val_main_v198, val_main_v199, val_main_v200, val_main_v201, val_main_v202, val_main_v203,
    val_main_v204, val_main_v205, val_main_v206, val_main_v207, val_main_v208, val_main_v209, val_main_v210, val_main_v211, val_main_v212, val_main_v213,
    val_main_v214, val_main_v215, val_main_v216, val_main_v217, val_main_v218, val_main_v219, val_main_v220, val_main_v221, val_main_v222, val_main_v223,
    val_main_v224, val_main_v225, val_main_v226, val_main_v227, val_main_v228, val_main_v229, val_main_v230, val_main_v189, val_main_v186, val_main_v182,
    val_main_v179, val_main_v176, val_main_v175, val_main_v174, val_main_v173, val_main_v156, val_main_v153, val_main_v149, val_main_v146, val_main_v143,
    val_main_v142, val_main_v141, val_main_v140, val_main_cst_16, val_main_cst_17, val_main_cst_18, val_main_cst_19, val_main_cst_20, val_main_cst_21]
  simp only [angr_k_apply, angc_k_apply]
  exact quarters (fun q => d (ix4 0 t h q)) t q
/-- The projection. -/
theorem proj_apply (x : FVec Ideal S1x16384x1024 .f32) (g : FVec Ideal S1024 .f32) (w : FVec Ideal S1024x2816 .f32) (t : Fin 16384) (c : Fin 2816) :
    val_main_v13 (F := Ideal) x g w (ix3 0 t c) = proj (fun t k => x (ix3 0 t k)) (fun k => g (ix1 k)) (fun k c => w (ix2 k c)) t c := by
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]
  rfl
/-- The normalised input. -/
theorem hrow_apply (x : FVec Ideal S1x16384x1024 .f32) (g : FVec Ideal S1024 .f32) (t : Fin 16384) (c : Fin 1024) :
    (val_main_v278 (F := Ideal) x g (ix2 t c) : EReal) = hrow (fun k => x (ix3 0 t k)) (fun k => g (ix1 k)) c := by
  pointwise [val_main_v278, val_main_v277, val_main_v12, val_main_v11, val_main_v10, val_main_v9, val_main_v8, val_main_v7, val_main_v6, val_main_v5, val_main_v4,
    val_main_v3, val_main_v2, val_main_v1, val_main_v0, val_main_cst, val_main_cst_0, val_main_cst_1]
  rfl
/-- A query head, and a key head, scaled to unit mean square. -/
theorem unit_apply (x : FVec Ideal S1x16384x1024 .f32) (g : FVec Ideal S1024 .f32) (w : FVec Ideal S1024x2816 .f32) (t : Fin 16384) (h : Fin 8) (q : Fin 64) :
    val_main_v43 (F := Ideal) x g w (ix4 0 t h q)
      = unit (fun q => (proj (fun t k => x (ix3 0 t k)) (fun k => g (ix1 k)) (fun k c => w (ix2 k c)) t ⟨h.val * 64 + q.val, by omega⟩)) q := by
  pointwise [val_main_v43, val_main_v42, val_main_v41, val_main_v40, val_main_v39, val_main_v38, val_main_v37, val_main_v36, val_main_v35, val_main_v34,
    val_main_v33, val_main_v31, val_main_cst_2, val_main_cst_3, val_main_cst_4]
  simp only [proj_apply]
  rfl
theorem unit_k_apply (x : FVec Ideal S1x16384x1024 .f32) (g : FVec Ideal S1024 .f32) (w : FVec Ideal S1024x2816 .f32) (t : Fin 16384) (h : Fin 2) (q : Fin 64) :
    val_main_v124 (F := Ideal) x g w (ix4 0 t h q)
      = unit (fun q => (proj (fun t k => x (ix3 0 t k)) (fun k => g (ix1 k)) (fun k c => w (ix2 k c)) t ⟨512 + (h.val * 64 + q.val), by omega⟩)) q := by
  pointwise [val_main_v124, val_main_v123, val_main_v122, val_main_v121, val_main_v120, val_main_v119, val_main_v118, val_main_v117, val_main_v116, val_main_v115,
    val_main_v114, val_main_v32, val_main_cst_9, val_main_cst_10, val_main_cst_11]
  simp only [proj_apply]
  rfl
/-- A reduction over two axes of one entry reads that entry. -/
theorem drop_8 (i : S1x1x8x64.Idx) : reducesTo_S1x1x8x64_S8x64_d0_1.drop i = ix2 (i 2) (i 3) := by
  funext b; match b with | ⟨0, _⟩ => rfl | ⟨1, _⟩ => rfl
theorem one_8 (x : S1x1x8x64.Idx → EReal) (a : Fin 8) (b : Fin 64) :
    Ideal.hostReduceAdd reducesTo_S1x1x8x64_S8x64_d0_1 x 0 (ix2 a b) = x (ix4 0 0 a b) := by
  unfold Ideal.hostReduceAdd
  rw [zero_add]
  have hm : ix4 0 0 a b ∈ Finset.univ.filter (fun i => reducesTo_S1x1x8x64_S8x64_d0_1.drop i = ix2 a b) :=
    Finset.mem_filter.2 ⟨Finset.mem_univ _, drop_8 (ix4 0 0 a b)⟩
  refine Finset.sum_eq_single_of_mem _ hm fun i hi hne => absurd ?_ hne
  obtain ⟨k, l, u, v, rfl⟩ : ∃ k l u v, i = ix4 k l u v := ⟨_, _, _, _, eq_ix4 i⟩
  have e := (drop_8 _).symm.trans (Finset.mem_filter.1 hi).2
  have e0 : u = a := congrFun e 0
  have e1 : v = b := congrFun e 1
  rw [e0, e1, Subsingleton.elim k 0, Subsingleton.elim l 0]
/-- The gradient of the heads' scale at a lane: the sum of the tokens' parts. -/
theorem gq_apply (x : FVec Ideal S1x16384x1024 .f32) (g : FVec Ideal S1024 .f32) (w : FVec Ideal S1024x2816 .f32) (d : FVec Ideal S1x16384x8x64 .f32) (c : Fin 512) :
    val_main_v279 (F := Ideal) x g w d (ix2 0 c)
      = ∑ t : Fin 16384, part (fun q => (proj (fun t k => x (ix3 0 t k)) (fun k => g (ix1 k)) (fun k c => w (ix2 k c)) t ⟨(c.val / 64 * 64 + q.val), by omega⟩)) (fun q => d (ix4 0 t ⟨c.val / 64, by omega⟩ q)) t.val ⟨c.val % 64, by omega⟩ := by
  have e : val_main_v279 (F := Ideal) x g w d (ix2 0 c)
      = val_main_v276 (F := Ideal) x g w d (ix2 ⟨c.val / 64, by omega⟩ ⟨c.val % 64, by omega⟩) := by
    unfold val_main_v279; generalize val_main_v276 (F := Ideal) x g w d = y; pointwise []
  have e2 : ∀ a b, val_main_v276 (F := Ideal) x g w d (ix2 a b) = val_main_v275 (F := Ideal) x g w d (ix4 0 0 a b) := by
    intro a b
    unfold val_main_v276
    rw [ValueIdx.hostReduceAdd_apply, val_main_cst_31, constant_apply]
    exact (congrArg (fun z => Ideal.hostReduceAdd _ _ z _) Ideal.ofBits_zero_f32).trans (one_8 _ a b)
  rw [e, e2]
  pointwise [val_main_v275, val_main_v274, val_main_v273, val_main_cst_30]
  simp only [unit_apply, turn_apply]
  rfl
/-- A reduction over two axes of one entry reads that entry. -/
theorem drop_2 (i : S1x1x2x64.Idx) : reducesTo_S1x1x2x64_S2x64_d0_1.drop i = ix2 (i 2) (i 3) := by
  funext b; match b with | ⟨0, _⟩ => rfl | ⟨1, _⟩ => rfl
theorem one_2 (x : S1x1x2x64.Idx → EReal) (a : Fin 2) (b : Fin 64) :
    Ideal.hostReduceAdd reducesTo_S1x1x2x64_S2x64_d0_1 x 0 (ix2 a b) = x (ix4 0 0 a b) := by
  unfold Ideal.hostReduceAdd
  rw [zero_add]
  have hm : ix4 0 0 a b ∈ Finset.univ.filter (fun i => reducesTo_S1x1x2x64_S2x64_d0_1.drop i = ix2 a b) :=
    Finset.mem_filter.2 ⟨Finset.mem_univ _, drop_2 (ix4 0 0 a b)⟩
  refine Finset.sum_eq_single_of_mem _ hm fun i hi hne => absurd ?_ hne
  obtain ⟨k, l, u, v, rfl⟩ : ∃ k l u v, i = ix4 k l u v := ⟨_, _, _, _, eq_ix4 i⟩
  have e := (drop_2 _).symm.trans (Finset.mem_filter.1 hi).2
  have e0 : u = a := congrFun e 0
  have e1 : v = b := congrFun e 1
  rw [e0, e1, Subsingleton.elim k 0, Subsingleton.elim l 0]
/-- The gradient of the heads' scale at a lane: the sum of the tokens' parts. -/
theorem gk_apply (x : FVec Ideal S1x16384x1024 .f32) (g : FVec Ideal S1024 .f32) (w : FVec Ideal S1024x2816 .f32) (d : FVec Ideal S1x16384x2x64 .f32) (c : Fin 128) :
    val_main_v280 (F := Ideal) x g w d (ix2 0 c)
      = ∑ t : Fin 16384, part (fun q => (proj (fun t k => x (ix3 0 t k)) (fun k => g (ix1 k)) (fun k c => w (ix2 k c)) t ⟨512 + (c.val / 64 * 64 + q.val), by omega⟩)) (fun q => d (ix4 0 t ⟨c.val / 64, by omega⟩ q)) t.val ⟨c.val % 64, by omega⟩ := by
  have e : val_main_v280 (F := Ideal) x g w d (ix2 0 c)
      = val_main_v235 (F := Ideal) x g w d (ix2 ⟨c.val / 64, by omega⟩ ⟨c.val % 64, by omega⟩) := by
    unfold val_main_v280; generalize val_main_v235 (F := Ideal) x g w d = y; pointwise []
  have e2 : ∀ a b, val_main_v235 (F := Ideal) x g w d (ix2 a b) = val_main_v234 (F := Ideal) x g w d (ix4 0 0 a b) := by
    intro a b
    unfold val_main_v235
    rw [ValueIdx.hostReduceAdd_apply, val_main_cst_23, constant_apply]
    exact (congrArg (fun z => Ideal.hostReduceAdd _ _ z _) Ideal.ofBits_zero_f32).trans (one_2 _ a b)
  rw [e, e2]
  pointwise [val_main_v234, val_main_v233, val_main_v232, val_main_cst_22]
  simp only [unit_k_apply, turn_k_apply]
  rfl

end Cert.HeadNorm.Ref

end
-- ==== Proof.InValue.lean ====
/-
  The value of the second pair: over finite input, scale and projection the kernel and the reference end with the same normalised input and the
  same gradients of the two head norms' scales.
-/
module

public import proofs.«01_k».proof.Proof.InSum
public import proofs.«01_k».proof.Proof.InRef
public import proofs.«01_k».proof.Defs

@[expose] public section

set_option maxRecDepth 16384

noncomputable section

namespace Cert.HeadNorm

open Idealize.ShloMosaic Idealize.ShloMosaic.TcCoe Idealize.SL.Sem
open Cert.Attn
open scoped BigOperators
open Cert.Kernel2Ideal (S1x16384x1024 S1024 S1024x2816 S16384x1024 S1x512 S1x128 S1x16384x8x64 S1x16384x2x64)

theorem pre_facts : Cert.Pre_finite2.Facts := ⟨by decide, by decide, by decide⟩

section
variable (m : (ℓ : Loc Cert.Kernel2Ideal.nD Cert.Kernel2Ideal.τ Cert.Kernel2Ideal.sig) → Buf (Elt Ideal) ℓ)
variable (hp : Cert.Pre_Kernel2Ideal_finite2 (hPre_finite2 := pre_facts) m) (c : Dev Cert.Kernel2Ideal.nD)
include hp in
/-- The projection of the arguments of the launch is finite. -/
theorem proj_at (t : Fin 16384) (j : Fin 2816) : ∃ r : ℝ, proj (aX m c) (aG m c) (aW m c) t j = (r : EReal) :=
  proj_real _ _ _ (fun t k => ⟨_, (real_of_pre _ _ (fun _ => ofBits_pos_inf) (hp c).1 _).symm⟩)
    (fun k => ⟨_, (real_of_pre _ _ (fun _ => ofBits_pos_inf) (hp c).2.1 _).symm⟩)
    (fun k j => ⟨_, (real_of_pre _ _ (fun _ => ofBits_pos_inf) (hp c).2.2 _).symm⟩) t j
end

/-- Arrays that agree at every coordinate are equal. -/
theorem ext_h (x y : FVec Ideal S16384x1024 .bf16) (h : ∀ t k, x (ix2 t k) = y (ix2 t k)) : x = y := by
  funext n
  obtain ⟨t, k, rfl⟩ : ∃ n0 n1, n = ix2 n0 n1 := ⟨_, _, eq_ix2 n⟩
  exact h t k
theorem ext_gq (x y : FVec Ideal S1x512 .f32) (h : ∀ l, x (ix2 0 l) = y (ix2 0 l)) : x = y := by
  funext n
  obtain ⟨t, l, rfl⟩ : ∃ n0 n1, n = ix2 n0 n1 := ⟨_, _, eq_ix2 n⟩
  obtain rfl : t = 0 := Subsingleton.elim _ _
  exact h l
theorem ext_gk (x y : FVec Ideal S1x128 .f32) (h : ∀ l, x (ix2 0 l) = y (ix2 0 l)) : x = y := by
  funext n
  obtain ⟨t, l, rfl⟩ : ∃ n0 n1, n = ix2 n0 n1 := ⟨_, _, eq_ix2 n⟩
  obtain rfl : t = 0 := Subsingleton.elim _ _
  exact h l

/-- A row of the normalised input, and the two gradients, in the arrays of the arguments. -/
def hOf (x : FVec Ideal S1x16384x1024 .f32) (g : FVec Ideal S1024 .f32) (t : Fin 16384) (k : Fin 1024) : EReal := hrow (fun k => x (ix3 0 t k)) (fun k => g (ix1 k)) k
def qOf (x : FVec Ideal S1x16384x1024 .f32) (g : FVec Ideal S1024 .f32) (w : FVec Ideal S1024x2816 .f32) (d : FVec Ideal S1x16384x8x64 .f32) (l : Fin 512) : EReal :=
  ∑ t : Fin 16384, part (fun q => proj (fun t k => x (ix3 0 t k)) (fun k => g (ix1 k)) (fun k c => w (ix2 k c)) t ⟨l.val / 64 * 64 + q.val, by omega⟩)
    (fun q => d (ix4 0 t ⟨l.val / 64, by omega⟩ q)) t.val ⟨l.val % 64, by omega⟩
def kOf (x : FVec Ideal S1x16384x1024 .f32) (g : FVec Ideal S1024 .f32) (w : FVec Ideal S1024x2816 .f32) (d : FVec Ideal S1x16384x2x64 .f32) (l : Fin 128) : EReal :=
  ∑ t : Fin 16384, part (fun q => proj (fun t k => x (ix3 0 t k)) (fun k => g (ix1 k)) (fun k c => w (ix2 k c)) t ⟨512 + (l.val / 64 * 64 + q.val), by omega⟩)
    (fun q => d (ix4 0 t ⟨l.val / 64, by omega⟩ q)) t.val ⟨l.val % 64, by omega⟩

theorem h_cong {x x' : FVec Ideal S1x16384x1024 .f32} {g g' : FVec Ideal S1024 .f32} (hx : x = x') (hg : g = g') (t : Fin 16384) (k : Fin 1024) :
    hOf x g t k = hOf x' g' t k := by rw [hx, hg]
theorem q_cong {x x' : FVec Ideal S1x16384x1024 .f32} {g g' : FVec Ideal S1024 .f32} {w w' : FVec Ideal S1024x2816 .f32} {d d' : FVec Ideal S1x16384x8x64 .f32}
    (hx : x = x') (hg : g = g') (hw : w = w') (hd : d = d') (l : Fin 512) : qOf x g w d l = qOf x' g' w' d' l := by rw [hx, hg, hw, hd]
theorem k_cong {x x' : FVec Ideal S1x16384x1024 .f32} {g g' : FVec Ideal S1024 .f32} {w w' : FVec Ideal S1024x2816 .f32} {d d' : FVec Ideal S1x16384x2x64 .f32}
    (hx : x = x') (hg : g = g') (hw : w = w') (hd : d = d') (l : Fin 128) : kOf x g w d l = kOf x' g' w' d' l := by rw [hx, hg, hw, hd]

theorem value : Cert.algebraic_Kernel2Ideal_Reference2Ideal_pre_finite2 (hPre_finite2 := pre_facts) := by
  intro m g m' g' hp hagree
  refine ⟨fun c => (Cert.Kernel2Ideal.Gen.dats m 0 c).arrAt 20 Cert.Kernel2Ideal.cfg0.N, fun c => (Cert.Kernel2Ideal.Gen.dats m 0 c).arrAt 22 Cert.Kernel2Ideal.cfg0.N,
    fun c => (Cert.Kernel2Ideal.Gen.dats m 0 c).arrAt 23 Cert.Kernel2Ideal.cfg0.N, ?_, ?_⟩
  · refine (θ_run _ _ _).mono (fun r h c => ?_) (Cert.Kernel2Ideal.Value.run_blocks m g)
    obtain ⟨-, -, h2, -, h4, h5, hk⟩ := h c
    exact ⟨h2, h4, h5, hk⟩
  · refine (θ_run _ _ _).mono (fun r h c => ?_) (Cert.Reference2Ideal.Value.run (F := Ideal) m' g')
    obtain ⟨e0, e1, e2, hk⟩ := h c
    obtain ⟨a0, a1, a2, -, -, -, -, a7, a8, -⟩ := hagree c
    have hz := proj_at m hp c
    refine ⟨(e0.trans (Cert.Reference2Ideal.Read.val_main_v278_eq _)).trans (ext_h _ _ fun t k => ?_),
      (e1.trans (Cert.Reference2Ideal.Read.val_main_v279_eq _)).trans (ext_gq _ _ fun l => ?_),
      (e2.trans (Cert.Reference2Ideal.Read.val_main_v280_eq _)).trans (ext_gk _ _ fun l => ?_), hk⟩
    · exact (Ref.hrow_apply _ _ t k).trans (Eq.trans (h_cong a0 a1 t k) (arr_h m c t k).symm)
    · exact (Ref.gq_apply _ _ _ _ l).trans (Eq.trans (q_cong a0 a1 a2 a7 l) (arr_q m c hz l).symm)
    · exact (Ref.gk_apply _ _ _ _ l).trans (Eq.trans (k_cong a0 a1 a2 a8 l) (arr_k m c hz l).symm)

end Cert.HeadNorm

end
-- ==== Proof.OutFrames.lean ====
/-
  The third kernel's frames over bits and over extended reals: one run, over any float values.
-/
module

public import proofs.«01_k».proof.Proof.Gen.Kernel3Ideal.Frame
public import proofs.«01_k».proof.Proof.Gen.Kernel3
public import proofs.«01_k».proof.Defs

@[expose] public section

set_option maxRecDepth 16384

noncomputable section

namespace Cert.OutNorm

open Cert.Kernel3Ideal Cert.Kernel3Ideal.Gen
open Idealize.ShloMosaic Idealize.ShloMosaic.TcCoe Idealize.SL.Sem

theorem frame_ideal : Cert.quiescent_Kernel3Ideal := fun m ρ _ => Cert.Kernel3Ideal.Gen.frame m ρ

/-- The frame over bits, of the ideal program's text. -/
def FrameBits : Prop :=
  ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

/-- The two programs have the same text. -/
theorem same_text : Cert.quiescent_Kernel3 = FrameBits := by sl_kernel_rfl

theorem frame_kernel : Cert.quiescent_Kernel3 := same_text.mpr fun m ρ _ => Cert.Kernel3Ideal.Gen.frame (F := Bits) m ρ

end Cert.OutNorm

end
-- ==== Proof.OutPay.lean ====
/-
  What one block of rows adds to the gradient of the output norm's scale.
-/
module

public import proofs.«01_k».proof.Proof.Gen.Kernel3Ideal.Skeleton
public import Idealize.ShloMosaic.Lib.Pointwise
public import Idealize.ShloMosaic.Lib.ValueIdx

@[expose] public section

set_option maxRecDepth 16384

noncomputable section

namespace Cert.OutNorm

open Cert.Kernel3Ideal Cert.Kernel3Ideal.Gen
open Idealize.ShloMosaic Idealize.ShloMosaic.TcCoe
open scoped BigOperators

/-- A row divided by the root of its mean square, at a lane. -/
def unit (x : Fin 1024 → EReal) (k : Fin 1024) : EReal :=
  x k * Ideal.rsqrt (Ideal.div (∑ k', x k' * x k') (Ideal.ofBits .f32 0x44800000#32) + Ideal.ofBits .f32 0x358637BD#32)

/-- The gradient after a block of cotangents `d` and rows `x`. -/
def step (d x : Vec Ideal S256x1024 .f32) (a : Vec Ideal S1x1024 .f32) : Vec Ideal S1x1024 .f32 := k0_pay71 (k0_pay67 d) (k0_pay68 x) (k0_pay69 x) a

theorem step_apply (d x : Vec Ideal S256x1024 .f32) (a : Vec Ideal S1x1024 .f32) (k : Fin 1024) :
    step d x a (ix2 0 k) = (a (ix2 0 k) + ∑ r : Fin 256, unit (fun k => x (ix2 r k)) k * d (ix2 r k) : EReal) := by
  have h : step d x a (ix2 0 k) = (a (ix2 0 k) + ∑ r : Fin 256, d (ix2 r k) * x (ix2 r k)
      * Ideal.rsqrt (Ideal.div (∑ k' : Fin 1024, x (ix2 r k') * x (ix2 r k')) (Ideal.ofBits .f32 0x44800000#32) + Ideal.ofBits .f32 0x358637BD#32) : EReal) := by
    unfold step
    pointwise [k0_pay71, k0_pay67, k0_pay68, k0_pay69]
  refine h.trans (congrArg (fun e : EReal => a (ix2 0 k) + e) (Finset.sum_congr rfl fun r _ => ?_))
  exact (mul_assoc _ _ _).trans (mul_comm _ _)

theorem zero_apply (k : Fin 1024) : (k0_pay4 (F := Ideal)) (ix2 0 k) = (0 : EReal) := by
  pointwise [k0_pay4]

end Cert.OutNorm

end
-- ==== Proof.OutPoint.lean ====
/-
  What a point of the third kernel's grid leaves in the gradient.
-/
module

public import proofs.«01_k».proof.Proof.Gen.Kernel3Ideal.Value
public import proofs.«01_k».proof.Proof.OutPay

@[expose] public section

set_option maxRecDepth 16384

noncomputable section

namespace Cert.OutNorm

open Cert.Kernel3Ideal Cert.Kernel3Ideal.Gen
open Idealize.ShloMosaic Idealize.ShloMosaic.TcCoe

variable (m : (ℓ : Loc nD τ sig) → Buf (Elt Ideal) ℓ) (c : Dev nD)

theorem zero2 : (![0, 0] : Fin 2 → Nat) = fun _ => 0 := by funext i; fin_cases i <;> rfl
/-- Loads of whole blocks. -/
theorem ld_x (X : Vec Ideal S256x1024 .f32) : View.ld X (Rect.unit ![0, 0] ![256, 1024] inb_S256x1024_S256x1024_0_0) = X := View.ld_unit_zero (S := S256x1024) zero2 _ X
theorem ld_g (X : Vec Ideal S1x1024 .f32) : View.ld X (Rect.unit ![0, 0] ![1, 1024] inb_S1x1024_S1x1024_0_0) = X := View.ld_unit_zero (S := S1x1024) zero2 _ X

set_option maxHeartbeats 800000 in
theorem g_A (t : Fin cfg0.N) (h0 : t.val % 64 = 0) : (outsAt0 m c t.val t.isLt).2.2.2.2.1 = step (iblk m c 0 t) (iblk m c 1 t) (k0_pay4 (F := Ideal)) := by
  simp only [outsAt0_A m c t h0]
  unfold out0_A_20
  rw [View.read_writes_eq_canon _ _ _ (fun y => by exact cover0_A_20 (y := y) ..)]
  unfold kernelRun0_A
  dsimp only
  sl_unfold_words
  simp only [View.readAt_eq_ld, (hs0_0 t).read_unread, (hs0_1 t).read_unread, (hs0_20 t).read_unread]
  refine (View.canon_cons_unit_zero (S := S1x1024) zero2 inb_S1x1024_S1x1024_0_0 _ _).trans ?_
  rw [View.readCov_unit_zero (S := S1x1024) _ zero2 inb_S1x1024_S1x1024_0_0]
  rw [ld_x (iblk m c 0 t), ld_x (iblk m c 1 t)]
  unfold step
  rfl
set_option maxHeartbeats 800000 in
theorem g_B (t : Fin cfg0.N) (h0 : ¬t.val % 64 = 0) : (outsAt0 m c t.val t.isLt).2.2.2.2.1 = step (iblk m c 0 t) (iblk m c 1 t) (outsAt0 m c (t.val - 1) (by omega)).2.2.2.2.1 := by
  simp only [outsAt0_B m c t h0]
  unfold out0_B_20
  rw [View.read_writes_eq_canon _ _ _ (fun y => by exact cover0_B_20 (y := y) ..)]
  unfold kernelRun0_B
  dsimp only
  sl_unfold_words
  simp only [View.readAt_eq_ld, (hs0_0 t).read_unread, (hs0_1 t).read_unread, (hs0_20 t).read_unread]
  refine (View.canon_cons_unit_zero (S := S1x1024) zero2 inb_S1x1024_S1x1024_0_0 _ _).trans ?_
  rw [ld_x (iblk m c 0 t), ld_x (iblk m c 1 t), ld_g]
  unfold step
  rfl

end Cert.OutNorm

end
-- ==== Proof.OutMix.lean ====
/-
  The product of the mixed groups as a function of its arrays, and what the third reference writes for it.
-/
module

public import proofs.«01_k».proof.Proof.Gen.Reference3Ideal.Run
public import Idealize.ShloMosaic.Lib.Pointwise
public import Idealize.ShloMosaic.Lib.ValueIdx

@[expose] public section

set_option maxRecDepth 16384

noncomputable section

namespace Cert.OutNorm

open Cert.Reference3Ideal Cert.Reference3Ideal.Gen Cert.Reference3Ideal.Value
open Idealize.ShloMosaic Idealize.ShloMosaic.TcCoe

/-- A group of 256 lanes, and a row of as many. -/
abbrev Grp := FVec Ideal S1x16384x256 .f32
abbrev Row := FVec Ideal S256 .f32

/-- A float at every coordinate of a group. -/
def allG (b : BitVec 32) : Grp := broadcastInDim S1x16384x256 ![] bcast_S_S1x16384x256 (constant S_ .f32 b)
/-- The logistic function of a group. -/
def sigG (x : Grp) : Grp := Host.divf (allG 0x3F800000#32) (addf (allG 0x3F800000#32) (Host.exp (Host.negf x)))
/-- A group times its logistic function. -/
def siluG (x : Grp) : Grp := mulf x (sigG x)
/-- The exact gelu of a group. -/
def geluG (x : Grp) : Grp := mulf (mulf (allG 0x3F000000#32) x) (Host.erfc (mulf (Host.negf x) (allG 0x3F3504F3#32)))
/-- The same row at every token. -/
def rowG (g : Row) : Grp :=
  broadcastInDim S1x16384x256 ![0, 1, 2] bcast_S1x1x256_S1x16384x256_0_1_2 (broadcastInDim S1x1x256 ![2] bcast_S256_S1x1x256_2 g)
/-- Each token's mean over its lanes. -/
def meanG (x : Grp) : FVec Ideal S1x16384x1 .f32 :=
  Host.divf (broadcastInDim S1x16384x1 ![0, 1] bcast_S1x16384_S1x16384x1_0_1 (Host.reduceAdd x (constant S_ .f32 0x00000000#32) reducesTo_S1x16384x256_S1x16384_d2 h_S_))
    (broadcastInDim S1x16384x1 ![] bcast_S_S1x16384x1 (constant S_ .f32 0x43800000#32))
/-- A group less its tokens' means. -/
def centreG (x : Grp) : Grp := subf x (broadcastInDim S1x16384x256 ![0, 1, 2] bcast_S1x16384x1_S1x16384x256_0_1_2 (meanG x))
/-- A centred group's normalisation, scaled and shifted. -/
def scaleG (x : Grp) (g b : Row) : Grp :=
  addf (mulf (mulf x (broadcastInDim S1x16384x256 ![0, 1, 2] bcast_S1x16384x1_S1x16384x256_0_1_2
    (Host.rsqrt (addf (meanG (mulf x x)) (broadcastInDim S1x16384x1 ![] bcast_S_S1x16384x1 (constant S_ .f32 0x358637BD#32)))))) (rowG g)) (rowG b)
/-- The layer norm of a group. -/
def normG (x : Grp) (g b : Row) : Grp := scaleG (centreG x) g b

/-- The projection's columns of the gates, and the groups in them. -/
def tailP (p : FVec Ideal S1x16384x2816 .f32) : FVec Ideal S1x16384x2048 .f32 := extractStridedSlice S1x16384x2048 ![0, 0, 768] p slices_S1x16384x2816_S1x16384x2048_0_0_768
def gateAtt (p : FVec Ideal S1x16384x2816 .f32) : FVec Ideal S1x16384x512 .f32 := extractStridedSlice S1x16384x512 ![0, 0, 0] (tailP p) slices_S1x16384x2048_S1x16384x512_0_0_0
def convAB (p : FVec Ideal S1x16384x2816 .f32) : FVec Ideal S1x16384x512 .f32 := extractStridedSlice S1x16384x512 ![0, 0, 512] (tailP p) slices_S1x16384x2048_S1x16384x512_0_0_512
def gateConv (p : FVec Ideal S1x16384x2816 .f32) : Grp := extractStridedSlice S1x16384x256 ![0, 0, 1024] (tailP p) slices_S1x16384x2048_S1x16384x256_0_0_1024
def sgU (p : FVec Ideal S1x16384x2816 .f32) : Grp := extractStridedSlice S1x16384x256 ![0, 0, 1280] (tailP p) slices_S1x16384x2048_S1x16384x256_0_0_1280
def sgV (p : FVec Ideal S1x16384x2816 .f32) : Grp := extractStridedSlice S1x16384x256 ![0, 0, 1536] (tailP p) slices_S1x16384x2048_S1x16384x256_0_0_1536
def gateSg (p : FVec Ideal S1x16384x2816 .f32) : Grp := extractStridedSlice S1x16384x256 ![0, 0, 1792] (tailP p) slices_S1x16384x2048_S1x16384x256_0_0_1792

/-- The convolution's gated input. -/
def convIn (p : FVec Ideal S1x16384x2816 .f32) : Grp :=
  mulf (extractStridedSlice S1x16384x256 ![0, 0, 0] (convAB p) slices_S1x16384x512_S1x16384x256_0_0_0)
    (sigG (extractStridedSlice S1x16384x256 ![0, 0, 256] (convAB p) slices_S1x16384x512_S1x16384x256_0_0_256))
/-- The rows that lie beyond either end. -/
def edge : FVec Ideal S15x256 .f32 := broadcastInDim S15x256 ![] bcast_S_S15x256 (constant S_ .f32 0x00000000#32)
/-- A group's rows between the two edges. -/
def padded (h : Grp) : FVec Ideal S16414x256 .f32 :=
  concatenate S16414x256 0 [⟨S15x256, edge⟩, ⟨S16384x256, shapeCast S16384x256 h shapeCasts_S1x16384x256_S16384x256⟩, ⟨S15x256, edge⟩] concatenates_S15x256_S16384x256_S15x256_S16414x256_d0
/-- The row that each tap of each token reads. -/
def tapRow : IVec S16384x31 32 :=
  addi (broadcastInDim S16384x31 ![0, 1] bcast_S16384x1_S16384x31_0_1 (broadcastInDim S16384x1 ![0] bcast_S16384_S16384x1_0 (iotaInDim S16384 32 0)))
    (broadcastInDim S16384x31 ![0, 1] bcast_S1x31_S16384x31_0_1 (broadcastInDim S1x31 ![1] bcast_S31_S1x31_1 (iotaInDim S31 32 0)))
/-- The depthwise convolution and its bias. -/
def convOf (h : FVec Ideal S16414x256 .f32) (w : FVec Ideal S31x256 .f32) (b : Row) : Grp :=
  addf (broadcastInDim S1x16384x256 ![1, 2] bcast_S16384x256_S1x16384x256_1_2 (Host.reduceAdd (mulf
    (Host.gather gather_S16414x256_S16384x31x1_S16384x31x256_2_0_n_n_0_2_1256 h (broadcastInDim S16384x31x1 ![0, 1] bcast_S16384x31_S16384x31x1_0_1
      (select (cmpi .slt tapRow (broadcastInDim S16384x31 ![] bcast_S_S16384x31 (constantI S_ 32 0#32)))
        (addi tapRow (broadcastInDim S16384x31 ![] bcast_S_S16384x31 (constantI S_ 32 16414#32))) tapRow)))
    (broadcastInDim S16384x31x256 ![0, 1, 2] bcast_S1x31x256_S16384x31x256_0_1_2 (broadcastInDim S1x31x256 ![1, 2] bcast_S31x256_S1x31x256_1_2 w)))
    (constant S_ .f32 0x00000000#32) reducesTo_S16384x31x256_S16384x256_d1 h_S_)) (rowG b)
def convT (p : FVec Ideal S1x16384x2816 .f32) (w : FVec Ideal S31x256 .f32) (b : Row) : Grp := convOf (padded (convIn p)) w b
/-- The spatial gating group: the gelu of one part times the chunks' mixture of the other's norm. -/
def gatingT (p : FVec Ideal S1x16384x2816 .f32) (g b : Row) (w : FVec Ideal S4x128x128 .f32) (bs : FVec Ideal S4x128 .f32) : Grp :=
  mulf (geluG (sgU p)) (shapeCast S1x16384x256 (addf (transpose S1x128x128x4x64 [1, 2, 4, 0, 3]
    (Host.dotGeneral dot_S1x128x128x4x64_S4x128x128_S4x1x128x64x128_2_2_014_1_3_0 none (shapeCast S1x128x128x4x64 (normG (geluG (sgV p)) g b) shapeCasts_S1x16384x256_S1x128x128x4x64) w)
    transposes_S4x1x128x64x128_S1x128x128x4x64_1_2_4_0_3)
    (broadcastInDim S1x128x128x4x64 ![0, 1, 2, 3, 4] bcast_S1x1x128x4x1_S1x128x128x4x64_0_1_2_3_4 (broadcastInDim S1x1x128x4x1 ![2, 3] bcast_S128x4_S1x1x128x4x1_2_3
      (transpose S128x4 [1, 0] bs transposes_S4x128_S128x4_1_0)))) shapeCasts_S1x128x128x4x64_S1x16384x256)
/-- The gated attention group. -/
def attT (a : FVec Ideal S1x16384x512 .f32) (p : FVec Ideal S1x16384x2816 .f32) : FVec Ideal S1x16384x512 .f32 :=
  mulf a (mulf (gateAtt p) (Host.divf (broadcastInDim S1x16384x512 ![] bcast_S_S1x16384x512 (constant S_ .f32 0x3F800000#32))
    (addf (broadcastInDim S1x16384x512 ![] bcast_S_S1x16384x512 (constant S_ .f32 0x3F800000#32)) (Host.exp (Host.negf (gateAtt p))))))
/-- The gated convolution group of padded rows. -/
def convGroup (h : FVec Ideal S16414x256 .f32) (p : FVec Ideal S1x16384x2816 .f32) (w : FVec Ideal S31x256 .f32) (b g l : Row) : Grp :=
  mulf (siluG (normG (convOf h w b) g l)) (siluG (gateConv p))
/-- The product of the three gated groups with the output weights. -/
def mixT (a : FVec Ideal S1x16384x512 .f32) (p : FVec Ideal S1x16384x2816 .f32) (cw : FVec Ideal S31x256 .f32) (cb cg cl sg sl : Row)
    (sw : FVec Ideal S4x128x128 .f32) (sb : FVec Ideal S4x128 .f32) (wo : FVec Ideal S1024x1024 .f32) : FVec Ideal S1x16384x1024 .f32 :=
  Host.dotGeneral dot_S1x16384x1024_S1024x1024_S1x16384x1024_2_0_01_1_n_n none (concatenate S1x16384x1024 2 [⟨S1x16384x512, attT a p⟩,
    ⟨S1x16384x256, convGroup (padded (convIn p)) p cw cb cg cl⟩, ⟨S1x16384x256, mulf (gatingT p sg sl sw sb) (siluG (gateSg p))⟩]
    concatenates_S1x16384x512_S1x16384x256_S1x16384x256_S1x16384x1024_d2) wo

/-- Arrays put together from equal parts are equal. -/
theorem cat_pad {A A' C C' : FVec Ideal S15x256 .f32} {B B' : FVec Ideal S16384x256 .f32} (hA : A = A') (hB : B = B') (hC : C = C') :
    concatenate S16414x256 0 [⟨S15x256, A⟩, ⟨S16384x256, B⟩, ⟨S15x256, C⟩] concatenates_S15x256_S16384x256_S15x256_S16414x256_d0
      = concatenate S16414x256 0 [⟨S15x256, A'⟩, ⟨S16384x256, B'⟩, ⟨S15x256, C'⟩] concatenates_S15x256_S16384x256_S15x256_S16414x256_d0 := by
  subst hA hB hC; rfl
theorem cat_mix {A A' : FVec Ideal S1x16384x512 .f32} {B B' C C' : Grp} (hA : A = A') (hB : B = B') (hC : C = C') :
    concatenate S1x16384x1024 2 [⟨S1x16384x512, A⟩, ⟨S1x16384x256, B⟩, ⟨S1x16384x256, C⟩] concatenates_S1x16384x512_S1x16384x256_S1x16384x256_S1x16384x1024_d2
      = concatenate S1x16384x1024 2 [⟨S1x16384x512, A'⟩, ⟨S1x16384x256, B'⟩, ⟨S1x16384x256, C'⟩] concatenates_S1x16384x512_S1x16384x256_S1x16384x256_S1x16384x1024_d2 := by
  subst hA hB hC; rfl

/-- Equal arrays have equal products. -/
theorem mix_congr {a a' : FVec Ideal S1x16384x512 .f32} {p p' : FVec Ideal S1x16384x2816 .f32} {cw cw' : FVec Ideal S31x256 .f32} {cb cb' : Row} {cg cg' : Row} {cl cl' : Row} {sg sg' : Row} {sl sl' : Row} {sw sw' : FVec Ideal S4x128x128 .f32} {sb sb' : FVec Ideal S4x128 .f32} {wo wo' : FVec Ideal S1024x1024 .f32}
    (h0 : a = a') (h1 : p = p') (h2 : cw = cw') (h3 : cb = cb') (h4 : cg = cg') (h5 : cl = cl') (h6 : sg = sg') (h7 : sl = sl') (h8 : sw = sw') (h9 : sb = sb') (h10 : wo = wo') :
    mixT a p cw cb cg cl sg sl sw sb wo = mixT a' p' cw' cb' cg' cl' sg' sl' sw' sb' wo' := by
  subst h0 h1 h2 h3 h4 h5 h6 h7 h8 h9 h10; rfl

/-- What the reference writes is that product of its arguments. -/
theorem res_mix (W : Valuation τ sig (Elt Ideal)) : res_main_v116 W = mixT (W (Proc.devRef .tc main_arg0)) (W (Proc.devRef .tc main_arg1)) (W (Proc.devRef .tc main_arg2))
    (W (Proc.devRef .tc main_arg3)) (W (Proc.devRef .tc main_arg4)) (W (Proc.devRef .tc main_arg5)) (W (Proc.devRef .tc main_arg6)) (W (Proc.devRef .tc main_arg7))
    (W (Proc.devRef .tc main_arg8)) (W (Proc.devRef .tc main_arg9)) (W (Proc.devRef .tc main_arg10)) := rfl

end Cert.OutNorm

end
-- ==== Proof.OutHost.lean ====
/-
  What the third kernel's host lines hand to its call: the cotangent, and the product of the mixed groups, which is the reference's.
-/
module

public import proofs.«01_k».proof.Proof.Gen.Kernel3Ideal.Frame.Runs
public import proofs.«01_k».proof.Proof.OutMix
public import Idealize.ShloMosaic.Lib.StableHlo.RunClose
public import Idealize.ShloMosaic.Lib.Pointwise
public import Idealize.ShloMosaic.Lib.ValueIdx

@[expose] public section

set_option maxRecDepth 16384

noncomputable section

namespace Cert.OutNorm

open Cert.Kernel3Ideal Cert.Kernel3Ideal.Gen
open Idealize.ShloMosaic Idealize.ShloMosaic.TcCoe Idealize.ShloMosaic.StableHlo

/-- The rows of an array of one sequence. -/
def rows (x : FVec Ideal S1x16384x1024 .f32) : FVec Ideal S16384x1024 .f32 := shapeCast S16384x1024 x shapeCasts_S1x16384x1024_S16384x1024

variable (m : (ℓ : Loc nD τ sig) → Buf (Elt Ideal) ℓ) (c : Dev nD)

set_option maxHeartbeats 1000000 in
theorem V_dy : V m c main_v190 = rows (m ((c.tc : Thread nD τ).loc main_arg12)) := by
  unfold V; simp only [List.flatten_cons, List.flatten_nil, List.append_nil, StableHlo.after_append]; after_results_simp <;> rfl

/-- The product that the host hands over. -/
def mixK : FVec Ideal S1x16384x1024 .f32 :=
  mixT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10))

set_option maxHeartbeats 2000000 in
theorem V_mix : V m c main_v191 = rows (mixK m c) := by
  unfold V; simp only [List.flatten_cons, List.flatten_nil, List.append_nil, StableHlo.after_append]
  after_results_simp_entrywise
  refine congrArg (fun z => rows (Host.dotGeneral (F := Ideal) (φ₁ := .f32) (φ₂ := .f32) dot_S1x16384x1024_S1024x1024_S1x16384x1024_2_0_01_1_n_n none z
    (m ((c.tc : Thread nD τ).loc main_arg10)))) (cat_mix ?_ ?_ ?_)
  all_goals dsimp only [Matrix.cons_val]
  all_goals after_results_simp_entrywise
  · rfl
  · refine congrArg (fun z => convGroup z (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (cat_pad ?_ ?_ ?_)
    all_goals dsimp only [Matrix.cons_val]
    all_goals after_results_simp_entrywise
    all_goals rfl
  · rfl

end Cert.OutNorm

end
-- ==== Proof.OutSum.lean ====
/-
  The gradient of the output norm's scale after the run: a sum over all tokens.
-/
module

public import proofs.«01_k».proof.Proof.OutPoint
public import proofs.«01_k».proof.Proof.OutHost
public import Idealize.ShloMosaic.Lib.Pipeline.ValueKit.Geometry

@[expose] public section

set_option maxRecDepth 16384

noncomputable section

namespace Cert.OutNorm

open Cert.Kernel3Ideal Cert.Kernel3Ideal.Gen
open Idealize.ShloMosaic Idealize.ShloMosaic.TcCoe
open Idealize.ShloMosaic.Pipeline (Dat Cfg Window)
open scoped BigOperators

variable (m : (ℓ : Loc nD τ sig) → Buf (Elt Ideal) ℓ) (c : Dev nD)

/-- The block that each window holds at a point of the grid. -/
theorem at_0 : ∀ t : Fin cfg0.N, win0_0.index t (0 : Fin 2) = t.val ∧ win0_0.index t (1 : Fin 2) = 0 := by decide +kernel
theorem at_1 : ∀ t : Fin cfg0.N, win0_1.index t (0 : Fin 2) = t.val ∧ win0_1.index t (1 : Fin 2) = 0 := by decide +kernel
theorem at_20 : ∀ t : Fin cfg0.N, win0_20.index t (0 : Fin 2) = 0 ∧ win0_20.index t (1 : Fin 2) = 0 := by decide +kernel
theorem lt64 (t : Fin cfg0.N) : t.val < 64 := lt_of_lt_of_eq t.isLt (show cfg0.N = 64 from N_0)
/-- The token of a row of a point's block. -/
def tok (t : Fin cfg0.N) (r : Fin 256) : Fin 16384 := ⟨t.val * 256 + r.val, by have := lt64 t; omega⟩

theorem B_dy (t : Fin cfg0.N) (r : Fin 256) (k : Fin 1024) : iblk m c 0 t (ix2 r k) = V m c main_v190 (ix2 (tok t r) k) := by
  obtain ⟨e0, e1⟩ := at_0 t
  show V m c main_v190 (((cfg0.win 0).blk t).view.emb (ix2 r k)) = _
  refine congrArg (V m c main_v190) (funext fun b => Fin.ext ?_)
  match b with
  | ⟨0, _⟩ => show win0_0.index t (0 : Fin 2) * 256 + 1 * r.val = t.val * 256 + r.val; rw [e0]; omega
  | ⟨1, _⟩ => show win0_0.index t (1 : Fin 2) * 1024 + 1 * k.val = k.val; rw [e1]; omega
theorem B_mix (t : Fin cfg0.N) (r : Fin 256) (k : Fin 1024) : iblk m c 1 t (ix2 r k) = V m c main_v191 (ix2 (tok t r) k) := by
  obtain ⟨e0, e1⟩ := at_1 t
  show V m c main_v191 (((cfg0.win 1).blk t).view.emb (ix2 r k)) = _
  refine congrArg (V m c main_v191) (funext fun b => Fin.ext ?_)
  match b with
  | ⟨0, _⟩ => show win0_1.index t (0 : Fin 2) * 256 + 1 * r.val = t.val * 256 + r.val; rw [e0]; omega
  | ⟨1, _⟩ => show win0_1.index t (1 : Fin 2) * 1024 + 1 * k.val = k.val; rw [e1]; omega

theorem rows_apply (x : FVec Ideal S1x16384x1024 .f32) (t : Fin 16384) (k : Fin 1024) : rows x (ix2 t k) = x (ix3 0 t k) := by
  unfold rows; pointwise []

/-- A token's part of the gradient, at a lane, for rows `x` and cotangents `d`. -/
def part (x d : FVec Ideal S1x16384x1024 .f32) (k : Fin 1024) (t : Fin 16384) : EReal := unit (fun k => x (ix3 0 t k)) k * d (ix3 0 t k)
/-- The sum over the tokens before one. -/
def upTo (f : Fin 16384 → EReal) (n : ℕ) : EReal := ∑ i ∈ Finset.range n, if h : i < 16384 then f ⟨i, h⟩ else 0
theorem upTo_add (f : Fin 16384 → EReal) (t : Fin cfg0.N) : upTo f ((t.val + 1) * 256) = upTo f (t.val * 256) + ∑ r, f (tok t r) := by
  have ht := lt64 t
  unfold upTo
  rw [show (t.val + 1) * 256 = t.val * 256 + 256 by omega, Finset.sum_range_add, Finset.sum_range (n := 256)]
  refine congrArg _ (Finset.sum_congr rfl fun r _ => ?_)
  have : t.val * 256 + r.val < 16384 := by omega
  rw [dif_pos this]
  rfl
theorem upTo_all (f : Fin 16384 → EReal) : upTo f 16384 = ∑ t, f t := by
  unfold upTo
  rw [Finset.sum_range]
  exact Finset.sum_congr rfl fun t _ => dif_pos t.isLt

variable (x d : FVec Ideal S1x16384x1024 .f32) (hx : V m c main_v191 = rows x) (hd : V m c main_v190 = rows d)

theorem step_part (D X : Vec Ideal S256x1024 .f32) (t : Fin cfg0.N) (hD : ∀ r k, D (ix2 r k) = (d (ix3 0 (tok t r) k) : EReal))
    (hX : ∀ r k, X (ix2 r k) = (x (ix3 0 (tok t r) k) : EReal)) (a : Vec Ideal S1x1024 .f32) (k : Fin 1024) :
    step D X a (ix2 0 k) = (a (ix2 0 k) + ∑ r, part x d k (tok t r) : EReal) := by
  rw [step_apply]
  simp only [hD, hX]
  rfl
include hx hd in
theorem step_add (t : Fin cfg0.N) (a : Vec Ideal S1x1024 .f32) (k : Fin 1024) :
    step (iblk m c 0 t) (iblk m c 1 t) a (ix2 0 k) = (a (ix2 0 k) + ∑ r, part x d k (tok t r) : EReal) :=
  step_part x d _ _ t (fun r k => (B_dy m c t r k).trans ((congrFun hd _).trans (rows_apply d _ _)))
    (fun r k => (B_mix m c t r k).trans ((congrFun hx _).trans (rows_apply x _ _))) a k

include hx hd in
/-- The gradient after a point. -/
theorem g_after (k : Fin 1024) : ∀ (n : ℕ) (hn : n < cfg0.N), (outsAt0 m c n hn).2.2.2.2.1 (ix2 0 k) = (upTo (part x d k) ((n + 1) * 256) : EReal) := by
  intro n
  induction n with
  | zero =>
    intro hn
    refine (congrFun (g_A m c ⟨0, hn⟩ rfl) (ix2 0 k)).trans ((step_add m c x d hx hd ⟨0, hn⟩ _ k).trans ?_)
    rw [zero_apply, zero_add, upTo_add _ (⟨0, hn⟩ : Fin cfg0.N)]
    exact ((congrArg (fun e : EReal => e + ∑ r, part x d k (tok ⟨0, hn⟩ r)) (Finset.sum_range_zero _)).trans (zero_add _)).symm
  | succ n ih =>
    intro hn
    have h64 := lt64 ⟨n + 1, hn⟩
    have h0 : ¬(⟨n + 1, hn⟩ : Fin cfg0.N).val % 64 = 0 := by show ¬(n + 1) % 64 = 0; change n + 1 < 64 at h64; omega
    refine (congrFun (g_B m c ⟨n + 1, hn⟩ h0) (ix2 0 k)).trans ((step_add m c x d hx hd ⟨n + 1, hn⟩ _ k).trans ?_)
    rw [upTo_add _ (⟨n + 1, hn⟩ : Fin cfg0.N)]
    exact congrArg (fun e : EReal => e + ∑ r, part x d k (tok ⟨n + 1, hn⟩ r)) (ih (by omega))

include hx hd in
/-- The gradient after the run. -/
theorem arr_g (k : Fin 1024) : (dats m 0 c).arrAt 20 cfg0.N (ix2 0 k) = (∑ t, part x d k t : EReal) := by
  refine (dats m 0 c).arrAt_forall_of_covers 20 (fun i v => i = ix2 0 k → v = (∑ t, part x d k t : EReal)) (by decide +kernel) (fun t hf y => ?_)
    _ (Memref.isWhole_whole _) rfl
  intro hy
  have ht := (flush0_20 t).mp hf
  have h64 := lt64 t
  obtain ⟨e0, e1⟩ := at_20 t
  have h1 : win0_20.index t (1 : Fin 2) * 1024 + 1 * (y 1).val = k.val := congrArg (fun i => (i (1 : Fin 2)).val) hy
  have b0 : (y 0).val < 1 := (y 0).isLt
  have hyy : (cfg0.win 20).xinj (cfg0.grid.coords t) y = ix2 0 k := by
    funext b
    refine Fin.ext ?_
    match b with
    | ⟨0, _⟩ => show (y 0).val = 0; omega
    | ⟨1, _⟩ => show (y 1).val = k.val; rw [e1] at h1; omega
  show (dats m 0 c).after 20 t ((cfg0.win 20).xinj (cfg0.grid.coords t) y) = _
  rw [hyy, after0_20]
  refine (g_after m c x d hx hd k t.val t.isLt).trans ?_
  rw [← upTo_all]
  exact congrArg (upTo (part x d k)) (by omega)

end Cert.OutNorm

end
-- ==== Proof.OutRef.lean ====
/-
  The third reference's gradient at a lane.
-/
module

public import proofs.«01_k».proof.Proof.Gen.Reference3Ideal.Run
public import Idealize.ShloMosaic.Lib.Pointwise
public import Idealize.ShloMosaic.Lib.ValueIdx
public import proofs.«01_k».proof.Proof.OutPay

@[expose] public section

set_option maxRecDepth 16384

noncomputable section

namespace Cert.OutNorm

open Cert.Reference3Ideal Cert.Reference3Ideal.Gen Cert.Reference3Ideal.Value
open Idealize.ShloMosaic Idealize.ShloMosaic.TcCoe
open scoped BigOperators

/-- Rows divided by the root of their mean square. -/
def unitT (x : FVec Ideal S1x16384x1024 .f32) : FVec Ideal S1x16384x1024 .f32 :=
  mulf x (broadcastInDim S1x16384x1024 ![0, 1, 2] bcast_S1x16384x1_S1x16384x1024_0_1_2 (Host.rsqrt (addf (Host.divf
    (broadcastInDim S1x16384x1 ![0, 1] bcast_S1x16384_S1x16384x1_0_1 (Host.reduceAdd (mulf x x) (constant S_ .f32 0x00000000#32) reducesTo_S1x16384x1024_S1x16384_d2 h_S_))
    (broadcastInDim S1x16384x1 ![] bcast_S_S1x16384x1 (constant S_ .f32 0x44800000#32))) (broadcastInDim S1x16384x1 ![] bcast_S_S1x16384x1 (constant S_ .f32 0x358637BD#32)))))
/-- The gradient of the scale for unit rows `u` and cotangents `d`. -/
def gradT (u d : FVec Ideal S1x16384x1024 .f32) : FVec Ideal S1x1024 .f32 :=
  broadcastInDim S1x1024 ![1] bcast_S1024_S1x1024_1 (Host.reduceAdd (shapeCast _ (Host.reduceAdd (mulf u d) (constant S_ .f32 0x00000000#32) reducesTo_S1x16384x1024_S1x1024_d1 h_S_)
    shapeCasts_S1x1024_S1x1x1024) (constant S_ .f32 0x00000000#32) reducesTo_S1x1x1024_S1024_d0_1 h_S_)

theorem unit_apply (x : FVec Ideal S1x16384x1024 .f32) (t : Fin 16384) (k : Fin 1024) : unitT x (ix3 0 t k) = unit (fun k => x (ix3 0 t k)) k := by
  unfold unitT
  pointwise []
  rfl
/-- A reduction over two axes of one entry reads that entry. -/
theorem drop_1 (i : S1x1x1024.Idx) : reducesTo_S1x1x1024_S1024_d0_1.drop i = ix1 (i 2) := by
  funext b; match b with | ⟨0, _⟩ => rfl
theorem one_1 (x : S1x1x1024.Idx → EReal) (a : Fin 1024) :
    Ideal.hostReduceAdd reducesTo_S1x1x1024_S1024_d0_1 x 0 (ix1 a) = x (ix3 0 0 a) := by
  unfold Ideal.hostReduceAdd
  rw [zero_add]
  have hm : ix3 0 0 a ∈ Finset.univ.filter (fun i => reducesTo_S1x1x1024_S1024_d0_1.drop i = ix1 a) :=
    Finset.mem_filter.2 ⟨Finset.mem_univ _, drop_1 (ix3 0 0 a)⟩
  refine Finset.sum_eq_single_of_mem _ hm fun i hi hne => absurd ?_ hne
  obtain ⟨k, l, u, rfl⟩ : ∃ k l u, i = ix3 k l u := ⟨_, _, _, eq_ix3 i⟩
  have e0 : u = a := congrFun ((drop_1 _).symm.trans (Finset.mem_filter.1 hi).2) 0
  rw [e0, Subsingleton.elim k 0, Subsingleton.elim l 0]
theorem grad_apply (u d : FVec Ideal S1x16384x1024 .f32) (k : Fin 1024) : gradT u d (ix2 0 k) = (∑ t : Fin 16384, u (ix3 0 t k) * d (ix3 0 t k) : EReal) := by
  unfold gradT
  pointwise []
  refine (one_1 _ k).trans ?_
  pointwise []

end Cert.OutNorm

end
-- ==== Proof.OutValue.lean ====
/-
  The value of the third pair: the kernel and the reference end with the same gradient of the output norm's scale.
-/
module

public import proofs.«01_k».proof.Proof.OutSum
public import proofs.«01_k».proof.Proof.OutRef
public import proofs.«01_k».proof.Defs

@[expose] public section

set_option maxRecDepth 16384

noncomputable section

namespace Cert.OutNorm

open Idealize.ShloMosaic Idealize.ShloMosaic.TcCoe Idealize.ShloMosaic.StableHlo Idealize.SL.Sem
open scoped BigOperators
open Cert.Kernel3Ideal (S1x16384x1024 S1x1024)

/-- Rows of one lane that agree at every coordinate are equal. -/
theorem ext_g (x y : FVec Ideal S1x1024 .f32) (h : ∀ k, x (ix2 0 k) = y (ix2 0 k)) : x = y := by
  funext n
  obtain ⟨t, k, rfl⟩ : ∃ n0 n1, n = ix2 n0 n1 := ⟨_, _, eq_ix2 n⟩
  obtain rfl : t = 0 := Subsingleton.elim _ _
  exact h k

/-- The reference's gradient, at a lane, is the sum of the tokens' parts. -/
theorem grad_part (x x' d d' : FVec Ideal S1x16384x1024 .f32) (hx : x' = x) (hd : d' = d) (k : Fin 1024) : gradT (unitT x') d' (ix2 0 k) = (∑ t, part x d k t : EReal) := by
  rw [grad_apply, hx, hd]
  exact Finset.sum_congr rfl fun t _ => congrArg (fun e : EReal => e * d (ix3 0 t k)) (unit_apply x t k)

theorem value : Cert.algebraic_Kernel3Ideal_Reference3Ideal := by
  intro m g m' g' _ hagree
  refine ⟨fun c => (Cert.Kernel3Ideal.Gen.dats m 0 c).arrAt 20 Cert.Kernel3Ideal.cfg0.N, ?_, ?_⟩
  · refine (θ_run _ _ _).mono (fun r h c => ?_) (Cert.Kernel3Ideal.Value.run_blocks m g)
    obtain ⟨-, -, -, -, h4, -, -, -, -, hk⟩ := h c
    exact ⟨h4, hk⟩
  · refine (θ_run _ _ _).mono (fun r h c => ?_) (Cert.Reference3Ideal.Value.run (F := Ideal) m' g')
    obtain ⟨e, hk⟩ := h c
    obtain ⟨a0, a1, a2, a3, a4, a5, a6, a7, a8, a9, a10, -, a12⟩ := hagree c
    refine ⟨e.trans (ext_g _ _ fun k => ?_), hk⟩
    exact (grad_part (mixK m c) _ (m ((c.tc : Thread Cert.Kernel3Ideal.nD Cert.Kernel3Ideal.τ).loc Cert.Kernel3Ideal.main_arg12)) _
      ((res_mix (launchContents m' c)).trans (mix_congr a0 a1 a2 a3 a4 a5 a6 a7 a8 a9 a10)) a12 k).trans
      (arr_g m c _ _ (V_mix m c) (V_dy m c) k).symm

end Cert.OutNorm

end
-- ==== Proof.FwdFrames.lean ====
/-
  The forward's input call: its frames over bits and over extended reals: one run, over any float values.
-/
module

public import proofs.«01_k».proof.Proof.Gen.Kernel4Ideal.Frame
public import proofs.«01_k».proof.Proof.Gen.Kernel4
public import proofs.«01_k».proof.Defs

@[expose] public section

set_option maxRecDepth 16384

noncomputable section

namespace Cert.FwdIn

open Cert.Kernel4Ideal Cert.Kernel4Ideal.Gen
open Idealize.ShloMosaic Idealize.ShloMosaic.TcCoe Idealize.SL.Sem

theorem frame_ideal : Cert.quiescent_Kernel4Ideal := fun m ρ _ => Cert.Kernel4Ideal.Gen.frame m ρ

/-- The frame over bits, of the ideal program's text. -/
def FrameBits : Prop :=
  ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The two programs have the same text. -/
theorem same_text : Cert.quiescent_Kernel4 = FrameBits := by sl_kernel_rfl

theorem frame_kernel : Cert.quiescent_Kernel4 := same_text.mpr fun m ρ _ => Cert.Kernel4Ideal.Gen.frame (F := Bits) m ρ

end Cert.FwdIn

end
-- ==== Proof.FwdPay.lean ====
/-
  What the forward's input call computes of one block of rows, at a lane.
-/
module

public import proofs.«01_k».proof.Proof.Gen.Kernel4Ideal.Skeleton
public import Idealize.ShloMosaic.Lib.Pointwise
public import Idealize.ShloMosaic.Lib.ValueIdx

@[expose] public section

set_option maxRecDepth 16384

noncomputable section

namespace Cert.FwdIn

open Cert.Kernel4Ideal Cert.Kernel4Ideal.Gen
open Idealize.ShloMosaic Idealize.ShloMosaic.TcCoe
open scoped BigOperators

/-- A column of the product of a normalised row `x`, scaled by `g`, with the weights `w`. -/
def column (x g w : Fin 1024 → EReal) : EReal :=
  ∑ k, x k * Ideal.rsqrt (Ideal.div (∑ k', x k' * x k') (Ideal.ofBits .f32 0x44800000#32) + Ideal.ofBits .f32 0x358637BD#32) * g k * w k
/-- A number times the logistic function of another. -/
def gated (a b : EReal) : EReal := a * Ideal.div (Ideal.ofBits .f32 0x3F800000#32) (Ideal.ofBits .f32 0x3F800000#32 + Ideal.exp (-b))

theorem column_apply (X : Vec Ideal S256x1024 .f32) (G : Vec Ideal S1x1024 .f32) (W : Vec Ideal S1024x2816 .bf16) (r : Fin 256) (j : Fin 2816) :
    k0_pay2 X G W (ix2 r j) = column (fun k => X (ix2 r k)) (fun k => G (ix2 0 k)) (fun k => W (ix2 k j)) := by
  unfold column
  pointwise [k0_pay2]

theorem gated_apply (Z : FVec Ideal S256x2816 .f32) (r : Fin 256) (l : Fin 256) :
    k0_pay1 (k0_pay35 Z) (k0_pay36 Z) (k0_pay37 (F := Ideal)) (ix2 r l) = gated (Z (ix2 r ⟨1280 + l.val, by omega⟩)) (Z (ix2 r ⟨1536 + l.val, by omega⟩)) := by
  unfold gated
  pointwise [k0_pay1, k0_pay35, k0_pay36, k0_pay37]
  rw [zero_sub]

end Cert.FwdIn

end
-- ==== Proof.FwdHost.lean ====
/-
  What the host lines of the forward's input call hand to it.
-/
module

public import proofs.«01_k».proof.Proof.Gen.Kernel4Ideal.Frame
public import Idealize.ShloMosaic.Lib.StableHlo.Run
public import Idealize.ShloMosaic.Lib.Pointwise
public import Idealize.ShloMosaic.Lib.ValueIdx

@[expose] public section

set_option maxRecDepth 16384

noncomputable section

namespace Cert.FwdIn

open Cert.Kernel4Ideal Cert.Kernel4Ideal.Gen
open Idealize.ShloMosaic Idealize.ShloMosaic.TcCoe Idealize.ShloMosaic.StableHlo

variable (m : (ℓ : Loc nD τ sig) → Buf (Elt Ideal) ℓ) (c : Dev nD)

/-- The arrays of the launch: rows, scale, weights. -/
def aX (t : Fin 16384) (k : Fin 1024) : EReal := (m ((c.tc : Thread nD τ).loc main_arg0) : FVec Ideal S1x16384x1024 .f32) (ix3 0 t k)
def aG (k : Fin 1024) : EReal := (m ((c.tc : Thread nD τ).loc main_arg1) : FVec Ideal S1024 .f32) (ix1 k)
def aW (k : Fin 1024) (j : Fin 2816) : EReal := (m ((c.tc : Thread nD τ).loc main_arg2) : FVec Ideal S1024x2816 .f32) (ix2 k j)

set_option maxHeartbeats 1000000 in
theorem V_x : V m c main_v56 = shapeCast S16384x1024 (m ((c.tc : Thread nD τ).loc main_arg0) : FVec Ideal S1x16384x1024 .f32) shapeCasts_S1x16384x1024_S16384x1024 := by
  unfold V; simp only [List.flatten_cons, List.flatten_nil, List.append_nil, StableHlo.after_append]; after_results_simp <;> rfl
set_option maxHeartbeats 1000000 in
theorem V_g : V m c main_v57 = broadcastInDim S1x1024 ![1] bcast_S1024_S1x1024_1 (m ((c.tc : Thread nD τ).loc main_arg1)) := by
  unfold V; simp only [List.flatten_cons, List.flatten_nil, List.append_nil, StableHlo.after_append]; after_results_simp <;> rfl
/-- The weights, cast: over the extended reals no change. -/
def castT (w : FVec Ideal S1024x2816 .f32) : FVec Ideal S1024x2816 .bf16 := truncf .bf16 w bitsLt_bf16_f32
set_option maxHeartbeats 1000000 in
theorem V_w : V m c main_v58 = castT (m ((c.tc : Thread nD τ).loc main_arg2)) := by
  unfold V; simp only [List.flatten_cons, List.flatten_nil, List.append_nil, StableHlo.after_append]; after_results_simp <;> rfl

theorem rows_apply (x : FVec Ideal S1x16384x1024 .f32) (t : Fin 16384) (k : Fin 1024) :
    shapeCast S16384x1024 x shapeCasts_S1x16384x1024_S16384x1024 (ix2 t k) = x (ix3 0 t k) := by
  pointwise []
theorem scale_apply (g : FVec Ideal S1024 .f32) (k : Fin 1024) : broadcastInDim S1x1024 ![1] bcast_S1024_S1x1024_1 g (ix2 0 k) = g (ix1 k) := by
  pointwise []

theorem V_x_apply (t : Fin 16384) (k : Fin 1024) : V m c main_v56 (ix2 t k) = aX m c t k := (congrFun (V_x m c) _).trans (rows_apply _ _ _)
theorem V_g_apply (k : Fin 1024) : V m c main_v57 (ix2 0 k) = aG m c k := (congrFun (V_g m c) _).trans (scale_apply _ _)
theorem V_w_apply (k : Fin 1024) (j : Fin 2816) : V m c main_v58 (ix2 k j) = aW m c k j := congrFun (V_w m c) _

end Cert.FwdIn

end
-- ==== Proof.FwdBlocks.lean ====
/-
  The projection and the gated half of it after the run of the forward's input call.
-/
module

public import proofs.«01_k».proof.Proof.Gen.Kernel4Ideal.Value
public import proofs.«01_k».proof.Proof.FwdPay
public import proofs.«01_k».proof.Proof.FwdHost
public import Idealize.ShloMosaic.Lib.Pipeline.ValueKit.Geometry

@[expose] public section

set_option maxRecDepth 16384

noncomputable section

namespace Cert.FwdIn

open Cert.Kernel4Ideal Cert.Kernel4Ideal.Gen
open Idealize.ShloMosaic Idealize.ShloMosaic.TcCoe
open Idealize.ShloMosaic.Pipeline (Dat Cfg Window)

theorem zero2 : (![0, 0] : Fin 2 → Nat) = fun _ => 0 := by funext i; fin_cases i <;> rfl

section
variable (x0 : Vec Ideal S256x1024 .f32) (x1 : Vec Ideal S1x1024 .f32) (x2 : Vec Ideal S1024x2816 .bf16) (x3 : Vec Ideal S512x512 .bf16)
  (x4 : Vec Ideal S1x512 .f32) (x5 : Vec Ideal S1x128 .f32) (x6 x7 : Vec Ideal S256x128 .f32)
theorem whole : k0_pay2 (View.ld x0 r0_0) (View.ld x1 r0_1) (View.ld x2 r0_2) = k0_pay2 x0 x1 x2 := by
  rw [View.ld_unit_zero (S := S256x1024) zero2 _ x0, View.ld_unit_zero (S := S1x1024) zero2 _ x1, View.ld_unit_zero (S := S1024x2816) zero2 _ x2]
theorem out_proj : out0_8 x0 x1 x2 x3 x4 x5 x6 x7 = k0_pay2 x0 x1 x2 :=
  (View.canon_cons_unit_zero (S := S256x2816) zero2 inb_S256x2816_S256x2816_0_0 _ _).trans (whole x0 x1 x2)
theorem out_gate : out0_9 x0 x1 x2 x3 x4 x5 x6 x7 = k0_pay1 (k0_pay35 (k0_pay2 x0 x1 x2)) (k0_pay36 (k0_pay2 x0 x1 x2)) (k0_pay37 (F := Ideal)) :=
  (View.canon_cons_unit_zero (S := S256x256) zero2 inb_S256x256_S256x256_0_0 _ _).trans
    (congrArg (fun Z => k0_pay1 (k0_pay35 Z) (k0_pay36 Z) (k0_pay37 (F := Ideal))) (whole x0 x1 x2))
end

variable (m : (ℓ : Loc nD τ sig) → Buf (Elt Ideal) ℓ) (c : Dev nD)

/-- The block that each window holds at a point of the grid. -/
theorem at_0 : ∀ t : Fin cfg0.N, win0_0.index t (0 : Fin 2) = t.val ∧ win0_0.index t (1 : Fin 2) = 0 := by decide +kernel
theorem at_1 : ∀ t : Fin cfg0.N, win0_1.index t (0 : Fin 2) = 0 ∧ win0_1.index t (1 : Fin 2) = 0 := by decide +kernel
theorem at_2 : ∀ t : Fin cfg0.N, win0_2.index t (0 : Fin 2) = 0 ∧ win0_2.index t (1 : Fin 2) = 0 := by decide +kernel
theorem at_8 : ∀ t : Fin cfg0.N, win0_8.index t (0 : Fin 2) = t.val ∧ win0_8.index t (1 : Fin 2) = 0 := by decide +kernel
theorem at_9 : ∀ t : Fin cfg0.N, win0_9.index t (0 : Fin 2) = t.val ∧ win0_9.index t (1 : Fin 2) = 0 := by decide +kernel
theorem lt64 (t : Fin cfg0.N) : t.val < 64 := lt_of_lt_of_eq t.isLt (show cfg0.N = 64 from N_0)
/-- The token of a row of a point's block. -/
def tok (t : Fin cfg0.N) (r : Fin 256) : Fin 16384 := ⟨t.val * 256 + r.val, by have := lt64 t; omega⟩

theorem B_x (t : Fin cfg0.N) (r : Fin 256) (k : Fin 1024) : iblk m c 0 t (ix2 r k) = aX m c (tok t r) k := by
  obtain ⟨e0, e1⟩ := at_0 t
  refine Eq.trans ?_ (V_x_apply m c (tok t r) k)
  show V m c main_v56 (((cfg0.win 0).blk t).view.emb (ix2 r k)) = _
  refine congrArg (V m c main_v56) (funext fun b => Fin.ext ?_)
  match b with
  | ⟨0, _⟩ => show win0_0.index t (0 : Fin 2) * 256 + 1 * r.val = t.val * 256 + r.val; rw [e0]; omega
  | ⟨1, _⟩ => show win0_0.index t (1 : Fin 2) * 1024 + 1 * k.val = k.val; rw [e1]; omega
theorem B_g (t : Fin cfg0.N) (k : Fin 1024) : iblk m c 1 t (ix2 0 k) = aG m c k := by
  obtain ⟨e0, e1⟩ := at_1 t
  refine Eq.trans ?_ (V_g_apply m c k)
  show V m c main_v57 (((cfg0.win 1).blk t).view.emb (ix2 0 k)) = _
  refine congrArg (V m c main_v57) (funext fun b => Fin.ext ?_)
  match b with
  | ⟨0, _⟩ => show win0_1.index t (0 : Fin 2) * 1 + 1 * 0 = 0; rw [e0]
  | ⟨1, _⟩ => show win0_1.index t (1 : Fin 2) * 1024 + 1 * k.val = k.val; rw [e1]; omega
theorem B_w (t : Fin cfg0.N) (k : Fin 1024) (j : Fin 2816) : iblk m c 2 t (ix2 k j) = aW m c k j := by
  obtain ⟨e0, e1⟩ := at_2 t
  refine Eq.trans ?_ (V_w_apply m c k j)
  show V m c main_v58 (((cfg0.win 2).blk t).view.emb (ix2 k j)) = _
  refine congrArg (V m c main_v58) (funext fun b => Fin.ext ?_)
  match b with
  | ⟨0, _⟩ => show win0_2.index t (0 : Fin 2) * 1024 + 1 * k.val = k.val; rw [e0]; omega
  | ⟨1, _⟩ => show win0_2.index t (1 : Fin 2) * 2816 + 1 * j.val = j.val; rw [e1]; omega

/-- An entry of the projection, from the arrays of the launch. -/
def proj (t : Fin 16384) (j : Fin 2816) : EReal := column (aX m c t) (aG m c) (fun k => aW m c k j)

/-- A block's product, for blocks that hold the arrays' rows. -/
theorem column_of (X : Vec Ideal S256x1024 .f32) (G : Vec Ideal S1x1024 .f32) (W : Vec Ideal S1024x2816 .bf16) (t : Fin cfg0.N)
    (hX : ∀ r k, X (ix2 r k) = aX m c (tok t r) k) (hG : ∀ k, G (ix2 0 k) = aG m c k) (hW : ∀ k j, W (ix2 k j) = aW m c k j) (r : Fin 256) (j : Fin 2816) :
    k0_pay2 X G W (ix2 r j) = proj m c (tok t r) j := by
  rw [column_apply]
  simp only [hX, hG, hW]
  rfl
theorem proj_at (t : Fin cfg0.N) (r : Fin 256) (j : Fin 2816) : k0_pay2 (iblk m c 0 t) (iblk m c 1 t) (iblk m c 2 t) (ix2 r j) = proj m c (tok t r) j :=
  column_of m c _ _ _ t (B_x m c t) (B_g m c t) (B_w m c t) r j

/-- The projection after the run. -/
theorem arr_proj (n : Fin 16384) (j : Fin 2816) : (dats m 0 c).arrAt 8 cfg0.N (ix2 n j) = (proj m c n j : EReal) := by
  refine (dats m 0 c).arrAt_forall_of_covers 8 (fun i v => i = ix2 n j → v = (proj m c n j : EReal)) (by decide +kernel) (fun t hf y => ?_)
    _ (Memref.isWhole_whole _) rfl
  intro hy
  obtain ⟨e0, e1⟩ := at_8 t
  have h0 : win0_8.index t (0 : Fin 2) * 256 + 1 * (y 0).val = n.val := congrArg (fun i => (i (0 : Fin 2)).val) hy
  have h1 : win0_8.index t (1 : Fin 2) * 2816 + 1 * (y 1).val = j.val := congrArg (fun i => (i (1 : Fin 2)).val) hy
  have b0 : (y 0).val < 256 := (y 0).isLt
  have hyy : (cfg0.win 8).xinj (cfg0.grid.coords t) y = ix2 ⟨(y 0).val, b0⟩ j := by
    funext b
    refine Fin.ext ?_
    match b with
    | ⟨0, _⟩ => rfl
    | ⟨1, _⟩ => show (y 1).val = j.val; rw [e1] at h1; omega
  show (dats m 0 c).after 8 t ((cfg0.win 8).xinj (cfg0.grid.coords t) y) = _
  rw [hyy, after0_8, out_proj]
  refine (proj_at m c t ⟨(y 0).val, b0⟩ j).trans ?_
  have : tok t ⟨(y 0).val, b0⟩ = n := Fin.ext (by show t.val * 256 + (y 0).val = n.val; rw [e0] at h0; omega)
  rw [this]

/-- The gated half after the run. -/
theorem arr_gate (n : Fin 16384) (l : Fin 256) : (dats m 0 c).arrAt 9 cfg0.N (ix2 n l)
    = (gated (proj m c n ⟨1280 + l.val, by omega⟩) (proj m c n ⟨1536 + l.val, by omega⟩) : EReal) := by
  refine (dats m 0 c).arrAt_forall_of_covers 9 (fun i v => i = ix2 n l → v = (gated (proj m c n ⟨1280 + l.val, by omega⟩) (proj m c n ⟨1536 + l.val, by omega⟩) : EReal))
    (by decide +kernel) (fun t hf y => ?_) _ (Memref.isWhole_whole _) rfl
  intro hy
  obtain ⟨e0, e1⟩ := at_9 t
  have h0 : win0_9.index t (0 : Fin 2) * 256 + 1 * (y 0).val = n.val := congrArg (fun i => (i (0 : Fin 2)).val) hy
  have h1 : win0_9.index t (1 : Fin 2) * 256 + 1 * (y 1).val = l.val := congrArg (fun i => (i (1 : Fin 2)).val) hy
  have b0 : (y 0).val < 256 := (y 0).isLt
  have hyy : (cfg0.win 9).xinj (cfg0.grid.coords t) y = ix2 ⟨(y 0).val, b0⟩ l := by
    funext b
    refine Fin.ext ?_
    match b with
    | ⟨0, _⟩ => rfl
    | ⟨1, _⟩ => show (y 1).val = l.val; rw [e1] at h1; omega
  show (dats m 0 c).after 9 t ((cfg0.win 9).xinj (cfg0.grid.coords t) y) = _
  rw [hyy, after0_9, out_gate, gated_apply]
  have : tok t ⟨(y 0).val, b0⟩ = n := Fin.ext (by show t.val * 256 + (y 0).val = n.val; rw [e0] at h0; omega)
  rw [proj_at m c t ⟨(y 0).val, b0⟩ _, proj_at m c t ⟨(y 0).val, b0⟩ _, this]

end Cert.FwdIn

end
-- ==== Proof.FwdRef.lean ====
/-
  The reference of the forward's input call, at a lane.
-/
module

public import proofs.«01_k».proof.Proof.Gen.Reference4Ideal.Run
public import proofs.«01_k».proof.Proof.FwdPay
public import Idealize.ShloMosaic.Lib.Pointwise
public import Idealize.ShloMosaic.Lib.ValueIdx

@[expose] public section

set_option maxRecDepth 16384

noncomputable section

namespace Cert.FwdIn

open Cert.Reference4Ideal Cert.Reference4Ideal.Gen
open Idealize.ShloMosaic Idealize.ShloMosaic.TcCoe
open scoped BigOperators

/-- The reference's projection. -/
def projT (x : FVec Ideal S1x16384x1024 .f32) (g : FVec Ideal S1024 .f32) (w : FVec Ideal S1024x2816 .f32) : FVec Ideal S1x16384x2816 .f32 :=
  Host.dotGeneral dot_S1x16384x1024_S1024x2816_S1x16384x2816_2_0_01_1_n_n none (mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 g))) w
/-- The gated half of a projection. -/
def gateT (p : FVec Ideal S1x16384x2816 .f32) : FVec Ideal S16384x256 .f32 :=
  shapeCast _ (mulf (extractStridedSlice S1x16384x256 ![0, 0, 0] (extractStridedSlice S1x16384x512 ![0, 0, 1280] p slices_S1x16384x2816_S1x16384x512_0_0_1280) slices_S1x16384x512_S1x16384x256_0_0_0) (Host.divf (broadcastInDim S1x16384x256 ![] bcast_S_S1x16384x256 (constant S_ .f32 0x3F800000#32)) (addf (broadcastInDim S1x16384x256 ![] bcast_S_S1x16384x256 (constant S_ .f32 0x3F800000#32)) (Host.exp (Host.negf (extractStridedSlice S1x16384x256 ![0, 0, 256] (extractStridedSlice S1x16384x512 ![0, 0, 1280] p slices_S1x16384x2816_S1x16384x512_0_0_1280) slices_S1x16384x512_S1x16384x256_0_0_256)))))) shapeCasts_S1x16384x256_S16384x256

theorem projT_apply (x : FVec Ideal S1x16384x1024 .f32) (g : FVec Ideal S1024 .f32) (w : FVec Ideal S1024x2816 .f32) (t : Fin 16384) (j : Fin 2816) :
    projT x g w (ix3 0 t j) = column (fun k => x (ix3 0 t k)) (fun k => g (ix1 k)) (fun k => w (ix2 k j)) := by
  unfold projT column
  pointwise []
theorem flat_apply (p : FVec Ideal S1x16384x2816 .f32) (t : Fin 16384) (j : Fin 2816) :
    shapeCast S16384x2816 p shapeCasts_S1x16384x2816_S16384x2816 (ix2 t j) = p (ix3 0 t j) := by
  pointwise []
theorem gateT_apply (p : FVec Ideal S1x16384x2816 .f32) (t : Fin 16384) (l : Fin 256) :
    gateT p (ix2 t l) = gated (p (ix3 0 t ⟨1280 + l.val, by omega⟩)) (p (ix3 0 t ⟨1536 + l.val, by omega⟩)) := by
  unfold gateT gated
  pointwise []
  rw [show (⟨1280 + (256 + l.val), by omega⟩ : Fin 2816) = ⟨1536 + l.val, by omega⟩ from Fin.ext (show 1280 + (256 + l.val) = 1536 + l.val by omega)]

end Cert.FwdIn

end
-- ==== Proof.FwdValue.lean ====
/-
  The value of the fourth pair: the kernel and the reference end with the same projection and the same gated half.
-/
module

public import proofs.«01_k».proof.Proof.FwdBlocks
public import proofs.«01_k».proof.Proof.FwdRef
public import proofs.«01_k».proof.Defs

@[expose] public section

set_option maxRecDepth 16384

noncomputable section

namespace Cert.FwdIn

open Idealize.ShloMosaic Idealize.ShloMosaic.TcCoe Idealize.SL.Sem
open Cert.Kernel4Ideal (S1x16384x1024 S1024 S1024x2816 S16384x2816 S16384x256)

/-- Matrices that agree at every coordinate are equal. -/
theorem ext2 {n k : ℕ} (x y : FVec Ideal ⟨2, ![n, k]⟩ .f32) (h : ∀ (a : Fin n) (b : Fin k), x (ix2 a b) = y (ix2 a b)) : x = y := by
  funext i
  obtain ⟨a, b, rfl⟩ : ∃ n0 n1, i = ix2 n0 n1 := ⟨_, _, eq_ix2 i⟩
  exact h a b

/-- An entry of the projection, from the arrays. -/
def projOf (x : FVec Ideal S1x16384x1024 .f32) (g : FVec Ideal S1024 .f32) (w : FVec Ideal S1024x2816 .f32) (t : Fin 16384) (j : Fin 2816) : EReal :=
  column (fun k => x (ix3 0 t k)) (fun k => g (ix1 k)) (fun k => w (ix2 k j))
theorem proj_cong {x x' : FVec Ideal S1x16384x1024 .f32} {g g' : FVec Ideal S1024 .f32} {w w' : FVec Ideal S1024x2816 .f32}
    (hx : x = x') (hg : g = g') (hw : w = w') (t : Fin 16384) (j : Fin 2816) : projOf x g w t j = projOf x' g' w' t j := by rw [hx, hg, hw]

theorem value : Cert.algebraic_Kernel4Ideal_Reference4Ideal := by
  intro m g m' g' _ hagree
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N, ?_, ?_⟩
  · refine (θ_run _ _ _).mono (fun r h c => ?_) (Cert.Kernel4Ideal.Value.run_blocks m g)
    obtain ⟨h0, h1, -, -, -, hk⟩ := h c
    exact ⟨h0, h1, hk⟩
  · refine (θ_run _ _ _).mono (fun r h c => ?_) (Cert.Reference4Ideal.Value.run (F := Ideal) m' g')
    obtain ⟨e0, e1, hk⟩ := h c
    obtain ⟨a0, a1, a2, -⟩ := hagree c
    refine ⟨e0.trans (ext2 _ _ fun t j => ?_), e1.trans (ext2 _ _ fun t l => ?_), hk⟩
    · exact ((flat_apply _ t j).trans (projT_apply _ _ _ t j)).trans (Eq.trans (proj_cong a0 a1 a2 t j) (arr_proj m c t j).symm)
    · refine (gateT_apply (projT _ _ _) t l).trans (Eq.trans ?_ (arr_gate m c t l).symm)
      exact congrArg₂ gated ((projT_apply _ _ _ t _).trans (proj_cong a0 a1 a2 t _)) ((projT_apply _ _ _ t _).trans (proj_cong a0 a1 a2 t _))

end Cert.FwdIn

end
-- ==== Proof.lean ====
/- The proof of the certificate's claims. -/
module

public import proofs.«01_k».proof.Defs
public import proofs.«01_k».proof.Proof.Frames
public import proofs.«01_k».proof.Proof.FlashValue
public import proofs.«01_k».proof.Proof.InFrames
public import proofs.«01_k».proof.Proof.InValue
public import proofs.«01_k».proof.Proof.OutFrames
public import proofs.«01_k».proof.Proof.OutValue
public import proofs.«01_k».proof.Proof.FwdFrames
public import proofs.«01_k».proof.Proof.FwdValue
public import proofs.«01_k».proof.Proof.Gen.Kernel2
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference's frame: its run leaves the arguments, and it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference's run, which the precondition does not change. -/
theorem frame_reference_pre : Cert.quiescent_ReferenceIdeal_pre_finite (hPre_finite := Cert.Attn.pre_facts) := fun m ρ _ => frame_reference m ρ trivial

/-- The second reference's frame, likewise. -/
theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)
theorem frame_reference2_pre : Cert.quiescent_Reference2Ideal_pre_finite2 (hPre_finite2 := Cert.HeadNorm.pre_facts) := fun m ρ _ => frame_reference2 m ρ trivial

/-- The third reference's frame, likewise. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The fourth reference's frame, likewise. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Attn.pre_facts, Cert.HeadNorm.pre_facts,
  Cert.KernelIdeal.Hand.frame_kernel, Cert.KernelIdeal.Hand.frame_ideal, fun m ρ _ => Cert.KernelIdeal.Hand.frame_any m ρ,
  frame_reference, frame_reference_pre,
  Cert.HeadNorm.frame_kernel, Cert.HeadNorm.frame_ideal, fun m ρ _ => Cert.Kernel2Ideal.Gen.frame m ρ,
  frame_reference2, frame_reference2_pre,
  Cert.OutNorm.frame_kernel, Cert.OutNorm.frame_ideal, frame_reference3, Cert.FwdIn.frame_kernel, Cert.FwdIn.frame_ideal, frame_reference4,
  trivial, Cert.Attn.value, trivial, Cert.HeadNorm.value, trivial, Cert.OutNorm.value, trivial, Cert.FwdIn.value⟩

end Cert.Proof

end
